-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_gradients [hPre_finite_gradients : Cert.Pre_finite_gradients.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_gradients.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_gradients [hPre_finite_gradients : Cert.Pre_finite_gradients.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_gradients.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_gradients [hKernel8Ideal : Cert.Kernel8Ideal.Facts] [hPre_finite_gradients : Cert.Pre_finite_gradients.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_gradients m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_gradients [hReference8Ideal : Cert.Reference8Ideal.Facts] [hPre_finite_gradients : Cert.Pre_finite_gradients.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_gradients m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v226)) (v1 : (c : Dev Cert.KernelIdeal.nD) → Buf (Elt Ideal) ((c.tc : Thread Cert.KernelIdeal.nD Cert.KernelIdeal.τ).loc Cert.KernelIdeal.main_v231)) (v2 : (c : Dev Cert.KernelIdeal.nD) → Buf (Elt Ideal) ((c.tc : Thread Cert.KernelIdeal.nD Cert.KernelIdeal.τ).loc Cert.KernelIdeal.main_v232)) (v3 : (c : Dev Cert.KernelIdeal.nD) → Buf (Elt Ideal) ((c.tc : Thread Cert.KernelIdeal.nD Cert.KernelIdeal.τ).loc Cert.KernelIdeal.main_v233)) (v4 : (c : Dev Cert.KernelIdeal.nD) → Buf (Elt Ideal) ((c.tc : Thread Cert.KernelIdeal.nD Cert.KernelIdeal.τ).loc Cert.KernelIdeal.main_v234)) (v5 : (c : Dev Cert.KernelIdeal.nD) → Buf (Elt Ideal) ((c.tc : Thread Cert.KernelIdeal.nD Cert.KernelIdeal.τ).loc Cert.KernelIdeal.main_v221)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v226) = v0 c
          ∧ r.2.mem ((c.tc : Thread Cert.KernelIdeal.nD Cert.KernelIdeal.τ).loc Cert.KernelIdeal.main_v231) = v1 c
          ∧ r.2.mem ((c.tc : Thread Cert.KernelIdeal.nD Cert.KernelIdeal.τ).loc Cert.KernelIdeal.main_v232) = v2 c
          ∧ r.2.mem ((c.tc : Thread Cert.KernelIdeal.nD Cert.KernelIdeal.τ).loc Cert.KernelIdeal.main_v233) = v3 c
          ∧ r.2.mem ((c.tc : Thread Cert.KernelIdeal.nD Cert.KernelIdeal.τ).loc Cert.KernelIdeal.main_v234) = v4 c
          ∧ r.2.mem ((c.tc : Thread Cert.KernelIdeal.nD Cert.KernelIdeal.τ).loc Cert.KernelIdeal.main_v221) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v126) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_gradients [hKernel8Ideal : Cert.Kernel8Ideal.Facts] [hReference8Ideal : Cert.Reference8Ideal.Facts] [hPre_finite_gradients : Cert.Pre_finite_gradients.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_gradients m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v51) = v1 c
          ∧ r.2.mem ((c.tc : Thread Cert.Reference10Ideal.nD Cert.Reference10Ideal.τ).loc Cert.Reference10Ideal.main_v34) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_gradients : Cert.Pre_finite_gradients.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_gradients (hKernel8Ideal := hKernel8Ideal) (hPre_finite_gradients := hPre_finite_gradients)
    ∧ quiescent_Reference8Ideal (hReference8Ideal := hReference8Ideal)
    ∧ quiescent_Reference8Ideal_pre_finite_gradients (hReference8Ideal := hReference8Ideal) (hPre_finite_gradients := hPre_finite_gradients)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_gradients (hKernel8Ideal := hKernel8Ideal) (hReference8Ideal := hReference8Ideal) (hPre_finite_gradients := hPre_finite_gradients)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S4096x128 : Shape := ⟨2, ![4096, 128]⟩
abbrev S1x16 : Shape := ⟨2, ![1, 16]⟩
abbrev S32x16 : Shape := ⟨2, ![32, 16]⟩
abbrev S1x512 : Shape := ⟨2, ![1, 512]⟩
abbrev S1x528 : Shape := ⟨2, ![1, 528]⟩
abbrev S4096x528 : Shape := ⟨2, ![4096, 528]⟩
abbrev S4096x3856 : Shape := ⟨2, ![4096, 3856]⟩
abbrev S_ : Shape := ⟨0, ![]⟩

class Facts : Prop where
  shapeCasts_S32x16_S1x512 : S32x16.ShapeCasts S1x512
  concatenates_S1x16_S1x512_S1x528_d1 : Shape.Concatenates [S1x16, S1x512] S1x528 1
  bcast_S1x528_S4096x528_0_1 : S1x528.BroadcastsInDim S4096x528 (![0, 1] : Fin 2 → Fin S4096x528.rank)
  concatenates_S4096x1024_S4096x1024_S4096x128_S4096x128_S4096x1024_S4096x528_S4096x3856_d1 : Shape.Concatenates [S4096x1024, S4096x1024, S4096x128, S4096x128, S4096x1024, S4096x528] S4096x3856 1
  bcast_S_S4096x3856 : S_.BroadcastsInDim S4096x3856 (![] : Fin 0 → Fin S4096x3856.rank)

variable [Facts]

def fn {F : FTy → Type} [FloatOps F] (main_arg0 : FVec F S4096x1024 .f32) (main_arg1 : FVec F S4096x1024 .f32) (main_arg2 : FVec F S4096x128 .f32) (main_arg3 : FVec F S4096x128 .f32) (main_arg4 : FVec F S1x16 .f32) (main_arg5 : FVec F S32x16 .f32) (main_arg6 : FVec F S4096x1024 .f32) : IVec S4096x3856 1 :=
  let main_v0 : FVec F S1x512 .f32 := shapeCast S1x512 main_arg5 shapeCasts_S32x16_S1x512
  let main_v1 : FVec F S1x528 .f32 := (fun a b => concatenate S1x528 1 [⟨S1x16, a⟩, ⟨S1x512, b⟩] concatenates_S1x16_S1x512_S1x528_d1) main_arg4 main_v0
  let main_v2 : FVec F S4096x528 .f32 := broadcastInDim S4096x528 ![0, 1] bcast_S1x528_S4096x528_0_1 main_v1
  let main_v3 : FVec F S4096x3856 .f32 := concatenate S4096x3856 1 [⟨S4096x1024, main_arg0⟩, ⟨S4096x1024, main_arg1⟩, ⟨S4096x128, main_arg2⟩, ⟨S4096x128, main_arg3⟩, ⟨S4096x1024, main_arg6⟩, ⟨S4096x528, main_v2⟩] concatenates_S4096x1024_S4096x1024_S4096x128_S4096x128_S4096x1024_S4096x528_S4096x3856_d1
  let main_v4 : FVec F S4096x3856 .f32 := Host.absf main_v3
  let main_cst : FVec F S_ .f32 := constant S_ .f32 0x7F800000#32
  let main_v5 : FVec F S4096x3856 .f32 := broadcastInDim S4096x3856 ![] bcast_S_S4096x3856 main_cst
  let main_v6 : IVec S4096x3856 1 := cmpf .olt main_v4 main_v5
  main_v6
-- ==== Pre_finite_gradients.lean ====
abbrev S4096x1024 : Shape := ⟨2, ![4096, 1024]⟩
abbrev S2x1024 : Shape := ⟨2, ![2, 1024]⟩
abbrev S4096x256 : Shape := ⟨2, ![4096, 256]⟩
abbrev S1024x256 : Shape := ⟨2, ![1024, 256]⟩
abbrev S4096x2048 : Shape := ⟨2, ![4096, 2048]⟩
abbrev S1024x2048 : Shape := ⟨2, ![1024, 2048]⟩
abbrev S512x2048 : Shape := ⟨2, ![512, 2048]⟩
abbrev S128x2048 : Shape := ⟨2, ![128, 2048]⟩
abbrev S1x2048 : Shape := ⟨2, ![1, 2048]⟩
abbrev S5761x2048 : Shape := ⟨2, ![5761, 2048]⟩
abbrev S_ : Shape := ⟨0, ![]⟩

class Facts : Prop where
  shapeCasts_S4096x256_S512x2048 : S4096x256.ShapeCasts S512x2048
  shapeCasts_S1024x256_S128x2048 : S1024x256.ShapeCasts S128x2048
  shapeCasts_S2x1024_S1x2048 : S2x1024.ShapeCasts S1x2048
  concatenates_S4096x2048_S1024x2048_S512x2048_S128x2048_S1x2048_S5761x2048_d0 : Shape.Concatenates [S4096x2048, S1024x2048, S512x2048, S128x2048, S1x2048] S5761x2048 0
  bcast_S_S5761x2048 : S_.BroadcastsInDim S5761x2048 (![] : Fin 0 → Fin S5761x2048.rank)

variable [Facts]

def fn {F : FTy → Type} [FloatOps F] (main_arg0 : FVec F S4096x1024 .f32) (main_arg1 : FVec F S4096x1024 .f32) (main_arg2 : FVec F S2x1024 .f32) (main_arg3 : FVec F S4096x256 .f32) (main_arg4 : FVec F S1024x256 .f32) (main_arg5 : FVec F S4096x2048 .f32) (main_arg6 : FVec F S1024x2048 .f32) : IVec S5761x2048 1 :=
  let main_v0 : FVec F S512x2048 .f32 := shapeCast S512x2048 main_arg3 shapeCasts_S4096x256_S512x2048
  let main_v1 : FVec F S128x2048 .f32 := shapeCast S128x2048 main_arg4 shapeCasts_S1024x256_S128x2048
  let main_v2 : FVec F S1x2048 .f32 := shapeCast S1x2048 main_arg2 shapeCasts_S2x1024_S1x2048
  let main_v3 : FVec F S5761x2048 .f32 := concatenate S5761x2048 0 [⟨S4096x2048, main_arg5⟩, ⟨S1024x2048, main_arg6⟩, ⟨S512x2048, main_v0⟩, ⟨S128x2048, main_v1⟩, ⟨S1x2048, main_v2⟩] concatenates_S4096x2048_S1024x2048_S512x2048_S128x2048_S1x2048_S5761x2048_d0
  let main_v4 : FVec F S5761x2048 .f32 := Host.absf main_v3
  let main_cst : FVec F S_ .f32 := constant S_ .f32 0x7F800000#32
  let main_v5 : FVec F S5761x2048 .f32 := broadcastInDim S5761x2048 ![] bcast_S_S5761x2048 main_cst
  let main_v6 : IVec S5761x2048 1 := cmpf .olt main_v4 main_v5
  main_v6
-- ==== Kernel.lean ====
abbrev S4096x1024 : Shape := ⟨2, ![4096, 1024]⟩
abbrev S4096x128 : Shape := ⟨2, ![4096, 128]⟩
abbrev S1x16 : Shape := ⟨2, ![1, 16]⟩
abbrev S32x16 : Shape := ⟨2, ![32, 16]⟩
abbrev S4096x2x8x64 : Shape := ⟨4, ![4096, 2, 8, 64]⟩
abbrev S4096x2x64 : Shape := ⟨3, ![4096, 2, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩
abbrev S4096x4096x16 : Shape := ⟨3, ![4096, 4096, 16]⟩
abbrev S16x4096x4096 : Shape := ⟨3, ![16, 4096, 4096]⟩
abbrev S2x8x4096x4096 : Shape := ⟨4, ![2, 8, 4096, 4096]⟩
abbrev S2x4096x4096x8 : Shape := ⟨4, ![2, 4096, 4096, 8]⟩
abbrev S1x1x4096x4096 : Shape := ⟨4, ![1, 1, 4096, 4096]⟩
abbrev S2x8x1x1 : Shape := ⟨4, ![2, 8, 1, 1]⟩
abbrev S2x8x4096x1 : Shape := ⟨4, ![2, 8, 4096, 1]⟩
abbrev S2x8x4096x4097 : Shape := ⟨4, ![2, 8, 4096, 4097]⟩
abbrev S2x8x4096 : Shape := ⟨3, ![2, 8, 4096]⟩
abbrev S2x64x8x4096 : Shape := ⟨4, ![2, 64, 8, 4096]⟩
abbrev S2x4x2x32x128 : Shape := ⟨5, ![2, 4, 2, 32, 128]⟩
abbrev S32x2x2x4x128 : Shape := ⟨5, ![32, 2, 2, 4, 128]⟩
abbrev S32x4x512 : Shape := ⟨3, ![32, 4, 512]⟩
abbrev S32x8x512 : Shape := ⟨3, ![32, 8, 512]⟩
abbrev S4096x64 : Shape := ⟨2, ![4096, 64]⟩
abbrev S4096x512 : Shape := ⟨2, ![4096, 512]⟩
abbrev S5120x512 : Shape := ⟨2, ![5120, 512]⟩
abbrev S384 : Shape := ⟨1, ![384]⟩
abbrev S384x1 : Shape := ⟨2, ![384, 1]⟩
abbrev S384x16 : Shape := ⟨2, ![384, 16]⟩
abbrev S16x384 : Shape := ⟨2, ![16, 384]⟩
abbrev S16x1x384 : Shape := ⟨3, ![16, 1, 384]⟩
abbrev S16x1x128 : Shape := ⟨3, ![16, 1, 128]⟩
abbrev S16x1x256 : Shape := ⟨3, ![16, 1, 256]⟩
abbrev S4x4096x512 : Shape := ⟨3, ![4, 4096, 512]⟩
abbrev S4096x256 : Shape := ⟨2, ![4096, 256]⟩
abbrev S8x128 : Shape := ⟨2, ![8, 128]⟩
abbrev S128x1024 : Shape := ⟨2, ![128, 1024]⟩
abbrev S1x8x512 : Shape := ⟨3, ![1, 8, 512]⟩
abbrev S4x128x512 : Shape := ⟨3, ![4, 128, 512]⟩
abbrev S2x512x512 : Shape := ⟨3, ![2, 512, 512]⟩
abbrev S8x512 : Shape := ⟨2, ![8, 512]⟩
abbrev S1x1x384 : Shape := ⟨3, ![1, 1, 384]⟩
abbrev S1x384 : Shape := ⟨2, ![1, 384]⟩
abbrev S1x128 : Shape := ⟨2, ![1, 128]⟩
abbrev S1x256 : Shape := ⟨2, ![1, 256]⟩
abbrev S1x512 : Shape := ⟨2, ![1, 512]⟩
abbrev S256x512 : Shape := ⟨2, ![256, 512]⟩
abbrev S256x128 : Shape := ⟨2, ![256, 128]⟩
abbrev S1x256x128 : Shape := ⟨3, ![1, 256, 128]⟩
abbrev S128x512 : Shape := ⟨2, ![128, 512]⟩
abbrev S1x128x512 : Shape := ⟨3, ![1, 128, 512]⟩
abbrev S512x128 : Shape := ⟨2, ![512, 128]⟩
abbrev S128x128 : Shape := ⟨2, ![128, 128]⟩
abbrev S512x512 : Shape := ⟨2, ![512, 512]⟩
abbrev S1x512x512 : Shape := ⟨3, ![1, 512, 512]⟩
abbrev S512x1 : Shape := ⟨2, ![512, 1]⟩
abbrev S64x512 : Shape := ⟨2, ![64, 512]⟩
abbrev S512 : Shape := ⟨1, ![512]⟩
abbrev S1x1 : Shape := ⟨2, ![1, 1]⟩
abbrev S1x128x128 : Shape := ⟨3, ![1, 128, 128]⟩
abbrev S4x512 : Shape := ⟨2, ![4, 512]⟩
abbrev S256x256 : Shape := ⟨2, ![256, 256]⟩
abbrev S256x384 : Shape := ⟨2, ![256, 384]⟩
abbrev S1 : Shape := ⟨1, ![1]⟩
abbrev S16x1x383 : Shape := ⟨3, ![16, 1, 383]⟩
abbrev S16x1x1 : Shape := ⟨3, ![16, 1, 1]⟩
abbrev S1x4096x512 : Shape := ⟨3, ![1, 4096, 512]⟩

abbrev nBuf : Space → Nat
  | .hbm => 350
  | .vmem => 22
  | .smem => 0
  | _ => 0

abbrev hbmTy0_0 (i : Nat) : BufTy := match i % 128 with
  | 0 => ⟨S4096x1024, .f32⟩
  | 1 => ⟨S4096x1024, .f32⟩
  | 2 => ⟨S4096x128, .f32⟩
  | 3 => ⟨S4096x128, .f32⟩
  | 4 => ⟨S1x16, .f32⟩
  | 5 => ⟨S32x16, .f32⟩
  | 6 => ⟨S4096x1024, .f32⟩
  | 7 => ⟨S4096x2x8x64, .f32⟩
  | 8 => ⟨S4096x2x64, .f32⟩
  | 9 => ⟨S4096, .i32⟩
  | 10 => ⟨S1x4096, .i32⟩
  | 11 => ⟨S4096x1, .i32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i1⟩
  | 18 => ⟨S_, .i32⟩
  | 19 => ⟨S_, .i32⟩
  | 20 => ⟨S4096x4096, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .i32⟩
  | 39 => ⟨S_, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i1⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i1⟩
  | 54 => ⟨S_, .i32⟩
  | 55 => ⟨S4096x4096, .i32⟩
  | 56 => ⟨S4096x4096, .i32⟩
  | 57 => ⟨S4096x4096, .i32⟩
  | 58 => ⟨S4096x4096x1, .i32⟩
  | 59 => ⟨S4096x4096x16, .f32⟩
  | 60 => ⟨S16x4096x4096, .f32⟩
  | 61 => ⟨S2x8x4096x4096, .f32⟩
  | 62 => ⟨S2x4096x4096x8, .f32⟩
  | 63 => ⟨S2x8x4096x4096, .f32⟩
  | 64 => ⟨S_, .f32⟩
  | 65 => ⟨S2x8x4096x4096, .f32⟩
  | 66 => ⟨S2x8x4096x4096, .f32⟩
  | 67 => ⟨S2x8x4096x4096, .f32⟩
  | 68 => ⟨S_, .i32⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i1⟩
  | 76 => ⟨S4096, .i32⟩
  | 77 => ⟨S4096, .i32⟩
  | 78 => ⟨S_, .i32⟩
  | 79 => ⟨S4096, .i32⟩
  | 80 => ⟨S4096, .i1⟩
  | 81 => ⟨S4096, .i1⟩
  | 82 => ⟨S_, .i32⟩
  | 83 => ⟨S4096, .i32⟩
  | 84 => ⟨S4096, .i32⟩
  | 85 => ⟨S4096, .i32⟩
  | 86 => ⟨S1x4096, .i32⟩
  | 87 => ⟨S4096x1, .i32⟩
  | 88 => ⟨S4096x4096, .i32⟩
  | 89 => ⟨S4096x4096, .i32⟩
  | 90 => ⟨S4096x4096, .i1⟩
  | 91 => ⟨S4096x1, .i32⟩
  | 92 => ⟨S_, .i32⟩
  | 93 => ⟨S4096x1, .i32⟩
  | 94 => ⟨S4096x1, .i32⟩
  | 95 => ⟨S1x4096, .i32⟩
  | 96 => ⟨S4096x4096, .i32⟩
  | 97 => ⟨S4096x4096, .i32⟩
  | 98 => ⟨S4096x4096, .i1⟩
  | 99 => ⟨S4096x4096, .i1⟩
  | 100 => ⟨S1x1x4096x4096, .i1⟩
  | 101 => ⟨S_, .f32⟩
  | 102 => ⟨S_, .f32⟩
  | 103 => ⟨S2x8x4096x4096, .i1⟩
  | 104 => ⟨S2x8x4096x4096, .f32⟩
  | 105 => ⟨S2x8x4096x4096, .f32⟩
  | 106 => ⟨S2x8x1x1, .f32⟩
  | 107 => ⟨S2x8x4096x1, .f32⟩
  | 108 => ⟨S2x8x4096x4097, .f32⟩
  | 109 => ⟨S_, .f32⟩
  | 110 => ⟨S2x8x4096, .f32⟩
  | 111 => ⟨S_, .f32⟩
  | 112 => ⟨S2x8x4096, .f32⟩
  | 113 => ⟨S2x8x4096, .f32⟩
  | 114 => ⟨S2x8x4096x1, .f32⟩
  | 115 => ⟨S2x8x4096x4097, .f32⟩
  | 116 => ⟨S2x8x4096x4097, .f32⟩
  | 117 => ⟨S2x8x4096x4097, .f32⟩
  | 118 => ⟨S_, .f32⟩
  | 119 => ⟨S2x8x4096, .f32⟩
  | 120 => ⟨S2x8x4096x1, .f32⟩
  | 121 => ⟨S2x8x4096x4097, .f32⟩
  | 122 => ⟨S2x8x4096x4097, .f32⟩
  | 123 => ⟨S2x8x4096x4096, .f32⟩
  | 124 => ⟨S4096x2x64, .f32⟩
  | 125 => ⟨S2x64x8x4096, .f32⟩
  | 126 => ⟨S4096x2x8x64, .f32⟩
  | 127 => ⟨S4096x1024, .f32⟩
  | _ => ⟨S4096x1024, .f32⟩

abbrev hbmTy0_1 (i : Nat) : BufTy := match i % 128 with
  | 0 => ⟨S4096x2x8x64, .f32⟩
  | 1 => ⟨S4096x2x64, .f32⟩
  | 2 => ⟨S4096, .i32⟩
  | 3 => ⟨S1x4096, .i32⟩
  | 4 => ⟨S4096x1, .i32⟩
  | 5 => ⟨S4096x4096, .i32⟩
  | 6 => ⟨S4096x4096, .i32⟩
  | 7 => ⟨S4096x4096, .i32⟩
  | 8 => ⟨S_, .i32⟩
  | 9 => ⟨S4096x4096, .i32⟩
  | 10 => ⟨S4096x4096, .i1⟩
  | 11 => ⟨S_, .i32⟩
  | 12 => ⟨S_, .i32⟩
  | 13 => ⟨S4096x4096, .i32⟩
  | 14 => ⟨S4096x4096, .i32⟩
  | 15 => ⟨S4096x4096, .i32⟩
  | 16 => ⟨S4096x4096, .i32⟩
  | 17 => ⟨S_, .i32⟩
  | 18 => ⟨S4096x4096, .i32⟩
  | 19 => ⟨S4096x4096, .i32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .i32⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i32⟩
  | 38 => ⟨S_, .i32⟩
  | 39 => ⟨S4096x4096, .i32⟩
  | 40 => ⟨S4096x4096, .i1⟩
  | 41 => ⟨S4096x4096, .i32⟩
  | 42 => ⟨S4096x4096, .i32⟩
  | 43 => ⟨S4096x4096, .i32⟩
  | 44 => ⟨S_, .i32⟩
  | 45 => ⟨S4096x4096, .i32⟩
  | 46 => ⟨S4096x4096, .i1⟩
  | 47 => ⟨S_, .i32⟩
  | 48 => ⟨S4096x4096, .i32⟩
  | 49 => ⟨S4096x4096, .i32⟩
  | 50 => ⟨S4096x4096, .i32⟩
  | 51 => ⟨S4096x4096x1, .i32⟩
  | 52 => ⟨S4096x4096x16, .f32⟩
  | 53 => ⟨S16x4096x4096, .f32⟩
  | 54 => ⟨S2x8x4096x4096, .f32⟩
  | 55 => ⟨S2x4096x4096x8, .f32⟩
  | 56 => ⟨S2x8x4096x4096, .f32⟩
  | 57 => ⟨S_, .f32⟩
  | 58 => ⟨S2x8x4096x4096, .f32⟩
  | 59 => ⟨S2x8x4096x4096, .f32⟩
  | 60 => ⟨S2x8x4096x4096, .f32⟩
  | 61 => ⟨S_, .i32⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S4096, .i32⟩
  | 70 => ⟨S4096, .i32⟩
  | 71 => ⟨S_, .i32⟩
  | 72 => ⟨S4096, .i32⟩
  | 73 => ⟨S4096, .i1⟩
  | 74 => ⟨S4096, .i1⟩
  | 75 => ⟨S_, .i32⟩
  | 76 => ⟨S4096, .i32⟩
  | 77 => ⟨S4096, .i32⟩
  | 78 => ⟨S4096, .i32⟩
  | 79 => ⟨S1x4096, .i32⟩
  | 80 => ⟨S4096x1, .i32⟩
  | 81 => ⟨S4096x4096, .i32⟩
  | 82 => ⟨S4096x4096, .i32⟩
  | 83 => ⟨S4096x4096, .i1⟩
  | 84 => ⟨S4096x1, .i32⟩
  | 85 => ⟨S_, .i32⟩
  | 86 => ⟨S4096x1, .i32⟩
  | 87 => ⟨S4096x1, .i32⟩
  | 88 => ⟨S1x4096, .i32⟩
  | 89 => ⟨S4096x4096, .i32⟩
  | 90 => ⟨S4096x4096, .i32⟩
  | 91 => ⟨S4096x4096, .i1⟩
  | 92 => ⟨S4096x4096, .i1⟩
  | 93 => ⟨S1x1x4096x4096, .i1⟩
  | 94 => ⟨S_, .f32⟩
  | 95 => ⟨S_, .f32⟩
  | 96 => ⟨S2x8x4096x4096, .i1⟩
  | 97 => ⟨S2x8x4096x4096, .f32⟩
  | 98 => ⟨S2x8x4096x4096, .f32⟩
  | 99 => ⟨S2x8x1x1, .f32⟩
  | 100 => ⟨S2x8x4096x1, .f32⟩
  | 101 => ⟨S2x8x4096x4097, .f32⟩
  | 102 => ⟨S_, .f32⟩
  | 103 => ⟨S2x8x4096, .f32⟩
  | 104 => ⟨S2x8x4096x1, .f32⟩
  | 105 => ⟨S2x8x4096x4097, .f32⟩
  | 106 => ⟨S2x8x4096x4097, .f32⟩
  | 107 => ⟨S2x8x4096x4097, .f32⟩
  | 108 => ⟨S_, .f32⟩
  | 109 => ⟨S2x8x4096, .f32⟩
  | 110 => ⟨S2x8x4096, .f32⟩
  | 111 => ⟨S2x8x4096, .f32⟩
  | 112 => ⟨S2x4x2x32x128, .f32⟩
  | 113 => ⟨S32x2x2x4x128, .f32⟩
  | 114 => ⟨S32x4x512, .f32⟩
  | 115 => ⟨S_, .f32⟩
  | 116 => ⟨S32x4x512, .f32⟩
  | 117 => ⟨S32x8x512, .f32⟩
  | 118 => ⟨S4096x64, .f32⟩
  | 119 => ⟨S4096x64, .f32⟩
  | 120 => ⟨S4096x64, .f32⟩
  | 121 => ⟨S4096x64, .f32⟩
  | 122 => ⟨S4096x512, .f32⟩
  | 123 => ⟨S_, .i32⟩
  | 124 => ⟨S_, .f32⟩
  | 125 => ⟨S5120x512, .f32⟩
  | 126 => ⟨S5120x512, .bf16⟩
  | 127 => ⟨S384, .i32⟩
  | _ => ⟨S4096x1024, .f32⟩

abbrev hbmTy0_2 (i : Nat) : BufTy := match i % 128 with
  | 0 => ⟨S_, .i32⟩
  | 1 => ⟨S384, .i32⟩
  | 2 => ⟨S384, .i32⟩
  | 3 => ⟨S_, .i32⟩
  | 4 => ⟨S384, .i32⟩
  | 5 => ⟨S384, .i32⟩
  | 6 => ⟨S_, .i32⟩
  | 7 => ⟨S384, .i32⟩
  | 8 => ⟨S384, .i1⟩
  | 9 => ⟨S_, .i32⟩
  | 10 => ⟨S_, .i32⟩
  | 11 => ⟨S384, .i32⟩
  | 12 => ⟨S384, .i32⟩
  | 13 => ⟨S384, .i32⟩
  | 14 => ⟨S384, .i32⟩
  | 15 => ⟨S_, .i32⟩
  | 16 => ⟨S384, .i32⟩
  | 17 => ⟨S384, .i32⟩
  | 18 => ⟨S384, .f32⟩
  | 19 => ⟨S_, .f32⟩
  | 20 => ⟨S384, .f32⟩
  | 21 => ⟨S384, .f32⟩
  | 22 => ⟨S384, .f32⟩
  | 23 => ⟨S_, .f32⟩
  | 24 => ⟨S384, .f32⟩
  | 25 => ⟨S384, .f32⟩
  | 26 => ⟨S_, .f32⟩
  | 27 => ⟨S384, .f32⟩
  | 28 => ⟨S384, .f32⟩
  | 29 => ⟨S384, .i32⟩
  | 30 => ⟨S_, .i32⟩
  | 31 => ⟨S384, .i32⟩
  | 32 => ⟨S384, .i32⟩
  | 33 => ⟨S_, .i32⟩
  | 34 => ⟨S384, .i32⟩
  | 35 => ⟨S384, .i32⟩
  | 36 => ⟨S_, .i32⟩
  | 37 => ⟨S384, .i32⟩
  | 38 => ⟨S384, .i1⟩
  | 39 => ⟨S384, .i32⟩
  | 40 => ⟨S384, .i32⟩
  | 41 => ⟨S384, .i32⟩
  | 42 => ⟨S_, .i32⟩
  | 43 => ⟨S384, .i32⟩
  | 44 => ⟨S384, .i1⟩
  | 45 => ⟨S_, .i32⟩
  | 46 => ⟨S384, .i32⟩
  | 47 => ⟨S384, .i32⟩
  | 48 => ⟨S384, .i32⟩
  | 49 => ⟨S384x1, .i32⟩
  | 50 => ⟨S384x16, .f32⟩
  | 51 => ⟨S16x384, .f32⟩
  | 52 => ⟨S16x1x384, .f32⟩
  | 53 => ⟨S16x1x384, .f32⟩
  | 54 => ⟨S16x1x128, .f32⟩
  | 55 => ⟨S16x1x256, .f32⟩
  | 56 => ⟨S16x1x384, .f32⟩
  | 57 => ⟨S4096x1024, .bf16⟩
  | 58 => ⟨S4x4096x512, .bf16⟩
  | 59 => ⟨S4096x256, .bf16⟩
  | 60 => ⟨S16x1x384, .f32⟩
  | 61 => ⟨S8x128, .f32⟩
  | 62 => ⟨S4x4096x512, .f32⟩
  | 63 => ⟨S4096x256, .f32⟩
  | 64 => ⟨S16x1x384, .f32⟩
  | 65 => ⟨S16x1x383, .f32⟩
  | 66 => ⟨S16x1x1, .f32⟩
  | 67 => ⟨S16x1x384, .f32⟩
  | 68 => ⟨S_, .f32⟩
  | 69 => ⟨S32x16, .f32⟩
  | 70 => ⟨S16x384, .f32⟩
  | 71 => ⟨S384x16, .f32⟩
  | 72 => ⟨S_, .i32⟩
  | 73 => ⟨S384, .i32⟩
  | 74 => ⟨S384, .i1⟩
  | 75 => ⟨S_, .i32⟩
  | 76 => ⟨S384, .i32⟩
  | 77 => ⟨S384, .i32⟩
  | 78 => ⟨S384, .i32⟩
  | 79 => ⟨S384x1, .i32⟩
  | 80 => ⟨S32x16, .f32⟩
  | 81 => ⟨S1x4096x512, .f32⟩
  | 82 => ⟨S4096x512, .f32⟩
  | 83 => ⟨S1x4096x512, .f32⟩
  | 84 => ⟨S4096x512, .f32⟩
  | 85 => ⟨S4096x1024, .f32⟩
  | 86 => ⟨S1x4096x512, .f32⟩
  | 87 => ⟨S4096x512, .f32⟩
  | 88 => ⟨S1x4096x512, .f32⟩
  | 89 => ⟨S4096x512, .f32⟩
  | 90 => ⟨S4096x1024, .f32⟩
  | 91 => ⟨S4096x128, .f32⟩
  | 92 => ⟨S4096x128, .f32⟩
  | 93 => ⟨S1x16, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S5120x512, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S1x8x512, .f32⟩
  | .local _ .vmem, ⟨10, _⟩ => ⟨S1x8x512, .f32⟩
  | .local _ .vmem, ⟨11, _⟩ => ⟨S16x1x384, .f32⟩
  | .local _ .vmem, ⟨12, _⟩ => ⟨S1x16, .f32⟩
  | .local _ .vmem, ⟨13, _⟩ => ⟨S4x128x512, .bf16⟩
  | .local _ .vmem, ⟨14, _⟩ => ⟨S4x128x512, .bf16⟩
  | .local _ .vmem, ⟨15, _⟩ => ⟨S4096x256, .bf16⟩
  | .local _ .vmem, ⟨16, _⟩ => ⟨S16x1x384, .f32⟩
  | .local _ .vmem, ⟨17, _⟩ => ⟨S8x128, .f32⟩
  | .local _ .vmem, ⟨18, _⟩ => ⟨S2x512x512, .f32⟩
  | .local _ .vmem, ⟨19, _⟩ => ⟨S2x512x512, .f32⟩
  | .local _ .vmem, ⟨20, _⟩ => ⟨S5120x512, .f32⟩
  | .local _ .vmem, ⟨21, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_13 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_14 : Ref sig .tc := ⟨.hbm, 109, rfl⟩
abbrev main_v65 : Ref sig .tc := ⟨.hbm, 110, rfl⟩
abbrev main_cst_15 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_17 : Ref sig .tc := ⟨.hbm, 136, rfl⟩
abbrev main_v89 : Ref sig .tc := ⟨.hbm, 137, rfl⟩
abbrev main_v90 : Ref sig .tc := ⟨.hbm, 138, rfl⟩
abbrev main_c_18 : Ref sig .tc := ⟨.hbm, 139, rfl⟩
abbrev main_c_19 : Ref sig .tc := ⟨.hbm, 140, rfl⟩
abbrev main_call4_v0 : Ref sig .tc := ⟨.hbm, 141, rfl⟩
abbrev main_call4_v1 : Ref sig .tc := ⟨.hbm, 142, rfl⟩
abbrev main_v91 : Ref sig .tc := ⟨.hbm, 143, rfl⟩
abbrev main_v92 : Ref sig .tc := ⟨.hbm, 144, rfl⟩
abbrev main_c_20 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_21 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_22 : Ref sig .tc := ⟨.hbm, 153, rfl⟩
abbrev main_v99 : Ref sig .tc := ⟨.hbm, 154, rfl⟩
abbrev main_v100 : Ref sig .tc := ⟨.hbm, 155, rfl⟩
abbrev main_cst_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_c_24 : Ref sig .tc := ⟨.hbm, 160, rfl⟩
abbrev main_v104 : Ref sig .tc := ⟨.hbm, 161, rfl⟩
abbrev main_v105 : Ref sig .tc := ⟨.hbm, 162, rfl⟩
abbrev main_c_25 : Ref sig .tc := ⟨.hbm, 163, rfl⟩
abbrev main_v106 : Ref sig .tc := ⟨.hbm, 164, rfl⟩
abbrev main_v107 : Ref sig .tc := ⟨.hbm, 165, rfl⟩
abbrev main_c_26 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_27 : Ref sig .tc := ⟨.hbm, 172, rfl⟩
abbrev main_v113 : Ref sig .tc := ⟨.hbm, 173, rfl⟩
abbrev main_v114 : Ref sig .tc := ⟨.hbm, 174, rfl⟩
abbrev main_c_28 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_29 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_30 : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_v6 : Ref sig .tc := ⟨.hbm, 196, rfl⟩
abbrev main_call6_v7 : Ref sig .tc := ⟨.hbm, 197, rfl⟩
abbrev main_call6_v8 : Ref sig .tc := ⟨.hbm, 198, rfl⟩
abbrev main_call6_c : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_0 : Ref sig .tc := ⟨.hbm, 203, rfl⟩
abbrev main_call6_v12 : Ref sig .tc := ⟨.hbm, 204, rfl⟩
abbrev main_call6_v13 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_c_31 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_32 : Ref sig .tc := ⟨.hbm, 222, rfl⟩
abbrev main_call7_v0 : Ref sig .tc := ⟨.hbm, 223, rfl⟩
abbrev main_call7_v1 : Ref sig .tc := ⟨.hbm, 224, rfl⟩
abbrev main_call7_v2 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_33 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_34 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_cst_35 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_c_36 : Ref sig .tc := ⟨.hbm, 251, rfl⟩
abbrev main_call8_v0 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_c_37 : Ref sig .tc := ⟨.hbm, 256, rfl⟩
abbrev main_v167 : Ref sig .tc := ⟨.hbm, 257, rfl⟩
abbrev main_v168 : Ref sig .tc := ⟨.hbm, 258, rfl⟩
abbrev main_c_38 : Ref sig .tc := ⟨.hbm, 259, rfl⟩
abbrev main_v169 : Ref sig .tc := ⟨.hbm, 260, rfl⟩
abbrev main_v170 : Ref sig .tc := ⟨.hbm, 261, rfl⟩
abbrev main_c_39 : Ref sig .tc := ⟨.hbm, 262, rfl⟩
abbrev main_v171 : Ref sig .tc := ⟨.hbm, 263, rfl⟩
abbrev main_v172 : Ref sig .tc := ⟨.hbm, 264, rfl⟩
abbrev main_c_40 : Ref sig .tc := ⟨.hbm, 265, rfl⟩
abbrev main_c_41 : Ref sig .tc := ⟨.hbm, 266, rfl⟩
abbrev main_call9_v0 : Ref sig .tc := ⟨.hbm, 267, rfl⟩
abbrev main_call9_v1 : Ref sig .tc := ⟨.hbm, 268, rfl⟩
abbrev main_v173 : Ref sig .tc := ⟨.hbm, 269, rfl⟩
abbrev main_v174 : Ref sig .tc := ⟨.hbm, 270, rfl⟩
abbrev main_c_42 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_cst_43 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_cst_44 : Ref sig .tc := ⟨.hbm, 279, rfl⟩
abbrev main_v181 : Ref sig .tc := ⟨.hbm, 280, rfl⟩
abbrev main_v182 : Ref sig .tc := ⟨.hbm, 281, rfl⟩
abbrev main_cst_45 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_c_46 : Ref sig .tc := ⟨.hbm, 286, rfl⟩
abbrev main_v186 : Ref sig .tc := ⟨.hbm, 287, rfl⟩
abbrev main_v187 : Ref sig .tc := ⟨.hbm, 288, rfl⟩
abbrev main_c_47 : Ref sig .tc := ⟨.hbm, 289, rfl⟩
abbrev main_v188 : Ref sig .tc := ⟨.hbm, 290, rfl⟩
abbrev main_v189 : Ref sig .tc := ⟨.hbm, 291, rfl⟩
abbrev main_c_48 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_c_49 : Ref sig .tc := ⟨.hbm, 298, rfl⟩
abbrev main_v195 : Ref sig .tc := ⟨.hbm, 299, rfl⟩
abbrev main_v196 : Ref sig .tc := ⟨.hbm, 300, rfl⟩
abbrev main_c_50 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_call11_v0 : Ref sig .tc := ⟨.hbm, 310, rfl⟩
abbrev main_call11_v1 : Ref sig .tc := ⟨.hbm, 311, rfl⟩
abbrev main_v205 : Ref sig .tc := ⟨.hbm, 312, rfl⟩
abbrev main_v206 : Ref sig .tc := ⟨.hbm, 313, rfl⟩
abbrev main_v207_0 : Ref sig .tc := ⟨.hbm, 314, rfl⟩
abbrev main_v207_1 : Ref sig .tc := ⟨.hbm, 315, rfl⟩
abbrev main_v207_2 : Ref sig .tc := ⟨.hbm, 316, rfl⟩
abbrev main_v207_3 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_call12_v0 : Ref sig .tc := ⟨.hbm, 321, rfl⟩
abbrev main_call12_v1 : Ref sig .tc := ⟨.hbm, 322, rfl⟩
abbrev main_v211 : Ref sig .tc := ⟨.hbm, 323, rfl⟩
abbrev main_cst_51 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_c_52 : Ref sig .tc := ⟨.hbm, 328, rfl⟩
abbrev main_v215 : Ref sig .tc := ⟨.hbm, 329, rfl⟩
abbrev main_v216 : Ref sig .tc := ⟨.hbm, 330, rfl⟩
abbrev main_c_53 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c128_i32 : BitVec 32 := 128#32
  let v12 : BitVec 32 := Scalar.muli arg0 c128_i32
  let c1024_i32 : BitVec 32 := 1024#32
  let v13 : BitVec 32 := Scalar.addi v12 c1024_i32
  let c128_i32_5 : BitVec 32 := 128#32
  let v14 : BitVec 32 := Scalar.subi v13 c128_i32_5
  v14
def k0_off1 (i : grid0.Coords) : Fin 2 → Nat :=
  let arg0 : BitVec 32 := BitVec.ofNat 32 (i 0).val
  let c128_i32 : BitVec 32 := 128#32
  let v12 : BitVec 32 := Scalar.muli arg0 c128_i32
  let c1024_i32 : BitVec 32 := 1024#32
  let v13 : BitVec 32 := Scalar.addi v12 c1024_i32
  let c128_i32_5 : BitVec 32 := 128#32
  let v14 : BitVec 32 := Scalar.subi v13 c128_i32_5
  let v15 : BitVec 32 := v14
  let v16 : Index := Scalar.indexCast v15
  let c0 : Index := 0#32
  ![v16.toNat, 0]
def k0_mult2 (i : grid0.Coords) : BitVec 32 :=
  let arg0 : BitVec 32 := BitVec.ofNat 32 (i 0).val
  let c128_i32_99 : BitVec 32 := 128#32
  let v284 : BitVec 32 := Scalar.muli arg0 c128_i32_99
  let c1024_i32_100 : BitVec 32 := 1024#32
  let v285 : BitVec 32 := Scalar.addi v284 c1024_i32_100
  let c128_i32_101 : BitVec 32 := 128#32
  let v286 : BitVec 32 := Scalar.subi v285 c128_i32_101
  v286
def k0_off2 (i : grid0.Coords) : Fin 2 → Nat :=
  let arg0 : BitVec 32 := BitVec.ofNat 32 (i 0).val
  let c128_i32_99 : BitVec 32 := 128#32
  let v284 : BitVec 32 := Scalar.muli arg0 c128_i32_99
  let c1024_i32_100 : BitVec 32 := 1024#32
  let v285 : BitVec 32 := Scalar.addi v284 c1024_i32_100
  let c128_i32_101 : BitVec 32 := 128#32
  let v286 : BitVec 32 := Scalar.subi v285 c128_i32_101
  let v287 : BitVec 32 := v286
  let v288 : Index := Scalar.indexCast v287
  let c0_102 : Index := 0#32
  ![v288.toNat, 0]
def k0_off3 (i : grid0.Coords) : Fin 2 → Nat :=
  let arg0 : BitVec 32 := BitVec.ofNat 32 (i 0).val
  let c128_i32_99 : BitVec 32 := 128#32
  let v284 : BitVec 32 := Scalar.muli arg0 c128_i32_99
  let c1024_i32_100 : BitVec 32 := 1024#32
  let v285 : BitVec 32 := Scalar.addi v284 c1024_i32_100
  let c128_i32_101 : BitVec 32 := 128#32
  let v286 : BitVec 32 := Scalar.subi v285 c128_i32_101
  let v287 : BitVec 32 := v286
  let v295 : Index := Scalar.indexCast v287
  let c256_104 : Index := 256#32
  ![v295.toNat, 256]
def k0_mult3 (i : grid0.Coords) : BitVec 32 :=
  let arg0 : BitVec 32 := BitVec.ofNat 32 (i 0).val
  let c128_i32_185 : BitVec 32 := 128#32
  let v539 : BitVec 32 := Scalar.muli arg0 c128_i32_185
  let c1024_i32_186 : BitVec 32 := 1024#32
  let v540 : BitVec 32 := Scalar.addi v539 c1024_i32_186
  let c128_i32_187 : BitVec 32 := 128#32
  let v541 : BitVec 32 := Scalar.subi v540 c128_i32_187
  v541
def k0_off4 (i : grid0.Coords) : Fin 2 → Nat :=
  let arg0 : BitVec 32 := BitVec.ofNat 32 (i 0).val
  let c128_i32_185 : BitVec 32 := 128#32
  let v539 : BitVec 32 := Scalar.muli arg0 c128_i32_185
  let c1024_i32_186 : BitVec 32 := 1024#32
  let v540 : BitVec 32 := Scalar.addi v539 c1024_i32_186
  let c128_i32_187 : BitVec 32 := 128#32
  let v541 : BitVec 32 := Scalar.subi v540 c128_i32_187
  let v542 : BitVec 32 := v541
  let v543 : Index := Scalar.indexCast v542
  let c128_188 : Index := 128#32
  ![v543.toNat, 128]
def k0_off5 (i : grid0.Coords) : Fin 2 → Nat :=
  let arg0 : BitVec 32 := BitVec.ofNat 32 (i 0).val
  let c128_i32_185 : BitVec 32 := 128#32
  let v539 : BitVec 32 := Scalar.muli arg0 c128_i32_185
  let c1024_i32_186 : BitVec 32 := 1024#32
  let v540 : BitVec 32 := Scalar.addi v539 c1024_i32_186
  let c128_i32_187 : BitVec 32 := 128#32
  let v541 : BitVec 32 := Scalar.subi v540 c128_i32_187
  let v542 : BitVec 32 := v541
  let v550 : Index := Scalar.indexCast v542
  let c384_190 : Index := 384#32
  ![v550.toNat, 384]
def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_mult4 (i : grid0.Coords) : BitVec 32 :=
  let arg0 : BitVec 32 := BitVec.ofNat 32 (i 0).val
  let c128_i32 : BitVec 32 := 128#32
  let v12 : BitVec 32 := Scalar.muli arg0 c128_i32
  let c1024_i32 : BitVec 32 := 1024#32
  let v13 : BitVec 32 := Scalar.addi v12 c1024_i32
  let c128_i32_5 : BitVec 32 := 128#32
  let v14 : BitVec 32 := Scalar.subi v13 c128_i32_5
  v14
def k0_off6 (i : grid0.Coords) : Fin 2 → Nat :=
  let arg0 : BitVec 32 := BitVec.ofNat 32 (i 0).val
  let c128_i32 : BitVec 32 := 128#32
  let v12 : BitVec 32 := Scalar.muli arg0 c128_i32
  let c1024_i32 : BitVec 32 := 1024#32
  let v13 : BitVec 32 := Scalar.addi v12 c1024_i32
  let c128_i32_5 : BitVec 32 := 128#32
  let v14 : BitVec 32 := Scalar.subi v13 c128_i32_5
  let v15 : BitVec 32 := v14
  let v16 : Index := Scalar.indexCast v15
  let c0 : Index := 0#32
  ![v16.toNat, 0]
def k0_mult5 (i : grid0.Coords) : BitVec 32 :=
  let arg0 : BitVec 32 := BitVec.ofNat 32 (i 0).val
  let c128_i32_88 : BitVec 32 := 128#32
  let v245 : BitVec 32 := Scalar.muli arg0 c128_i32_88
  let c1024_i32_89 : BitVec 32 := 1024#32
  let v246 : BitVec 32 := Scalar.addi v245 c1024_i32_89
  let c128_i32_90 : BitVec 32 := 128#32
  let v247 : BitVec 32 := Scalar.subi v246 c128_i32_90
  v247
def k0_off7 (i : grid0.Coords) : Fin 2 → Nat :=
  let arg0 : BitVec 32 := BitVec.ofNat 32 (i 0).val
  let c128_i32_88 : BitVec 32 := 128#32
  let v245 : BitVec 32 := Scalar.muli arg0 c128_i32_88
  let c1024_i32_89 : BitVec 32 := 1024#32
  let v246 : BitVec 32 := Scalar.addi v245 c1024_i32_89
  let c128_i32_90 : BitVec 32 := 128#32
  let v247 : BitVec 32 := Scalar.subi v246 c128_i32_90
  let v248 : BitVec 32 := v247
  let v249 : Index := Scalar.indexCast v248
  let c0_91 : Index := 0#32
  ![v249.toNat, 0]
def k0_off8 (i : grid0.Coords) : Fin 2 → Nat :=
  let arg0 : BitVec 32 := BitVec.ofNat 32 (i 0).val
  let c128_i32_88 : BitVec 32 := 128#32
  let v245 : BitVec 32 := Scalar.muli arg0 c128_i32_88
  let c1024_i32_89 : BitVec 32 := 1024#32
  let v246 : BitVec 32 := Scalar.addi v245 c1024_i32_89
  let c128_i32_90 : BitVec 32 := 128#32
  let v247 : BitVec 32 := Scalar.subi v246 c128_i32_90
  let v248 : BitVec 32 := v247
  let v256 : Index := Scalar.indexCast v248
  let c256_93 : Index := 256#32
  ![v256.toNat, 256]
def k0_mult6 (i : grid0.Coords) : BitVec 32 :=
  let arg0 : BitVec 32 := BitVec.ofNat 32 (i 0).val
  let c128_i32_162 : BitVec 32 := 128#32
  let v461 : BitVec 32 := Scalar.muli arg0 c128_i32_162
  let c1024_i32_163 : BitVec 32 := 1024#32
  let v462 : BitVec 32 := Scalar.addi v461 c1024_i32_163
  let c128_i32_164 : BitVec 32 := 128#32
  let v463 : BitVec 32 := Scalar.subi v462 c128_i32_164
  v463
def k0_off9 (i : grid0.Coords) : Fin 2 → Nat :=
  let arg0 : BitVec 32 := BitVec.ofNat 32 (i 0).val
  let c128_i32_162 : BitVec 32 := 128#32
  let v461 : BitVec 32 := Scalar.muli arg0 c128_i32_162
  let c1024_i32_163 : BitVec 32 := 1024#32
  let v462 : BitVec 32 := Scalar.addi v461 c1024_i32_163
  let c128_i32_164 : BitVec 32 := 128#32
  let v463 : BitVec 32 := Scalar.subi v462 c128_i32_164
  let v464 : BitVec 32 := v463
  let v465 : Index := Scalar.indexCast v464
  let c128_165 : Index := 128#32
  ![v465.toNat, 128]
def k0_off10 (i : grid0.Coords) : Fin 2 → Nat :=
  let arg0 : BitVec 32 := BitVec.ofNat 32 (i 0).val
  let c128_i32_162 : BitVec 32 := 128#32
  let v461 : BitVec 32 := Scalar.muli arg0 c128_i32_162
  let c1024_i32_163 : BitVec 32 := 1024#32
  let v462 : BitVec 32 := Scalar.addi v461 c1024_i32_163
  let c128_i32_164 : BitVec 32 := 128#32
  let v463 : BitVec 32 := Scalar.subi v462 c128_i32_164
  let v464 : BitVec 32 := v463
  let v472 : Index := Scalar.indexCast v464
  let c384_167 : Index := 384#32
  ![v472.toNat, 384]
def k0_cond4 (i : grid0.Coords) : BitVec 1 :=
  let arg0 : BitVec 32 := BitVec.ofNat 32 (i 0).val
  let c31_i32 : BitVec 32 := 31#32
  let v9 : BitVec 1 := Scalar.cmpi .eq arg0 c31_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4096x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x128 : Shape := ⟨2, ![4096, 128]⟩
abbrev S1x16 : Shape := ⟨2, ![1, 16]⟩
abbrev S32x16 : Shape := ⟨2, ![32, 16]⟩
abbrev S4096x2x8x64 : Shape := ⟨4, ![4096, 2, 8, 64]⟩
abbrev S4096x2x64 : Shape := ⟨3, ![4096, 2, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩
abbrev S4096x4096x16 : Shape := ⟨3, ![4096, 4096, 16]⟩
abbrev S16x4096x4096 : Shape := ⟨3, ![16, 4096, 4096]⟩
abbrev S2x8x4096x4096 : Shape := ⟨4, ![2, 8, 4096, 4096]⟩
abbrev S2x4096x4096x8 : Shape := ⟨4, ![2, 4096, 4096, 8]⟩
abbrev S1x1x4096x4096 : Shape := ⟨4, ![1, 1, 4096, 4096]⟩
abbrev S2x8x1x1 : Shape := ⟨4, ![2, 8, 1, 1]⟩
abbrev S2x8x4096x1 : Shape := ⟨4, ![2, 8, 4096, 1]⟩
abbrev S2x8x4096x4097 : Shape := ⟨4, ![2, 8, 4096, 4097]⟩
abbrev S2x8x4096 : Shape := ⟨3, ![2, 8, 4096]⟩
abbrev S2x64x8x4096 : Shape := ⟨4, ![2, 64, 8, 4096]⟩
abbrev S2x64x4096 : Shape := ⟨3, ![2, 64, 4096]⟩
abbrev S2x8 : Shape := ⟨2, ![2, 8]⟩
abbrev S2x4096x8x64 : Shape := ⟨4, ![2, 4096, 8, 64]⟩
abbrev S2x4096x64 : Shape := ⟨3, ![2, 4096, 64]⟩

abbrev nBuf : Space → Nat
  | .hbm => 220
  | .vmem => 0
  | .smem => 0
  | _ => 0

abbrev hbmTy0_0 (i : Nat) : BufTy := match i % 128 with
  | 0 => ⟨S4096x1024, .f32⟩
  | 1 => ⟨S4096x1024, .f32⟩
  | 2 => ⟨S4096x128, .f32⟩
  | 3 => ⟨S4096x128, .f32⟩
  | 4 => ⟨S1x16, .f32⟩
  | 5 => ⟨S32x16, .f32⟩
  | 6 => ⟨S4096x1024, .f32⟩
  | 7 => ⟨S4096x2x8x64, .f32⟩
  | 8 => ⟨S4096x2x64, .f32⟩
  | 9 => ⟨S4096, .i32⟩
  | 10 => ⟨S1x4096, .i32⟩
  | 11 => ⟨S4096x1, .i32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i1⟩
  | 18 => ⟨S_, .i32⟩
  | 19 => ⟨S_, .i32⟩
  | 20 => ⟨S4096x4096, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .i32⟩
  | 39 => ⟨S_, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i1⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i1⟩
  | 54 => ⟨S_, .i32⟩
  | 55 => ⟨S4096x4096, .i32⟩
  | 56 => ⟨S4096x4096, .i32⟩
  | 57 => ⟨S4096x4096, .i32⟩
  | 58 => ⟨S4096x4096x1, .i32⟩
  | 59 => ⟨S4096x4096x16, .f32⟩
  | 60 => ⟨S16x4096x4096, .f32⟩
  | 61 => ⟨S2x8x4096x4096, .f32⟩
  | 62 => ⟨S2x4096x4096x8, .f32⟩
  | 63 => ⟨S2x8x4096x4096, .f32⟩
  | 64 => ⟨S_, .f32⟩
  | 65 => ⟨S2x8x4096x4096, .f32⟩
  | 66 => ⟨S2x8x4096x4096, .f32⟩
  | 67 => ⟨S2x8x4096x4096, .f32⟩
  | 68 => ⟨S_, .i32⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i1⟩
  | 76 => ⟨S4096, .i32⟩
  | 77 => ⟨S4096, .i32⟩
  | 78 => ⟨S_, .i32⟩
  | 79 => ⟨S4096, .i32⟩
  | 80 => ⟨S4096, .i1⟩
  | 81 => ⟨S4096, .i1⟩
  | 82 => ⟨S_, .i32⟩
  | 83 => ⟨S4096, .i32⟩
  | 84 => ⟨S4096, .i32⟩
  | 85 => ⟨S4096, .i32⟩
  | 86 => ⟨S1x4096, .i32⟩
  | 87 => ⟨S4096x1, .i32⟩
  | 88 => ⟨S4096x4096, .i32⟩
  | 89 => ⟨S4096x4096, .i32⟩
  | 90 => ⟨S4096x4096, .i1⟩
  | 91 => ⟨S4096x1, .i32⟩
  | 92 => ⟨S_, .i32⟩
  | 93 => ⟨S4096x1, .i32⟩
  | 94 => ⟨S4096x1, .i32⟩
  | 95 => ⟨S1x4096, .i32⟩
  | 96 => ⟨S4096x4096, .i32⟩
  | 97 => ⟨S4096x4096, .i32⟩
  | 98 => ⟨S4096x4096, .i1⟩
  | 99 => ⟨S4096x4096, .i1⟩
  | 100 => ⟨S1x1x4096x4096, .i1⟩
  | 101 => ⟨S_, .f32⟩
  | 102 => ⟨S_, .f32⟩
  | 103 => ⟨S2x8x4096x4096, .i1⟩
  | 104 => ⟨S2x8x4096x4096, .f32⟩
  | 105 => ⟨S2x8x4096x4096, .f32⟩
  | 106 => ⟨S_, .f32⟩
  | 107 => ⟨S2x8x4096x4096, .f32⟩
  | 108 => ⟨S2x8x1x1, .f32⟩
  | 109 => ⟨S2x8x4096x1, .f32⟩
  | 110 => ⟨S2x8x4096x4097, .f32⟩
  | 111 => ⟨S_, .f32⟩
  | 112 => ⟨S2x8x4096, .f32⟩
  | 113 => ⟨S2x8x4096x1, .f32⟩
  | 114 => ⟨S2x8x4096x4097, .f32⟩
  | 115 => ⟨S2x8x4096x4097, .i1⟩
  | 116 => ⟨S2x8x4096x4097, .f32⟩
  | 117 => ⟨S_, .f32⟩
  | 118 => ⟨S2x8x4096, .f32⟩
  | 119 => ⟨S_, .f32⟩
  | 120 => ⟨S2x8x4096, .f32⟩
  | 121 => ⟨S2x8x4096, .f32⟩
  | 122 => ⟨S_, .f32⟩
  | 123 => ⟨S2x8x4096, .f32⟩
  | 124 => ⟨S2x8x4096, .i1⟩
  | 125 => ⟨S_, .f32⟩
  | 126 => ⟨S2x8x4096, .f32⟩
  | 127 => ⟨S2x8x4096, .i1⟩
  | _ => ⟨S4096x1024, .f32⟩

abbrev hbmTy0_1 (i : Nat) : BufTy := match i % 128 with
  | 0 => ⟨S_, .f32⟩
  | 1 => ⟨S2x8x4096, .f32⟩
  | 2 => ⟨S_, .f32⟩
  | 3 => ⟨S2x8x4096, .f32⟩
  | 4 => ⟨S_, .f32⟩
  | 5 => ⟨S2x8x4096, .f32⟩
  | 6 => ⟨S2x8x4096, .f32⟩
  | 7 => ⟨S2x8x4096, .f32⟩
  | 8 => ⟨S2x8x4096x1, .f32⟩
  | 9 => ⟨S2x8x4096x4097, .f32⟩
  | 10 => ⟨S2x8x4096x4097, .f32⟩
  | 11 => ⟨S2x8x4096x4097, .f32⟩
  | 12 => ⟨S_, .f32⟩
  | 13 => ⟨S2x8x4096, .f32⟩
  | 14 => ⟨S2x8x4096x1, .f32⟩
  | 15 => ⟨S2x8x4096x4097, .f32⟩
  | 16 => ⟨S2x8x4096x4097, .f32⟩
  | 17 => ⟨S2x8x4096x1, .f32⟩
  | 18 => ⟨S_, .f32⟩
  | 19 => ⟨S2x8x4096x1, .f32⟩
  | 20 => ⟨S2x8x4096x1, .f32⟩
  | 21 => ⟨S2x8x4096x4096, .f32⟩
  | 22 => ⟨S4096x2x64, .f32⟩
  | 23 => ⟨S2x64x8x4096, .f32⟩
  | 24 => ⟨S4096x2x8x64, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x2x8x64, .f32⟩
  | 47 => ⟨S2x64x8x4096, .f32⟩
  | 48 => ⟨S2x8x4096x4096, .f32⟩
  | 49 => ⟨S2x64x4096, .f32⟩
  | 50 => ⟨S4096x2x64, .f32⟩
  | 51 => ⟨S4096x128, .f32⟩
  | 52 => ⟨S_, .f32⟩
  | 53 => ⟨S2x8x4096x4097, .f32⟩
  | 54 => ⟨S2x8x4096x4097, .f32⟩
  | 55 => ⟨S2x8x4096x4097, .f32⟩
  | 56 => ⟨S2x8x4096x4097, .f32⟩
  | 57 => ⟨S_, .f32⟩
  | 58 => ⟨S2x8x4096, .f32⟩
  | 59 => ⟨S2x8x4096x1, .f32⟩
  | 60 => ⟨S2x8x4096x1, .f32⟩
  | 61 => ⟨S2x8x4096x4097, .f32⟩
  | 62 => ⟨S2x8x4096x4097, .f32⟩
  | 63 => ⟨S_, .f32⟩
  | 64 => ⟨S2x8x4096, .f32⟩
  | 65 => ⟨S2x8x4096x4097, .f32⟩
  | 66 => ⟨S2x8x4096x4097, .f32⟩
  | 67 => ⟨S2x8x4096x4097, .f32⟩
  | 68 => ⟨S2x8x4096x4096, .f32⟩
  | 69 => ⟨S2x8x4096x1, .f32⟩
  | 70 => ⟨S_, .f32⟩
  | 71 => ⟨S2x8, .f32⟩
  | 72 => ⟨S2x8x1x1, .f32⟩
  | 73 => ⟨S1x16, .f32⟩
  | 74 => ⟨S_, .f32⟩
  | 75 => ⟨S2x8x4096x4096, .f32⟩
  | 76 => ⟨S2x8x4096x4096, .f32⟩
  | 77 => ⟨S_, .f32⟩
  | 78 => ⟨S2x8x4096x4096, .f32⟩
  | 79 => ⟨S2x8x4096x4096, .f32⟩
  | 80 => ⟨S2x4096x4096x8, .f32⟩
  | 81 => ⟨S2x4096x8x64, .f32⟩
  | 82 => ⟨S4096x2x8x64, .f32⟩
  | 83 => ⟨S2x4096x64, .f32⟩
  | 84 => ⟨S4096x2x64, .f32⟩
  | 85 => ⟨S16x4096x4096, .f32⟩
  | 86 => ⟨S4096x4096x16, .f32⟩
  | 87 => ⟨S_, .f32⟩
  | 88 => ⟨S32x16, .f32⟩
  | 89 => ⟨S32x16, .f32⟩
  | 90 => ⟨S4096x128, .f32⟩
  | 91 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_13 : Ref sig .tc := ⟨.hbm, 101, rfl⟩
abbrev main_call3_v0 : Ref sig .tc := ⟨.hbm, 102, rfl⟩
abbrev main_v61_1 : Ref sig .tc := ⟨.hbm, 103, rfl⟩
abbrev main_call3_v2 : Ref sig .tc := ⟨.hbm, 104, rfl⟩
abbrev main_v61_0 : Ref sig .tc := ⟨.hbm, 105, rfl⟩
abbrev main_call3_cst : Ref sig .tc := ⟨.hbm, 106, rfl⟩
abbrev main_v61_2 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_14 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_15 : Ref sig .tc := ⟨.hbm, 117, rfl⟩
abbrev main_v70 : Ref sig .tc := ⟨.hbm, 118, rfl⟩
abbrev main_cst_16 : Ref sig .tc := ⟨.hbm, 119, rfl⟩
abbrev main_v71 : Ref sig .tc := ⟨.hbm, 120, rfl⟩
abbrev main_v72 : Ref sig .tc := ⟨.hbm, 121, rfl⟩
abbrev main_cst_17 : Ref sig .tc := ⟨.hbm, 122, rfl⟩
abbrev main_v73 : Ref sig .tc := ⟨.hbm, 123, rfl⟩
abbrev main_v74 : Ref sig .tc := ⟨.hbm, 124, rfl⟩
abbrev main_cst_18 : Ref sig .tc := ⟨.hbm, 125, rfl⟩
abbrev main_v75 : Ref sig .tc := ⟨.hbm, 126, rfl⟩
abbrev main_v76 : Ref sig .tc := ⟨.hbm, 127, rfl⟩
abbrev main_cst_19 : Ref sig .tc := ⟨.hbm, 128, rfl⟩
abbrev main_v77 : Ref sig .tc := ⟨.hbm, 129, rfl⟩
abbrev main_cst_20 : Ref sig .tc := ⟨.hbm, 130, rfl⟩
abbrev main_v78 : Ref sig .tc := ⟨.hbm, 131, rfl⟩
abbrev main_cst_21 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_22 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_23 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_call4_v0 : Ref sig .tc := ⟨.hbm, 154, rfl⟩
abbrev main_call4_v1 : Ref sig .tc := ⟨.hbm, 155, rfl⟩
abbrev main_call4_cst : Ref sig .tc := ⟨.hbm, 156, rfl⟩
abbrev main_call4_v2 : Ref sig .tc := ⟨.hbm, 157, rfl⟩
abbrev main_call4_v3 : Ref sig .tc := ⟨.hbm, 158, rfl⟩
abbrev main_call4_cst_0 : Ref sig .tc := ⟨.hbm, 159, rfl⟩
abbrev main_call4_v4 : Ref sig .tc := ⟨.hbm, 160, rfl⟩
abbrev main_v98_2 : Ref sig .tc := ⟨.hbm, 161, rfl⟩
abbrev main_call4_cst_1 : Ref sig .tc := ⟨.hbm, 162, rfl⟩
abbrev main_call4_v6 : Ref sig .tc := ⟨.hbm, 163, rfl⟩
abbrev main_call4_v7 : Ref sig .tc := ⟨.hbm, 164, rfl⟩
abbrev main_v98_1 : Ref sig .tc := ⟨.hbm, 165, rfl⟩
abbrev main_v98_0 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_call5_v0 : Ref sig .tc := ⟨.hbm, 170, rfl⟩
abbrev main_call5_v1 : Ref sig .tc := ⟨.hbm, 171, rfl⟩
abbrev main_call5_v2 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_24 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_cst_25 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_cst_26 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_27 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_call6_cst : Ref sig .tc := ⟨.hbm, 202, rfl⟩
abbrev main_call6_v0 : Ref sig .tc := ⟨.hbm, 203, rfl⟩
abbrev main_v127 : Ref sig .tc := ⟨.hbm, 204, rfl⟩
abbrev main_cst_28 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_29 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S4096x4x1024 : Shape := ⟨3, ![4096, 4, 1024]⟩
abbrev S4x4096x1024 : Shape := ⟨3, ![4, 4096, 1024]⟩
abbrev S4x1024x1024 : Shape := ⟨3, ![4, 1024, 1024]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4x1024, .f32⟩
  | .hbm, ⟨4, _⟩ => ⟨S4x4096x1024, .f32⟩
  | .hbm, ⟨5, _⟩ => ⟨S4x4096x1024, .bf16⟩
  | .hbm, ⟨6, _⟩ => ⟨S4x1024x1024, .f32⟩
  | .hbm, ⟨7, _⟩ => ⟨S4x1024x1024, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x2048 : Shape := ⟨2, ![4096, 2048]⟩
abbrev S4096x4x512 : Shape := ⟨3, ![4096, 4, 512]⟩
abbrev S4x4096x512 : Shape := ⟨3, ![4, 4096, 512]⟩
abbrev S4x1024x512 : Shape := ⟨3, ![4, 1024, 512]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x4x512, .f32⟩
  | .hbm, ⟨4, _⟩ => ⟨S4x4096x512, .f32⟩
  | .hbm, ⟨5, _⟩ => ⟨S4x4096x512, .bf16⟩
  | .hbm, ⟨6, _⟩ => ⟨S4x1024x512, .f32⟩
  | .hbm, ⟨7, _⟩ => ⟨S4x1024x512, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 6
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .bf16⟩
  | .hbm, ⟨3, _⟩ => ⟨S4096x256, .bf16⟩
  | .hbm, ⟨4, _⟩ => ⟨S1024x256, .f32⟩
  | .hbm, ⟨5, _⟩ => ⟨S1024x256, .bf16⟩
  | .local _ .vmem, ⟨0, _⟩ => ⟨S4096x1024, .bf16⟩
  | .local _ .vmem, ⟨1, _⟩ => ⟨S4096x256, .bf16⟩
  | .local _ .vmem, ⟨2, _⟩ => ⟨S1024x256, .f32⟩
  | .local _ .vmem, ⟨3, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference6Ideal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S_, .f32⟩
  | .hbm, ⟨3, _⟩ => ⟨S1024x256, .f32⟩
  | .hbm, ⟨4, _⟩ => ⟨S4096x256, .f32⟩
  | .hbm, ⟨5, _⟩ => ⟨S256x1024, .f32⟩
  | .hbm, ⟨6, _⟩ => ⟨S1024x256, .f32⟩
  | .hbm, ⟨7, _⟩ => ⟨S1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4x1024 : Shape := ⟨3, ![4096, 4, 1024]⟩
abbrev S4x4096x1024 : Shape := ⟨3, ![4, 4096, 1024]⟩
abbrev S4x1024x512 : Shape := ⟨3, ![4, 1024, 512]⟩
abbrev S512x1024 : Shape := ⟨2, ![512, 1024]⟩
abbrev S4x512x512 : Shape := ⟨3, ![4, 512, 512]⟩
abbrev S512 : Shape := ⟨1, ![512]⟩
abbrev S512x1 : Shape := ⟨2, ![512, 1]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x4096, .f32⟩
  | .hbm, ⟨4, _⟩ => ⟨S1024x4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x4x1024, .f32⟩
  | .hbm, ⟨9, _⟩ => ⟨S4x4096x1024, .f32⟩
  | .hbm, ⟨10, _⟩ => ⟨S4x4096x1024, .bf16⟩
  | .hbm, ⟨11, _⟩ => ⟨S4x1024x512, .bf16⟩
  | .hbm, ⟨12, _⟩ => ⟨S4x1024x512, .bf16⟩
  | .hbm, ⟨13, _⟩ => ⟨S4096x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x512, .bf16⟩
  | .local _ .vmem, ⟨6, _⟩ => ⟨S4x512x512, .bf16⟩
  | .local _ .vmem, ⟨7, _⟩ => ⟨S4x1024x512, .bf16⟩
  | .local _ .vmem, ⟨8, _⟩ => ⟨S4x512x512, .bf16⟩
  | .local _ .vmem, ⟨9, _⟩ => ⟨S4x512x512, .bf16⟩
  | .local _ .vmem, ⟨10, _⟩ => ⟨S4x1024x512, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x1024 : Shape := ⟨2, ![4096, 1024]⟩
abbrev S1x1024 : Shape := ⟨2, ![1, 1024]⟩
abbrev S4096x4096 : Shape := ⟨2, ![4096, 4096]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x4096, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel8.lean ====
abbrev S4096x1024 : Shape := ⟨2, ![4096, 1024]⟩
abbrev S2x1024 : Shape := ⟨2, ![2, 1024]⟩
abbrev S4096x256 : Shape := ⟨2, ![4096, 256]⟩
abbrev S1024x256 : Shape := ⟨2, ![1024, 256]⟩
abbrev S4096x2048 : Shape := ⟨2, ![4096, 2048]⟩
abbrev S1024x2048 : Shape := ⟨2, ![1024, 2048]⟩
abbrev S1x4096x256 : Shape := ⟨3, ![1, 4096, 256]⟩
abbrev S1x1024x256 : Shape := ⟨3, ![1, 1024, 256]⟩
abbrev S4096x4x512 : Shape := ⟨3, ![4096, 4, 512]⟩
abbrev S4x4096x512 : Shape := ⟨3, ![4, 4096, 512]⟩
abbrev S1024x4x512 : Shape := ⟨3, ![1024, 4, 512]⟩
abbrev S4x1024x512 : Shape := ⟨3, ![4, 1024, 512]⟩
abbrev S512x1024 : Shape := ⟨2, ![512, 1024]⟩
abbrev S1x512x256 : Shape := ⟨3, ![1, 512, 256]⟩
abbrev S4x512x512 : Shape := ⟨3, ![4, 512, 512]⟩
abbrev S512 : Shape := ⟨1, ![512]⟩
abbrev S512x1 : Shape := ⟨2, ![512, 1]⟩
abbrev S512x256 : Shape := ⟨2, ![512, 256]⟩
abbrev S1x1024 : Shape := ⟨2, ![1, 1024]⟩
abbrev S1024 : Shape := ⟨1, ![1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 19
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S4096x256, .f32⟩
  | .hbm, ⟨4, _⟩ => ⟨S1024x256, .f32⟩
  | .hbm, ⟨5, _⟩ => ⟨S4096x2048, .f32⟩
  | .hbm, ⟨6, _⟩ => ⟨S1024x2048, .f32⟩
  | .hbm, ⟨7, _⟩ => ⟨S4096x256, .bf16⟩
  | .hbm, ⟨8, _⟩ => ⟨S1x4096x256, .bf16⟩
  | .hbm, ⟨9, _⟩ => ⟨S1024x256, .bf16⟩
  | .hbm, ⟨10, _⟩ => ⟨S1x1024x256, .bf16⟩
  | .hbm, ⟨11, _⟩ => ⟨S4096x4x512, .f32⟩
  | .hbm, ⟨12, _⟩ => ⟨S4x4096x512, .f32⟩
  | .hbm, ⟨13, _⟩ => ⟨S4x4096x512, .bf16⟩
  | .hbm, ⟨14, _⟩ => ⟨S1024x4x512, .f32⟩
  | .hbm, ⟨15, _⟩ => ⟨S4x1024x512, .f32⟩
  | .hbm, ⟨16, _⟩ => ⟨S4x1024x512, .bf16⟩
  | .hbm, ⟨17, _⟩ => ⟨S4096x1024, .f32⟩
  | .hbm, ⟨18, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S1x512x256, .bf16⟩
  | .local _ .vmem, ⟨6, _⟩ => ⟨S1x512x256, .bf16⟩
  | .local _ .vmem, ⟨7, _⟩ => ⟨S1x1024x256, .bf16⟩
  | .local _ .vmem, ⟨8, _⟩ => ⟨S4x512x512, .bf16⟩
  | .local _ .vmem, ⟨9, _⟩ => ⟨S4x512x512, .bf16⟩
  | .local _ .vmem, ⟨10, _⟩ => ⟨S4x1024x512, .bf16⟩
  | .local _ .vmem, ⟨11, _⟩ => ⟨S512x1024, .f32⟩
  | .local _ .vmem, ⟨12, _⟩ => ⟨S512x1024, .f32⟩
  | .local _ .vmem, ⟨13, _⟩ => ⟨S2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S4096x1024 : Shape := ⟨2, ![4096, 1024]⟩
abbrev S2x1024 : Shape := ⟨2, ![2, 1024]⟩
abbrev S4096x256 : Shape := ⟨2, ![4096, 256]⟩
abbrev S1024x256 : Shape := ⟨2, ![1024, 256]⟩
abbrev S4096x2048 : Shape := ⟨2, ![4096, 2048]⟩
abbrev S1024x2048 : Shape := ⟨2, ![1024, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S4096x256, .f32⟩
  | .hbm, ⟨4, _⟩ => ⟨S1024x256, .f32⟩
  | .hbm, ⟨5, _⟩ => ⟨S4096x2048, .f32⟩
  | .hbm, ⟨6, _⟩ => ⟨S1024x2048, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x256, .f32⟩
  | .hbm, ⟨28, _⟩ => ⟨S1x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x2048, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S2x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S2x1024, .f32⟩
  | .hbm, ⟨103, _⟩ => ⟨S2x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S2x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S2x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x1024 : Shape := ⟨2, ![4096, 1024]⟩
abbrev S1024x1024 : Shape := ⟨2, ![1024, 1024]⟩
abbrev S2x1024 : Shape := ⟨2, ![2, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S2x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S1x1, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_22 : BitVec 32 := 0#32
  let v51 : BitVec 1 := Scalar.cmpi .ne v50 c0_i32_22
  v51

def k0_cond2 (i : grid0.Coords) : BitVec 1 :=
  let arg0 : BitVec 32 := BitVec.ofNat 32 (i 0).val
  let c0_i32_23 : BitVec 32 := 0#32
  let v52 : BitVec 1 := Scalar.cmpi .sgt arg0 c0_i32_23
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.IdealBase.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which block a point is

The grid runs over the 32 blocks of queries in order.  The four conditions of the body, as the program computes
them, and what they say of the point. -/

abbrev first (i : grid0.Coords) : Prop := (Scalar.cmpi .ne (Scalar.extui (Scalar.cmpi .eq (BitVec.ofNat 32 (i 0).val) 0#32)) 0#32) = 1#1
abbrev opens (i : grid0.Coords) : Prop := k0_cond2 i = 1#1
abbrev later (i : grid0.Coords) : Prop := k0_cond3 i = 1#1
abbrev last (i : grid0.Coords) : Prop := k0_cond4 i = 1#1

theorem first_iff : ∀ t : Fin cfg0.N, first (grid0.coords t) ↔ t.val = 0 :=
  (by decide +kernel : ∀ t : Fin grid0.N, first (grid0.coords t) ↔ t.val = 0)
theorem opens_iff : ∀ t : Fin cfg0.N, opens (grid0.coords t) ↔ t.val = 0 :=
  (by decide +kernel : ∀ t : Fin grid0.N, opens (grid0.coords t) ↔ t.val = 0)
theorem later_iff : ∀ t : Fin cfg0.N, later (grid0.coords t) ↔ 1 ≤ t.val :=
  (by decide +kernel : ∀ t : Fin grid0.N, later (grid0.coords t) ↔ 1 ≤ t.val)
theorem last_iff : ∀ t : Fin cfg0.N, last (grid0.coords t) ↔ t.val = 31 :=
  (by decide +kernel : ∀ t : Fin grid0.N, last (grid0.coords t) ↔ t.val = 31)

end Cert.KernelIdeal.Attn

end
-- ==== Proof.IdealRunB.lean ====
module

public import proofs.«01_k».proof.Proof.IdealBase

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2400000 in
/-- The body on a block that is neither the first nor the last.  On whole buffers holding the given contents it ends with the buffers it stored into
holding the listed pieces, the other buffers as they were. -/
noncomputable def runB (c : Dev nD) (i : grid0.Coords)
    (arg1 : Memref sig .tc .vmem S128x1024 .bf16) (harg1 : arg1.IsWhole)
    (arg2 : Memref sig .tc .vmem S5120x512 .bf16) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x1024 .f32) (harg5 : arg5.IsWhole)
    (arg6 : Memref sig .tc .vmem S1x8x512 .f32) (harg6 : arg6.IsWhole)
    (arg7 : Memref sig .tc .vmem S16x1x384 .f32) (harg7 : arg7.IsWhole)
    (arg8 : Memref sig .tc .vmem S1x16 .f32) (harg8 : arg8.IsWhole)
    (arg9 : Memref sig .tc .vmem S4x128x512 .bf16) (harg9 : arg9.IsWhole)
    (arg10 : Memref sig .tc .vmem S4096x256 .bf16) (harg10 : arg10.IsWhole)
    (arg11 : Memref sig .tc .vmem S16x1x384 .f32) (harg11 : arg11.IsWhole)
    (arg12 : Memref sig .tc .vmem S8x128 .f32) (harg12 : arg12.IsWhole)
    (arg13 : Memref sig .tc .vmem S2x512x512 .f32) (harg13 : arg13.IsWhole)
    (arg14 : Memref sig .tc .vmem S2x512x512 .f32) (harg14 : arg14.IsWhole)
    (arg15 : Memref sig .tc .vmem S5120x512 .f32) (harg15 : arg15.IsWhole)
    (arg16 : Memref sig .tc .vmem S8x512 .f32) (harg16 : arg16.IsWhole)
    (h0 : ¬first i) (h1 : ¬opens i) (h2 : later i) (h3 : ¬last i)
    (x0 : Vec F S128x1024 .bf16) (x1 : Vec F S5120x512 .bf16) (x2 x3 x4 : Vec F S128x1024 .f32) (x5 : Vec F S1x8x512 .f32) (x6 : Vec F S16x1x384 .f32) (x7 : Vec F S1x16 .f32) (s0 s1 : Vec F S2x512x512 .f32) (s2 : Vec F S5120x512 .f32) (s3 : Vec F S8x512 .f32) :
    Σ' (L8 : List (View.Piece (Elt F) S4x128x512 .bf16)), Σ' (LS1 : List (View.Piece (Elt F) S2x512x512 .f32)), Σ' (LS2 : List (View.Piece (Elt F) S5120x512 .f32)), { LS3 : List (View.Piece (Elt F) S8x512 .f32) //
      ∀ (y9 : Vec F S4096x256 .bf16) (y10 : Vec F S16x1x384 .f32) (y11 : Vec F S8x128 .f32) (E : Set ℕ) (K : PUnit → sProp 𝕄),
        iprop(owns (c : Thread nD τ) arg1 fullShare x0 ∗
          owns (c : Thread nD τ) arg2 fullShare x1 ∗
          owns (c : Thread nD τ) arg3 fullShare x2 ∗
          owns (c : Thread nD τ) arg4 fullShare x3 ∗
          owns (c : Thread nD τ) arg5 fullShare x4 ∗
          owns (c : Thread nD τ) arg6 fullShare x5 ∗
          owns (c : Thread nD τ) arg7 fullShare x6 ∗
          owns (c : Thread nD τ) arg8 fullShare x7 ∗
          (∃ d, owns (c : Thread nD τ) arg9 fullShare d) ∗
          owns (c : Thread nD τ) arg10 fullShare y9 ∗
          owns (c : Thread nD τ) arg11 fullShare y10 ∗
          owns (c : Thread nD τ) arg12 fullShare y11 ∗
          owns (c : Thread nD τ) arg13 fullShare s0 ∗
          owns (c : Thread nD τ) arg14 fullShare s1 ∗
          owns (c : Thread nD τ) arg15 fullShare s2 ∗
          owns (c : Thread nD τ) arg16 fullShare s3 ∗
          (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            owns (c : Thread nD τ) arg7 fullShare x6 ∗
            owns (c : Thread nD τ) arg8 fullShare x7 ∗
            (∃ f, arg9.view.loc (c : Thread nD τ) ↦[arg9.view.set]{fullShare} arg9.view.writes (Elt F) f L8) ∗
            owns (c : Thread nD τ) arg10 fullShare y9 ∗
            owns (c : Thread nD τ) arg11 fullShare y10 ∗
            owns (c : Thread nD τ) arg12 fullShare y11 ∗
            owns (c : Thread nD τ) arg13 fullShare s0 ∗
            (∃ f, arg14.view.loc (c : Thread nD τ) ↦[arg14.view.set]{fullShare} arg14.view.writes (Elt F) f LS1) ∗
            (arg15.view.loc (c : Thread nD τ) ↦[arg15.view.set]{fullShare} arg15.view.writes (Elt F) (harg15.unread s2) LS2) ∗
            (∃ f, arg16.view.loc (c : Thread nD τ) ↦[arg16.view.set]{fullShare} arg16.view.writes (Elt F) f LS3)) -∗ K ⟨⟩))
          ⊢ wp frame (wpE (defs₀ (F := F)) Variants.none c none) E (cc0_attn_b_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun y9 y10 y11 E K => ?go⟩
  case go =>
    simp only [cc0_attn_b_bwd_eq_skeleton]; unfold cc0_attn_b_bwd_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    sl_exec (disch := first | sl_exact h0 | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexact H14
    iexists _; iexact H15

end Cert.KernelIdeal.Attn

end
-- ==== Proof.IdealRunC.lean ====
module

public import proofs.«01_k».proof.Proof.IdealRunB

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2400000 in
/-- The body on the last block: the accumulated gradients are also sent out.  On whole buffers holding the given contents it ends with the buffers it stored into
holding the listed pieces, the other buffers as they were. -/
noncomputable def runC (c : Dev nD) (i : grid0.Coords)
    (arg1 : Memref sig .tc .vmem S128x1024 .bf16) (harg1 : arg1.IsWhole)
    (arg2 : Memref sig .tc .vmem S5120x512 .bf16) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x1024 .f32) (harg5 : arg5.IsWhole)
    (arg6 : Memref sig .tc .vmem S1x8x512 .f32) (harg6 : arg6.IsWhole)
    (arg7 : Memref sig .tc .vmem S16x1x384 .f32) (harg7 : arg7.IsWhole)
    (arg8 : Memref sig .tc .vmem S1x16 .f32) (harg8 : arg8.IsWhole)
    (arg9 : Memref sig .tc .vmem S4x128x512 .bf16) (harg9 : arg9.IsWhole)
    (arg10 : Memref sig .tc .vmem S4096x256 .bf16) (harg10 : arg10.IsWhole)
    (arg11 : Memref sig .tc .vmem S16x1x384 .f32) (harg11 : arg11.IsWhole)
    (arg12 : Memref sig .tc .vmem S8x128 .f32) (harg12 : arg12.IsWhole)
    (arg13 : Memref sig .tc .vmem S2x512x512 .f32) (harg13 : arg13.IsWhole)
    (arg14 : Memref sig .tc .vmem S2x512x512 .f32) (harg14 : arg14.IsWhole)
    (arg15 : Memref sig .tc .vmem S5120x512 .f32) (harg15 : arg15.IsWhole)
    (arg16 : Memref sig .tc .vmem S8x512 .f32) (harg16 : arg16.IsWhole)
    (h0 : ¬first i) (h1 : ¬opens i) (h2 : later i) (h3 : last i)
    (x0 : Vec F S128x1024 .bf16) (x1 : Vec F S5120x512 .bf16) (x2 x3 x4 : Vec F S128x1024 .f32) (x5 : Vec F S1x8x512 .f32) (x6 : Vec F S16x1x384 .f32) (x7 : Vec F S1x16 .f32) (s0 s1 : Vec F S2x512x512 .f32) (s2 : Vec F S5120x512 .f32) (s3 : Vec F S8x512 .f32) :
    Σ' (L8 : List (View.Piece (Elt F) S4x128x512 .bf16)), Σ' (L9 : List (View.Piece (Elt F) S4096x256 .bf16)), Σ' (L10 : List (View.Piece (Elt F) S16x1x384 .f32)), Σ' (L11 : List (View.Piece (Elt F) S8x128 .f32)), Σ' (LS1 : List (View.Piece (Elt F) S2x512x512 .f32)), Σ' (LS2 : List (View.Piece (Elt F) S5120x512 .f32)), { LS3 : List (View.Piece (Elt F) S8x512 .f32) //
      ∀ (E : Set ℕ) (K : PUnit → sProp 𝕄),
        iprop(owns (c : Thread nD τ) arg1 fullShare x0 ∗
          owns (c : Thread nD τ) arg2 fullShare x1 ∗
          owns (c : Thread nD τ) arg3 fullShare x2 ∗
          owns (c : Thread nD τ) arg4 fullShare x3 ∗
          owns (c : Thread nD τ) arg5 fullShare x4 ∗
          owns (c : Thread nD τ) arg6 fullShare x5 ∗
          owns (c : Thread nD τ) arg7 fullShare x6 ∗
          owns (c : Thread nD τ) arg8 fullShare x7 ∗
          (∃ d, owns (c : Thread nD τ) arg9 fullShare d) ∗
          (∃ d, owns (c : Thread nD τ) arg10 fullShare d) ∗
          (∃ d, owns (c : Thread nD τ) arg11 fullShare d) ∗
          (∃ d, owns (c : Thread nD τ) arg12 fullShare d) ∗
          owns (c : Thread nD τ) arg13 fullShare s0 ∗
          owns (c : Thread nD τ) arg14 fullShare s1 ∗
          owns (c : Thread nD τ) arg15 fullShare s2 ∗
          owns (c : Thread nD τ) arg16 fullShare s3 ∗
          (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            owns (c : Thread nD τ) arg7 fullShare x6 ∗
            owns (c : Thread nD τ) arg8 fullShare x7 ∗
            (∃ f, arg9.view.loc (c : Thread nD τ) ↦[arg9.view.set]{fullShare} arg9.view.writes (Elt F) f L8) ∗
            (∃ f, arg10.view.loc (c : Thread nD τ) ↦[arg10.view.set]{fullShare} arg10.view.writes (Elt F) f L9) ∗
            (∃ f, arg11.view.loc (c : Thread nD τ) ↦[arg11.view.set]{fullShare} arg11.view.writes (Elt F) f L10) ∗
            (∃ f, arg12.view.loc (c : Thread nD τ) ↦[arg12.view.set]{fullShare} arg12.view.writes (Elt F) f L11) ∗
            owns (c : Thread nD τ) arg13 fullShare s0 ∗
            (∃ f, arg14.view.loc (c : Thread nD τ) ↦[arg14.view.set]{fullShare} arg14.view.writes (Elt F) f LS1) ∗
            (arg15.view.loc (c : Thread nD τ) ↦[arg15.view.set]{fullShare} arg15.view.writes (Elt F) (harg15.unread s2) LS2) ∗
            (∃ f, arg16.view.loc (c : Thread nD τ) ↦[arg16.view.set]{fullShare} arg16.view.writes (Elt F) f LS3)) -∗ K ⟨⟩))
          ⊢ wp frame (wpE (defs₀ (F := F)) Variants.none c none) E (cc0_attn_b_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?go⟩
  case go =>
    simp only [cc0_attn_b_bwd_eq_skeleton]; unfold cc0_attn_b_bwd_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg13.eq_unread hf12
    obtain rfl := harg14.eq_unread hf13
    obtain rfl := harg15.eq_unread hf14
    obtain rfl := harg16.eq_unread hf15
    sl_exec (disch := first | sl_exact h0 | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg13.read_unread _
      iexact H12
    isplitl [H13]; · iexists _; iexact H13
    isplitl [H14]; · iexact H14
    iexists _; iexact H15

end Cert.KernelIdeal.Attn

end
-- ==== Proof.IdealRunA.lean ====
module

public import proofs.«01_k».proof.Proof.IdealRunC

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2400000 in
/-- The body on the first block: every accumulator is set, nothing is carried in.  On whole buffers holding the given contents it ends with the buffers it stored into
holding the listed pieces, the other buffers as they were. -/
noncomputable def runA (c : Dev nD) (i : grid0.Coords)
    (arg1 : Memref sig .tc .vmem S128x1024 .bf16) (harg1 : arg1.IsWhole)
    (arg2 : Memref sig .tc .vmem S5120x512 .bf16) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x1024 .f32) (harg5 : arg5.IsWhole)
    (arg6 : Memref sig .tc .vmem S1x8x512 .f32) (harg6 : arg6.IsWhole)
    (arg7 : Memref sig .tc .vmem S16x1x384 .f32) (harg7 : arg7.IsWhole)
    (arg8 : Memref sig .tc .vmem S1x16 .f32) (harg8 : arg8.IsWhole)
    (arg9 : Memref sig .tc .vmem S4x128x512 .bf16) (harg9 : arg9.IsWhole)
    (arg10 : Memref sig .tc .vmem S4096x256 .bf16) (harg10 : arg10.IsWhole)
    (arg11 : Memref sig .tc .vmem S16x1x384 .f32) (harg11 : arg11.IsWhole)
    (arg12 : Memref sig .tc .vmem S8x128 .f32) (harg12 : arg12.IsWhole)
    (arg13 : Memref sig .tc .vmem S2x512x512 .f32) (harg13 : arg13.IsWhole)
    (arg14 : Memref sig .tc .vmem S2x512x512 .f32) (harg14 : arg14.IsWhole)
    (arg15 : Memref sig .tc .vmem S5120x512 .f32) (harg15 : arg15.IsWhole)
    (arg16 : Memref sig .tc .vmem S8x512 .f32) (harg16 : arg16.IsWhole)
    (h0 : first i) (h1 : opens i) (h2 : ¬later i) (h3 : ¬last i)
    (x0 : Vec F S128x1024 .bf16) (x1 : Vec F S5120x512 .bf16) (x2 x3 x4 : Vec F S128x1024 .f32) (x5 : Vec F S1x8x512 .f32) (x6 : Vec F S16x1x384 .f32) (x7 : Vec F S1x16 .f32) :
    Σ' (L8 : List (View.Piece (Elt F) S4x128x512 .bf16)), Σ' (LS0 : List (View.Piece (Elt F) S2x512x512 .f32)), Σ' (LS1 : List (View.Piece (Elt F) S2x512x512 .f32)), Σ' (LS2 : List (View.Piece (Elt F) S5120x512 .f32)), { LS3 : List (View.Piece (Elt F) S8x512 .f32) //
      ∀ (y9 : Vec F S4096x256 .bf16) (y10 : Vec F S16x1x384 .f32) (y11 : Vec F S8x128 .f32) (E : Set ℕ) (K : PUnit → sProp 𝕄),
        iprop(owns (c : Thread nD τ) arg1 fullShare x0 ∗
          owns (c : Thread nD τ) arg2 fullShare x1 ∗
          owns (c : Thread nD τ) arg3 fullShare x2 ∗
          owns (c : Thread nD τ) arg4 fullShare x3 ∗
          owns (c : Thread nD τ) arg5 fullShare x4 ∗
          owns (c : Thread nD τ) arg6 fullShare x5 ∗
          owns (c : Thread nD τ) arg7 fullShare x6 ∗
          owns (c : Thread nD τ) arg8 fullShare x7 ∗
          (∃ d, owns (c : Thread nD τ) arg9 fullShare d) ∗
          owns (c : Thread nD τ) arg10 fullShare y9 ∗
          owns (c : Thread nD τ) arg11 fullShare y10 ∗
          owns (c : Thread nD τ) arg12 fullShare y11 ∗
          (∃ d, owns (c : Thread nD τ) arg13 fullShare d) ∗
          (∃ d, owns (c : Thread nD τ) arg14 fullShare d) ∗
          (∃ d, owns (c : Thread nD τ) arg15 fullShare d) ∗
          (∃ d, owns (c : Thread nD τ) arg16 fullShare d) ∗
          (iprop(owns (c : Thread nD τ) arg1 fullShare x0 ∗
            owns (c : Thread nD τ) arg2 fullShare x1 ∗
            owns (c : Thread nD τ) arg3 fullShare x2 ∗
            owns (c : Thread nD τ) arg4 fullShare x3 ∗
            owns (c : Thread nD τ) arg5 fullShare x4 ∗
            owns (c : Thread nD τ) arg6 fullShare x5 ∗
            owns (c : Thread nD τ) arg7 fullShare x6 ∗
            owns (c : Thread nD τ) arg8 fullShare x7 ∗
            (∃ f, arg9.view.loc (c : Thread nD τ) ↦[arg9.view.set]{fullShare} arg9.view.writes (Elt F) f L8) ∗
            owns (c : Thread nD τ) arg10 fullShare y9 ∗
            owns (c : Thread nD τ) arg11 fullShare y10 ∗
            owns (c : Thread nD τ) arg12 fullShare y11 ∗
            (∃ f, arg13.view.loc (c : Thread nD τ) ↦[arg13.view.set]{fullShare} arg13.view.writes (Elt F) f LS0) ∗
            (∃ f, arg14.view.loc (c : Thread nD τ) ↦[arg14.view.set]{fullShare} arg14.view.writes (Elt F) f LS1) ∗
            (∃ f, arg15.view.loc (c : Thread nD τ) ↦[arg15.view.set]{fullShare} arg15.view.writes (Elt F) f LS2) ∗
            (∃ f, arg16.view.loc (c : Thread nD τ) ↦[arg16.view.set]{fullShare} arg16.view.writes (Elt F) f LS3)) -∗ K ⟨⟩))
          ⊢ wp frame (wpE (defs₀ (F := F)) Variants.none c none) E (cc0_attn_b_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun y9 y10 y11 E K => ?go⟩
  case go =>
    simp only [cc0_attn_b_bwd_eq_skeleton]; unfold cc0_attn_b_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg10.eq_unread hf9
    obtain rfl := harg11.eq_unread hf10
    obtain rfl := harg12.eq_unread hf11
    sl_exec (disch := first | sl_exact h0 | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    iexists _; iexact H15

end Cert.KernelIdeal.Attn

end
-- ==== Proof.IdealFrame.lean ====
module

public import proofs.«01_k».proof.Proof.IdealRunA
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a point -/

abbrev stg0 (t : Fin cfg0.N) : Memref sig .tc .vmem S128x1024 .bf16 := win0_0.stage (cfg0.slots t 0)
abbrev whole0 (t : Fin cfg0.N) : (stg0 t).IsWhole := hstage0_0 ((cfg0.slots t 0).cast nbuf0_0)
abbrev stg1 (t : Fin cfg0.N) : Memref sig .tc .vmem S5120x512 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S128x1024 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S128x1024 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S128x1024 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x8x512 .f32 := win0_5.stage (cfg0.slots t 5)
abbrev whole5 (t : Fin cfg0.N) : (stg5 t).IsWhole := hstage0_5 ((cfg0.slots t 5).cast nbuf0_5)
abbrev stg6 (t : Fin cfg0.N) : Memref sig .tc .vmem S16x1x384 .f32 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x16 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S4x128x512 .bf16 := win0_8.stage (cfg0.slots t 8)
abbrev whole8 (t : Fin cfg0.N) : (stg8 t).IsWhole := hstage0_8 ((cfg0.slots t 8).cast nbuf0_8)
abbrev stg9 (t : Fin cfg0.N) : Memref sig .tc .vmem S4096x256 .bf16 := win0_9.stage (cfg0.slots t 9)
abbrev whole9 (t : Fin cfg0.N) : (stg9 t).IsWhole := hstage0_9 ((cfg0.slots t 9).cast nbuf0_9)
abbrev stg10 (t : Fin cfg0.N) : Memref sig .tc .vmem S16x1x384 .f32 := win0_10.stage (cfg0.slots t 10)
abbrev whole10 (t : Fin cfg0.N) : (stg10 t).IsWhole := hstage0_10 ((cfg0.slots t 10).cast nbuf0_10)
abbrev stg11 (t : Fin cfg0.N) : Memref sig .tc .vmem S8x128 .f32 := win0_11.stage (cfg0.slots t 11)
abbrev whole11 (t : Fin cfg0.N) : (stg11 t).IsWhole := hstage0_11 ((cfg0.slots t 11).cast nbuf0_11)
abbrev scr0 : Memref sig .tc .vmem S2x512x512 .f32 := Memref.whole cc0_scratch0
abbrev scr1 : Memref sig .tc .vmem S2x512x512 .f32 := Memref.whole cc0_scratch1
abbrev scr2 : Memref sig .tc .vmem S5120x512 .f32 := Memref.whole cc0_scratch2
abbrev scr3 : Memref sig .tc .vmem S8x512 .f32 := Memref.whole cc0_scratch3

/-- The scratch buffers at some contents, beside the generator register: what the region starts with. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- What the body reads at a point. -/
structure Blk (F : FTy → Type) where
  q : Vec F S128x1024 .bf16
  kv : Vec F S5120x512 .bf16
  gate : Vec F S128x1024 .f32
  o : Vec F S128x1024 .f32
  du : Vec F S128x1024 .f32
  lse : Vec F S1x8x512 .f32
  base : Vec F S16x1x384 .f32
  sinks : Vec F S1x16 .f32

/-- What the kernel carries from one point to the next: the table of biases, and the running sums of the gradients of
the biases, of the keys and values, and of the sinks. -/
structure Scr (F : FTy → Type) where
  bias : Vec F S2x512x512 .f32
  dbias : Vec F S2x512x512 .f32
  dkv : Vec F S5120x512 .f32
  dsink : Vec F S8x512 .f32

/-- What the body leaves in the staging buffers of the four results. -/
structure Out (F : FTy → Type) where
  dz : Vec F S4x128x512 .bf16
  dkv : Vec F S4096x256 .bf16
  dsum : Vec F S16x1x384 .f32
  dsink : Vec F S8x128 .f32

/-- What a list of stores leaves in a buffer they cover. -/
abbrev left {κ : Kind} {sp : Space} {s : Shape} {e : EltTy} (v : View sig κ sp s e) (L : List (View.Piece (Elt F) s e)) : Vec F s e :=
  v.read (Elt F) (v.writes (Elt F) v.junk L)

abbrev V8 : View sig .tc .vmem S4x128x512 .bf16 := (Memref.whole cc0_stg8_0 : Memref sig .tc .vmem S4x128x512 .bf16).view
abbrev V9 : View sig .tc .vmem S4096x256 .bf16 := (Memref.whole cc0_stg9_0 : Memref sig .tc .vmem S4096x256 .bf16).view
abbrev V10 : View sig .tc .vmem S16x1x384 .f32 := (Memref.whole cc0_stg10_0 : Memref sig .tc .vmem S16x1x384 .f32).view
abbrev V11 : View sig .tc .vmem S8x128 .f32 := (Memref.whole cc0_stg11_0 : Memref sig .tc .vmem S8x128 .f32).view

/-- The run of the body at such a point. -/
abbrev atA (c : Dev nD) (t : Fin cfg0.N) (h : t.val = 0) (X : Blk F) :=
  runA c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) scr0 (Memref.isWhole_whole _) scr1 (Memref.isWhole_whole _) scr2 (Memref.isWhole_whole _) scr3 (Memref.isWhole_whole _) ((first_iff t).mpr h) ((opens_iff t).mpr h) (fun e => by have := (later_iff t).mp e; omega) (fun e => by have := (last_iff t).mp e; omega) X.q X.kv X.gate X.o X.du X.lse X.base X.sinks

/-- The run of the body at such a point. -/
abbrev atB (c : Dev nD) (t : Fin cfg0.N) (h : 0 < t.val ∧ t.val < 31) (X : Blk F) (S : Scr F) :=
  runB c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) scr0 (Memref.isWhole_whole _) scr1 (Memref.isWhole_whole _) scr2 (Memref.isWhole_whole _) scr3 (Memref.isWhole_whole _) (fun e => by have := (first_iff t).mp e; omega) (fun e => by have := (opens_iff t).mp e; omega) ((later_iff t).mpr h.1) (fun e => by have := (last_iff t).mp e; omega) X.q X.kv X.gate X.o X.du X.lse X.base X.sinks S.bias S.dbias S.dkv S.dsink

/-- The run of the body at such a point. -/
abbrev atC (c : Dev nD) (t : Fin cfg0.N) (h : t.val = 31) (X : Blk F) (S : Scr F) :=
  runC c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) scr0 (Memref.isWhole_whole _) scr1 (Memref.isWhole_whole _) scr2 (Memref.isWhole_whole _) scr3 (Memref.isWhole_whole _) (fun e => by have := (first_iff t).mp e; omega) (fun e => by have := (opens_iff t).mp e; omega) ((later_iff t).mpr (by omega)) ((last_iff t).mpr h) X.q X.kv X.gate X.o X.du X.lse X.base X.sinks S.bias S.dbias S.dkv S.dsink

theorem coverA_L8 (c : Dev nD) (t : Fin cfg0.N) (h : t.val = 0) (X : Blk F) (y : S4x128x512.Idx) :
    ∃ p ∈ (atA c t h X).1, y ∈ p.1.set :=
  View.cover_of_tiledBy _ ![1, 128, 128] (by sl_kernel_rfl) y
theorem coverA_LS0 (c : Dev nD) (t : Fin cfg0.N) (h : t.val = 0) (X : Blk F) (y : S2x512x512.Idx) :
    ∃ p ∈ (atA c t h X).2.1, y ∈ p.1.set :=
  View.cover_of_tiledL (atA c t h X).2.1 S1x256x128.size (by sl_kernel_rfl) y
theorem coverA_LS1 (c : Dev nD) (t : Fin cfg0.N) (h : t.val = 0) (X : Blk F) (y : S2x512x512.Idx) :
    ∃ p ∈ (atA c t h X).2.2.1, y ∈ p.1.set :=
  View.cover_of_wholeMem _ (by sl_whole_mem) y
theorem coverA_LS2 (c : Dev nD) (t : Fin cfg0.N) (h : t.val = 0) (X : Blk F) (y : S5120x512.Idx) :
    ∃ p ∈ (atA c t h X).2.2.2.1, y ∈ p.1.set :=
  View.cover_of_wholeMem _ (by sl_whole_mem) y
theorem coverA_LS3 (c : Dev nD) (t : Fin cfg0.N) (h : t.val = 0) (X : Blk F) (y : S8x512.Idx) :
    ∃ p ∈ (atA c t h X).2.2.2.2.1, y ∈ p.1.set :=
  View.cover_of_tiledL (atA c t h X).2.2.2.2.1 S8x512.size (by sl_kernel_rfl) y
theorem coverB_L8 (c : Dev nD) (t : Fin cfg0.N) (h : 0 < t.val ∧ t.val < 31) (X : Blk F) (S : Scr F) (y : S4x128x512.Idx) :
    ∃ p ∈ (atB c t h X S).1, y ∈ p.1.set :=
  View.cover_of_tiledBy _ ![1, 128, 128] (by sl_kernel_rfl) y
theorem coverB_LS1 (c : Dev nD) (t : Fin cfg0.N) (h : 0 < t.val ∧ t.val < 31) (X : Blk F) (S : Scr F) (y : S2x512x512.Idx) :
    ∃ p ∈ (atB c t h X S).2.1, y ∈ p.1.set :=
  View.cover_of_tiledL (atB c t h X S).2.1 S1x512x512.size (by sl_kernel_rfl) y
theorem coverB_LS3 (c : Dev nD) (t : Fin cfg0.N) (h : 0 < t.val ∧ t.val < 31) (X : Blk F) (S : Scr F) (y : S8x512.Idx) :
    ∃ p ∈ (atB c t h X S).2.2.2.1, y ∈ p.1.set :=
  View.cover_of_tiledL (atB c t h X S).2.2.2.1 S8x512.size (by sl_kernel_rfl) y
theorem coverC_L8 (c : Dev nD) (t : Fin cfg0.N) (h : t.val = 31) (X : Blk F) (S : Scr F) (y : S4x128x512.Idx) :
    ∃ p ∈ (atC c t h X S).1, y ∈ p.1.set :=
  View.cover_of_tiledBy _ ![1, 128, 128] (by sl_kernel_rfl) y
theorem coverC_L9 (c : Dev nD) (t : Fin cfg0.N) (h : t.val = 31) (X : Blk F) (S : Scr F) (y : S4096x256.Idx) :
    ∃ p ∈ (atC c t h X S).2.1, y ∈ p.1.set :=
  View.cover_of_tiledL (atC c t h X S).2.1 S4096x128.size (by sl_kernel_rfl) y
theorem coverC_L10 (c : Dev nD) (t : Fin cfg0.N) (h : t.val = 31) (X : Blk F) (S : Scr F) (y : S16x1x384.Idx) :
    ∃ p ∈ (atC c t h X S).2.2.1, y ∈ p.1.set :=
  View.cover_of_tiledL (atC c t h X S).2.2.1 S1x1x384.size (by sl_kernel_rfl) y
theorem coverC_L11 (c : Dev nD) (t : Fin cfg0.N) (h : t.val = 31) (X : Blk F) (S : Scr F) (y : S8x128.Idx) :
    ∃ p ∈ (atC c t h X S).2.2.2.1, y ∈ p.1.set :=
  View.cover_of_tiledL (atC c t h X S).2.2.2.1 S8x128.size (by sl_kernel_rfl) y
theorem coverC_LS1 (c : Dev nD) (t : Fin cfg0.N) (h : t.val = 31) (X : Blk F) (S : Scr F) (y : S2x512x512.Idx) :
    ∃ p ∈ (atC c t h X S).2.2.2.2.1, y ∈ p.1.set :=
  View.cover_of_tiledL (atC c t h X S).2.2.2.2.1 S1x512x512.size (by sl_kernel_rfl) y
theorem coverC_LS3 (c : Dev nD) (t : Fin cfg0.N) (h : t.val = 31) (X : Blk F) (S : Scr F) (y : S8x512.Idx) :
    ∃ p ∈ (atC c t h X S).2.2.2.2.2.2.1, y ∈ p.1.set :=
  View.cover_of_tiledL (atC c t h X S).2.2.2.2.2.2.1 S8x512.size (by sl_kernel_rfl) y

/-- The first point: what the body leaves. -/
def stepA (c : Dev nD) (t : Fin cfg0.N) (h : t.val = 0) (X : Blk F) : Out F × Scr F :=
  (⟨left V8 (atA c t h X).1,
    left V9 [],
    left V10 [],
    left V11 []⟩,
   ⟨left scr0.view (atA c t h X).2.1,
    left scr1.view (atA c t h X).2.2.1,
    left scr2.view (atA c t h X).2.2.2.1,
    left scr3.view (atA c t h X).2.2.2.2.1⟩)

/-- A point in between: what the body leaves. -/
def stepB (c : Dev nD) (t : Fin cfg0.N) (h : 0 < t.val ∧ t.val < 31) (X : Blk F) (S : Scr F) : Out F × Scr F :=
  (⟨left V8 (atB c t h X S).1,
    left V9 [],
    left V10 [],
    left V11 []⟩,
   ⟨S.bias,
    left scr1.view (atB c t h X S).2.1,
    scr2.view.read (Elt F) (scr2.view.writes (Elt F) ((Memref.isWhole_whole cc0_scratch2).unread S.dkv) (atB c t h X S).2.2.1),
    left scr3.view (atB c t h X S).2.2.2.1⟩)

/-- The last point: what the body leaves. -/
def stepC (c : Dev nD) (t : Fin cfg0.N) (h : t.val = 31) (X : Blk F) (S : Scr F) : Out F × Scr F :=
  (⟨left V8 (atC c t h X S).1,
    left V9 (atC c t h X S).2.1,
    left V10 (atC c t h X S).2.2.1,
    left V11 (atC c t h X S).2.2.2.1⟩,
   ⟨S.bias,
    left scr1.view (atC c t h X S).2.2.2.2.1,
    scr2.view.read (Elt F) (scr2.view.writes (Elt F) ((Memref.isWhole_whole cc0_scratch2).unread S.dkv) (atC c t h X S).2.2.2.2.2.1),
    left scr3.view (atC c t h X S).2.2.2.2.2.2.1⟩)

/-- The blocks the body reads at point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

theorem points : cfg0.N = 32 := N_0

/-- What the results' buffers and the carried buffers hold after each point. -/
def state (c : Dev nD) : (n : ℕ) → n < cfg0.N → Out F × Scr F
  | 0, h => stepA c ⟨0, h⟩ rfl (blk m c ⟨0, h⟩)
  | n + 1, h =>
    if e : n + 1 = 31 then stepC c ⟨n + 1, h⟩ e (blk m c ⟨n + 1, h⟩) (state c n (by omega)).2
    else stepB c ⟨n + 1, h⟩ ⟨Nat.succ_pos n, by have := points; dsimp only; omega⟩ (blk m c ⟨n + 1, h⟩) (state c n (by omega)).2

theorem state_A (c : Dev nD) (t : Fin cfg0.N) (h : t.val = 0) : state m c t.val t.isLt = stepA c t h (blk m c t) := by
  obtain ⟨n, hn⟩ := t; dsimp only at h; subst h; rfl
theorem state_B (c : Dev nD) (t : Fin cfg0.N) (h : 0 < t.val ∧ t.val < 31) :
    state m c t.val t.isLt = stepB c t h (blk m c t) (state m c (t.val - 1) (by omega)).2 := by
  obtain ⟨n, hn⟩ := t
  cases n with
  | zero => exact absurd h.1 (Nat.lt_irrefl 0)
  | succ n => have e : ¬ n + 1 = 31 := by dsimp only at h; omega
              simp only [state, dif_neg e, Nat.add_sub_cancel]
theorem state_C (c : Dev nD) (t : Fin cfg0.N) (h : t.val = 31) :
    state m c t.val t.isLt = stepC c t h (blk m c t) (state m c (t.val - 1) (by omega)).2 := by
  obtain ⟨n, hn⟩ := t
  cases n with
  | zero => exact absurd h (by dsimp only; omega)
  | succ n => dsimp only at h; simp only [state, dif_pos h, Nat.add_sub_cancel]

/-! ## The pipeline's data -/

/-- The carried buffers holding `S`, beside the generator register. -/
def held (c : Dev nD) (S : Scr F) : sProp 𝕄 :=
  iprop(iprop(owns (c : Thread nD τ) scr0 fullShare S.bias ∗ owns (c : Thread nD τ) scr1 fullShare S.dbias ∗ owns (c : Thread nD τ) scr2 fullShare S.dkv ∗ owns (c : Thread nD τ) scr3 fullShare S.dsink) ∗ (∃ r, prngReg c r))

/-- Between two points: before the first, the scratch at anything; after a point, at what it left. -/
def between (c : Dev nD) : (n : ℕ) → n ≤ cfg0.N → sProp 𝕄
  | 0, _ => Pipeline.ΦA spec0 c
  | n + 1, h => held c (state m c n h).2

theorem between_pos (c : Dev nD) (n : ℕ) (h : n ≤ cfg0.N) (hz : n ≠ 0) :
    between m c n h = held c (state m c (n - 1) (by omega)).2 := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (state m c t.val t.isLt).1.dz
    | ⟨9, _⟩ => (state m c t.val t.isLt).1.dkv
    | ⟨10, _⟩ => (state m c t.val t.isLt).1.dsum
    | ⟨11, _⟩ => (state m c t.val t.isLt).1.dsink
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = between m c t.val (Nat.le_of_lt t.isLt) := by
  dsimp only [dats]; exact Pipeline.Dat.Φ_castSucc (between m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (state m c t.val t.isLt).1.dz := by dsimp only [dats]
theorem after9 (c : Dev nD) (t : Fin cfg0.N) : (dats m 0 c).after 9 t = (state m c t.val t.isLt).1.dkv := by dsimp only [dats]
theorem after10 (c : Dev nD) (t : Fin cfg0.N) : (dats m 0 c).after 10 t = (state m c t.val t.isLt).1.dsum := by dsimp only [dats]
theorem after11 (c : Dev nD) (t : Fin cfg0.N) : (dats m 0 c).after 11 t = (state m c t.val t.isLt).1.dsink := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## Where the results are written -/

theorem live8 : ∀ t : Fin cfg0.N, cfg0.idle 8 (grid0.coords t) = false :=
  (by decide +kernel : ∀ t : Fin grid0.N, cfg0.idle 8 (grid0.coords t) = false)
theorem live9 : ∀ t : Fin cfg0.N, t.val = 31 → cfg0.idle 9 (grid0.coords t) = false :=
  (by decide +kernel : ∀ t : Fin grid0.N, t.val = 31 → cfg0.idle 9 (grid0.coords t) = false)
theorem idle9 : ∀ t : Fin cfg0.N, t.val < 31 → cfg0.idle 9 (grid0.coords t) = true :=
  (by decide +kernel : ∀ t : Fin grid0.N, t.val < 31 → cfg0.idle 9 (grid0.coords t) = true)
theorem kept9 : ∀ t : Fin cfg0.N, t.val < 31 → (cfg0.win 9).flush t = false :=
  (by decide +kernel : ∀ t : Fin grid0.N, t.val < 31 → (cfg0.win 9).flush t = false)
theorem live10 : ∀ t : Fin cfg0.N, t.val = 31 → cfg0.idle 10 (grid0.coords t) = false :=
  (by decide +kernel : ∀ t : Fin grid0.N, t.val = 31 → cfg0.idle 10 (grid0.coords t) = false)
theorem idle10 : ∀ t : Fin cfg0.N, t.val < 31 → cfg0.idle 10 (grid0.coords t) = true :=
  (by decide +kernel : ∀ t : Fin grid0.N, t.val < 31 → cfg0.idle 10 (grid0.coords t) = true)
theorem kept10 : ∀ t : Fin cfg0.N, t.val < 31 → (cfg0.win 10).flush t = false :=
  (by decide +kernel : ∀ t : Fin grid0.N, t.val < 31 → (cfg0.win 10).flush t = false)
theorem live11 : ∀ t : Fin cfg0.N, t.val = 31 → cfg0.idle 11 (grid0.coords t) = false :=
  (by decide +kernel : ∀ t : Fin grid0.N, t.val = 31 → cfg0.idle 11 (grid0.coords t) = false)
theorem idle11 : ∀ t : Fin cfg0.N, t.val < 31 → cfg0.idle 11 (grid0.coords t) = true :=
  (by decide +kernel : ∀ t : Fin grid0.N, t.val < 31 → cfg0.idle 11 (grid0.coords t) = true)
theorem kept11 : ∀ t : Fin cfg0.N, t.val < 31 → (cfg0.win 11).flush t = false :=
  (by decide +kernel : ∀ t : Fin grid0.N, t.val < 31 → (cfg0.win 11).flush t = false)
theorem leaves0 (c : Dev nD) (t : Fin cfg0.N) : (dats m 0 c).leavesExact 0 t = owns (c : Thread nD τ) (stg0 t) fullShare (iblk m c 0 t) := by
  rw [← after0 m c t]
theorem leaves1 (c : Dev nD) (t : Fin cfg0.N) : (dats m 0 c).leavesExact 1 t = owns (c : Thread nD τ) (stg1 t) fullShare (iblk m c 1 t) := by
  rw [← after1 m c t]
theorem leaves2 (c : Dev nD) (t : Fin cfg0.N) : (dats m 0 c).leavesExact 2 t = owns (c : Thread nD τ) (stg2 t) fullShare (iblk m c 2 t) := by
  rw [← after2 m c t]
theorem leaves3 (c : Dev nD) (t : Fin cfg0.N) : (dats m 0 c).leavesExact 3 t = owns (c : Thread nD τ) (stg3 t) fullShare (iblk m c 3 t) := by
  rw [← after3 m c t]
theorem leaves4 (c : Dev nD) (t : Fin cfg0.N) : (dats m 0 c).leavesExact 4 t = owns (c : Thread nD τ) (stg4 t) fullShare (iblk m c 4 t) := by
  rw [← after4 m c t]
theorem leaves5 (c : Dev nD) (t : Fin cfg0.N) : (dats m 0 c).leavesExact 5 t = owns (c : Thread nD τ) (stg5 t) fullShare (iblk m c 5 t) := by
  rw [← after5 m c t]
theorem leaves6 (c : Dev nD) (t : Fin cfg0.N) : (dats m 0 c).leavesExact 6 t = owns (c : Thread nD τ) (stg6 t) fullShare (iblk m c 6 t) := by
  rw [← after6 m c t]
theorem leaves7 (c : Dev nD) (t : Fin cfg0.N) : (dats m 0 c).leavesExact 7 t = owns (c : Thread nD τ) (stg7 t) fullShare (iblk m c 7 t) := by
  rw [← after7 m c t]
theorem leaves8 (c : Dev nD) (t : Fin cfg0.N) : (dats m 0 c).leavesExact 8 t = owns (c : Thread nD τ) (stg8 t) fullShare (state m c t.val t.isLt).1.dz := by
  rw [← after8 m c t]; unfold Dat.leavesExact; rw [live8 t]
theorem leaves9 (c : Dev nD) (t : Fin cfg0.N) (h : t.val = 31) : (dats m 0 c).leavesExact 9 t = owns (c : Thread nD τ) (stg9 t) fullShare (state m c t.val t.isLt).1.dkv := by
  rw [← after9 m c t]; unfold Dat.leavesExact; rw [live9 t h]
theorem leaves10 (c : Dev nD) (t : Fin cfg0.N) (h : t.val = 31) : (dats m 0 c).leavesExact 10 t = owns (c : Thread nD τ) (stg10 t) fullShare (state m c t.val t.isLt).1.dsum := by
  rw [← after10 m c t]; unfold Dat.leavesExact; rw [live10 t h]
theorem leaves11 (c : Dev nD) (t : Fin cfg0.N) (h : t.val = 31) : (dats m 0 c).leavesExact 11 t = owns (c : Thread nD τ) (stg11 t) fullShare (state m c t.val t.isLt).1.dsink := by
  rw [← after11 m c t]; unfold Dat.leavesExact; rw [live11 t h]

/-! ## The body at a point -/

def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
theorem bodyA (c : Dev nD) (t : Fin cfg0.N) (h : t.val = 0) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl]
  rw [show (dats m 0 c).Φ t.succ = held c (state m c t.val t.isLt).2 from rfl]
  rw [leaves0, leaves1, leaves2, leaves3, leaves4, leaves5, leaves6, leaves7, leaves8]
  have hl : t.val < 31 := by omega
  rw [Dat.leavesExact_idle (dats m 0 c) 9 t (idle9 t hl) (kept9 t hl), Dat.leavesExact_idle (dats m 0 c) 10 t (idle10 t hl) (kept10 t hl), Dat.leavesExact_idle (dats m 0 c) 11 t (idle11 t hl) (kept11 t hl)]
  rw [inv_castSucc m c t, show between m c t.val (Nat.le_of_lt t.isLt) = Pipeline.ΦA spec0 c from by
    obtain ⟨n, hn⟩ := t; dsimp only at h; subst h; rfl, scratch_eq]
  rw [state_A m c t h]
  unfold held stepA; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atA c t h (blk m c t)).2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, ⟨%e8, H8⟩, H9, H10, H11, ⟨%u0, HS0⟩, ⟨%u1, HS1⟩, ⟨%u2, HS2⟩, ⟨%u3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (coverA_LS0 c t h (blk m c t))
      isplitl [HS1]
      · unfold owns; iexists _; isplitr
        swap; · iexact HS1
        ipureintro; exact View.read_writes_of_cover _ _ _ _ _ (coverA_LS1 c t h (blk m c t))
      isplitl [HS2]
      · unfold owns; iexists _; isplitr
        swap; · iexact HS2
        ipureintro; exact View.read_writes_of_cover _ _ _ _ _ (coverA_LS2 c t h (blk m c t))
      unfold owns; iexists _; isplitr
      swap; · iexact HS3
      ipureintro; exact View.read_writes_of_cover _ _ _ _ _ (coverA_LS3 c t h (blk m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_L8 c t h (blk m c t))
  isplitl [H9]; · iexists _; iexact H9
  isplitl [H10]; · iexists _; iexact H10
  iexists _; iexact H11

set_option maxHeartbeats 4000000 in
theorem bodyB (c : Dev nD) (t : Fin cfg0.N) (h : 0 < t.val ∧ t.val < 31) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl]
  rw [show (dats m 0 c).Φ t.succ = held c (state m c t.val t.isLt).2 from rfl]
  rw [leaves0, leaves1, leaves2, leaves3, leaves4, leaves5, leaves6, leaves7, leaves8]
  have hl : t.val < 31 := by omega
  rw [Dat.leavesExact_idle (dats m 0 c) 9 t (idle9 t hl) (kept9 t hl), Dat.leavesExact_idle (dats m 0 c) 10 t (idle10 t hl) (kept10 t hl), Dat.leavesExact_idle (dats m 0 c) 11 t (idle11 t hl) (kept11 t hl)]
  rw [inv_castSucc m c t, between_pos m c _ _ (by omega)]
  rw [state_B m c t h]
  generalize (state m c (t.val - 1) (by omega)).2 = S
  unfold held stepB; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atB c t h (blk m c t) S).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, ⟨%e8, H8⟩, H9, H10, H11, HS0, ⟨%u1, HS1⟩, HS2, ⟨%u3, HS3⟩⟩
  isplitl [HS0 HS1 HS2 HS3 Hg]
  · isplitl [HS0 HS1 HS2 HS3]
    · isplitl [HS0]
      · iexact HS0
      isplitl [HS1]
      · unfold owns; iexists _; isplitr
        swap; · iexact HS1
        ipureintro; exact View.read_writes_of_cover _ _ _ _ _ (coverB_LS1 c t h (blk m c t) S)
      isplitl [HS2]
      · unfold owns; iexists _; isplitr
        swap; · iexact HS2
        ipureintro; rfl
      unfold owns; iexists _; isplitr
      swap; · iexact HS3
      ipureintro; exact View.read_writes_of_cover _ _ _ _ _ (coverB_LS3 c t h (blk m c t) S)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverB_L8 c t h (blk m c t) S)
  isplitl [H9]; · iexists _; iexact H9
  isplitl [H10]; · iexists _; iexact H10
  iexists _; iexact H11

set_option maxHeartbeats 4000000 in
theorem bodyC (c : Dev nD) (t : Fin cfg0.N) (h : t.val = 31) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl]
  rw [show (dats m 0 c).Φ t.succ = held c (state m c t.val t.isLt).2 from rfl]
  rw [leaves0, leaves1, leaves2, leaves3, leaves4, leaves5, leaves6, leaves7, leaves8]
  rw [leaves9 m c t h, leaves10 m c t h, leaves11 m c t h]
  rw [inv_castSucc m c t, between_pos m c _ _ (by omega)]
  rw [state_C m c t h]
  generalize (state m c (t.val - 1) (by omega)).2 = S
  unfold held stepC; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atC c t h (blk m c t) S).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, ⟨%e10, H10⟩, ⟨%e11, H11⟩, HS0, ⟨%u1, HS1⟩, HS2, ⟨%u3, HS3⟩⟩
  isplitl [HS0 HS1 HS2 HS3 Hg]
  · isplitl [HS0 HS1 HS2 HS3]
    · isplitl [HS0]
      · iexact HS0
      isplitl [HS1]
      · unfold owns; iexists _; isplitr
        swap; · iexact HS1
        ipureintro; exact View.read_writes_of_cover _ _ _ _ _ (coverC_LS1 c t h (blk m c t) S)
      isplitl [HS2]
      · unfold owns; iexists _; isplitr
        swap; · iexact HS2
        ipureintro; rfl
      unfold owns; iexists _; isplitr
      swap; · iexact HS3
      ipureintro; exact View.read_writes_of_cover _ _ _ _ _ (coverC_LS3 c t h (blk m c t) S)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverC_L8 c t h (blk m c t) S)
  isplitl [H9]
  · unfold owns; iexists _; isplitr
    swap; · iexact H9
    ipureintro; exact View.read_writes_of_cover _ _ _ _ _ (coverC_L9 c t h (blk m c t) S)
  isplitl [H10]
  · unfold owns; iexists _; isplitr
    swap; · iexact H10
    ipureintro; exact View.read_writes_of_cover _ _ _ _ _ (coverC_L10 c t h (blk m c t) S)
  unfold owns; iexists _; isplitr
  swap; · iexact H11
  ipureintro; exact View.read_writes_of_cover _ _ _ _ _ (coverC_L11 c t h (blk m c t) S)

theorem body (c : Dev nD) (t : Fin cfg0.N) :
    pre m c t ⊢ wp frame (wpE (defs₀ (F := F)) Variants.none c none) Set.univ (bodyAt0 t) (fun _ => post m c t) := by
  have hN : t.val < 32 := lt_of_lt_of_eq t.isLt points
  by_cases h0 : t.val = 0
  · exact bodyA m c t h0
  · by_cases h1 : t.val = 31
    · exact bodyC m c t h1
    · exact bodyB m c t ⟨by omega, by omega⟩

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body m c t) rfl .rfl fun _ => .rfl

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  have hl : (Fin.last cfg0.N).val ≠ 0 := by rw [Fin.val_last]; have := points; omega
  rw [show (dats m 0 c).Φ (Fin.last cfg0.N) = between m c (Fin.last cfg0.N).val (Nat.le_of_lt_succ (Fin.last cfg0.N).isLt) from rfl,
    between_pos m c _ _ hl, scratch_eq]
  unfold held
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The whole program -/

set_option backward.isDefEq.respectTransparency.types false in
set_option maxHeartbeats 800000 in
/-- The program runs to the end from any memory with its counters at zero: the arrays end as the pipeline's data say,
the other buffers as the later host lines leave them, and every counter is zero again. -/
theorem run_quiet : θ_run defs (onTc (τ := τ) (main (F := F))) (s₀ m ρ) (fun r => (Pipeline.FramePost cfgs (dats m) 0 (Pipeline.afterTail₀ cfgs (dats m) 0 (V0 m) [hostOps1, hostOps1_1, hostOps1_2])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := enter m) (hout := leave m)

theorem run : θ_run defs (onTc (τ := τ) (main (F := F))) (s₀ m ρ) (Pipeline.FramePost cfgs (dats m) 0 (Pipeline.afterTail₀ cfgs (dats m) 0 (V0 m) [hostOps1, hostOps1_1, hostOps1_2])) :=
  (θ_run defs _ _).mono (fun _ h => h.1) (run_quiet m ρ)

/-- Every run terminates, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

end Cert.KernelIdeal.Attn

end
-- ==== Proof.Model.lean ====
module

public import proofs.«01_k».proof.Proof.IdealFrame

/-! # What one grid step stores
The lists of stores of one grid step, written as functions of the blocks the step reads, of the table of scores, and of
the running sums it adds to. The three runs of the body (first point, points in between, last point) make the same
lists: only the scores differ, which the first point masks. -/

@[expose] public section

noncomputable section

namespace Cert.KernelIdeal.Attn

open Cert.KernelIdeal.Gen
open Idealize.ShloMosaic Idealize.ShloMosaic.TcCoe Idealize.ShloMosaic.Tactic

set_option maxRecDepth 16384

variable {F : FTy → Type} [FloatOps F] [Named F]

/-- The window's rows of the keys and values. -/
abbrev winAt (X : Blk F) (off : Fin 2 → ℕ) (h : ∀ a, off a + S256x512.size a ≤ S5120x512.size a) : Vec F S256x512 .bf16 :=
  View.ld (Val := Elt F) X.kv (Rect.unit off S256x512.size h)

namespace Blk

variable (X : Blk F)

/-- A block of 128 of the queries' columns. -/
abbrev qc (n : ℕ) (h : ∀ a, (![0, n] : Fin 2 → ℕ) a + S128x128.size a ≤ S128x1024.size a) : Vec F S128x128 .bf16 :=
  View.ld (Val := Elt F) X.q (Rect.unit ![0, n] S128x128.size h)

/-- One sink. -/
abbrev sk (n : ℕ) (h : ∀ a, (![0, n] : Fin 2 → ℕ) a + S1x1.size a ≤ S1x16.size a) : Vec F S1x1 .f32 :=
  View.ld (Val := Elt F) X.sinks (Rect.unit ![0, n] S1x1.size h)

abbrev all (x : Vec F S128x1024 .f32) : Vec F S128x1024 .f32 :=
  View.ld (Val := Elt F) x (Rect.unit ![0, 0] S128x1024.size inb_S128x1024_S128x1024_0_0)

def L : FVec F S8x512 .f32 := k0_pay206 (View.ld (Val := Elt F) X.lse (Rect.unit ![0, 0, 0] S1x8x512.size inb_S1x8x512_S1x8x512_0_0_0))
def dO : FVec F S128x1024 .bf16 := k0_pay205 (all X.gate) (all X.du)
def doo : FVec F S128x1024 .f32 := k0_pay204 (all X.gate) (all X.du) (all X.o)

def dos0 : FVec F S512x128 .bf16 := k0_pay212 X.dO
def dos1 : FVec F S512x128 .bf16 := k0_pay247 X.dO
def d00 : FVec F S1x512 .f32 := k0_pay215 (k0_pay214 X.doo)
def d01 : FVec F S1x512 .f32 := k0_pay216 (k0_pay213 X.doo)
def d10 : FVec F S1x512 .f32 := k0_pay249 X.doo
def d11 : FVec F S1x512 .f32 := k0_pay250 X.doo

def qs0 : FVec F S512x128 .bf16 :=
  k0_pay210 (X.qc 0 inb_S128x1024_S128x128_0_0) (X.qc 128 inb_S128x1024_S128x128_0_128) (X.qc 256 inb_S128x1024_S128x128_0_256) (X.qc 384 inb_S128x1024_S128x128_0_384)
def qs1 : FVec F S512x128 .bf16 :=
  k0_pay245 (X.qc 512 inb_S128x1024_S128x128_0_512) (X.qc 640 inb_S128x1024_S128x128_0_640) (X.qc 768 inb_S128x1024_S128x128_0_768) (X.qc 896 inb_S128x1024_S128x128_0_896)

def s00 : FVec F S1x512 .f32 :=
  k0_pay220 k0_pay217 (k0_pay218 (X.sk 0 inb_S1x16_S1x1_0_0) (X.sk 2 inb_S1x16_S1x1_0_2)) k0_pay219 (X.sk 4 inb_S1x16_S1x1_0_4) (X.sk 6 inb_S1x16_S1x1_0_6)
def s01 : FVec F S1x512 .f32 :=
  k0_pay221 k0_pay217 (X.sk 1 inb_S1x16_S1x1_0_1) (X.sk 3 inb_S1x16_S1x1_0_3) (X.sk 5 inb_S1x16_S1x1_0_5) (X.sk 7 inb_S1x16_S1x1_0_7)
def s10 : FVec F S1x512 .f32 :=
  k0_pay254 k0_pay251 (k0_pay252 (X.sk 8 inb_S1x16_S1x1_0_8)) k0_pay253 (X.sk 10 inb_S1x16_S1x1_0_10) (X.sk 12 inb_S1x16_S1x1_0_12) (X.sk 14 inb_S1x16_S1x1_0_14)
def s11 : FVec F S1x512 .f32 :=
  k0_pay221 k0_pay251 (X.sk 9 inb_S1x16_S1x1_0_9) (X.sk 11 inb_S1x16_S1x1_0_11) (X.sk 13 inb_S1x16_S1x1_0_13) (X.sk 15 inb_S1x16_S1x1_0_15)

variable (W : Vec F S256x512 .bf16)

/-- The stack of the keys' two half-masked copies, and of the values'. -/
def kc0 : FVec F S512x128 .bf16 := k0_pay208 (k0_pay207 W) (iota .tc S256x128 32 [1] iota_S256x128_d1_w32)
def kc1 : FVec F S512x128 .bf16 := k0_pay243 (k0_pay197 W)
def vc0 : FVec F S512x128 .bf16 := k0_pay209 (k0_pay197 W)
def vc1 : FVec F S512x128 .bf16 := k0_pay244 (k0_pay197 W)

/-- The scores, beside a table of biases. -/
def sc0 (b : Vec F S1x512x512 .f32) : FVec F S512x512 .f32 :=
  k0_pay211 (k0_pay207 W) (iota .tc S256x128 32 [1] iota_S256x128_d1_w32) (X.qc 0 inb_S128x1024_S128x128_0_0) (X.qc 128 inb_S128x1024_S128x128_0_128) (X.qc 256 inb_S128x1024_S128x128_0_256) (X.qc 384 inb_S128x1024_S128x128_0_384) b
def sc1 (b : Vec F S1x512x512 .f32) : FVec F S512x512 .f32 :=
  k0_pay246 (k0_pay197 W) (X.qc 512 inb_S128x1024_S128x128_0_512) (X.qc 640 inb_S128x1024_S128x128_0_640) (X.qc 768 inb_S128x1024_S128x128_0_768) (X.qc 896 inb_S128x1024_S128x128_0_896) b

variable (z0 z1 : FVec F S512x512 .f32)

def dp0 : FVec F S512x512 .f32 := k0_pay222 (vc0 W) X.dos0

/-- The stores of the gradients of the queries and of the gate. -/
def dzL : List (View.Piece (Elt F) S4x128x512 .bf16) :=
  [⟨Rect.unit ![1, 0, 384] ![1, 128, 128] inb_S4x128x512_S1x128x128_1_0_384, k0_pay274 (k0_pay269 X.L (kc1 W) (vc1 W) z1 X.dos1 X.d10 X.d11)⟩,
   ⟨Rect.unit ![1, 0, 256] ![1, 128, 128] inb_S4x128x512_S1x128x128_1_0_256, k0_pay273 (k0_pay269 X.L (kc1 W) (vc1 W) z1 X.dos1 X.d10 X.d11)⟩,
   ⟨Rect.unit ![1, 0, 128] ![1, 128, 128] inb_S4x128x512_S1x128x128_1_0_128, k0_pay272 (k0_pay269 X.L (kc1 W) (vc1 W) z1 X.dos1 X.d10 X.d11)⟩,
   ⟨Rect.unit ![1, 0, 0] ![1, 128, 128] inb_S4x128x512_S1x128x128_1_0_0, k0_pay271 (k0_pay270 X.L (kc1 W) (vc1 W) z1 X.dos1 X.d10 X.d11)⟩,
   ⟨Rect.unit ![0, 0, 384] ![1, 128, 128] inb_S4x128x512_S1x128x128_0_0_384, k0_pay239 (k0_pay234 X.L (kc0 W) z0 X.d00 X.d01 (X.dp0 W) (k0_pay224 X.L z0))⟩,
   ⟨Rect.unit ![0, 0, 256] ![1, 128, 128] inb_S4x128x512_S1x128x128_0_0_256, k0_pay238 (k0_pay234 X.L (kc0 W) z0 X.d00 X.d01 (X.dp0 W) (k0_pay224 X.L z0))⟩,
   ⟨Rect.unit ![0, 0, 128] ![1, 128, 128] inb_S4x128x512_S1x128x128_0_0_128, k0_pay237 (k0_pay236 X.L (kc0 W) z0 X.d00 X.d01 (X.dp0 W) (k0_pay224 X.L z0))⟩,
   ⟨Rect.unit ![0, 0, 0] ![1, 128, 128] inb_S4x128x512_S1x128x128_0_0_0, k0_pay235 X.L (kc0 W) z0 X.d00 X.d01 (X.dp0 W) (k0_pay224 X.L z0)⟩,
   ⟨Rect.unit ![3, 0, 0] ![1, 128, 512] inb_S4x128x512_S1x128x512_3_0_0, k0_pay203 (all X.gate) (all X.du) (all X.o)⟩,
   ⟨Rect.unit ![2, 0, 0] ![1, 128, 512] inb_S4x128x512_S1x128x512_2_0_0, k0_pay202 (all X.gate) (all X.du) (all X.o)⟩]

/-- The stores of the running sum of the gradient of the biases, which read `o0` and `o1`. -/
def dbL (o0 o1 : Vec F S1x512x512 .f32) (rest : List (View.Piece (Elt F) S2x512x512 .f32)) : List (View.Piece (Elt F) S2x512x512 .f32) :=
  ⟨Rect.unit ![1, 0, 0] ![1, 512, 512] inb_S2x512x512_S1x512x512_1_0_0, k0_pay267 X.L (vc1 W) z1 X.dos1 X.d10 X.d11 o1⟩ ::
  ⟨Rect.unit ![0, 0, 0] ![1, 512, 512] inb_S2x512x512_S1x512x512_0_0_0, k0_pay232 X.L z0 X.d00 X.d01 (X.dp0 W) (k0_pay224 X.L z0) o0⟩ :: rest

def dk0 (o : Vec F S256x128 .f32) : FVec F S256x128 .f32 := k0_pay241 X.qs0 (k0_pay233 X.L z0 X.d00 X.d01 (X.dp0 W) (k0_pay224 X.L z0)) o
def dv0 (o : Vec F S256x128 .f32) : FVec F S256x128 .f32 := k0_pay242 (k0_pay240 X.dos0 (k0_pay225 (k0_pay224 X.L z0)) (k0_pay229 X.L z0)) o
def dk1 (o : Vec F S256x128 .f32) : FVec F S256x128 .f32 := k0_pay3 (k0_pay276 X.qs1 (k0_pay268 X.L (vc1 W) z1 X.dos1 X.d10 X.d11) o)
def dv1 (o : Vec F S256x128 .f32) : FVec F S256x128 .f32 := k0_pay4 (k0_pay275 X.dos1 (k0_pay260 X.L z1) (k0_pay264 X.L z1)) o

/-- The store of the running sum of the gradient of the sinks, which reads `o`. -/
def dsk (o : Vec F S8x512 .f32) : FVec F S8x512 .f32 :=
  k0_pay5 (k0_pay226 X.d00 X.s00 (k0_pay223 X.L)) (k0_pay230 X.L X.d01 X.s01) (k0_pay261 X.L X.d10 X.s10)
    (k0_pay265 X.L X.d11 (k0_pay255 k0_pay251 (X.sk 9 inb_S1x16_S1x1_0_9) (X.sk 11 inb_S1x16_S1x1_0_11) (X.sk 13 inb_S1x16_S1x1_0_13)) (k0_pay256 k0_pay251) (k0_pay257 (X.sk 15 inb_S1x16_S1x1_0_15))) o

end Blk

/-- The blocks as the body finds them in its staging buffers. -/
def seen (t : Fin cfg0.N) (X : Blk F) : Blk F where
  q := (stg0 t).view.read (Elt F) ((whole0 t).unread X.q)
  kv := (stg1 t).view.read (Elt F) ((whole1 t).unread X.kv)
  gate := (stg2 t).view.read (Elt F) ((whole2 t).unread X.gate)
  o := (stg3 t).view.read (Elt F) ((whole3 t).unread X.o)
  du := (stg4 t).view.read (Elt F) ((whole4 t).unread X.du)
  lse := (stg5 t).view.read (Elt F) ((whole5 t).unread X.lse)
  base := (stg6 t).view.read (Elt F) ((whole6 t).unread X.base)
  sinks := (stg7 t).view.read (Elt F) ((whole7 t).unread X.sinks)

theorem seen_eq (t : Fin cfg0.N) (X : Blk F) : seen t X = X := by
  unfold seen; rw [(whole0 t).read_unread, (whole1 t).read_unread, (whole2 t).read_unread, (whole3 t).read_unread, (whole4 t).read_unread, (whole5 t).read_unread, (whole6 t).read_unread, (whole7 t).read_unread]

def seenS (S : Scr F) : Scr F where
  bias := scr0.view.read (Elt F) ((Memref.isWhole_whole cc0_scratch0).unread S.bias)
  dbias := scr1.view.read (Elt F) ((Memref.isWhole_whole cc0_scratch1).unread S.dbias)
  dkv := scr2.view.read (Elt F) ((Memref.isWhole_whole cc0_scratch2).unread S.dkv)
  dsink := scr3.view.read (Elt F) ((Memref.isWhole_whole cc0_scratch3).unread S.dsink)

theorem seenS_eq (S : Scr F) : seenS S = S := by
  unfold seenS; rw [(Memref.isWhole_whole cc0_scratch0).read_unread, (Memref.isWhole_whole cc0_scratch1).read_unread, (Memref.isWhole_whole cc0_scratch2).read_unread, (Memref.isWhole_whole cc0_scratch3).read_unread]

/-- A table's plane. -/
abbrev pl0 (x : Vec F S2x512x512 .f32) : Vec F S1x512x512 .f32 := View.ld (Val := Elt F) x (Rect.unit ![0, 0, 0] S1x512x512.size inb_S2x512x512_S1x512x512_0_0_0)
abbrev pl1 (x : Vec F S2x512x512 .f32) : Vec F S1x512x512 .f32 := View.ld (Val := Elt F) x (Rect.unit ![1, 0, 0] S1x512x512.size inb_S2x512x512_S1x512x512_1_0_0)

/-- Where a point's window of the keys and values starts. -/
abbrev at6 (t : Fin cfg0.N) : Fin 2 → ℕ := k0_off6 (grid0.coords t)
theorem win6 (t : Fin cfg0.N) (h : 1 ≤ t.val) : ∀ a, (at6 t) a + S256x512.size a ≤ S5120x512.size a := k0_off6_inb _ ((later_iff t).mpr h)

/-- The window of a later point. -/
abbrev winB (t : Fin cfg0.N) (h : 1 ≤ t.val) (X : Blk F) : Vec F S256x512 .bf16 := winAt X (at6 t) (win6 t h)

/-- The stores of the running sum of the gradients of the keys and values at a later point. -/
def dkvB (t : Fin cfg0.N) (h : 1 ≤ t.val) (X : Blk F) (z0 z1 : FVec F S512x512 .f32) (D : Vec F S5120x512 .f32) : List (View.Piece (Elt F) S5120x512 .f32) :=
  have i := (later_iff t).mpr h
  [⟨Rect.unit (k0_off10 (grid0.coords t)) ![256, 128] (k0_off10_inb _ i), X.dv1 z1 (View.ld (Val := Elt F) D (Rect.unit (k0_off10 (grid0.coords t)) ![256, 128] (k0_off10_inb _ i)))⟩,
   ⟨Rect.unit (k0_off9 (grid0.coords t)) ![256, 128] (k0_off9_inb _ i), X.dk1 (winB t h X) z1 (View.ld (Val := Elt F) D (Rect.unit (k0_off9 (grid0.coords t)) ![256, 128] (k0_off9_inb _ i)))⟩,
   ⟨Rect.unit (k0_off8 (grid0.coords t)) ![256, 128] (k0_off8_inb _ i), X.dv0 z0 (View.ld (Val := Elt F) D (Rect.unit (k0_off8 (grid0.coords t)) ![256, 128] (k0_off8_inb _ i)))⟩,
   ⟨Rect.unit (k0_off7 (grid0.coords t)) ![256, 128] (k0_off7_inb _ i), X.dk0 (winB t h X) z0 (View.ld (Val := Elt F) D (Rect.unit (k0_off7 (grid0.coords t)) ![256, 128] (k0_off7_inb _ i)))⟩]

abbrev allS (x : Vec F S8x512 .f32) : Vec F S8x512 .f32 := View.ld (Val := Elt F) x (Rect.unit ![0, 0] S8x512.size inb_S8x512_S8x512_0_0)

/-- The scores at a later point. -/
abbrev scB0 (t : Fin cfg0.N) (h : 1 ≤ t.val) (X : Blk F) (S : Scr F) : FVec F S512x512 .f32 := X.sc0 (winB t h X) (pl0 S.bias)
abbrev scB1 (t : Fin cfg0.N) (h : 1 ≤ t.val) (X : Blk F) (S : Scr F) : FVec F S512x512 .f32 := X.sc1 (winB t h X) (pl1 S.bias)

theorem B_dz (c : Dev nD) (t : Fin cfg0.N) (h : 0 < t.val ∧ t.val < 31) (X : Blk F) (S : Scr F) :
    (atB c t h X S).1 = X.dzL (winB t h.1 X) (scB0 t h.1 X S) (scB1 t h.1 X S) := by
  have e : (atB c t h X S).1 = ((seen t X)).dzL (winB t h.1 (seen t X)) (scB0 t h.1 (seen t X) (seenS S)) (scB1 t h.1 (seen t X) (seenS S)) := by
    delta atB runB
    sl_kernel_rfl
  rw [e, seen_eq, seenS_eq]

theorem B_db (c : Dev nD) (t : Fin cfg0.N) (h : 0 < t.val ∧ t.val < 31) (X : Blk F) (S : Scr F) :
    (atB c t h X S).2.1 = X.dbL (winB t h.1 X) (scB0 t h.1 X S) (scB1 t h.1 X S) (pl0 S.dbias) (pl1 S.dbias) [] := by
  have e : (atB c t h X S).2.1 = ((seen t X)).dbL (winB t h.1 (seen t X)) (scB0 t h.1 (seen t X) (seenS S)) (scB1 t h.1 (seen t X) (seenS S)) (pl0 ((seenS S)).dbias) (pl1 ((seenS S)).dbias) [] := by
    delta atB runB
    rfl
  rw [e, seen_eq, seenS_eq]

theorem B_dkv (c : Dev nD) (t : Fin cfg0.N) (h : 0 < t.val ∧ t.val < 31) (X : Blk F) (S : Scr F) :
    (atB c t h X S).2.2.1 = dkvB t h.1 X (scB0 t h.1 X S) (scB1 t h.1 X S) S.dkv := by
  have e : (atB c t h X S).2.2.1 = dkvB t h.1 (seen t X) (scB0 t h.1 (seen t X) (seenS S)) (scB1 t h.1 (seen t X) (seenS S)) ((seenS S)).dkv := by
    delta atB runB
    rfl
  rw [e, seen_eq, seenS_eq]

theorem B_dsk (c : Dev nD) (t : Fin cfg0.N) (h : 0 < t.val ∧ t.val < 31) (X : Blk F) (S : Scr F) :
    (atB c t h X S).2.2.2.1 = [⟨Rect.unit ![0, 0] ![8, 512] inb_S8x512_S8x512_0_0, X.dsk (allS S.dsink)⟩] := by
  have e : (atB c t h X S).2.2.2.1 = [⟨Rect.unit ![0, 0] ![8, 512] inb_S8x512_S8x512_0_0, ((seen t X)).dsk (allS ((seenS S)).dsink)⟩] := by
    delta atB runB
    rfl
  rw [e, seen_eq, seenS_eq]

theorem C_dz (c : Dev nD) (t : Fin cfg0.N) (h : t.val = 31) (X : Blk F) (S : Scr F) :
    (atC c t h X S).1 = X.dzL (winB t (by omega) X) (scB0 t (by omega) X S) (scB1 t (by omega) X S) := by
  have e : (atC c t h X S).1 = ((seen t X)).dzL (winB t (by omega) (seen t X)) (scB0 t (by omega) (seen t X) (seenS S)) (scB1 t (by omega) (seen t X) (seenS S)) := by
    delta atC runC
    sl_kernel_rfl
  rw [e, seen_eq, seenS_eq]

theorem C_db (c : Dev nD) (t : Fin cfg0.N) (h : t.val = 31) (X : Blk F) (S : Scr F) :
    (atC c t h X S).2.2.2.2.1 = X.dbL (winB t (by omega) X) (scB0 t (by omega) X S) (scB1 t (by omega) X S) (pl0 S.dbias) (pl1 S.dbias) [] := by
  have e : (atC c t h X S).2.2.2.2.1 = ((seen t X)).dbL (winB t (by omega) (seen t X)) (scB0 t (by omega) (seen t X) (seenS S)) (scB1 t (by omega) (seen t X) (seenS S)) (pl0 ((seenS S)).dbias) (pl1 ((seenS S)).dbias) [] := by
    delta atC runC
    rfl
  rw [e, seen_eq, seenS_eq]

theorem C_dkv (c : Dev nD) (t : Fin cfg0.N) (h : t.val = 31) (X : Blk F) (S : Scr F) :
    (atC c t h X S).2.2.2.2.2.1 = dkvB t (by omega) X (scB0 t (by omega) X S) (scB1 t (by omega) X S) S.dkv := by
  have e : (atC c t h X S).2.2.2.2.2.1 = dkvB t (by omega) (seen t X) (scB0 t (by omega) (seen t X) (seenS S)) (scB1 t (by omega) (seen t X) (seenS S)) ((seenS S)).dkv := by
    delta atC runC
    rfl
  rw [e, seen_eq, seenS_eq]

theorem C_dsk (c : Dev nD) (t : Fin cfg0.N) (h : t.val = 31) (X : Blk F) (S : Scr F) :
    (atC c t h X S).2.2.2.2.2.2.1 = [⟨Rect.unit ![0, 0] ![8, 512] inb_S8x512_S8x512_0_0, X.dsk (allS S.dsink)⟩] := by
  have e : (atC c t h X S).2.2.2.2.2.2.1 = [⟨Rect.unit ![0, 0] ![8, 512] inb_S8x512_S8x512_0_0, ((seen t X)).dsk (allS ((seenS S)).dsink)⟩] := by
    delta atC runC
    rfl
  rw [e, seen_eq, seenS_eq]

end Cert.KernelIdeal.Attn
-- ==== Proof.ModelA.lean ====
module

public import proofs.«01_k».proof.Proof.Model

/-! # What the first grid step stores
The first step fills the table of biases, clears the running sums, and masks the scores of the rows that would lie
before the sequence's start. -/

@[expose] public section

noncomputable section

namespace Cert.KernelIdeal.Attn

open Cert.KernelIdeal.Gen
open Idealize.ShloMosaic Idealize.ShloMosaic.TcCoe Idealize.ShloMosaic.Tactic

set_option maxRecDepth 16384

variable {F : FTy → Type} [FloatOps F] [Named F]

namespace Blk

variable (X : Blk F)

/-- One head's tile of the table of biases. -/
def tile (n : ℕ) (h : ∀ a, (![n, 0, 0] : Fin 3 → ℕ) a + S1x1x384.size a ≤ S16x1x384.size a) : FVec F S1x256x128 .f32 :=
  k0_pay11 (k0_pay7 (View.ld (Val := Elt F) X.base (Rect.unit ![n, 0, 0] S1x1x384.size h))) k0_pay8 (iota .tc S256x128 32 [1] iota_S256x128_d1_w32) (64#32) k0_pay9 k0_pay10 0#32

def tabL : List (View.Piece (Elt F) S2x512x512 .f32) :=
  [⟨Rect.unit ![1, 256, 384] S1x256x128.size inb_S2x512x512_S1x256x128_1_256_384, X.tile 15 inb_S16x1x384_S1x1x384_15_0_0⟩,
   ⟨Rect.unit ![1, 0, 384] S1x256x128.size inb_S2x512x512_S1x256x128_1_0_384, X.tile 14 inb_S16x1x384_S1x1x384_14_0_0⟩,
   ⟨Rect.unit ![1, 256, 256] S1x256x128.size inb_S2x512x512_S1x256x128_1_256_256, X.tile 13 inb_S16x1x384_S1x1x384_13_0_0⟩,
   ⟨Rect.unit ![1, 0, 256] S1x256x128.size inb_S2x512x512_S1x256x128_1_0_256, X.tile 12 inb_S16x1x384_S1x1x384_12_0_0⟩,
   ⟨Rect.unit ![1, 256, 128] S1x256x128.size inb_S2x512x512_S1x256x128_1_256_128, X.tile 11 inb_S16x1x384_S1x1x384_11_0_0⟩,
   ⟨Rect.unit ![1, 0, 128] S1x256x128.size inb_S2x512x512_S1x256x128_1_0_128, X.tile 10 inb_S16x1x384_S1x1x384_10_0_0⟩,
   ⟨Rect.unit ![1, 256, 0] S1x256x128.size inb_S2x512x512_S1x256x128_1_256_0, X.tile 9 inb_S16x1x384_S1x1x384_9_0_0⟩,
   ⟨Rect.unit ![1, 0, 0] S1x256x128.size inb_S2x512x512_S1x256x128_1_0_0, X.tile 8 inb_S16x1x384_S1x1x384_8_0_0⟩,
   ⟨Rect.unit ![0, 256, 384] S1x256x128.size inb_S2x512x512_S1x256x128_0_256_384, X.tile 7 inb_S16x1x384_S1x1x384_7_0_0⟩,
   ⟨Rect.unit ![0, 0, 384] S1x256x128.size inb_S2x512x512_S1x256x128_0_0_384, X.tile 6 inb_S16x1x384_S1x1x384_6_0_0⟩,
   ⟨Rect.unit ![0, 256, 256] S1x256x128.size inb_S2x512x512_S1x256x128_0_256_256, X.tile 5 inb_S16x1x384_S1x1x384_5_0_0⟩,
   ⟨Rect.unit ![0, 0, 256] S1x256x128.size inb_S2x512x512_S1x256x128_0_0_256, X.tile 4 inb_S16x1x384_S1x1x384_4_0_0⟩,
   ⟨Rect.unit ![0, 256, 128] S1x256x128.size inb_S2x512x512_S1x256x128_0_256_128, X.tile 3 inb_S16x1x384_S1x1x384_3_0_0⟩,
   ⟨Rect.unit ![0, 0, 128] S1x256x128.size inb_S2x512x512_S1x256x128_0_0_128, X.tile 2 inb_S16x1x384_S1x1x384_2_0_0⟩,
   ⟨Rect.unit ![0, 256, 0] S1x256x128.size inb_S2x512x512_S1x256x128_0_256_0, X.tile 1 inb_S16x1x384_S1x1x384_1_0_0⟩,
   ⟨Rect.unit ![0, 0, 0] S1x256x128.size inb_S2x512x512_S1x256x128_0_0_0, X.tile 0 inb_S16x1x384_S1x1x384_0_0_0⟩]

/-- The table of biases. -/
def tab : Vec F S2x512x512 .f32 := left scr0.view X.tabL

end Blk

abbrev at1 (t : Fin cfg0.N) : Fin 2 → ℕ := k0_off1 (grid0.coords t)
theorem win1 (t : Fin cfg0.N) (h : t.val = 0) : ∀ a, (at1 t) a + S256x512.size a ≤ S5120x512.size a := k0_off1_inb _ ((opens_iff t).mpr h)

/-- The window of the first point. -/
abbrev winA (t : Fin cfg0.N) (h : t.val = 0) (X : Blk F) : Vec F S256x512 .bf16 := winAt X (at1 t) (win1 t h)

/-- The first point's scores. -/
def scA0 (t : Fin cfg0.N) (h : t.val = 0) (X : Blk F) : FVec F S512x512 .f32 :=
  k0_pay123 (BitVec.ofNat 32 ((grid0.coords t) 0).val) (X.sc0 (winA t h X) (pl0 X.tab)) k0_pay120 (128#32) k0_pay121 k0_pay122
def scA1 (t : Fin cfg0.N) (h : t.val = 0) (X : Blk F) : FVec F S512x512 .f32 :=
  k0_pay164 (BitVec.ofNat 32 ((grid0.coords t) 0).val) (X.sc1 (winA t h X) (pl1 X.tab)) k0_pay161 (128#32) k0_pay162 k0_pay163

def zDb : List (View.Piece (Elt F) S2x512x512 .f32) := [⟨Rect.unit ![0, 0, 0] S2x512x512.size inb_S2x512x512_S2x512x512_0_0_0, k0_pay102⟩]
def zDkv : List (View.Piece (Elt F) S5120x512 .f32) := [⟨Rect.unit ![0, 0] S5120x512.size inb_S5120x512_S5120x512_0_0, k0_pay103⟩]
def zDs : List (View.Piece (Elt F) S8x512 .f32) := [⟨Rect.unit ![0, 0] ![8, 512] inb_S8x512_S8x512_0_0, k0_pay1 k0_pay104⟩]

section
variable (t : Fin cfg0.N) (h : t.val = 0) (X : Blk F) (z0 z1 : FVec F S512x512 .f32)

/-- The sum of the gradient of the biases after its first plane's store. -/
def dbA1 : List (View.Piece (Elt F) S2x512x512 .f32) :=
  ⟨Rect.unit ![0, 0, 0] ![1, 512, 512] inb_S2x512x512_S1x512x512_0_0_0, k0_pay232 X.L z0 X.d00 X.d01 (X.dp0 (winA t h X)) (k0_pay224 X.L z0) (pl0 (left scr1.view zDb))⟩ :: zDb
def dbA : List (View.Piece (Elt F) S2x512x512 .f32) :=
  X.dbL (winA t h X) z0 z1 (pl0 (left scr1.view zDb)) (pl1 (left scr1.view (dbA1 t h X z0))) zDb

def dkvA2 : List (View.Piece (Elt F) S5120x512 .f32) :=
  ⟨Rect.unit (k0_off2 (grid0.coords t)) S256x128.size (k0_off2_inb _ ((opens_iff t).mpr h)), X.dk0 (winA t h X) z0 (View.ld (Val := Elt F) (left scr2.view zDkv) (Rect.unit (k0_off2 (grid0.coords t)) S256x128.size (k0_off2_inb _ ((opens_iff t).mpr h))))⟩ :: zDkv
def dkvA3 : List (View.Piece (Elt F) S5120x512 .f32) :=
  ⟨Rect.unit (k0_off3 (grid0.coords t)) S256x128.size (k0_off3_inb _ ((opens_iff t).mpr h)), X.dv0 z0 (View.ld (Val := Elt F) (left scr2.view (dkvA2 t h X z0)) (Rect.unit (k0_off3 (grid0.coords t)) S256x128.size (k0_off3_inb _ ((opens_iff t).mpr h))))⟩ :: dkvA2 t h X z0
def dkvA4 : List (View.Piece (Elt F) S5120x512 .f32) :=
  ⟨Rect.unit (k0_off4 (grid0.coords t)) S256x128.size (k0_off4_inb _ ((opens_iff t).mpr h)), X.dk1 (winA t h X) z1 (View.ld (Val := Elt F) (left scr2.view (dkvA3 t h X z0)) (Rect.unit (k0_off4 (grid0.coords t)) S256x128.size (k0_off4_inb _ ((opens_iff t).mpr h))))⟩ :: dkvA3 t h X z0
def dkvA5 : List (View.Piece (Elt F) S5120x512 .f32) :=
  ⟨Rect.unit (k0_off5 (grid0.coords t)) S256x128.size (k0_off5_inb _ ((opens_iff t).mpr h)), X.dv1 z1 (View.ld (Val := Elt F) (left scr2.view (dkvA4 t h X z0 z1)) (Rect.unit (k0_off5 (grid0.coords t)) S256x128.size (k0_off5_inb _ ((opens_iff t).mpr h))))⟩ :: dkvA4 t h X z0 z1
end

theorem A_tab (c : Dev nD) (t : Fin cfg0.N) (h : t.val = 0) (X : Blk F) :
    (atA c t h X).2.1 = X.tabL := by
  have e : (atA c t h X).2.1 = ((seen t X)).tabL := by
    delta atA runA
    sl_kernel_rfl
  rw [e, seen_eq]

theorem A_dz (c : Dev nD) (t : Fin cfg0.N) (h : t.val = 0) (X : Blk F) :
    (atA c t h X).1 = X.dzL (winA t h X) (scA0 t h X) (scA1 t h X) := by
  have e : (atA c t h X).1 = ((seen t X)).dzL (winA t h (seen t X)) (scA0 t h (seen t X)) (scA1 t h (seen t X)) := by
    delta atA runA
    sl_kernel_rfl
  rw [e, seen_eq]

theorem A_db (c : Dev nD) (t : Fin cfg0.N) (h : t.val = 0) (X : Blk F) :
    (atA c t h X).2.2.1 = dbA t h X (scA0 t h X) (scA1 t h X) := by
  have e : (atA c t h X).2.2.1 = dbA t h (seen t X) (scA0 t h (seen t X)) (scA1 t h (seen t X)) := by
    delta atA runA
    sl_kernel_rfl
  rw [e, seen_eq]

theorem A_dkv (c : Dev nD) (t : Fin cfg0.N) (h : t.val = 0) (X : Blk F) :
    (atA c t h X).2.2.2.1 = dkvA5 t h X (scA0 t h X) (scA1 t h X) := by
  have e : (atA c t h X).2.2.2.1 = dkvA5 t h (seen t X) (scA0 t h (seen t X)) (scA1 t h (seen t X)) := by
    delta atA runA
    sl_kernel_rfl
  rw [e, seen_eq]

theorem A_dsk (c : Dev nD) (t : Fin cfg0.N) (h : t.val = 0) (X : Blk F) :
    (atA c t h X).2.2.2.2.1 = ⟨Rect.unit ![0, 0] ![8, 512] inb_S8x512_S8x512_0_0, X.dsk (allS (left scr3.view zDs))⟩ :: zDs := by
  have e : (atA c t h X).2.2.2.2.1 = ⟨Rect.unit ![0, 0] ![8, 512] inb_S8x512_S8x512_0_0, ((seen t X)).dsk (allS (left scr3.view zDs))⟩ :: zDs := by
    delta atA runA
    sl_kernel_rfl
  rw [e, seen_eq]

end Cert.KernelIdeal.Attn
-- ==== Proof.Reals.lean ====
module

public import Idealize.ShloMosaic.Lib.Pointwise
public import Idealize.ShloMosaic.Lib.WordCmp
public import Idealize.ShloMosaic.Lib.IdealHost

/-! # The gradient of the gated attention over the reals
The mathematics both programs are shown to compute: the attention with a sink, a relative bias and a band of chunks, and its gradients, as functions of
natural coordinates. -/

@[expose] public section

noncomputable section

namespace Cert.Attn

open Idealize.ShloMosaic
open Finset (range)

/-- A finite sum of reals, seen among the extended reals, is the sum there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are reals one by one. -/
theorem sum_coe {ι : Type*} (s : Finset ι) (F : ι → EReal) (f : ι → ℝ) (h : ∀ i ∈ s, F i = (f i : EReal)) :
    ∑ i ∈ s, F i = ((∑ i ∈ s, f i : ℝ) : EReal) := by
  rw [coe_sum]; exact Finset.sum_congr rfl h

/-- A sum over `Fin n` of extended reals that are reals one by one, as a sum over the numbers below `n`. -/
theorem sum_fin_coe {n : ℕ} (F : Fin n → EReal) (f : ℕ → ℝ) (h : ∀ i : Fin n, F i = (f i.val : EReal)) :
    ∑ i, F i = ((∑ i ∈ range n, f i : ℝ) : EReal) := by
  rw [Finset.sum_range]; exact sum_coe _ _ _ fun i _ => h i

/-- The word of one eighth in the short format. -/
theorem ofBits_eighth16 : Ideal.ofBits .bf16 0x3E00#16 = ((1 / 8 : ℝ) : EReal) := by
  simp [Ideal.ofBits, Ideal.ieee, -EReal.coe_mul]; norm_num

/-- The word of one eighth in the long format. -/
theorem ofBits_eighth32 : Ideal.ofBits .f32 0x3E000000#32 = ((1 / 8 : ℝ) : EReal) := by
  simp [Ideal.ofBits, Ideal.ieee, -EReal.coe_mul]; norm_num

/-- The word of minus infinity. -/
theorem ofBits_neg_inf : Ideal.ofBits .f32 0xFF800000#32 = ⊥ := by
  simp [Ideal.ofBits, Ideal.ieee]

/-- A select by a signed comparison of two small naturals. -/
theorem sel_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [Idealize.ShloMosaic.WordCmp.cmpi_slt_ofNat (by simpa using ha) (by simpa using hb)]
  by_cases h : a < b <;> simp [h, Scalar.select]

/-- A sum over 128 lanes of which one half counts. -/
theorem sum_half (e : ℕ) (he : e < 2) (f : ℕ → ℝ) :
    ∑ x ∈ range 128, (if x / 64 = e then f x else 0) = ∑ d ∈ range 64, f (64 * e + d) := by
  rw [show (128 : ℕ) = 64 + 64 from rfl, Finset.sum_range_add]
  obtain rfl | rfl : e = 0 ∨ e = 1 := by omega
  · rw [Finset.sum_congr rfl (g := fun d => f (64 * 0 + d)), Finset.sum_eq_zero (s := range 64) (f := fun x => if (64 + x) / 64 = 0 then f (64 + x) else 0), add_zero]
    · intro x hx; rw [if_neg]; omega
    · intro x hx; have := Finset.mem_range.1 hx; rw [if_pos (by omega)]; simp
  · rw [Finset.sum_eq_zero, zero_add]
    · refine Finset.sum_congr rfl fun x hx => ?_
      have := Finset.mem_range.1 hx; rw [if_pos (by omega)]
    · intro x hx; have := Finset.mem_range.1 hx; rw [if_neg]; omega

/-- What the attention takes, as functions of natural coordinates: queries, gate and cotangent by row and column, keys and values by row and column,
    the sinks by head and the bias by head and by the word of the distance. -/
structure Inp where
  q : ℕ → ℕ → ℝ
  g : ℕ → ℕ → ℝ
  k : ℕ → ℕ → ℝ
  v : ℕ → ℕ → ℝ
  u : ℕ → ℕ → ℝ
  s : ℕ → ℝ
  t : ℕ → BitVec 32 → ℝ

namespace Inp

variable (I : Inp)

/-- The logistic function. -/
def sg (x : ℝ) : ℝ := (1 + Real.exp (-x))⁻¹

/-- A query row sees a key row: the key's chunk of 64 is the query's or one of the two before. -/
def band (n κ : ℕ) : Prop := κ / 64 ≤ n / 64 ∧ n / 64 ≤ κ / 64 + 2

instance (n κ : ℕ) : Decidable (band n κ) := inferInstanceAs (Decidable (_ ∧ _))

/-- The logit of head `h` at a query row and a key row. -/
def L (h n κ : ℕ) : ℝ := (∑ d ∈ range 64, I.q n (64 * h + d) * I.k κ (64 * (h / 8) + d)) * (1 / 8) + I.t h (BitVec.ofNat 32 κ - BitVec.ofNat 32 n)

/-- The weight before normalising. -/
def E (h n κ : ℕ) : ℝ := if band n κ then Real.exp (I.L h n κ) else 0

/-- The normalising sum, the sink's included. -/
def Z (h n : ℕ) : ℝ := ∑ κ ∈ range 4096, I.E h n κ + Real.exp (I.s h)

/-- The probability. -/
def P (h n κ : ℕ) : ℝ := I.E h n κ / I.Z h n

/-- The attention's output at a head and a lane. -/
def O (h n d : ℕ) : ℝ := ∑ κ ∈ range 4096, I.P h n κ * I.v κ (64 * (h / 8) + d)

/-- The cotangent of the attention's output: the gate's share taken. -/
def dO (n c : ℕ) : ℝ := I.u n c * (I.g n c * sg (I.g n c))

/-- The cotangent of a probability. -/
def dP (h n κ : ℕ) : ℝ := ∑ d ∈ range 64, I.v κ (64 * (h / 8) + d) * I.dO n (64 * h + d)

/-- The row's mean of the probabilities' cotangents. -/
def Dl (h n : ℕ) : ℝ := ∑ κ ∈ range 4096, I.P h n κ * I.dP h n κ

/-- The cotangent of a logit. -/
def DS (h n κ : ℕ) : ℝ := I.P h n κ * (I.dP h n κ - I.Dl h n)

/-- The gradient of the queries. -/
def DQ (n c : ℕ) : ℝ := (∑ κ ∈ range 4096, I.DS (c / 64) n κ * I.k κ (64 * (c / 512) + c % 64)) * (1 / 8)

/-- The gradient of the keys. -/
def DK (κ c : ℕ) : ℝ := ∑ h ∈ range 8, ∑ n ∈ range 4096, I.DS (8 * (c / 64) + h) n κ * (I.q n (64 * (8 * (c / 64) + h) + c % 64) * (1 / 8))

/-- The gradient of the values. -/
def DV (κ c : ℕ) : ℝ := ∑ h ∈ range 8, ∑ n ∈ range 4096, I.P (8 * (c / 64) + h) n κ * I.dO n (64 * (8 * (c / 64) + h) + c % 64)

/-- The gradient of the sinks. -/
def DSk (h : ℕ) : ℝ := ∑ n ∈ range 4096, -(Real.exp (I.s h) / I.Z h n) * I.Dl h n

/-- The gradient of the gate. -/
def DG (n c : ℕ) : ℝ := I.u n c * I.O (c / 64) n (c % 64) * (sg (I.g n c) * (1 + I.g n c * (1 - sg (I.g n c))))

/-- The normalising sum is positive. -/
theorem Z_pos (h n : ℕ) : 0 < I.Z h n := by
  refine add_pos_of_nonneg_of_pos (Finset.sum_nonneg fun κ _ => ?_) (Real.exp_pos _)
  unfold E; split
  · exact (Real.exp_pos _).le
  · exact le_rfl

/-- The output's product with its cotangent, summed over a head's lanes, is the row's mean. -/
theorem sum_dO_O (h n : ℕ) : ∑ d ∈ range 64, I.dO n (64 * h + d) * I.O h n d = I.Dl h n := by
  unfold Dl O dP
  simp only [Finset.mul_sum]
  rw [Finset.sum_comm]
  refine Finset.sum_congr rfl fun κ _ => Finset.sum_congr rfl fun d _ => ?_
  ring

/-- A probability outside the band is zero. -/
theorem P_of_not_band {h n κ : ℕ} (hb : ¬ band n κ) : I.P h n κ = 0 := by
  unfold P E; rw [if_neg hb, zero_div]

theorem DS_of_not_band {h n κ : ℕ} (hb : ¬ band n κ) : I.DS h n κ = 0 := by
  unfold DS; rw [I.P_of_not_band hb, zero_mul]

end Inp

end Cert.Attn

end
-- ==== Proof.Step.lean ====
module

public import proofs.«01_k».proof.Proof.Gen.KernelIdeal.Skeleton
public import proofs.«01_k».proof.Proof.Reals
public import Idealize.ShloMosaic.Lib.Pointwise
public import Idealize.ShloMosaic.Lib.Tactic.IndexArith

/-! # The step's values over the reals
The payloads of one grid step, read at an index, where every element that comes in is a real number. -/

@[expose] public section

namespace Cert.KernelIdeal.Attn

open Cert.KernelIdeal.Gen Cert.Attn
open Idealize.ShloMosaic Idealize.ShloMosaic.TcCoe Idealize.ShloMosaic.Tactic
open Finset (range)

set_option maxRecDepth 16384

/-- The stack of the two half-masked copies of a window's columns. -/
theorem stack_re (x : FVec Ideal S256x128 .bf16) (f : ℕ → ℕ → ℝ) (hx : ∀ (j : Fin 256) (c : Fin 128), x (ix2 j c) = ((f j.val c.val : ℝ) : EReal))
    (r : Fin 512) (c : Fin 128) :
    k0_pay208 x (iota .tc S256x128 32 [1] iota_S256x128_d1_w32) (ix2 r c)
      = ((if c.val / 64 = r.val / 256 then f (r.val % 256) c.val else 0 : ℝ) : EReal) := by
  pointwise [k0_pay208]
  simp only [sel_lt c.val 64 (by omega) (by omega), hx]
  split <;> split <;> split <;> first | rfl | omega | (rw [Nat.mod_eq_of_lt (by omega)]) | skip
  congr 2; omega

/-- Four column blocks of queries stacked by rows, scaled. -/
theorem qs_re (x0 x1 x2 x3 : Vec Ideal S128x128 .bf16) (f : ℕ → ℕ → ℝ)
    (h0 : ∀ (i c : Fin 128), x0 (ix2 i c) = ((f i.val c.val : ℝ) : EReal)) (h1 : ∀ (i c : Fin 128), x1 (ix2 i c) = ((f i.val (128 + c.val) : ℝ) : EReal))
    (h2 : ∀ (i c : Fin 128), x2 (ix2 i c) = ((f i.val (256 + c.val) : ℝ) : EReal)) (h3 : ∀ (i c : Fin 128), x3 (ix2 i c) = ((f i.val (384 + c.val) : ℝ) : EReal))
    (r : Fin 512) (c : Fin 128) :
    k0_pay210 x0 x1 x2 x3 (ix2 r c) = ((f (r.val % 128) (128 * (r.val / 128) + c.val) * (1 / 8) : ℝ) : EReal) := by
  pointwise [k0_pay210]
  rw [ofBits_eighth16]
  simp only [h0, h1, h2, h3, EReal.coe_mul]
  congr 1
  split
  · congr 2 <;> omega
  · split
    · congr 2 <;> omega
    · split <;> congr 2 <;> omega

/-- Four column blocks stacked by rows. -/
theorem stack4_re (x : FVec Ideal S128x1024 .bf16) (f : ℕ → ℕ → ℝ) (hx : ∀ (i : Fin 128) (c : Fin 1024), x (ix2 i c) = ((f i.val c.val : ℝ) : EReal))
    (r : Fin 512) (c : Fin 128) :
    k0_pay212 x (ix2 r c) = ((f (r.val % 128) (128 * (r.val / 128) + c.val) : ℝ) : EReal) := by
  pointwise [k0_pay212]
  simp only [hx]
  split
  · congr 2 <;> omega
  · split
    · congr 2 <;> omega
    · split <;> congr 2 <;> omega

theorem stack4_re' (x : FVec Ideal S128x1024 .bf16) (f : ℕ → ℕ → ℝ) (hx : ∀ (i : Fin 128) (c : Fin 1024), x (ix2 i c) = ((f i.val c.val : ℝ) : EReal))
    (r : Fin 512) (c : Fin 128) :
    k0_pay247 x (ix2 r c) = ((f (r.val % 128) (512 + 128 * (r.val / 128) + c.val) : ℝ) : EReal) := by
  pointwise [k0_pay247]
  simp only [hx]
  split
  · congr 2 <;> omega
  · split
    · congr 2 <;> omega
    · split <;> congr 2 <;> omega

/-- The logits of a block before masking: the product with the scaled queries, and the bias tile. -/
theorem score_re (x : FVec Ideal S256x128 .bf16) (x0 x1 x2 x3 : Vec Ideal S128x128 .bf16) (b : Vec Ideal S1x512x512 .f32) (fk fq : ℕ → ℕ → ℝ)
    (hx : ∀ (j : Fin 256) (c : Fin 128), x (ix2 j c) = ((fk j.val c.val : ℝ) : EReal))
    (h0 : ∀ (i c : Fin 128), x0 (ix2 i c) = ((fq i.val c.val : ℝ) : EReal)) (h1 : ∀ (i c : Fin 128), x1 (ix2 i c) = ((fq i.val (128 + c.val) : ℝ) : EReal))
    (h2 : ∀ (i c : Fin 128), x2 (ix2 i c) = ((fq i.val (256 + c.val) : ℝ) : EReal)) (h3 : ∀ (i c : Fin 128), x3 (ix2 i c) = ((fq i.val (384 + c.val) : ℝ) : EReal))
    (r c : Fin 512) :
    k0_pay211 x (iota .tc S256x128 32 [1] iota_S256x128_d1_w32) x0 x1 x2 x3 b (ix2 r c)
      = ((∑ d ∈ range 64, fq (c.val % 128) (128 * (c.val / 128) + (64 * (r.val / 256) + d)) * fk (r.val % 256) (64 * (r.val / 256) + d) : ℝ) * (1 / 8 : ℝ) : ℝ)
        + b (ix3 0 r c) := by
  pointwise [k0_pay211]
  congr 1
  rw [sum_fin_coe _ (fun x => if x / 64 = r.val / 256 then fq (c.val % 128) (128 * (c.val / 128) + x) * fk (r.val % 256) x * (1 / 8) else 0),
    sum_half _ (by omega), Finset.sum_mul]
  intro i
  rw [stack_re x fk hx, qs_re x0 x1 x2 x3 fq h0 h1 h2 h3, ← EReal.coe_mul]
  congr 1
  split <;> ring

/-- A head's row sums of the output's product with its cotangent. -/
theorem delta0_re (x : FVec Ideal S128x1024 .f32) (f : ℕ → ℕ → ℝ) (hx : ∀ (i : Fin 128) (c : Fin 1024), x (ix2 i c) = ((f i.val c.val : ℝ) : EReal))
    (c : Fin 512) :
    k0_pay215 (k0_pay214 x) (ix2 0 c) = ((∑ d ∈ range 64, f (c.val % 128) (128 * (c.val / 128) + d) : ℝ) : EReal) := by
  pointwise [k0_pay215, k0_pay214, k0_pay213]
  refine sum_fin_coe _ _ fun d => ?_
  simp only [hx]
  split
  · congr 2 <;> omega
  · split
    · congr 2 <;> omega
    · split <;> congr 2 <;> omega

theorem delta1_re (x : FVec Ideal S128x1024 .f32) (f : ℕ → ℕ → ℝ) (hx : ∀ (i : Fin 128) (c : Fin 1024), x (ix2 i c) = ((f i.val c.val : ℝ) : EReal))
    (c : Fin 512) :
    k0_pay216 (k0_pay213 x) (ix2 0 c) = ((∑ d ∈ range 64, f (c.val % 128) (128 * (c.val / 128) + (64 + d)) : ℝ) : EReal) := by
  pointwise [k0_pay216, k0_pay213]
  refine sum_fin_coe _ _ fun d => ?_
  simp only [hx]
  split
  · congr 2 <;> omega
  · split
    · congr 2 <;> omega
    · split <;> congr 2 <;> omega

theorem delta0_re' (x : FVec Ideal S128x1024 .f32) (f : ℕ → ℕ → ℝ) (hx : ∀ (i : Fin 128) (c : Fin 1024), x (ix2 i c) = ((f i.val c.val : ℝ) : EReal))
    (c : Fin 512) :
    k0_pay249 x (ix2 0 c) = ((∑ d ∈ range 64, f (c.val % 128) (512 + 128 * (c.val / 128) + d) : ℝ) : EReal) := by
  pointwise [k0_pay249, k0_pay248]
  refine sum_fin_coe _ _ fun d => ?_
  simp only [hx]
  split
  · congr 2 <;> omega
  · split
    · congr 2 <;> omega
    · split <;> congr 2 <;> omega

theorem delta1_re' (x : FVec Ideal S128x1024 .f32) (f : ℕ → ℕ → ℝ) (hx : ∀ (i : Fin 128) (c : Fin 1024), x (ix2 i c) = ((f i.val c.val : ℝ) : EReal))
    (c : Fin 512) :
    k0_pay250 x (ix2 0 c) = ((∑ d ∈ range 64, f (c.val % 128) (512 + 128 * (c.val / 128) + (64 + d)) : ℝ) : EReal) := by
  pointwise [k0_pay250, k0_pay248]
  refine sum_fin_coe _ _ fun d => ?_
  simp only [hx]
  split
  · congr 2 <;> omega
  · split
    · congr 2 <;> omega
    · split <;> congr 2 <;> omega

/-- The lane's block of 128, as the body computes it. -/
theorem quad (c : Fin 512) : k0_pay217 (ix2 0 c) = BitVec.ofNat 32 (c.val / 128) := by
  pointwise [k0_pay217]
  revert c
  decide +kernel

theorem quad' : k0_pay251 = k0_pay217 := rfl

/-- The sinks of four heads, each over its 128 lanes. -/
theorem sink1_re (x0 x1 x2 x3 : Vec Ideal S1x1 .f32) (f : ℕ → ℝ) (h0 : x0 (ix2 0 0) = ((f 0 : ℝ) : EReal)) (h1 : x1 (ix2 0 0) = ((f 1 : ℝ) : EReal))
    (h2 : x2 (ix2 0 0) = ((f 2 : ℝ) : EReal)) (h3 : x3 (ix2 0 0) = ((f 3 : ℝ) : EReal)) (c : Fin 512) :
    k0_pay221 k0_pay217 x0 x1 x2 x3 (ix2 0 c) = ((f (c.val / 128) : ℝ) : EReal) := by
  pointwise [k0_pay221]
  rw [quad, h0, h1, h2, h3]
  have : c.val / 128 < 4 := by omega
  generalize c.val / 128 = a at *
  interval_cases a <;> simp [Scalar.select, IntOp.cmpi]

theorem dgo_re (g u o : Vec Ideal S128x1024 .f32) (fg fu fo : ℕ → ℕ → ℝ)
    (hg : ∀ (i : Fin 128) (c : Fin 1024), g (ix2 i c) = ((fg i.val c.val : ℝ) : EReal))
    (hu : ∀ (i : Fin 128) (c : Fin 1024), u (ix2 i c) = ((fu i.val c.val : ℝ) : EReal))
    (ho : ∀ (i : Fin 128) (c : Fin 1024), o (ix2 i c) = ((fo i.val c.val : ℝ) : EReal)) (i : Fin 128) (c : Fin 1024) :
    k0_pay201 g u o (ix2 i c) = ((fu i.val c.val * fo i.val c.val * (Inp.sg (fg i.val c.val) * (1 + fg i.val c.val * (1 - Inp.sg (fg i.val c.val)))) : ℝ) : EReal) := by
  pointwise [k0_pay201, k0_pay198, k0_pay199]
  rw [hg, hu, ho, show Ideal.logistic ((fg i.val c.val : ℝ) : EReal) = ((Inp.sg (fg i.val c.val) : ℝ) : EReal) from Ideal.logistic_coe _]
  norm_cast

theorem doo_re (g u o : Vec Ideal S128x1024 .f32) (fg fu fo : ℕ → ℕ → ℝ)
    (hg : ∀ (i : Fin 128) (c : Fin 1024), g (ix2 i c) = ((fg i.val c.val : ℝ) : EReal))
    (hu : ∀ (i : Fin 128) (c : Fin 1024), u (ix2 i c) = ((fu i.val c.val : ℝ) : EReal))
    (ho : ∀ (i : Fin 128) (c : Fin 1024), o (ix2 i c) = ((fo i.val c.val : ℝ) : EReal)) (i : Fin 128) (c : Fin 1024) :
    k0_pay204 g u o (ix2 i c) = ((fu i.val c.val * (fg i.val c.val * Inp.sg (fg i.val c.val)) * fo i.val c.val : ℝ) : EReal) := by
  pointwise [k0_pay204, k0_pay200, k0_pay198, k0_pay199]
  rw [hg, hu, ho, show Ideal.logistic ((fg i.val c.val : ℝ) : EReal) = ((Inp.sg (fg i.val c.val) : ℝ) : EReal) from Ideal.logistic_coe _]
  norm_cast

theorem do_re (g u : Vec Ideal S128x1024 .f32) (fg fu : ℕ → ℕ → ℝ)
    (hg : ∀ (i : Fin 128) (c : Fin 1024), g (ix2 i c) = ((fg i.val c.val : ℝ) : EReal))
    (hu : ∀ (i : Fin 128) (c : Fin 1024), u (ix2 i c) = ((fu i.val c.val : ℝ) : EReal)) (i : Fin 128) (c : Fin 1024) :
    k0_pay205 g u (ix2 i c) = ((fu i.val c.val * (fg i.val c.val * Inp.sg (fg i.val c.val)) : ℝ) : EReal) := by
  pointwise [k0_pay205, k0_pay200, k0_pay198, k0_pay199]
  rw [hg, hu, show Ideal.logistic ((fg i.val c.val : ℝ) : EReal) = ((Inp.sg (fg i.val c.val) : ℝ) : EReal) from Ideal.logistic_coe _]
  norm_cast

/-- The cotangent of the logits, the lower heads. -/
theorem ds_re (l : FVec Ideal S8x512 .f32) (sc : FVec Ideal S512x512 .f32) (d0 d1 : FVec Ideal S1x512 .f32) (dp : FVec Ideal S512x512 .f32)
    (p fdp fd : ℕ → ℕ → ℝ)
    (hp0 : ∀ r c : Fin 512, r.val < 256 → Ideal.exp (sc (ix2 r c) - l (ix2 0 c)) = ((p r.val c.val : ℝ) : EReal))
    (hp1 : ∀ r c : Fin 512, 256 ≤ r.val → Ideal.exp (sc (ix2 r c) - l (ix2 1 c)) = ((p r.val c.val : ℝ) : EReal))
    (hd0 : ∀ c : Fin 512, d0 (ix2 0 c) = ((fd 0 c.val : ℝ) : EReal)) (hd1 : ∀ c : Fin 512, d1 (ix2 0 c) = ((fd 1 c.val : ℝ) : EReal))
    (hdp : ∀ (r c : Fin 512), dp (ix2 r c) = ((fdp r.val c.val : ℝ) : EReal)) (r c : Fin 512) :
    k0_pay231 l sc d0 d1 dp (k0_pay224 l sc) (ix2 r c) = ((p r.val c.val * (fdp r.val c.val - fd (r.val / 256) c.val) : ℝ) : EReal) := by
  pointwise [k0_pay231, k0_pay224, k0_pay223, k0_pay228, k0_pay227]
  split
  · rename_i h
    rw [hp0 r c h, hdp, hd0, show r.val / 256 = 0 by omega]; norm_cast
  · rename_i h
    have e : (⟨256 + (r.val - 256), by omega⟩ : Fin 512) = r := Fin.ext (by simp; omega)
    rw [e, hp1 r c (by omega), hdp, hd1, show r.val / 256 = 1 by omega]; norm_cast

/-- The product with the cotangent's columns: the probabilities' cotangent. -/
theorem dp_re (vc dos : FVec Ideal S512x128 .bf16) (fv fo : ℕ → ℕ → ℝ)
    (hv : ∀ (r : Fin 512) (x : Fin 128), vc (ix2 r x) = ((if x.val / 64 = r.val / 256 then fv (r.val % 256) x.val else 0 : ℝ) : EReal))
    (ho : ∀ (r : Fin 512) (x : Fin 128), dos (ix2 r x) = ((fo r.val x.val : ℝ) : EReal)) (r c : Fin 512) :
    k0_pay222 vc dos (ix2 r c) = ((∑ d ∈ range 64, fv (r.val % 256) (64 * (r.val / 256) + d) * fo c.val (64 * (r.val / 256) + d) : ℝ) : EReal) := by
  pointwise [k0_pay222]
  rw [sum_fin_coe _ (fun x => if x / 64 = r.val / 256 then fv (r.val % 256) x * fo c.val x else 0), sum_half _ (by omega)]
  intro x
  rw [hv, ho, ← EReal.coe_mul]
  congr 1
  split <;> ring

/-- The upper heads' cotangent of the logits is the lower heads' text with two other rows of the log weights. -/
theorem ds_re' (l : FVec Ideal S8x512 .f32) (vc : FVec Ideal S512x128 .bf16) (sc : FVec Ideal S512x512 .f32) (dos : FVec Ideal S512x128 .bf16)
    (d0 d1 : FVec Ideal S1x512 .f32) (p fdp fd : ℕ → ℕ → ℝ)
    (hp0 : ∀ r c : Fin 512, r.val < 256 → Ideal.exp (sc (ix2 r c) - l (ix2 2 c)) = ((p r.val c.val : ℝ) : EReal))
    (hp1 : ∀ r c : Fin 512, 256 ≤ r.val → Ideal.exp (sc (ix2 r c) - l (ix2 3 c)) = ((p r.val c.val : ℝ) : EReal))
    (hd0 : ∀ c : Fin 512, d0 (ix2 0 c) = ((fd 0 c.val : ℝ) : EReal)) (hd1 : ∀ c : Fin 512, d1 (ix2 0 c) = ((fd 1 c.val : ℝ) : EReal))
    (hdp : ∀ (r c : Fin 512), k0_pay222 vc dos (ix2 r c) = ((fdp r.val c.val : ℝ) : EReal)) (r c : Fin 512) :
    k0_pay266 l vc sc dos d0 d1 (ix2 r c) = ((p r.val c.val * (fdp r.val c.val - fd (r.val / 256) c.val) : ℝ) : EReal) := by
  have hdp' := hdp r c
  pointwise [k0_pay222] at hdp'
  pointwise [k0_pay266, k0_pay258, k0_pay259, k0_pay262, k0_pay263]
  split
  · rename_i h
    rw [hp0 r c h, hdp', hd0, show r.val / 256 = 0 by omega]; norm_cast
  · rename_i h
    have e : (⟨256 + (r.val - 256), by omega⟩ : Fin 512) = r := Fin.ext (by simp; omega)
    simp only [e]
    rw [hp1 r c (by omega), hdp', hd1, show r.val / 256 = 1 by omega]; norm_cast

/-- A sum over the stack's 512 rows of which one half counts. -/
theorem sum_half256 (e : ℕ) (he : e < 2) (f : ℕ → ℕ → ℝ) :
    ∑ r ∈ range 512, (if e = r / 256 then f r (r % 256) else 0) = ∑ j ∈ range 256, f (256 * e + j) j := by
  rw [show (512 : ℕ) = 256 + 256 from rfl, Finset.sum_range_add]
  obtain rfl | rfl : e = 0 ∨ e = 1 := by omega
  · rw [Finset.sum_eq_zero (s := range 256) (f := fun x => if 0 = (256 + x) / 256 then f (256 + x) ((256 + x) % 256) else 0), add_zero]
    · refine Finset.sum_congr rfl fun x hx => ?_
      have := Finset.mem_range.1 hx; rw [if_pos (by omega), Nat.mod_eq_of_lt this]; simp
    · intro x hx; rw [if_neg]; omega
  · rw [Finset.sum_eq_zero, zero_add]
    · refine Finset.sum_congr rfl fun x hx => ?_
      have := Finset.mem_range.1 hx; rw [if_pos (by omega), show (256 + x) % 256 = x by omega]
    · intro x hx; have := Finset.mem_range.1 hx; rw [if_neg]; omega

/-- The queries' gradient of a block, the four column blocks stacked. -/
theorem dq_re (l : FVec Ideal S8x512 .f32) (kc : FVec Ideal S512x128 .bf16) (sc : FVec Ideal S512x512 .f32) (d0 d1 : FVec Ideal S1x512 .f32)
    (dp : FVec Ideal S512x512 .f32) (p : FVec Ideal S256x512 .f32) (fk fds : ℕ → ℕ → ℝ)
    (hk : ∀ (r : Fin 512) (x : Fin 128), kc (ix2 r x) = ((if x.val / 64 = r.val / 256 then fk (r.val % 256) x.val else 0 : ℝ) : EReal))
    (hds : ∀ r c : Fin 512, k0_pay231 l sc d0 d1 dp p (ix2 r c) = ((fds r.val c.val : ℝ) : EReal)) (c : Fin 512) (x : Fin 128) :
    k0_pay234 l kc sc d0 d1 dp p (ix2 c x)
      = (((∑ j ∈ range 256, fds (256 * (x.val / 64) + j) c.val * fk j x.val) * (1 / 8) : ℝ) : EReal) := by
  pointwise [k0_pay234, k0_pay233]
  rw [ofBits_eighth32, sum_fin_coe _ (fun r => if x.val / 64 = r / 256 then fds r c.val * fk (r % 256) x.val else 0),
    sum_half256 _ (by omega) (fun r j => fds r c.val * fk j x.val)]
  · norm_cast
  · intro r
    rw [hk, hds, ← EReal.coe_mul]
    congr 1
    split <;> ring

theorem dq_re' (l : FVec Ideal S8x512 .f32) (kc vc : FVec Ideal S512x128 .bf16) (sc : FVec Ideal S512x512 .f32) (dos : FVec Ideal S512x128 .bf16)
    (d0 d1 : FVec Ideal S1x512 .f32) (fk fds : ℕ → ℕ → ℝ)
    (hk : ∀ (r : Fin 512) (x : Fin 128), kc (ix2 r x) = ((if x.val / 64 = r.val / 256 then fk (r.val % 256) x.val else 0 : ℝ) : EReal))
    (hds : ∀ r c : Fin 512, k0_pay266 l vc sc dos d0 d1 (ix2 r c) = ((fds r.val c.val : ℝ) : EReal)) (c : Fin 512) (x : Fin 128) :
    k0_pay269 l kc vc sc dos d0 d1 (ix2 c x)
      = (((∑ j ∈ range 256, fds (256 * (x.val / 64) + j) c.val * fk j x.val) * (1 / 8) : ℝ) : EReal) := by
  pointwise [k0_pay269, k0_pay268]
  rw [ofBits_eighth32, sum_fin_coe _ (fun r => if x.val / 64 = r / 256 then fds r c.val * fk (r % 256) x.val else 0),
    sum_half256 _ (by omega) (fun r j => fds r c.val * fk j x.val)]
  · norm_cast
  · intro r
    rw [hk, hds, ← EReal.coe_mul]
    congr 1
    split <;> ring

/-- What a step adds to the keys' gradient. -/
theorem dk_re (qs : FVec Ideal S512x128 .bf16) (ds : FVec Ideal S512x512 .bf16) (old : Vec Ideal S256x128 .f32) (fq fds : ℕ → ℕ → ℝ)
    (hq : ∀ (r : Fin 512) (x : Fin 128), qs (ix2 r x) = ((fq r.val x.val : ℝ) : EReal))
    (hds : ∀ r c : Fin 512, ds (ix2 r c) = ((fds r.val c.val : ℝ) : EReal)) (j : Fin 256) (x : Fin 128) :
    k0_pay241 qs ds old (ix2 j x) = old (ix2 j x) + ((∑ c ∈ range 512, fds (256 * (x.val / 64) + j.val) c * fq c x.val : ℝ) : EReal) := by
  pointwise [k0_pay241]
  congr 1
  rw [sel_lt x.val 64 (by omega) (by omega)]
  split
  · rw [show x.val / 64 = 0 by omega]
    refine sum_fin_coe _ _ fun c => ?_
    rw [hds, hq, ← EReal.coe_mul]; simp
  · rw [show x.val / 64 = 1 by omega]
    refine sum_fin_coe _ _ fun c => ?_
    rw [hds, hq, ← EReal.coe_mul]

theorem dk_re' (qs : FVec Ideal S512x128 .bf16) (ds : FVec Ideal S512x512 .bf16) (old : Vec Ideal S256x128 .f32) (fq fds : ℕ → ℕ → ℝ)
    (hq : ∀ (r : Fin 512) (x : Fin 128), qs (ix2 r x) = ((fq r.val x.val : ℝ) : EReal))
    (hds : ∀ r c : Fin 512, ds (ix2 r c) = ((fds r.val c.val : ℝ) : EReal)) (j : Fin 256) (x : Fin 128) :
    k0_pay3 (k0_pay276 qs ds old) (ix2 j x) = old (ix2 j x) + ((∑ c ∈ range 512, fds (256 * (x.val / 64) + j.val) c * fq c x.val : ℝ) : EReal) := by
  pointwise [k0_pay3, k0_pay276]
  congr 1
  rw [sel_lt x.val 64 (by omega) (by omega)]
  split
  · rw [show x.val / 64 = 0 by omega]
    refine sum_fin_coe _ _ fun c => ?_
    rw [hds, hq, ← EReal.coe_mul]; simp
  · rw [show x.val / 64 = 1 by omega]
    refine sum_fin_coe _ _ fun c => ?_
    rw [hds, hq, ← EReal.coe_mul]

/-- What a step adds to the values' gradient. -/
theorem dv_re (dos : FVec Ideal S512x128 .bf16) (p0 p1 : FVec Ideal S256x512 .bf16) (old : Vec Ideal S256x128 .f32) (fo p : ℕ → ℕ → ℝ)
    (hq : ∀ (r : Fin 512) (x : Fin 128), dos (ix2 r x) = ((fo r.val x.val : ℝ) : EReal))
    (hp0 : ∀ (j : Fin 256) (c : Fin 512), p0 (ix2 j c) = ((p j.val c.val : ℝ) : EReal))
    (hp1 : ∀ (j : Fin 256) (c : Fin 512), p1 (ix2 j c) = ((p (256 + j.val) c.val : ℝ) : EReal)) (j : Fin 256) (x : Fin 128) :
    k0_pay242 (k0_pay240 dos p0 p1) old (ix2 j x) = old (ix2 j x) + ((∑ c ∈ range 512, p (256 * (x.val / 64) + j.val) c * fo c x.val : ℝ) : EReal) := by
  pointwise [k0_pay242, k0_pay240]
  congr 1
  rw [sel_lt x.val 64 (by omega) (by omega)]
  split
  · rw [show x.val / 64 = 0 by omega]
    refine sum_fin_coe _ _ fun c => ?_
    rw [hp0, hq, ← EReal.coe_mul]; simp
  · rw [show x.val / 64 = 1 by omega]
    refine sum_fin_coe _ _ fun c => ?_
    rw [hp1, hq, ← EReal.coe_mul]

/-- The probabilities as the values' gradient takes them. -/
theorem pb_re (l : FVec Ideal S8x512 .f32) (sc : FVec Ideal S512x512 .f32) (p : ℕ → ℕ → ℝ)
    (hp0 : ∀ r c : Fin 512, r.val < 256 → Ideal.exp (sc (ix2 r c) - l (ix2 0 c)) = ((p r.val c.val : ℝ) : EReal))
    (hp1 : ∀ r c : Fin 512, 256 ≤ r.val → Ideal.exp (sc (ix2 r c) - l (ix2 1 c)) = ((p r.val c.val : ℝ) : EReal)) (j : Fin 256) (c : Fin 512) :
    k0_pay225 (k0_pay224 l sc) (ix2 j c) = ((p j.val c.val : ℝ) : EReal) ∧ k0_pay229 l sc (ix2 j c) = ((p (256 + j.val) c.val : ℝ) : EReal) := by
  constructor
  · pointwise [k0_pay225, k0_pay224, k0_pay223]
    exact hp0 _ _ (by show j.val < 256; omega)
  · pointwise [k0_pay229, k0_pay228, k0_pay227]
    exact hp1 _ _ (by show 256 ≤ 256 + j.val; omega)

theorem pb_re' (l : FVec Ideal S8x512 .f32) (sc : FVec Ideal S512x512 .f32) (p : ℕ → ℕ → ℝ)
    (hp0 : ∀ r c : Fin 512, r.val < 256 → Ideal.exp (sc (ix2 r c) - l (ix2 2 c)) = ((p r.val c.val : ℝ) : EReal))
    (hp1 : ∀ r c : Fin 512, 256 ≤ r.val → Ideal.exp (sc (ix2 r c) - l (ix2 3 c)) = ((p r.val c.val : ℝ) : EReal)) (j : Fin 256) (c : Fin 512) :
    k0_pay260 l sc (ix2 j c) = ((p j.val c.val : ℝ) : EReal) ∧ k0_pay264 l sc (ix2 j c) = ((p (256 + j.val) c.val : ℝ) : EReal) := by
  constructor
  · pointwise [k0_pay260, k0_pay259, k0_pay258]
    exact hp0 _ _ (by show j.val < 256; omega)
  · pointwise [k0_pay264, k0_pay263, k0_pay262]
    exact hp1 _ _ (by show 256 ≤ 256 + j.val; omega)

/-- What a step adds to the bias tiles' gradient. -/
theorem dbias_re (l : FVec Ideal S8x512 .f32) (sc : FVec Ideal S512x512 .f32) (d0 d1 : FVec Ideal S1x512 .f32) (dp : FVec Ideal S512x512 .f32)
    (p : FVec Ideal S256x512 .f32) (old : Vec Ideal S1x512x512 .f32) (r c : Fin 512) :
    k0_pay232 l sc d0 d1 dp p old (ix3 0 r c) = old (ix3 0 r c) + k0_pay231 l sc d0 d1 dp p (ix2 r c) := by
  pointwise [k0_pay232]

theorem dbias_re' (l : FVec Ideal S8x512 .f32) (vc : FVec Ideal S512x128 .bf16) (sc : FVec Ideal S512x512 .f32) (dos : FVec Ideal S512x128 .bf16)
    (d0 d1 : FVec Ideal S1x512 .f32) (old : Vec Ideal S1x512x512 .f32) (r c : Fin 512) :
    k0_pay267 l vc sc dos d0 d1 old (ix3 0 r c) = old (ix3 0 r c) + k0_pay266 l vc sc dos d0 d1 (ix2 r c) := by
  pointwise [k0_pay267]

/-- A head's part of the sinks' gradient. -/
theorem sinkrow_re (d s : FVec Ideal S1x512 .f32) (l : FVec Ideal S1x512 .f32) (fd fs fl : ℕ → ℝ)
    (hd : ∀ c : Fin 512, d (ix2 0 c) = ((fd c.val : ℝ) : EReal)) (hs : ∀ c : Fin 512, s (ix2 0 c) = ((fs c.val : ℝ) : EReal))
    (hl : ∀ c : Fin 512, l (ix2 0 c) = ((fl c.val : ℝ) : EReal)) (c : Fin 512) :
    k0_pay226 d s l (ix2 0 c) = ((-(Real.exp (fs c.val - fl c.val)) * fd c.val : ℝ) : EReal) := by
  pointwise [k0_pay226]
  rw [hd, hs, hl, ← EReal.coe_sub, Ideal.exp_coe, zero_sub]
  norm_cast

/-- The four heads' rows added to the sinks' gradient. -/
theorem dsink_re (a b c d : FVec Ideal S1x512 .f32) (old : Vec Ideal S8x512 .f32) (f : ℕ → ℕ → ℝ)
    (ha : ∀ x : Fin 512, a (ix2 0 x) = ((f 0 x.val : ℝ) : EReal)) (hb : ∀ x : Fin 512, b (ix2 0 x) = ((f 1 x.val : ℝ) : EReal))
    (hc : ∀ x : Fin 512, c (ix2 0 x) = ((f 2 x.val : ℝ) : EReal)) (hd : ∀ x : Fin 512, d (ix2 0 x) = ((f 3 x.val : ℝ) : EReal)) (e : Fin 8) (x : Fin 512) :
    k0_pay5 a b c d old (ix2 e x) = old (ix2 e x) + ((if e.val < 4 then f e.val x.val else 0 : ℝ) : EReal) := by
  pointwise [k0_pay5]
  congr 1
  fin_vals e with he
  all_goals simp only [he, Nat.reduceSub, Nat.reduceLT, ↓reduceDIte, ↓reduceIte]
  all_goals first | exact ha x | exact hb x | exact hc x | exact hd x | simp

end Cert.KernelIdeal.Attn
-- ==== Proof.Block.lean ====
module

public import proofs.«01_k».proof.Proof.Reals

/-! # One block of queries against its window of keys
The gradient's sums cut as the grid cuts them: 128 query rows against the 256 key rows that end with them, four pairs of heads side by side and the two
heads of a pair one above the other. -/

@[expose] public section

noncomputable section

namespace Cert.Attn.Inp

open Finset (range)

variable (I : Inp)

/-- A row of the keys behind 1024 rows of zeros. -/
def kp (gi ρ x : ℕ) : ℝ := if ρ < 1024 then 0 else I.k (ρ - 1024) (64 * gi + x % 64)

/-- A row of the values behind 1024 rows of zeros. -/
def vp (gi ρ x : ℕ) : ℝ := if ρ < 1024 then 0 else I.v (ρ - 1024) (64 * gi + x % 64)

/-- The head at a stacked row and a stacked column. -/
def hd (gi r c : ℕ) : ℕ := 8 * gi + 2 * (c / 128) + r / 256

/-- The probability at a stacked row (key) and a stacked column (query). -/
def pB (b gi r c : ℕ) : ℝ := if 128 ≤ 128 * b + r % 256 then I.P (hd gi r c) (128 * b + c % 128) (128 * b + r % 256 - 128) else 0

/-- The output's cotangent at a stacked query and a lane of the pair. -/
def oB (b gi c x : ℕ) : ℝ := I.dO (128 * b + c % 128) (512 * gi + 128 * (c / 128) + x)

/-- The scaled query at a stacked query and a lane of the pair. -/
def qB (b gi c x : ℕ) : ℝ := I.q (128 * b + c % 128) (512 * gi + 128 * (c / 128) + x) * (1 / 8)

/-- The probability's cotangent. -/
def dpB (b gi r c : ℕ) : ℝ := ∑ d ∈ range 64, I.vp gi (128 * b + 896 + r % 256) (64 * (r / 256) + d) * I.oB b gi c (64 * (r / 256) + d)

/-- The row's mean, by the half of the pair. -/
def dlB (b gi e c : ℕ) : ℝ := I.Dl (8 * gi + 2 * (c / 128) + e) (128 * b + c % 128)

/-- The logit's cotangent. -/
def dsB (b gi r c : ℕ) : ℝ := I.pB b gi r c * (I.dpB b gi r c - I.dlB b gi (r / 256) c)

/-- The logit's cotangent is the whole attention's at the block's rows. -/
theorem dsB_eq (b gi r c : ℕ) (hg : gi < 2) (hr : r < 512) (hc : c < 512) :
    I.dsB b gi r c = if 128 ≤ 128 * b + r % 256 then I.DS (hd gi r c) (128 * b + c % 128) (128 * b + r % 256 - 128) else 0 := by
  unfold dsB pB
  split
  · rename_i h
    unfold DS dlB
    congr 2
    unfold dpB dP
    refine Finset.sum_congr rfl fun d hd' => ?_
    have hd'' := Finset.mem_range.1 hd'
    unfold vp oB
    rw [if_neg (by omega)]
    congr 2 <;> (try unfold hd) <;> omega
  · rw [zero_mul]

/-- A sum over all keys of what vanishes outside the band is the sum over the block's window. -/
theorem sum_window (b i : ℕ) (hb : b < 32) (hi : i < 128) (f : ℕ → ℝ) (hf : ∀ κ, ¬ band (128 * b + i) κ → f κ = 0) :
    ∑ κ ∈ range 4096, f κ = ∑ j ∈ range 256, if 128 ≤ 128 * b + j then f (128 * b + j - 128) else 0 := by
  rw [← Finset.sum_filter]
  symm
  refine Finset.sum_bij_ne_zero (fun j _ _ => 128 * b + j - 128) ?_ ?_ ?_ ?_
  · intro j hj _
    simp only [Finset.mem_filter, Finset.mem_range] at hj ⊢
    omega
  · intro j hj _ j' hj' _ h
    simp only [Finset.mem_filter, Finset.mem_range] at hj hj'
    omega
  · intro κ hκ hne
    have hband : band (128 * b + i) κ := by
      by_contra h; exact hne (hf κ h)
    have hκ' := Finset.mem_range.1 hκ
    have h1 := hband.1
    have h2 := hband.2
    refine ⟨κ + 128 - 128 * b, ?_, ?_, ?_⟩
    · simp only [Finset.mem_filter, Finset.mem_range]; omega
    · rw [show 128 * b + (κ + 128 - 128 * b) - 128 = κ by omega]; exact hne
    · omega
  · intros; rfl

/-- A sum over all queries of what vanishes outside the band, block by block, at one key. -/
theorem sum_blocks (κ : ℕ) (hκ : κ < 4096) (f : ℕ → ℝ) (hf : ∀ n, ¬ band n κ → f n = 0) :
    ∑ n ∈ range 4096, f n
      = ∑ b ∈ range 32, if 128 * b + 896 ≤ 1024 + κ ∧ 1024 + κ < 128 * b + 1152 then ∑ i ∈ range 128, f (128 * b + i) else 0 := by
  have h : ∑ n ∈ range 4096, f n = ∑ b ∈ range 32, ∑ i ∈ range 128, f (128 * b + i) := by
    rw [show 4096 = 32 * 128 from rfl, ← Finset.sum_product']
    refine Finset.sum_bij' (fun n _ => (n / 128, n % 128)) (fun p _ => 128 * p.1 + p.2) ?_ ?_ ?_ ?_ ?_
    · intro n hn; simp only [Finset.mem_product, Finset.mem_range] at hn ⊢; omega
    · intro p hp; simp only [Finset.mem_product, Finset.mem_range] at hp ⊢; omega
    · intro n hn; simp only; omega
    · intro p hp; simp only [Finset.mem_product, Finset.mem_range] at hp; ext <;> simp only <;> omega
    · intro n hn; simp only; congr 1; omega
  rw [h]
  refine Finset.sum_congr rfl fun b hb => ?_
  split
  · rfl
  · rename_i hn
    refine Finset.sum_eq_zero fun i hi => hf _ fun hband => hn ?_
    have hi' := Finset.mem_range.1 hi
    have h1 := hband.1
    have h2 := hband.2
    omega

/-- The queries' gradient of a block. -/
theorem DQ_block (b gi pr i x : ℕ) (hb : b < 32) (hg : gi < 2) (hp : pr < 4) (hi : i < 128) (hx : x < 128) :
    (∑ j ∈ range 256, I.dsB b gi (256 * (x / 64) + j) (128 * pr + i) * I.kp gi (128 * b + 896 + j) x) * (1 / 8)
      = I.DQ (128 * b + i) (512 * gi + 128 * pr + x) := by
  unfold DQ
  rw [sum_window b i hb hi (fun κ => I.DS ((512 * gi + 128 * pr + x) / 64) (128 * b + i) κ * I.k κ (64 * ((512 * gi + 128 * pr + x) / 512) + (512 * gi + 128 * pr + x) % 64))
    fun κ hκ => by rw [I.DS_of_not_band hκ, zero_mul]]
  congr 1
  refine Finset.sum_congr rfl fun j hj => ?_
  have hj' := Finset.mem_range.1 hj
  rw [I.dsB_eq b gi _ _ hg (by omega) (by omega), show (256 * (x / 64) + j) % 256 = j by omega, show (128 * pr + i) % 128 = i by omega]
  split
  · unfold kp
    rw [if_neg (by omega)]
    congr 2 <;> (try unfold hd) <;> omega
  · rw [zero_mul]

/-- What a block adds to a place of the keys' running gradient. -/
def dkB (b gi j x : ℕ) : ℝ := ∑ c ∈ range 512, I.dsB b gi (256 * (x / 64) + j) c * I.qB b gi c x

/-- What a block adds to a place of the values' running gradient. -/
def dvB (b gi j x : ℕ) : ℝ := ∑ c ∈ range 512, I.pB b gi (256 * (x / 64) + j) c * I.oB b gi c x

/-- A sum over four heads' stacked queries. -/
theorem sum_512 (f : ℕ → ℝ) : ∑ c ∈ range 512, f c = ∑ pr ∈ range 4, ∑ i ∈ range 128, f (128 * pr + i) := by
  rw [← Finset.sum_product']
  refine Finset.sum_bij' (fun n _ => (n / 128, n % 128)) (fun p _ => 128 * p.1 + p.2) ?_ ?_ ?_ ?_ ?_
  · intro n hn; simp only [Finset.mem_product, Finset.mem_range] at hn ⊢; omega
  · intro p hp; simp only [Finset.mem_product, Finset.mem_range] at hp ⊢; omega
  · intro n hn; simp only; omega
  · intro p hp; simp only [Finset.mem_product, Finset.mem_range] at hp; ext <;> simp only <;> omega
  · intro n hn; simp only; congr 1; omega

/-- Eight heads, four pairs of two. -/
theorem sum_8 (f : ℕ → ℝ) : ∑ h ∈ range 8, f h = (∑ pr ∈ range 4, f (2 * pr)) + ∑ pr ∈ range 4, f (2 * pr + 1) := by
  simp only [Finset.sum_range_succ, Finset.sum_range_zero]
  ring

theorem DK_blocks (κ gi d : ℕ) (hκ : κ < 4096) (hg : gi < 2) (hd' : d < 64) :
    (∑ b ∈ range 32, if 128 * b + 896 ≤ 1024 + κ ∧ 1024 + κ < 128 * b + 1152 then I.dkB b gi (1024 + κ - (128 * b + 896)) d else 0)
      + (∑ b ∈ range 32, if 128 * b + 896 ≤ 1024 + κ ∧ 1024 + κ < 128 * b + 1152 then I.dkB b gi (1024 + κ - (128 * b + 896)) (64 + d) else 0)
      = I.DK κ (64 * gi + d) := by
  unfold DK
  rw [sum_8]
  have key : ∀ e, e < 2 → (∑ b ∈ range 32, if 128 * b + 896 ≤ 1024 + κ ∧ 1024 + κ < 128 * b + 1152 then I.dkB b gi (1024 + κ - (128 * b + 896)) (64 * e + d) else 0)
      = ∑ pr ∈ range 4, ∑ n ∈ range 4096, I.DS (8 * ((64 * gi + d) / 64) + (2 * pr + e)) n κ
          * (I.q n (64 * (8 * ((64 * gi + d) / 64) + (2 * pr + e)) + (64 * gi + d) % 64) * (1 / 8)) := by
    intro e he
    have h1 : ∀ pr ∈ range 4, (∑ n ∈ range 4096, I.DS (8 * ((64 * gi + d) / 64) + (2 * pr + e)) n κ
          * (I.q n (64 * (8 * ((64 * gi + d) / 64) + (2 * pr + e)) + (64 * gi + d) % 64) * (1 / 8)))
        = _ := fun pr _ => sum_blocks κ hκ (fun n => I.DS (8 * ((64 * gi + d) / 64) + (2 * pr + e)) n κ
          * (I.q n (64 * (8 * ((64 * gi + d) / 64) + (2 * pr + e)) + (64 * gi + d) % 64) * (1 / 8))) fun n hn => by rw [I.DS_of_not_band hn, zero_mul]
    rw [Finset.sum_congr rfl h1, Finset.sum_comm]
    refine Finset.sum_congr rfl fun b hb => ?_
    split
    · rename_i hw
      unfold dkB
      rw [sum_512]
      refine Finset.sum_congr rfl fun pr hpr => Finset.sum_congr rfl fun i hi => ?_
      have hpr' := Finset.mem_range.1 hpr
      have hi' := Finset.mem_range.1 hi
      rw [I.dsB_eq b gi _ _ hg (by omega) (by omega), if_pos (by omega)]
      unfold qB
      congr 1
      · congr 1 <;> (try unfold hd) <;> omega
      · congr 2 <;> omega
    · simp
  have k0 := key 0 (by omega)
  have k1 := key 1 (by omega)
  simp only [Nat.mul_zero, Nat.zero_add, Nat.mul_one, Nat.add_zero] at k0 k1
  rw [k0, k1]

theorem DV_blocks (κ gi d : ℕ) (hκ : κ < 4096) (hg : gi < 2) (hd' : d < 64) :
    (∑ b ∈ range 32, if 128 * b + 896 ≤ 1024 + κ ∧ 1024 + κ < 128 * b + 1152 then I.dvB b gi (1024 + κ - (128 * b + 896)) d else 0)
      + (∑ b ∈ range 32, if 128 * b + 896 ≤ 1024 + κ ∧ 1024 + κ < 128 * b + 1152 then I.dvB b gi (1024 + κ - (128 * b + 896)) (64 + d) else 0)
      = I.DV κ (64 * gi + d) := by
  unfold DV
  rw [sum_8]
  have key : ∀ e, e < 2 → (∑ b ∈ range 32, if 128 * b + 896 ≤ 1024 + κ ∧ 1024 + κ < 128 * b + 1152 then I.dvB b gi (1024 + κ - (128 * b + 896)) (64 * e + d) else 0)
      = ∑ pr ∈ range 4, ∑ n ∈ range 4096, I.P (8 * ((64 * gi + d) / 64) + (2 * pr + e)) n κ
          * I.dO n (64 * (8 * ((64 * gi + d) / 64) + (2 * pr + e)) + (64 * gi + d) % 64) := by
    intro e he
    have h1 : ∀ pr ∈ range 4, (∑ n ∈ range 4096, I.P (8 * ((64 * gi + d) / 64) + (2 * pr + e)) n κ
          * I.dO n (64 * (8 * ((64 * gi + d) / 64) + (2 * pr + e)) + (64 * gi + d) % 64))
        = _ := fun pr _ => sum_blocks κ hκ (fun n => I.P (8 * ((64 * gi + d) / 64) + (2 * pr + e)) n κ
          * I.dO n (64 * (8 * ((64 * gi + d) / 64) + (2 * pr + e)) + (64 * gi + d) % 64)) fun n hn => by rw [I.P_of_not_band hn, zero_mul]
    rw [Finset.sum_congr rfl h1, Finset.sum_comm]
    refine Finset.sum_congr rfl fun b hb => ?_
    split
    · rename_i hw
      unfold dvB
      rw [sum_512]
      refine Finset.sum_congr rfl fun pr hpr => Finset.sum_congr rfl fun i hi => ?_
      have hpr' := Finset.mem_range.1 hpr
      have hi' := Finset.mem_range.1 hi
      unfold pB oB
      rw [if_pos (by omega)]
      congr 1
      · congr 1 <;> (try unfold hd) <;> omega
      · congr 1 <;> omega
    · simp
  have k0 := key 0 (by omega)
  have k1 := key 1 (by omega)
  simp only [Nat.mul_zero, Nat.zero_add, Nat.mul_one, Nat.add_zero] at k0 k1
  rw [k0, k1]

/-- What a block adds to the sinks' running gradient. -/
def skB (b a c : ℕ) : ℝ := -(Real.exp (I.s (8 * (a / 2) + 2 * (c / 128) + a % 2)) / I.Z (8 * (a / 2) + 2 * (c / 128) + a % 2) (128 * b + c % 128)) * I.dlB b (a / 2) (a % 2) c

/-- The sinks' gradient, block by block. -/
theorem DSk_blocks (h : ℕ) (hh : h < 16) :
    ∑ i ∈ range 128, ∑ b ∈ range 32, I.skB b (2 * (h / 8) + h % 2) (128 * (h % 8 / 2) + i) = I.DSk h := by
  unfold DSk
  rw [Finset.sum_comm]
  have hs : ∀ f : ℕ → ℝ, ∑ n ∈ range 4096, f n = ∑ b ∈ range 32, ∑ i ∈ range 128, f (128 * b + i) := by
    intro f
    rw [show 4096 = 32 * 128 from rfl, ← Finset.sum_product']
    refine Finset.sum_bij' (fun n _ => (n / 128, n % 128)) (fun p _ => 128 * p.1 + p.2) ?_ ?_ ?_ ?_ ?_
    · intro n hn; simp only [Finset.mem_product, Finset.mem_range] at hn ⊢; omega
    · intro p hp; simp only [Finset.mem_product, Finset.mem_range] at hp ⊢; omega
    · intro n hn; simp only; omega
    · intro p hp; simp only [Finset.mem_product, Finset.mem_range] at hp; ext <;> simp only <;> omega
    · intro n hn; simp only; congr 1; omega
  rw [hs]
  refine Finset.sum_congr rfl fun b _ => Finset.sum_congr rfl fun i hi => ?_
  have hi' := Finset.mem_range.1 hi
  unfold skB dlB
  rw [show 8 * ((2 * (h / 8) + h % 2) / 2) + 2 * ((128 * (h % 8 / 2) + i) / 128) + (2 * (h / 8) + h % 2) % 2 = h by omega,
    show (128 * (h % 8 / 2) + i) % 128 = i by omega]

end Cert.Attn.Inp

end
-- ==== Proof.StepFacts.lean ====
module

public import proofs.«01_k».proof.Proof.Model
public import proofs.«01_k».proof.Proof.Step
public import proofs.«01_k».proof.Proof.Block
public import Idealize.ShloMosaic.Lib.WritesUnit

/-! # What one grid step stores, over the reals
Where a step's blocks hold the arrays' rows and its scores give the attention's probabilities, its stores hold the
block's part of the gradients. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

/-- The blocks a step reads hold rows of the arrays. -/
structure Fed (I : Inp) (b : ℕ) (X : Blk Ideal) (W : Vec Ideal S256x512 .bf16) : Prop where
  q : ∀ (i : Fin 128) (c : Fin 1024), X.q (ix2 i c) = ((I.q (128 * b + i.val) c.val : ℝ) : EReal)
  gate : ∀ (i : Fin 128) (c : Fin 1024), X.gate (ix2 i c) = ((I.g (128 * b + i.val) c.val : ℝ) : EReal)
  du : ∀ (i : Fin 128) (c : Fin 1024), X.du (ix2 i c) = ((I.u (128 * b + i.val) c.val : ℝ) : EReal)
  o : ∀ (i : Fin 128) (c : Fin 1024), X.o (ix2 i c) = ((I.O (c.val / 64) (128 * b + i.val) (c.val % 64) : ℝ) : EReal)
  sinks : ∀ (h : Fin 16), X.sinks (ix2 0 h) = ((I.s h.val : ℝ) : EReal)
  lse : ∀ (a : Fin 8) (c : Fin 512), a.val < 4 → X.lse (ix3 0 a c) = ((Real.log (I.Z (8 * (a.val / 2) + 2 * (c.val / 128) + a.val % 2) (128 * b + c.val % 128)) : ℝ) : EReal)
  keys : ∀ (gi j x : ℕ) (hg : gi < 2) (hj : j < 256) (hx : x < 128), W (ix2 ⟨j, hj⟩ ⟨128 * gi + x, by omega⟩) = ((I.kp gi (128 * b + 896 + j) x : ℝ) : EReal)
  vals : ∀ (gi j x : ℕ) (hg : gi < 2) (hj : j < 256) (hx : x < 128), W (ix2 ⟨j, hj⟩ ⟨256 + 128 * gi + x, by omega⟩) = ((I.vp gi (128 * b + 896 + j) x : ℝ) : EReal)

/-- The scores give the probabilities. -/
structure Scored (I : Inp) (b : ℕ) (X : Blk Ideal) (z0 z1 : FVec Ideal S512x512 .f32) : Prop where
  p0 : ∀ r c : Fin 512, Ideal.exp (z0 (ix2 r c) - X.lse (ix3 0 ⟨r.val / 256, by omega⟩ c)) = ((I.pB b 0 r.val c.val : ℝ) : EReal)
  p1 : ∀ r c : Fin 512, Ideal.exp (z1 (ix2 r c) - X.lse (ix3 0 ⟨2 + r.val / 256, by omega⟩ c)) = ((I.pB b 1 r.val c.val : ℝ) : EReal)

namespace Fed

variable {I : Inp} {b : ℕ} {X : Blk Ideal} {W : Vec Ideal S256x512 .bf16} {z0 z1 : FVec Ideal S512x512 .f32}

theorem L_at (X : Blk Ideal) (a : Fin 8) (c : Fin 512) : X.L (ix2 a c) = X.lse (ix3 0 a c) := by
  pointwise [Blk.L, k0_pay206, View.ld]

theorem all_at (x : Vec Ideal S128x1024 .f32) (i : Fin 128) (c : Fin 1024) : Blk.all x (ix2 i c) = x (ix2 i c) := by
  pointwise [Blk.all, View.ld]

theorem qc_at (X : Blk Ideal) (n : ℕ) (h) (i c : Fin 128) : X.qc n h (ix2 i c) = X.q (ix2 i ⟨n + c.val, by have := h 1; simp at this; omega⟩) := by
  unfold Blk.qc View.ld
  congr 1
  funext a
  fin_cases a <;> apply Fin.ext <;> (simp [LoadRect.idx, Rect.unit, ix2] <;> rfl)

theorem sk_at (X : Blk Ideal) (n : ℕ) (h) : X.sk n h (ix2 0 0) = X.sinks (ix2 0 ⟨n, by have := h 1; simp at this; omega⟩) := by
  unfold Blk.sk View.ld
  congr 1
  funext a
  fin_cases a <;> apply Fin.ext <;> (simp [LoadRect.idx, Rect.unit, ix2] <;> rfl)

theorem pay272_at (y : FVec Ideal S512x128 .bf16) (i x : Fin 128) : k0_pay272 y (ix3 0 i x) = y (ix2 ⟨128 + i.val, by omega⟩ x) := by
  pointwise [k0_pay272]

theorem pay273_at (y : FVec Ideal S512x128 .bf16) (i x : Fin 128) : k0_pay273 y (ix3 0 i x) = y (ix2 ⟨256 + i.val, by omega⟩ x) := by
  pointwise [k0_pay273]

theorem pay274_at (y : FVec Ideal S512x128 .bf16) (i x : Fin 128) : k0_pay274 y (ix3 0 i x) = y (ix2 ⟨384 + i.val, by omega⟩ x) := by
  pointwise [k0_pay274]

theorem pay238_at (y : FVec Ideal S512x128 .bf16) (i x : Fin 128) : k0_pay238 y (ix3 0 i x) = y (ix2 ⟨256 + i.val, by omega⟩ x) := by
  pointwise [k0_pay238]

theorem pay239_at (y : FVec Ideal S512x128 .bf16) (i x : Fin 128) : k0_pay239 y (ix3 0 i x) = y (ix2 ⟨384 + i.val, by omega⟩ x) := by
  pointwise [k0_pay239]

theorem pay235_at (l : FVec Ideal S8x512 .f32) (kc : FVec Ideal S512x128 .bf16) (sc : FVec Ideal S512x512 .f32) (d0 d1 : FVec Ideal S1x512 .f32) (dp : FVec Ideal S512x512 .f32) (p : FVec Ideal S256x512 .f32) (i x : Fin 128) :
    k0_pay235 l kc sc d0 d1 dp p (ix3 0 i x) = k0_pay234 l kc sc d0 d1 dp p (ix2 ⟨i.val, by omega⟩ x) := by
  pointwise [k0_pay235]
theorem pay237_at (l : FVec Ideal S8x512 .f32) (kc : FVec Ideal S512x128 .bf16) (sc : FVec Ideal S512x512 .f32) (d0 d1 : FVec Ideal S1x512 .f32) (dp : FVec Ideal S512x512 .f32) (p : FVec Ideal S256x512 .f32) (i x : Fin 128) :
    k0_pay237 (k0_pay236 l kc sc d0 d1 dp p) (ix3 0 i x) = k0_pay234 l kc sc d0 d1 dp p (ix2 ⟨128 + i.val, by omega⟩ x) := by
  pointwise [k0_pay237, k0_pay236]
theorem pay271_at (l : FVec Ideal S8x512 .f32) (kc vc : FVec Ideal S512x128 .bf16) (sc : FVec Ideal S512x512 .f32) (dos : FVec Ideal S512x128 .bf16)
    (d0 d1 : FVec Ideal S1x512 .f32) (i x : Fin 128) :
    k0_pay271 (k0_pay270 l kc vc sc dos d0 d1) (ix3 0 i x) = k0_pay269 l kc vc sc dos d0 d1 (ix2 ⟨i.val, by omega⟩ x) := by
  pointwise [k0_pay271, k0_pay270]
theorem pay202_at (g u o : Vec Ideal S128x1024 .f32) (i : Fin 128) (x : Fin 512) : k0_pay202 g u o (ix3 0 i x) = k0_pay201 g u o (ix2 i ⟨x.val, by omega⟩) := by
  pointwise [k0_pay202]
theorem pay203_at (g u o : Vec Ideal S128x1024 .f32) (i : Fin 128) (x : Fin 512) : k0_pay203 g u o (ix3 0 i x) = k0_pay201 g u o (ix2 i ⟨512 + x.val, by omega⟩) := by
  pointwise [k0_pay203]

variable (hX : Fed I b X W)
include hX

theorem dO_at (i : Fin 128) (c : Fin 1024) : X.dO (ix2 i c) = ((I.dO (128 * b + i.val) c.val : ℝ) : EReal) :=
  do_re _ _ (fun i c => I.g (128 * b + i) c) (fun i c => I.u (128 * b + i) c) (fun i c => (all_at _ i c).trans (hX.gate i c)) (fun i c => (all_at _ i c).trans (hX.du i c)) i c

theorem doo_at (i : Fin 128) (c : Fin 1024) :
    X.doo (ix2 i c) = ((I.dO (128 * b + i.val) c.val * I.O (c.val / 64) (128 * b + i.val) (c.val % 64) : ℝ) : EReal) :=
  doo_re _ _ _ (fun i c => I.g (128 * b + i) c) (fun i c => I.u (128 * b + i) c) (fun i c => I.O (c / 64) (128 * b + i) (c % 64))
    (fun i c => (all_at _ i c).trans (hX.gate i c)) (fun i c => (all_at _ i c).trans (hX.du i c)) (fun i c => (all_at _ i c).trans (hX.o i c)) i c

theorem dos0_at (r : Fin 512) (x : Fin 128) : X.dos0 (ix2 r x) = ((I.oB b 0 r.val x.val : ℝ) : EReal) := by
  refine (stack4_re X.dO (fun i c => I.dO (128 * b + i) c) hX.dO_at r x).trans ?_
  unfold Inp.oB
  congr 2
  omega

theorem dos1_at (r : Fin 512) (x : Fin 128) : X.dos1 (ix2 r x) = ((I.oB b 1 r.val x.val : ℝ) : EReal) :=
  stack4_re' X.dO (fun i c => I.dO (128 * b + i) c) hX.dO_at r x

omit hX in
theorem mean (n p h : ℕ) (hp : p = 64 * h) :
    ∑ d ∈ range 64, I.dO n (p + d) * I.O ((p + d) / 64) n ((p + d) % 64) = I.Dl h n := by
  subst hp
  rw [← I.sum_dO_O]
  refine Finset.sum_congr rfl fun d hd => ?_
  have := Finset.mem_range.1 hd
  rw [show (64 * h + d) / 64 = h by omega, show (64 * h + d) % 64 = d by omega]

theorem d00_at (c : Fin 512) : X.d00 (ix2 0 c) = ((I.dlB b 0 0 c.val : ℝ) : EReal) := by
  refine (delta0_re X.doo (fun i c => I.dO (128 * b + i) c * I.O (c / 64) (128 * b + i) (c % 64)) hX.doo_at c).trans ?_
  unfold Inp.dlB
  rw [mean _ _ (8 * 0 + 2 * (c.val / 128) + 0) (by omega)]

theorem d01_at (c : Fin 512) : X.d01 (ix2 0 c) = ((I.dlB b 0 1 c.val : ℝ) : EReal) := by
  refine (delta1_re X.doo (fun i c => I.dO (128 * b + i) c * I.O (c / 64) (128 * b + i) (c % 64)) hX.doo_at c).trans ?_
  unfold Inp.dlB
  simp only [← Nat.add_assoc]
  rw [mean _ _ (8 * 0 + 2 * (c.val / 128) + 1) (by omega)]

theorem d10_at (c : Fin 512) : X.d10 (ix2 0 c) = ((I.dlB b 1 0 c.val : ℝ) : EReal) := by
  refine (delta0_re' X.doo (fun i c => I.dO (128 * b + i) c * I.O (c / 64) (128 * b + i) (c % 64)) hX.doo_at c).trans ?_
  unfold Inp.dlB
  rw [mean _ _ (8 * 1 + 2 * (c.val / 128) + 0) (by omega)]

theorem d11_at (c : Fin 512) : X.d11 (ix2 0 c) = ((I.dlB b 1 1 c.val : ℝ) : EReal) := by
  refine (delta1_re' X.doo (fun i c => I.dO (128 * b + i) c * I.O (c / 64) (128 * b + i) (c % 64)) hX.doo_at c).trans ?_
  unfold Inp.dlB
  simp only [← Nat.add_assoc]
  rw [mean _ _ (8 * 1 + 2 * (c.val / 128) + 1) (by omega)]

theorem qc_re (n : ℕ) (h) (i c : Fin 128) : X.qc n h (ix2 i c) = ((I.q (128 * b + i.val) (n + c.val) : ℝ) : EReal) :=
  (qc_at X n h i c).trans (hX.q _ _)

theorem qs0_at (r : Fin 512) (x : Fin 128) : X.qs0 (ix2 r x) = ((I.qB b 0 r.val x.val : ℝ) : EReal) := by
  refine (qs_re _ _ _ _ (fun i c => I.q (128 * b + i) c) (fun i c => ?_) (fun i c => hX.qc_re _ _ i c) (fun i c => hX.qc_re _ _ i c) (fun i c => hX.qc_re _ _ i c) r x).trans ?_
  · refine (hX.qc_re _ _ i c).trans ?_
    rw [Nat.zero_add]
  · unfold Inp.qB
    congr 3
    omega

theorem qs1_at (r : Fin 512) (x : Fin 128) : X.qs1 (ix2 r x) = ((I.qB b 1 r.val x.val : ℝ) : EReal) := by
  refine (qs_re _ _ _ _ (fun i c => I.q (128 * b + i) (512 + c)) (fun i c => ?_) (fun i c => ?_) (fun i c => ?_) (fun i c => ?_) r x).trans ?_
  any_goals exact (hX.qc_re _ _ i c).trans (by congr 2 <;> omega)
  unfold Inp.qB
  congr 3
  omega

theorem k0_at (j : Fin 256) (x : Fin 128) : k0_pay207 W (ix2 j x) = ((I.kp 0 (128 * b + 896 + j.val) x.val : ℝ) : EReal) := by
  rw [← hX.keys 0 j.val x.val (by omega) j.isLt x.isLt]
  pointwise [k0_pay207, k0_pay197]

theorem k1_at (j : Fin 256) (x : Fin 128) :
    extractStridedSlice S256x128 ![0, 128] (k0_pay197 W) slices_S256x512_o0_128_S256x128 (ix2 j x) = ((I.kp 1 (128 * b + 896 + j.val) x.val : ℝ) : EReal) := by
  rw [← hX.keys 1 j.val x.val (by omega) j.isLt x.isLt]
  pointwise [k0_pay197]

theorem v0_at (j : Fin 256) (x : Fin 128) :
    extractStridedSlice S256x128 ![0, 256] (k0_pay197 W) slices_S256x512_o0_256_S256x128 (ix2 j x) = ((I.vp 0 (128 * b + 896 + j.val) x.val : ℝ) : EReal) := by
  rw [← hX.vals 0 j.val x.val (by omega) j.isLt x.isLt]
  pointwise [k0_pay197]

theorem v1_at (j : Fin 256) (x : Fin 128) :
    extractStridedSlice S256x128 ![0, 384] (k0_pay197 W) slices_S256x512_o0_384_S256x128 (ix2 j x) = ((I.vp 1 (128 * b + 896 + j.val) x.val : ℝ) : EReal) := by
  rw [← hX.vals 1 j.val x.val (by omega) j.isLt x.isLt]
  pointwise [k0_pay197]

theorem kc0_at (r : Fin 512) (x : Fin 128) : Blk.kc0 W (ix2 r x) = ((if x.val / 64 = r.val / 256 then I.kp 0 (128 * b + 896 + r.val % 256) x.val else 0 : ℝ) : EReal) :=
  stack_re _ (fun j x => I.kp 0 (128 * b + 896 + j) x) hX.k0_at r x
theorem kc1_at (r : Fin 512) (x : Fin 128) : Blk.kc1 W (ix2 r x) = ((if x.val / 64 = r.val / 256 then I.kp 1 (128 * b + 896 + r.val % 256) x.val else 0 : ℝ) : EReal) :=
  stack_re _ (fun j x => I.kp 1 (128 * b + 896 + j) x) hX.k1_at r x
theorem vc0_at (r : Fin 512) (x : Fin 128) : Blk.vc0 W (ix2 r x) = ((if x.val / 64 = r.val / 256 then I.vp 0 (128 * b + 896 + r.val % 256) x.val else 0 : ℝ) : EReal) :=
  stack_re _ (fun j x => I.vp 0 (128 * b + 896 + j) x) hX.v0_at r x
theorem vc1_at (r : Fin 512) (x : Fin 128) : Blk.vc1 W (ix2 r x) = ((if x.val / 64 = r.val / 256 then I.vp 1 (128 * b + 896 + r.val % 256) x.val else 0 : ℝ) : EReal) :=
  stack_re _ (fun j x => I.vp 1 (128 * b + 896 + j) x) hX.v1_at r x

theorem dp0_at (r c : Fin 512) : X.dp0 W (ix2 r c) = ((I.dpB b 0 r.val c.val : ℝ) : EReal) :=
  dp_re _ _ (fun j x => I.vp 0 (128 * b + 896 + j) x) (fun c x => I.oB b 0 c x) hX.vc0_at hX.dos0_at r c
theorem dp1_at (r c : Fin 512) : k0_pay222 (Blk.vc1 W) X.dos1 (ix2 r c) = ((I.dpB b 1 r.val c.val : ℝ) : EReal) :=
  dp_re _ _ (fun j x => I.vp 1 (128 * b + 896 + j) x) (fun c x => I.oB b 1 c x) hX.vc1_at hX.dos1_at r c

/-- The scores of the lower heads and of the upper ones. -/
theorem sc0_at (t : Vec Ideal S1x512x512 .f32) (r c : Fin 512) :
    X.sc0 W t (ix2 r c)
      = (((∑ d ∈ range 64, I.q (128 * b + c.val % 128) (128 * (c.val / 128) + (64 * (r.val / 256) + d)) * I.kp 0 (128 * b + 896 + r.val % 256) (64 * (r.val / 256) + d)) * (1 / 8) : ℝ) : EReal)
        + t (ix3 0 r c) := by
  refine score_re _ _ _ _ _ t (fun j x => I.kp 0 (128 * b + 896 + j) x) (fun i c => I.q (128 * b + i) c) hX.k0_at (fun i c => ?_) (fun i c => ?_) (fun i c => ?_) (fun i c => ?_) r c
  all_goals exact (hX.qc_re _ _ i c).trans (by congr 2 <;> omega)
theorem sc1_at (t : Vec Ideal S1x512x512 .f32) (r c : Fin 512) :
    X.sc1 W t (ix2 r c)
      = (((∑ d ∈ range 64, I.q (128 * b + c.val % 128) (512 + (128 * (c.val / 128) + (64 * (r.val / 256) + d))) * I.kp 1 (128 * b + 896 + r.val % 256) (64 * (r.val / 256) + d)) * (1 / 8) : ℝ) : EReal)
        + t (ix3 0 r c) := by
  refine score_re _ _ _ _ _ t (fun j x => I.kp 1 (128 * b + 896 + j) x) (fun i c => I.q (128 * b + i) (512 + c)) hX.k1_at (fun i c => ?_) (fun i c => ?_) (fun i c => ?_) (fun i c => ?_) r c
  all_goals exact (hX.qc_re _ _ i c).trans (by congr 2 <;> omega)

variable (hz : Scored I b X z0 z1)
include hz

omit hX in
theorem p00 (r c : Fin 512) (h : r.val < 256) : Ideal.exp (z0 (ix2 r c) - X.L (ix2 0 c)) = ((I.pB b 0 r.val c.val : ℝ) : EReal) := by
  rw [L_at, ← hz.p0]; congr 4; apply Fin.ext; show 0 = r.val / 256; omega
omit hX in
theorem p01 (r c : Fin 512) (h : 256 ≤ r.val) : Ideal.exp (z0 (ix2 r c) - X.L (ix2 1 c)) = ((I.pB b 0 r.val c.val : ℝ) : EReal) := by
  rw [L_at, ← hz.p0]; congr 4; apply Fin.ext; show 1 = r.val / 256; omega
omit hX in
theorem p10 (r c : Fin 512) (h : r.val < 256) : Ideal.exp (z1 (ix2 r c) - X.L (ix2 2 c)) = ((I.pB b 1 r.val c.val : ℝ) : EReal) := by
  rw [L_at, ← hz.p1]; congr 4; apply Fin.ext; show 2 = 2 + r.val / 256; omega
omit hX in
theorem p11 (r c : Fin 512) (h : 256 ≤ r.val) : Ideal.exp (z1 (ix2 r c) - X.L (ix2 3 c)) = ((I.pB b 1 r.val c.val : ℝ) : EReal) := by
  rw [L_at, ← hz.p1]; congr 4; apply Fin.ext; show 3 = 2 + r.val / 256; omega

theorem ds0_at (r c : Fin 512) : k0_pay231 X.L z0 X.d00 X.d01 (X.dp0 W) (k0_pay224 X.L z0) (ix2 r c) = ((I.dsB b 0 r.val c.val : ℝ) : EReal) :=
  ds_re X.L z0 _ _ _ (I.pB b 0) (I.dpB b 0) (I.dlB b 0) (p00 hz) (p01 hz) hX.d00_at hX.d01_at hX.dp0_at r c
theorem ds1_at (r c : Fin 512) : k0_pay266 X.L (Blk.vc1 W) z1 X.dos1 X.d10 X.d11 (ix2 r c) = ((I.dsB b 1 r.val c.val : ℝ) : EReal) :=
  ds_re' X.L _ z1 _ _ _ (I.pB b 1) (I.dpB b 1) (I.dlB b 1) (p10 hz) (p11 hz) hX.d10_at hX.d11_at hX.dp1_at r c

variable (hb : b < 32)
include hb

theorem dq0_at (c : Fin 512) (x : Fin 128) : k0_pay234 X.L (Blk.kc0 W) z0 X.d00 X.d01 (X.dp0 W) (k0_pay224 X.L z0) (ix2 c x)
    = ((I.DQ (128 * b + c.val % 128) (128 * (c.val / 128) + x.val) : ℝ) : EReal) := by
  refine (dq_re X.L _ z0 _ _ _ _ (fun j x => I.kp 0 (128 * b + 896 + j) x) (I.dsB b 0) hX.kc0_at (hX.ds0_at hz) c x).trans ?_
  have h := I.DQ_block b 0 (c.val / 128) (c.val % 128) x.val hb (by omega) (by omega) (by omega) (by omega)
  rw [show 128 * (c.val / 128) + c.val % 128 = c.val by omega] at h
  rw [h]
  congr 2; omega
theorem dq1_at (c : Fin 512) (x : Fin 128) : k0_pay269 X.L (Blk.kc1 W) (Blk.vc1 W) z1 X.dos1 X.d10 X.d11 (ix2 c x)
    = ((I.DQ (128 * b + c.val % 128) (512 + 128 * (c.val / 128) + x.val) : ℝ) : EReal) := by
  refine (dq_re' X.L _ _ z1 _ _ _ (fun j x => I.kp 1 (128 * b + 896 + j) x) (I.dsB b 1) hX.kc1_at (hX.ds1_at hz) c x).trans ?_
  have h := I.DQ_block b 1 (c.val / 128) (c.val % 128) x.val hb (by omega) (by omega) (by omega) (by omega)
  rw [show 128 * (c.val / 128) + c.val % 128 = c.val by omega] at h
  rw [h]

omit hz hb in
theorem dg_at (i : Fin 128) (c : Fin 1024) : k0_pay201 (Blk.all X.gate) (Blk.all X.du) (Blk.all X.o) (ix2 i c) = ((I.DG (128 * b + i.val) c.val : ℝ) : EReal) :=
  dgo_re _ _ _ (fun i c => I.g (128 * b + i) c) (fun i c => I.u (128 * b + i) c) (fun i c => I.O (c / 64) (128 * b + i) (c % 64))
    (fun i c => (all_at _ i c).trans (hX.gate i c)) (fun i c => (all_at _ i c).trans (hX.du i c)) (fun i c => (all_at _ i c).trans (hX.o i c)) i c

omit hX hz hb in
/-- What a step leaves of the gradients of the queries and of the gate. -/
def dzG (I : Inp) (b a i x : ℕ) : ℝ := if a < 2 then I.DQ (128 * b + i) (512 * a + x) else I.DG (128 * b + i) (512 * (a - 2) + x)

theorem dz_pieces : ∀ p ∈ X.dzL W z0 z1, ∀ x : p.1.shape.Idx,
    p.2 x = ((fun y : S4x128x512.Idx => ((dzG I b (y 0).val (y 1).val (y 2).val : ℝ) : EReal)) (p.1.emb x) : EReal) := by
  have q0 := hX.dq0_at hz hb
  have q1 := hX.dq1_at hz hb
  have g := hX.dg_at
  intro p hp
  unfold Blk.dzL at hp
  simp only [List.mem_cons, List.not_mem_nil, or_false] at hp
  rcases hp with rfl | rfl | rfl | rfl | rfl | rfl | rfl | rfl | rfl | rfl
  · intro (x : S1x128x128.Idx)
    idx_vars x
    obtain rfl : x0 = 0 := Subsingleton.elim _ _
    refine (pay274_at _ x1 x2).trans ((q1 _ _).trans ?_)
    show _ = ((dzG I b (1 + 1 * 0) (0 + 1 * x1.val) (384 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay273_at _ x1 x2).trans ((q1 _ _).trans ?_)
    show _ = ((dzG I b (1 + 1 * 0) (0 + 1 * x1.val) (256 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay272_at _ x1 x2).trans ((q1 _ _).trans ?_)
    show _ = ((dzG I b (1 + 1 * 0) (0 + 1 * x1.val) (128 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay271_at _ _ _ _ _ _ _ x1 x2).trans ((q1 _ _).trans ?_)
    show _ = ((dzG I b (1 + 1 * 0) (0 + 1 * x1.val) (0 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay239_at _ x1 x2).trans ((q0 _ _).trans ?_)
    show _ = ((dzG I b (0 + 1 * 0) (0 + 1 * x1.val) (384 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay238_at _ x1 x2).trans ((q0 _ _).trans ?_)
    show _ = ((dzG I b (0 + 1 * 0) (0 + 1 * x1.val) (256 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay237_at _ _ _ _ _ _ _ x1 x2).trans ((q0 _ _).trans ?_)
    show _ = ((dzG I b (0 + 1 * 0) (0 + 1 * x1.val) (128 + 1 * x2.val) : ℝ) : EReal)
    unfold dzG
    rw [if_pos (by omega)]
    congr 2 <;> (try dsimp only) <;> omega
  · intro (x : S1x128x128.Idx)
    idx_vars x
    obtain rfl : x0 = 0 := Subsingleton.elim _ _
    refine (pay235_at _ _ _ _ _ _ _ x1 x2).trans ((q0 _ _).trans ?_)
    show _ = ((dzG I b (0 + 1 * 0) (0 + 1 * x1.val) (0 + 1 * x2.val) : ℝ) : EReal)
    unfold dzG
    rw [if_pos (by omega)]
    congr 2 <;> (try dsimp only) <;> omega
  · intro (x : S1x128x512.Idx)
    idx_vars x
    obtain rfl : x0 = 0 := Subsingleton.elim _ _
    refine (pay203_at _ _ _ x1 x2).trans ((g _ _).trans ?_)
    show _ = ((dzG I b (3 + 1 * 0) (0 + 1 * x1.val) (0 + 1 * x2.val) : ℝ) : EReal)
    unfold dzG
    rw [if_neg (by omega)]
    congr 2 <;> (try dsimp only) <;> omega
  · intro (x : S1x128x512.Idx)
    idx_vars x
    obtain rfl : x0 = 0 := Subsingleton.elim _ _
    refine (pay202_at _ _ _ x1 x2).trans ((g _ _).trans ?_)
    show _ = ((dzG I b (2 + 1 * 0) (0 + 1 * x1.val) (0 + 1 * x2.val) : ℝ) : EReal)
    unfold dzG
    rw [if_neg (by omega)]
    congr 2 <;> (try dsimp only) <;> omega

theorem dz_left (t : Fin cfg0.N) (c : Dev nD) (L : List (View.Piece (Elt Ideal) S4x128x512 .bf16)) (hL : L = X.dzL W z0 z1)
    (hc : ∀ y, ∃ p ∈ L, y ∈ p.1.set) (a : Fin 4) (i : Fin 128) (x : Fin 512) :
    left V8 L (ix3 a i x) = ((dzG I b a.val i.val x.val : ℝ) : EReal) := by
  subst hL
  exact View.read_writes_apply_of_pieces V8 _ (fun y : S4x128x512.Idx => ((dzG I b (y 0).val (y 1).val (y 2).val : ℝ) : EReal)) _ (hX.dz_pieces hz hb) _ (hc _)

omit hb in
theorem db_left (f : scr1.view.ty.Contents (Elt Ideal)) (o0 o1 : Vec Ideal S1x512x512 .f32) (D : Vec Ideal S2x512x512 .f32)
    (h0 : ∀ r c : Fin 512, o0 (ix3 0 r c) = D (ix3 0 r c)) (h1 : ∀ r c : Fin 512, o1 (ix3 0 r c) = D (ix3 1 r c)) (a : Fin 2) (r c : Fin 512) :
    scr1.view.read (Elt Ideal) (scr1.view.writes (Elt Ideal) f (X.dbL W z0 z1 o0 o1 [])) (ix3 a r c) = D (ix3 a r c) + ((I.dsB b a.val r.val c.val : ℝ) : EReal) := by
  have d0 := hX.ds0_at hz
  have d1 := hX.ds1_at hz
  refine View.read_writes_apply_of_pieces scr1.view f (fun y : S2x512x512.Idx => (D (ix3 (y 0) (y 1) (y 2)) + ((I.dsB b (y 0).val (y 1).val (y 2).val : ℝ) : EReal) : EReal)) (X.dbL W z0 z1 o0 o1 []) ?_ (ix3 a r c)
    (View.cover_of_tiledL (X.dbL W z0 z1 o0 o1 []) S1x512x512.size (by sl_kernel_rfl) _)
  intro p hp
  unfold Blk.dbL at hp
  simp only [List.mem_cons, List.not_mem_nil, or_false] at hp
  rcases hp with rfl | rfl
  · intro (x : S1x512x512.Idx)
    idx_vars x
    obtain rfl : x0 = 0 := Subsingleton.elim _ _
    refine (dbias_re' _ _ _ _ _ _ _ x1 x2).trans ?_
    rw [h1, d1]
    show _ = D (ix3 ⟨1 + 1 * 0, _⟩ ⟨0 + 1 * x1.val, _⟩ ⟨0 + 1 * x2.val, _⟩) + ((I.dsB b (1 + 1 * 0) (0 + 1 * x1.val) (0 + 1 * x2.val) : ℝ) : EReal)
    simp only [Nat.zero_add, Nat.one_mul, Nat.mul_zero, Nat.add_zero]
    rfl
  · intro (x : S1x512x512.Idx)
    idx_vars x
    obtain rfl : x0 = 0 := Subsingleton.elim _ _
    refine (dbias_re _ _ _ _ _ _ _ x1 x2).trans ?_
    rw [h0, d0]
    show _ = D (ix3 ⟨0 + 1 * 0, _⟩ ⟨0 + 1 * x1.val, _⟩ ⟨0 + 1 * x2.val, _⟩) + ((I.dsB b (0 + 1 * 0) (0 + 1 * x1.val) (0 + 1 * x2.val) : ℝ) : EReal)
    simp only [Nat.zero_add, Nat.one_mul, Nat.mul_zero, Nat.add_zero]
    rfl

omit hb in
theorem dk0_at (o : Vec Ideal S256x128 .f32) (j : Fin 256) (x : Fin 128) : X.dk0 W z0 o (ix2 j x) = o (ix2 j x) + ((I.dkB b 0 j.val x.val : ℝ) : EReal) :=
  dk_re _ _ o (I.qB b 0) (I.dsB b 0) hX.qs0_at (hX.ds0_at hz) j x
omit hb in
theorem dk1_at (o : Vec Ideal S256x128 .f32) (j : Fin 256) (x : Fin 128) : X.dk1 W z1 o (ix2 j x) = o (ix2 j x) + ((I.dkB b 1 j.val x.val : ℝ) : EReal) :=
  dk_re' X.qs1 (k0_pay268 X.L (Blk.vc1 W) z1 X.dos1 X.d10 X.d11) o (I.qB b 1) (I.dsB b 1) hX.qs1_at (hX.ds1_at hz) j x
omit hb in
theorem dv0_at (o : Vec Ideal S256x128 .f32) (j : Fin 256) (x : Fin 128) : X.dv0 z0 o (ix2 j x) = o (ix2 j x) + ((I.dvB b 0 j.val x.val : ℝ) : EReal) :=
  dv_re _ _ _ o (I.oB b 0) (I.pB b 0) hX.dos0_at (fun j c => (pb_re X.L z0 _ (p00 hz) (p01 hz) j c).1) (fun j c => (pb_re X.L z0 _ (p00 hz) (p01 hz) j c).2) j x
omit hb in
theorem dv1_at (o : Vec Ideal S256x128 .f32) (j : Fin 256) (x : Fin 128) : X.dv1 z1 o (ix2 j x) = o (ix2 j x) + ((I.dvB b 1 j.val x.val : ℝ) : EReal) :=
  dv_re X.dos1 (k0_pay260 X.L z1) (k0_pay264 X.L z1) o (I.oB b 1) (I.pB b 1) hX.dos1_at (fun j c => (pb_re' X.L z1 _ (p10 hz) (p11 hz) j c).1) (fun j c => (pb_re' X.L z1 _ (p10 hz) (p11 hz) j c).2) j x

omit hX hz hb in
/-- What a step adds to the running gradients of the keys and values. -/
def kvG (I : Inp) (b ρ x : ℕ) : ℝ :=
  if 128 * b + 896 ≤ ρ ∧ ρ < 128 * b + 1152 then
    if x < 256 then I.dkB b (x / 128) (ρ - (128 * b + 896)) (x % 128) else I.dvB b ((x - 256) / 128) (ρ - (128 * b + 896)) (x % 128)
  else 0

theorem kv_left (f : scr2.view.ty.Contents (Elt Ideal)) (D : Vec Ideal S5120x512 .f32) (hf : scr2.view.read (Elt Ideal) f = D)
    (o7 o8 o9 o10 : Fin 2 → ℕ) (h7 : ∀ a, o7 a + (![256, 128] : Fin 2 → ℕ) a ≤ S5120x512.size a) (h8 : ∀ a, o8 a + (![256, 128] : Fin 2 → ℕ) a ≤ S5120x512.size a)
    (h9 : ∀ a, o9 a + (![256, 128] : Fin 2 → ℕ) a ≤ S5120x512.size a) (h10 : ∀ a, o10 a + (![256, 128] : Fin 2 → ℕ) a ≤ S5120x512.size a)
    (e7 : o7 = ![128 * b + 896, 0]) (e8 : o8 = ![128 * b + 896, 256]) (e9 : o9 = ![128 * b + 896, 128]) (e10 : o10 = ![128 * b + 896, 384])
    (w7 w8 w9 w10 : Vec Ideal S256x128 .f32)
    (g7 : ∀ (j : Fin 256) (x : Fin 128), w7 (ix2 j x) = D (ix2 ⟨128 * b + 896 + j.val, by omega⟩ ⟨0 + x.val, by omega⟩))
    (g8 : ∀ (j : Fin 256) (x : Fin 128), w8 (ix2 j x) = D (ix2 ⟨128 * b + 896 + j.val, by omega⟩ ⟨256 + x.val, by omega⟩))
    (g9 : ∀ (j : Fin 256) (x : Fin 128), w9 (ix2 j x) = D (ix2 ⟨128 * b + 896 + j.val, by omega⟩ ⟨128 + x.val, by omega⟩))
    (g10 : ∀ (j : Fin 256) (x : Fin 128), w10 (ix2 j x) = D (ix2 ⟨128 * b + 896 + j.val, by omega⟩ ⟨384 + x.val, by omega⟩))
    (ρ : Fin 5120) (x : Fin 512) :
    scr2.view.read (Elt Ideal) (scr2.view.writes (Elt Ideal) f
      [⟨Rect.unit o10 ![256, 128] h10, X.dv1 z1 w10⟩, ⟨Rect.unit o9 ![256, 128] h9, X.dk1 W z1 w9⟩,
       ⟨Rect.unit o8 ![256, 128] h8, X.dv0 z0 w8⟩, ⟨Rect.unit o7 ![256, 128] h7, X.dk0 W z0 w7⟩]) (ix2 ρ x)
      = D (ix2 ρ x) + ((kvG I b ρ.val x.val : ℝ) : EReal) := by
  have k0 := hX.dk0_at hz
  have k1 := hX.dk1_at hz
  have v0 := hX.dv0_at hz
  have v1 := hX.dv1_at hz
  subst e7 e8 e9 e10
  by_cases hr : 128 * b + 896 ≤ ρ.val ∧ ρ.val < 128 * b + 1152
  · refine View.read_writes_apply_of_pieces scr2.view f (fun y : S5120x512.Idx => (D (ix2 (y 0) (y 1)) + ((kvG I b (y 0).val (y 1).val : ℝ) : EReal) : EReal)) _ ?_ (ix2 ρ x) ?_
    · intro p hp
      simp only [List.mem_cons, List.not_mem_nil, or_false] at hp
      rcases hp with rfl | rfl | rfl | rfl
      · intro (x : S256x128.Idx)
        idx_vars x
        refine (v1 w10 x0 x1).trans ?_
        rw [g10]
        show _ = D (ix2 ⟨128 * b + 896 + 1 * x0.val, _⟩ ⟨384 + 1 * x1.val, _⟩) + ((kvG I b (128 * b + 896 + 1 * x0.val) (384 + 1 * x1.val) : ℝ) : EReal)
        simp only [Nat.one_mul]
        unfold kvG
        rw [if_pos (by omega), if_neg (by omega)]
        congr 3 <;> omega
      · intro (x : S256x128.Idx)
        idx_vars x
        refine (k1 w9 x0 x1).trans ?_
        rw [g9]
        show _ = D (ix2 ⟨128 * b + 896 + 1 * x0.val, _⟩ ⟨128 + 1 * x1.val, _⟩) + ((kvG I b (128 * b + 896 + 1 * x0.val) (128 + 1 * x1.val) : ℝ) : EReal)
        simp only [Nat.one_mul]
        unfold kvG
        rw [if_pos (by omega), if_pos (by omega)]
        congr 3 <;> omega
      · intro (x : S256x128.Idx)
        idx_vars x
        refine (v0 w8 x0 x1).trans ?_
        rw [g8]
        show _ = D (ix2 ⟨128 * b + 896 + 1 * x0.val, _⟩ ⟨256 + 1 * x1.val, _⟩) + ((kvG I b (128 * b + 896 + 1 * x0.val) (256 + 1 * x1.val) : ℝ) : EReal)
        simp only [Nat.one_mul]
        unfold kvG
        rw [if_pos (by omega), if_neg (by omega)]
        congr 3 <;> omega
      · intro (x : S256x128.Idx)
        idx_vars x
        refine (k0 w7 x0 x1).trans ?_
        rw [g7]
        show _ = D (ix2 ⟨128 * b + 896 + 1 * x0.val, _⟩ ⟨0 + 1 * x1.val, _⟩) + ((kvG I b (128 * b + 896 + 1 * x0.val) (0 + 1 * x1.val) : ℝ) : EReal)
        simp only [Nat.one_mul]
        unfold kvG
        rw [if_pos (by omega), if_pos (by omega)]
        congr 3 <;> omega
    · have key : ∀ (o : ℕ) (h : ∀ a, (![128 * b + 896, o] : Fin 2 → ℕ) a + (![256, 128] : Fin 2 → ℕ) a ≤ S5120x512.size a), o ≤ x.val → x.val < o + 128 →
          ix2 ρ x ∈ (Rect.unit (s := S5120x512) ![128 * b + 896, o] ![256, 128] h).set := by
        intro o h h1 h2
        rw [Rect.mem_set_unit]
        intro a
        fin_cases a
        · exact ⟨hr.1, by show ρ.val < 128 * b + 896 + 256; omega⟩
        · exact ⟨h1, h2⟩
      rcases (by omega : x.val < 128 ∨ (128 ≤ x.val ∧ x.val < 256) ∨ (256 ≤ x.val ∧ x.val < 384) ∨ 384 ≤ x.val) with h | h | h | h
      · exact ⟨⟨Rect.unit ![128 * b + 896, 0] ![256, 128] h7, X.dk0 W z0 w7⟩, by simp only [List.mem_cons, true_or, or_true], key 0 h7 (by omega) (by omega)⟩
      · exact ⟨⟨Rect.unit ![128 * b + 896, 128] ![256, 128] h9, X.dk1 W z1 w9⟩, by simp only [List.mem_cons, true_or, or_true], key 128 h9 (by omega) (by omega)⟩
      · exact ⟨⟨Rect.unit ![128 * b + 896, 256] ![256, 128] h8, X.dv0 z0 w8⟩, by simp only [List.mem_cons, true_or, or_true], key 256 h8 (by omega) (by omega)⟩
      · exact ⟨⟨Rect.unit ![128 * b + 896, 384] ![256, 128] h10, X.dv1 z1 w10⟩, by simp only [List.mem_cons, true_or, or_true], key 384 h10 (by omega) (by omega)⟩
  · have hr' : ρ.val < 128 * b + 896 ∨ 128 * b + 896 + 256 ≤ ρ.val := by omega
    rw [View.read_writes_cons_unit_of_not_mem _ _ _ _ _ _ rfl 0 hr', View.read_writes_cons_unit_of_not_mem _ _ _ _ _ _ rfl 0 hr',
      View.read_writes_cons_unit_of_not_mem _ _ _ _ _ _ rfl 0 hr', View.read_writes_cons_unit_of_not_mem _ _ _ _ _ _ rfl 0 hr']
    unfold kvG
    rw [if_neg hr]
    show scr2.view.read (Elt Ideal) f _ = _
    rw [hf]
    simp

omit hX hz hb in
theorem sinkrow (h n : ℕ) : Real.exp (I.s h - Real.log (I.Z h n)) = Real.exp (I.s h) / I.Z h n := by
  rw [Real.exp_sub, Real.exp_log (I.Z_pos h n)]

omit hz hb in
/-- A row of the sinks' gradient. -/
theorem skrow (a : ℕ) (ha : a < 4) (d s l : FVec Ideal S1x512 .f32)
    (hd : ∀ c : Fin 512, d (ix2 0 c) = ((I.dlB b (a / 2) (a % 2) c.val : ℝ) : EReal))
    (hs : ∀ c : Fin 512, s (ix2 0 c) = ((I.s (8 * (a / 2) + 2 * (c.val / 128) + a % 2) : ℝ) : EReal))
    (hl : ∀ c : Fin 512, l (ix2 0 c) = X.lse (ix3 0 ⟨a, by omega⟩ c)) (c : Fin 512) :
    k0_pay226 d s l (ix2 0 c) = ((I.skB b a c.val : ℝ) : EReal) := by
  refine (sinkrow_re d s l _ (fun c => I.s (8 * (a / 2) + 2 * (c / 128) + a % 2)) (fun c => Real.log (I.Z (8 * (a / 2) + 2 * (c / 128) + a % 2) (128 * b + c % 128))) hd hs
    (fun c => (hl c).trans (hX.lse ⟨a, by omega⟩ c ha)) c).trans ?_
  rw [sinkrow]
  rfl

omit hz hb in
theorem sk_re (n m : ℕ) (h) (e : n = m) : X.sk n h (ix2 0 0) = ((I.s m : ℝ) : EReal) :=
  e ▸ (sk_at X n h).trans (hX.sinks _)

omit hX hz hb in
theorem s00_eq (X : Blk Ideal) : X.s00 = k0_pay221 k0_pay217 (X.sk 0 inb_S1x16_S1x1_0_0) (X.sk 2 inb_S1x16_S1x1_0_2) (X.sk 4 inb_S1x16_S1x1_0_4) (X.sk 6 inb_S1x16_S1x1_0_6) := by sl_kernel_rfl
omit hX hz hb in
theorem s10_eq (X : Blk Ideal) : X.s10 = k0_pay221 k0_pay217 (X.sk 8 inb_S1x16_S1x1_0_8) (X.sk 10 inb_S1x16_S1x1_0_10) (X.sk 12 inb_S1x16_S1x1_0_12) (X.sk 14 inb_S1x16_S1x1_0_14) := by sl_kernel_rfl
omit hX hz hb in
theorem s11_eq (X : Blk Ideal) : X.s11 = k0_pay221 k0_pay217 (X.sk 9 inb_S1x16_S1x1_0_9) (X.sk 11 inb_S1x16_S1x1_0_11) (X.sk 13 inb_S1x16_S1x1_0_13) (X.sk 15 inb_S1x16_S1x1_0_15) := by sl_kernel_rfl
omit hX hz hb in
theorem row3_eq (X : Blk Ideal) : k0_pay265 X.L X.d11 (k0_pay255 k0_pay251 (X.sk 9 inb_S1x16_S1x1_0_9) (X.sk 11 inb_S1x16_S1x1_0_11) (X.sk 13 inb_S1x16_S1x1_0_13)) (k0_pay256 k0_pay251) (k0_pay257 (X.sk 15 inb_S1x16_S1x1_0_15))
    = k0_pay226 X.d11 X.s11 (k0_pay262 X.L) := by sl_kernel_rfl

omit hz hb in
theorem s00_at (c : Fin 512) : X.s00 (ix2 0 c) = ((I.s (8 * 0 + 2 * (c.val / 128) + 0) : ℝ) : EReal) := by
  rw [s00_eq]
  have h0 : X.sk 0 inb_S1x16_S1x1_0_0 (ix2 0 0) = ((I.s (8 * 0 + 2 * 0 + 0) : ℝ) : EReal) := hX.sk_re _ _ _ rfl
  have h1 : X.sk 2 inb_S1x16_S1x1_0_2 (ix2 0 0) = ((I.s (8 * 0 + 2 * 1 + 0) : ℝ) : EReal) := hX.sk_re _ _ _ rfl
  have h2 : X.sk 4 inb_S1x16_S1x1_0_4 (ix2 0 0) = ((I.s (8 * 0 + 2 * 2 + 0) : ℝ) : EReal) := hX.sk_re _ _ _ rfl
  have h3 : X.sk 6 inb_S1x16_S1x1_0_6 (ix2 0 0) = ((I.s (8 * 0 + 2 * 3 + 0) : ℝ) : EReal) := hX.sk_re _ _ _ rfl
  exact sink1_re _ _ _ _ (fun k => I.s (8 * 0 + 2 * k + 0)) h0 h1 h2 h3 c
omit hX hz hb in
theorem s01_eq (X : Blk Ideal) : X.s01 = k0_pay221 k0_pay217 (X.sk 1 inb_S1x16_S1x1_0_1) (X.sk 3 inb_S1x16_S1x1_0_3) (X.sk 5 inb_S1x16_S1x1_0_5) (X.sk 7 inb_S1x16_S1x1_0_7) := rfl
omit hz hb in
theorem s01_at (c : Fin 512) : X.s01 (ix2 0 c) = ((I.s (8 * 0 + 2 * (c.val / 128) + 1) : ℝ) : EReal) := by
  rw [s01_eq]
  have h0 : X.sk 1 inb_S1x16_S1x1_0_1 (ix2 0 0) = ((I.s (8 * 0 + 2 * 0 + 1) : ℝ) : EReal) := hX.sk_re _ _ _ rfl
  have h1 : X.sk 3 inb_S1x16_S1x1_0_3 (ix2 0 0) = ((I.s (8 * 0 + 2 * 1 + 1) : ℝ) : EReal) := hX.sk_re _ _ _ rfl
  have h2 : X.sk 5 inb_S1x16_S1x1_0_5 (ix2 0 0) = ((I.s (8 * 0 + 2 * 2 + 1) : ℝ) : EReal) := hX.sk_re _ _ _ rfl
  have h3 : X.sk 7 inb_S1x16_S1x1_0_7 (ix2 0 0) = ((I.s (8 * 0 + 2 * 3 + 1) : ℝ) : EReal) := hX.sk_re _ _ _ rfl
  exact sink1_re _ _ _ _ (fun k => I.s (8 * 0 + 2 * k + 1)) h0 h1 h2 h3 c
omit hz hb in
theorem s10_at (c : Fin 512) : X.s10 (ix2 0 c) = ((I.s (8 * 1 + 2 * (c.val / 128) + 0) : ℝ) : EReal) := by
  rw [s10_eq]
  have h0 : X.sk 8 inb_S1x16_S1x1_0_8 (ix2 0 0) = ((I.s (8 * 1 + 2 * 0 + 0) : ℝ) : EReal) := hX.sk_re _ _ _ rfl
  have h1 : X.sk 10 inb_S1x16_S1x1_0_10 (ix2 0 0) = ((I.s (8 * 1 + 2 * 1 + 0) : ℝ) : EReal) := hX.sk_re _ _ _ rfl
  have h2 : X.sk 12 inb_S1x16_S1x1_0_12 (ix2 0 0) = ((I.s (8 * 1 + 2 * 2 + 0) : ℝ) : EReal) := hX.sk_re _ _ _ rfl
  have h3 : X.sk 14 inb_S1x16_S1x1_0_14 (ix2 0 0) = ((I.s (8 * 1 + 2 * 3 + 0) : ℝ) : EReal) := hX.sk_re _ _ _ rfl
  exact sink1_re _ _ _ _ (fun k => I.s (8 * 1 + 2 * k + 0)) h0 h1 h2 h3 c
omit hz hb in
theorem s11_at (c : Fin 512) : X.s11 (ix2 0 c) = ((I.s (8 * 1 + 2 * (c.val / 128) + 1) : ℝ) : EReal) := by
  rw [s11_eq]
  have h0 : X.sk 9 inb_S1x16_S1x1_0_9 (ix2 0 0) = ((I.s (8 * 1 + 2 * 0 + 1) : ℝ) : EReal) := hX.sk_re _ _ _ rfl
  have h1 : X.sk 11 inb_S1x16_S1x1_0_11 (ix2 0 0) = ((I.s (8 * 1 + 2 * 1 + 1) : ℝ) : EReal) := hX.sk_re _ _ _ rfl
  have h2 : X.sk 13 inb_S1x16_S1x1_0_13 (ix2 0 0) = ((I.s (8 * 1 + 2 * 2 + 1) : ℝ) : EReal) := hX.sk_re _ _ _ rfl
  have h3 : X.sk 15 inb_S1x16_S1x1_0_15 (ix2 0 0) = ((I.s (8 * 1 + 2 * 3 + 1) : ℝ) : EReal) := hX.sk_re _ _ _ rfl
  exact sink1_re _ _ _ _ (fun k => I.s (8 * 1 + 2 * k + 1)) h0 h1 h2 h3 c
omit hX hz hb in
theorem row1_eq (X : Blk Ideal) : k0_pay230 X.L X.d01 X.s01 = k0_pay226 X.d01 X.s01 (k0_pay227 X.L) := by sl_kernel_rfl
omit hX hz hb in
theorem row2_eq (X : Blk Ideal) : k0_pay261 X.L X.d10 X.s10 = k0_pay226 X.d10 X.s10 (k0_pay258 X.L) := by sl_kernel_rfl

omit hz hb in
theorem dsk_at (o : Vec Ideal S8x512 .f32) (a : Fin 8) (x : Fin 512) :
    X.dsk o (ix2 a x) = o (ix2 a x) + ((if a.val < 4 then I.skB b a.val x.val else 0 : ℝ) : EReal) := by
  unfold Blk.dsk
  rw [row3_eq, row2_eq, row1_eq]
  have r0 := hX.skrow 0 (by omega) X.d00 X.s00 (k0_pay223 X.L) hX.d00_at hX.s00_at (fun c => by pointwise [k0_pay223]; exact L_at X 0 c)
  have r1 := hX.skrow 1 (by omega) X.d01 X.s01 (k0_pay227 X.L) hX.d01_at hX.s01_at (fun c => by pointwise [k0_pay227]; exact L_at X 1 c)
  have r2 := hX.skrow 2 (by omega) X.d10 X.s10 (k0_pay258 X.L) hX.d10_at hX.s10_at (fun c => by pointwise [k0_pay258]; exact L_at X 2 c)
  have r3 := hX.skrow 3 (by omega) X.d11 X.s11 (k0_pay262 X.L) hX.d11_at hX.s11_at (fun c => by pointwise [k0_pay262]; exact L_at X 3 c)
  exact dsink_re _ _ _ _ o (I.skB b) r0 r1 r2 r3 a x

omit hz hb in
theorem sk_left (f : scr3.view.ty.Contents (Elt Ideal)) (o D : Vec Ideal S8x512 .f32) (ho : ∀ (a : Fin 8) (x : Fin 512), o (ix2 a x) = D (ix2 a x)) (a : Fin 8) (x : Fin 512) :
    scr3.view.read (Elt Ideal) (scr3.view.writes (Elt Ideal) f [⟨Rect.unit ![0, 0] ![8, 512] inb_S8x512_S8x512_0_0, X.dsk o⟩]) (ix2 a x)
      = D (ix2 a x) + ((if a.val < 4 then I.skB b a.val x.val else 0 : ℝ) : EReal) := by
  rw [← ho, ← hX.dsk_at]
  exact View.read_writes_cons_unit_of_mem scr3.view f _ _ _ (ix2 a x) (ix2 a x : S8x512.Idx) rfl (fun k => by fin_cases k <;> simp [ix2])

end Fed
end Cert.KernelIdeal.Attn
-- ==== Proof.Table.lean ====
module

public import proofs.«01_k».proof.Proof.ModelA
public import proofs.«01_k».proof.Proof.StepFacts

/-! # The table of biases, over the reals
A tile of the table holds at key j and query i the head's bias of the distance j − i − 128 where the chunks allow it, and minus infinity elsewhere. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

theorem chunk8 (j : Fin 256) (i : Fin 128) : k0_pay8 (ix2 j i) = BitVec.ofNat 32 (j.val / 64) := by
  pointwise [k0_pay8]
  revert j
  decide +kernel

theorem chunkQ (i : Fin 128) : (Scalar.select
                (IntOp.andi
                  (IntOp.cmpi CmpIPredicate.ne
                    (IntOp.subi (BitVec.setWidth 32 (IntOp.cmpi CmpIPredicate.sgt (BitVec.ofNat 32 ↑i) 0#32))
                      (BitVec.setWidth 32 (IntOp.cmpi CmpIPredicate.slt (BitVec.ofNat 32 ↑i) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 ↑i) 64#32) 0#32))
                (IntOp.subi (IntOp.divsi ArithUnit.vector (BitVec.ofNat 32 ↑i) 64#32) 1#32)
                (IntOp.divsi ArithUnit.vector (BitVec.ofNat 32 ↑i) 64#32)) = BitVec.ofNat 32 (i.val / 64) := by
  revert i
  decide +kernel

theorem near (a c : ℕ) (ha : a < 2) (hc : c < 4) :
    (IntOp.andi
        (IntOp.cmpi CmpIPredicate.sge (IntOp.subi (IntOp.addi (BitVec.ofNat 32 a) 2#32) (BitVec.ofNat 32 c)) 0#32)
        (IntOp.cmpi CmpIPredicate.sle (IntOp.subi (IntOp.addi (BitVec.ofNat 32 a) 2#32) (BitVec.ofNat 32 c)) 2#32))
      = if c ≤ a + 2 ∧ a ≤ c then 1#1 else 0#1 := by
  interval_cases a <;> interval_cases c <;> decide +kernel

/-- The word of the distance between a key of the window and a query of the block. -/
def relw (j i : ℕ) : BitVec 32 := BitVec.ofInt 32 ((j : ℤ) - i - 128)

/-- The row of diagonals holds the bias by distance. -/
def Based (I : Inp) (X : Blk Ideal) : Prop :=
  ∀ (n : Fin 16) (x : Fin 384), X.base (ix3 n 0 x) = ((I.t n.val (BitVec.ofInt 32 (if x.val < 128 then -128 - (x.val : ℤ) else 256 - (x.val : ℤ))) : ℝ) : EReal)

theorem sel_one {α : Type} (x y : α) : Scalar.select 1#1 x y = x := rfl
theorem sel_zero {α : Type} (x y : α) : Scalar.select 0#1 x y = y := rfl

theorem mask_eq : (Named.named (F := Ideal) (φ := .f32) κ "mask" 4048155338#32) = ⊥ := by simp [Named.named, κ]

set_option maxHeartbeats 4000000 in
theorem tile_at (I : Inp) (X : Blk Ideal) (hB : Based I X) (n : ℕ) (h) (hn : n < 16) (j : Fin 256) (i : Fin 128) :
    X.tile n h (ix3 0 j i) = if j.val / 64 ≤ i.val / 64 + 2 ∧ i.val / 64 ≤ j.val / 64 then ((I.t n (relw j.val i.val) : ℝ) : EReal) else ⊥ := by
  pointwise [Blk.tile, k0_pay11, k0_pay9, k0_pay10]
  rw [chunk8]
  pointwise [k0_pay7]
  simp only [chunkQ i]
  simp only [near (i.val / 64) (j.val / 64) (by omega) (by omega), mask_eq]
  have hj := j.2
  have hi := i.2
  by_cases hc : j.val / 64 ≤ i.val / 64 + 2 ∧ i.val / 64 ≤ j.val / 64
  · simp only [if_pos hc, sel_one]
    rcases Nat.lt_or_ge ((i.val + 512 - j.val % 512) % 512) 128 with h1 | h1
    · simp only [dif_pos h1]
      have e : (if (i.val + 512 - j.val % 512) % 512 < 128 then -128 - (((i.val + 512 - j.val % 512) % 512 : ℕ) : ℤ) else 256 - (((i.val + 512 - j.val % 512) % 512 : ℕ) : ℤ)) = (j.val : ℤ) - i.val - 128 := by
        rw [if_pos h1]; omega
      exact (hB _ _).trans (congrArg (fun w => ((I.t n (BitVec.ofInt 32 w) : ℝ) : EReal)) e)
    · have h2 : ¬ (i.val + 512 - j.val % 512) % 512 - 128 < 128 := by omega
      simp only [dif_neg (Nat.not_lt.2 h1), dif_neg h2]
      have e : (if 128 + ((i.val + 512 - j.val % 512) % 512 - 128 - 128) < 128 then -128 - ((128 + ((i.val + 512 - j.val % 512) % 512 - 128 - 128) : ℕ) : ℤ) else 256 - ((128 + ((i.val + 512 - j.val % 512) % 512 - 128 - 128) : ℕ) : ℤ)) = (j.val : ℤ) - i.val - 128 := by
        rw [if_neg (by omega)]; omega
      exact (hB _ _).trans (congrArg (fun w => ((I.t n (BitVec.ofInt 32 w) : ℝ) : EReal)) e)
  · simp only [if_neg hc, sel_zero]

theorem tab_eq (I : Inp) (n a b c A B C x1 x2 : ℕ) (h1 : x1 < 256) (h2 : x2 < 128) (hA : A = a + 1 * 0) (hB : B = b + 1 * x1) (hC : C = c + 1 * x2)
    (hn : n = 8 * a + 2 * (c / 128) + b / 256) (hb : b % 256 = 0) (hc : c % 128 = 0) :
    (if x1 / 64 ≤ x2 / 64 + 2 ∧ x2 / 64 ≤ x1 / 64 then ((I.t n (relw x1 x2) : ℝ) : EReal) else ⊥)
      = if B % 256 / 64 ≤ C % 128 / 64 + 2 ∧ C % 128 / 64 ≤ B % 256 / 64
        then ((I.t (8 * A + 2 * (C / 128) + B / 256) (relw (B % 256) (C % 128)) : ℝ) : EReal) else ⊥ := by
  rw [show B % 256 = x1 by omega, show C % 128 = x2 by omega, show 8 * A + 2 * (C / 128) + B / 256 = n by omega]

/-- One piece of the table: head `8a+2(c/128)+r/256`. -/
theorem tab_at (I : Inp) (X : Blk Ideal) (hB : Based I X) (a : Fin 2) (r c : Fin 512) :
    X.tab (ix3 a r c) = if (r.val % 256) / 64 ≤ (c.val % 128) / 64 + 2 ∧ (c.val % 128) / 64 ≤ (r.val % 256) / 64
      then ((I.t (8 * a.val + 2 * (c.val / 128) + r.val / 256) (relw (r.val % 256) (c.val % 128)) : ℝ) : EReal) else ⊥ := by
  unfold Blk.tab left
  refine View.read_writes_apply_of_pieces scr0.view _ (fun y : S2x512x512.Idx => ( if (y 1).val % 256 / 64 ≤ (y 2).val % 128 / 64 + 2 ∧ (y 2).val % 128 / 64 ≤ (y 1).val % 256 / 64
      then ((I.t (8 * (y 0).val + 2 * ((y 2).val / 128) + (y 1).val / 256) (relw ((y 1).val % 256) ((y 2).val % 128)) : ℝ) : EReal) else ⊥ : EReal)) X.tabL ?_ (ix3 a r c)
    (View.cover_of_tiledL X.tabL S1x256x128.size (by sl_kernel_rfl) _)
  · intro p hp
    simp only [Blk.tabL, List.mem_cons, List.mem_nil_iff, or_false] at hp
    rcases hp with rfl | rfl | rfl | rfl | rfl | rfl | rfl | rfl | rfl | rfl | rfl | rfl | rfl | rfl | rfl | rfl <;>
    · intro (x : S1x256x128.Idx)
      idx_vars x
      obtain rfl : x0 = 0 := Subsingleton.elim _ _
      have h1 := x1.2
      have h2 := x2.2
      refine (tile_at I X hB _ _ (by omega) x1 x2).trans ?_
      exact tab_eq I _ _ _ _ _ _ _ _ _ h1 h2 rfl rfl rfl rfl rfl rfl

end Cert.KernelIdeal.Attn
-- ==== Proof.Scores.lean ====
module

public import proofs.«01_k».proof.Proof.Table

/-! # The probabilities of a step, over the reals -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

/-- The value of the table of biases. -/
def tabV (I : Inp) (a r c : ℕ) : EReal :=
  if (r % 256) / 64 ≤ (c % 128) / 64 + 2 ∧ (c % 128) / 64 ≤ (r % 256) / 64
      then ((I.t (8 * a + 2 * (c / 128) + r / 256) (relw (r % 256) (c % 128)) : ℝ) : EReal) else ⊥

/-- A table that holds the biases. -/
def Tabled (I : Inp) (T : Vec Ideal S2x512x512 .f32) : Prop := ∀ (a : Fin 2) (r c : Fin 512), T (ix3 a r c) = tabV I a.val r.val c.val

theorem pl0_at (T : Vec Ideal S2x512x512 .f32) (r c : Fin 512) : pl0 T (ix3 0 r c) = T (ix3 0 r c) := by
  unfold pl0 View.ld
  congr 1
  funext a
  fin_cases a <;> apply Fin.ext <;> (simp [LoadRect.idx, Rect.unit, ix3] <;> rfl)

theorem pl1_at (T : Vec Ideal S2x512x512 .f32) (r c : Fin 512) : pl1 T (ix3 0 r c) = T (ix3 1 r c) := by
  unfold pl1 View.ld
  congr 1
  funext a
  fin_cases a <;> apply Fin.ext <;> (simp [LoadRect.idx, Rect.unit, ix3] <;> rfl)

theorem relw_eq (b j i : ℕ) (h : 128 ≤ 128 * b + j) : relw j i = BitVec.ofNat 32 (128 * b + j - 128) - BitVec.ofNat 32 (128 * b + i) := by
  unfold relw
  apply BitVec.eq_of_toNat_eq
  rw [BitVec.toNat_ofInt, BitVec.toNat_sub, BitVec.toNat_ofNat, BitVec.toNat_ofNat]
  omega

theorem prob (I : Inp) (b gi r c : ℕ) (hgi : gi < 2) (hr : r < 512) (hc : c < 512) (hm : 128 ≤ 128 * b + r % 256) (f : ℕ → ℝ)
    (hf : ∀ d, d < 64 → f d = I.q (128 * b + c % 128) (512 * gi + (128 * (c / 128) + (64 * (r / 256) + d))) * I.kp gi (128 * b + 896 + r % 256) (64 * (r / 256) + d)) :
    Ideal.exp ((((∑ d ∈ range 64, f d) * (1 / 8) : ℝ) : EReal) + tabV I gi r c
      - ((Real.log (I.Z (Inp.hd gi r c) (128 * b + c % 128)) : ℝ) : EReal)) = ((I.pB b gi r c : ℝ) : EReal) := by
  unfold Inp.pB tabV
  rw [if_pos hm]
  have hZ := I.Z_pos (Inp.hd gi r c) (128 * b + c % 128)
  have hband : Inp.band (128 * b + c % 128) (128 * b + r % 256 - 128) ↔ ((r % 256) / 64 ≤ (c % 128) / 64 + 2 ∧ (c % 128) / 64 ≤ (r % 256) / 64) := by
    unfold Inp.band; omega
  by_cases hv : (r % 256) / 64 ≤ (c % 128) / 64 + 2 ∧ (c % 128) / 64 ≤ (r % 256) / 64
  · rw [if_pos hv, ← EReal.coe_add, ← EReal.coe_sub, Ideal.exp_coe]
    unfold Inp.P Inp.E
    rw [if_pos (hband.2 hv), Real.exp_sub, Real.exp_log hZ]
    congr 3
    unfold Inp.L
    congr 2
    · refine Finset.sum_congr (M := ℝ) rfl fun d hd => ?_
      have hd' := Finset.mem_range.1 hd
      rw [hf d hd']
      unfold Inp.kp Inp.hd
      rw [if_neg (by omega)]
      congr 2 <;> omega
    · exact relw_eq b _ _ hm
  · rw [if_neg hv, Inp.P_of_not_band (I := I) (fun h => hv (hband.1 h))]
    rw [EReal.add_bot, EReal.bot_sub]
    simp [Ideal.exp_bot]

theorem prob_gone (x : ℝ) : Ideal.exp (⊥ - (x : EReal)) = 0 := by
  rw [EReal.bot_sub, Ideal.exp_bot]

theorem keepW (r : Fin 512) : (IntOp.cmpi CmpIPredicate.sge
        (IntOp.addi
          (Scalar.select
            (IntOp.andi
              (IntOp.cmpi CmpIPredicate.ne
                (IntOp.subi
                  (BitVec.setWidth 32
                    (IntOp.cmpi CmpIPredicate.sgt
                      (Scalar.select (IntOp.cmpi CmpIPredicate.sge (BitVec.ofNat 32 ↑r) 256#32)
                        (IntOp.subi (BitVec.ofNat 32 ↑r) 256#32) (BitVec.ofNat 32 ↑r))
                      0#32))
                  (BitVec.setWidth 32
                    (IntOp.cmpi CmpIPredicate.slt
                      (Scalar.select (IntOp.cmpi CmpIPredicate.sge (BitVec.ofNat 32 ↑r) 256#32)
                        (IntOp.subi (BitVec.ofNat 32 ↑r) 256#32) (BitVec.ofNat 32 ↑r))
                      0#32)))
                (Scalar.subi (Scalar.extui (Scalar.cmpi CmpIPredicate.sgt 128#32 0#32))
                  (Scalar.extui (Scalar.cmpi CmpIPredicate.slt 128#32 0#32))))
              (IntOp.cmpi CmpIPredicate.ne
                (IntOp.remsi ArithUnit.vector
                  (Scalar.select (IntOp.cmpi CmpIPredicate.sge (BitVec.ofNat 32 ↑r) 256#32)
                    (IntOp.subi (BitVec.ofNat 32 ↑r) 256#32) (BitVec.ofNat 32 ↑r))
                  128#32)
                0#32))
            (IntOp.subi
              (IntOp.divsi ArithUnit.vector
                (Scalar.select (IntOp.cmpi CmpIPredicate.sge (BitVec.ofNat 32 ↑r) 256#32)
                  (IntOp.subi (BitVec.ofNat 32 ↑r) 256#32) (BitVec.ofNat 32 ↑r))
                128#32)
              1#32)
            (IntOp.divsi ArithUnit.vector
              (Scalar.select (IntOp.cmpi CmpIPredicate.sge (BitVec.ofNat 32 ↑r) 256#32)
                (IntOp.subi (BitVec.ofNat 32 ↑r) 256#32) (BitVec.ofNat 32 ↑r))
              128#32))
          (Scalar.subi 0#32 1#32))
        0#32) = if 128 ≤ r.val % 256 then 1#1 else 0#1 := by
  revert r
  decide +kernel

set_option maxHeartbeats 2000000 in
theorem keep0 (s : FVec Ideal S512x512 .f32) (r c : Fin 512) :
    k0_pay123 0#32 s k0_pay120 (128#32) k0_pay121 k0_pay122 (ix2 r c) = if 128 ≤ r.val % 256 then s (ix2 r c) else ⊥ := by
  pointwise [k0_pay123, k0_pay120, k0_pay121, k0_pay122]
  simp only [keepW r, mask_eq]
  by_cases h : 128 ≤ r.val % 256
  · simp only [if_pos h, sel_one]
  · simp only [if_neg h, sel_zero]

set_option maxHeartbeats 2000000 in
theorem keep1 (s : FVec Ideal S512x512 .f32) (r c : Fin 512) :
    k0_pay164 0#32 s k0_pay161 (128#32) k0_pay162 k0_pay163 (ix2 r c) = if 128 ≤ r.val % 256 then s (ix2 r c) else ⊥ := by
  pointwise [k0_pay164, k0_pay161, k0_pay162, k0_pay163]
  simp only [keepW r, mask_eq]
  by_cases h : 128 ≤ r.val % 256
  · simp only [if_pos h, sel_one]
  · simp only [if_neg h, sel_zero]

/-- A point's coordinate is its number. -/
theorem coord_at : ∀ t : Fin cfg0.N, ((grid0.coords t) 0).val = t.val :=
  (by decide +kernel : ∀ t : Fin grid0.N, ((grid0.coords t) 0).val = t.val)

variable {I : Inp} {X : Blk Ideal}

theorem lse_at {b : ℕ} {W : Vec Ideal S256x512 .bf16} (hX : Fed I b X W) (g : ℕ) (hg : g < 2) (r c : Fin 512) (a : Fin 8) (ha : a.val = 2 * g + r.val / 256) :
    X.lse (ix3 0 a c) = ((Real.log (I.Z (Inp.hd g r.val c.val) (128 * b + c.val % 128)) : ℝ) : EReal) := by
  rw [hX.lse a c (by omega)]
  congr 3
  unfold Inp.hd
  omega

/-- The scores of a step past the first give the probabilities. -/
theorem scored_later (t : Fin cfg0.N) (h : 1 ≤ t.val) (S : Scr Ideal) (hT : Tabled I S.bias) (hX : Fed I t.val X (winB t h X)) :
    Scored I t.val X (scB0 t h X S) (scB1 t h X S) := by
  constructor
  · intro r c
    have hr := r.2
    have hc := c.2
    unfold scB0
    rw [hX.sc0_at, pl0_at, hT 0 r c, lse_at hX 0 (by omega) r c _ (by show r.val / 256 = _; omega)]
    exact prob I t.val 0 r.val c.val (by omega) hr hc (by omega) _ (fun d _ => by congr 2; omega)
  · intro r c
    have hr := r.2
    have hc := c.2
    unfold scB1
    rw [hX.sc1_at, pl1_at, hT 1 r c, lse_at hX 1 (by omega) r c _ (by show 2 + r.val / 256 = _; omega)]
    exact prob I t.val 1 r.val c.val (by omega) hr hc (by omega) _ (fun d _ => rfl)

/-- So do the first step's, which are taken away above the sequence's start. -/
theorem scored_first (t : Fin cfg0.N) (h : t.val = 0) (hB : Based I X) (hX : Fed I t.val X (winA t h X)) :
    Scored I t.val X (scA0 t h X) (scA1 t h X) := by
  have e0 : BitVec.ofNat 32 ((grid0.coords t) 0).val = 0#32 := by
    rw [coord_at, h]
  have hT : Tabled I X.tab := fun a r c => tab_at I X hB a r c
  constructor
  · intro r c
    have hr := r.2
    have hc := c.2
    unfold scA0
    rw [e0, keep0, lse_at hX 0 (by omega) r c _ (by show r.val / 256 = _; omega)]
    by_cases hm : 128 ≤ r.val % 256
    · rw [if_pos hm, hX.sc0_at, pl0_at, hT 0 r c]
      exact prob I t.val 0 r.val c.val (by omega) hr hc (by omega) _ (fun d _ => by congr 2; omega)
    · rw [if_neg hm, prob_gone]
      unfold Inp.pB
      rw [if_neg (by omega)]; rfl
  · intro r c
    have hr := r.2
    have hc := c.2
    unfold scA1
    rw [e0, keep1, lse_at hX 1 (by omega) r c _ (by show 2 + r.val / 256 = _; omega)]
    by_cases hm : 128 ≤ r.val % 256
    · rw [if_pos hm, hX.sc1_at, pl1_at, hT 1 r c]
      exact prob I t.val 1 r.val c.val (by omega) hr hc (by omega) _ (fun d _ => rfl)
    · rw [if_neg hm, prob_gone]
      unfold Inp.pB
      rw [if_neg (by omega)]; rfl

end Cert.KernelIdeal.Attn
-- ==== Proof.State.lean ====
module

public import proofs.«01_k».proof.Proof.Scores

/-! # What the carried buffers hold after each grid step
The table of biases from the first step on, and the running sums of the gradients over the steps so far. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

variable (m : (ℓ : Loc nD τ sig) → Buf (Elt Ideal) ℓ)

/-- The carried buffers after `n` steps. -/
structure Carried (I : Inp) (n : ℕ) (S : Scr Ideal) : Prop where
  bias : Tabled I S.bias
  dbias : ∀ (a : Fin 2) (r c : Fin 512), S.dbias (ix3 a r c) = ((∑ b ∈ range n, I.dsB b a.val r.val c.val : ℝ) : EReal)
  dkv : ∀ (ρ : Fin 5120) (x : Fin 512), S.dkv (ix2 ρ x) = ((∑ b ∈ range n, Fed.kvG I b ρ.val x.val : ℝ) : EReal)
  dsink : ∀ (a : Fin 8) (x : Fin 512), S.dsink (ix2 a x) = ((∑ b ∈ range n, (if a.val < 4 then I.skB b a.val x.val else 0) : ℝ) : EReal)

/-- Every step reads the blocks of the arrays. -/
structure AllFed (I : Inp) (c : Dev nD) : Prop where
  base : ∀ t, Based I (blk m c t)
  fed : ∀ (t : Fin cfg0.N) (W : Vec Ideal S256x512 .bf16), (∀ (j : Fin 256) (x : Fin 512), W (ix2 j x) = (blk m c t).kv (ix2 ⟨128 * t.val + 896 + j.val, by have := t.isLt; have := points; omega⟩ x)) → Fed I t.val (blk m c t) W

theorem win_at (X : Blk Ideal) (off : Fin 2 → ℕ) (h) (R : ℕ) (e : off = ![R, 0]) (j : Fin 256) (x : Fin 512) (hR : R + j.val < 5120) :
    winAt X off h (ix2 j x) = X.kv (ix2 ⟨R + j.val, hR⟩ x) := by
  subst e
  unfold winAt View.ld
  congr 1
  funext a
  fin_cases a <;> apply Fin.ext <;> (simp [LoadRect.idx, Rect.unit, ix2] <;> rfl)

theorem ld_at (D : Vec Ideal S5120x512 .f32) (off : Fin 2 → ℕ) (h : ∀ a, off a + (![256, 128] : Fin 2 → ℕ) a ≤ S5120x512.size a) (R C : ℕ) (e : off = ![R, C]) (j : Fin 256) (x : Fin 128)
    (hR : R + j.val < 5120) (hC : C + x.val < 512) :
    View.ld (Val := Elt Ideal) D (Rect.unit (s := S5120x512) off ![256, 128] h) (ix2 j x) = D (ix2 ⟨R + j.val, hR⟩ ⟨C + x.val, hC⟩) := by
  subst e
  unfold View.ld
  congr 1
  funext a
  fin_cases a <;> apply Fin.ext <;> (simp [LoadRect.idx, Rect.unit, ix2] <;> rfl)

theorem allS_at (x : Vec Ideal S8x512 .f32) (a : Fin 8) (c : Fin 512) : allS x (ix2 a c) = x (ix2 a c) := by
  unfold allS View.ld
  congr 1
  funext k
  fin_cases k <;> apply Fin.ext <;> (simp [LoadRect.idx, Rect.unit, ix2] <;> rfl)

variable {I : Inp} {c : Dev nD}

theorem fedA (hF : AllFed m I c) (t : Fin cfg0.N) (h : t.val = 0) : Fed I t.val (blk m c t) (winA t h (blk m c t)) :=
  hF.fed t _ fun j x => win_at _ _ _ (128 * t.val + 896) ((k0_off1_eq _).trans (by rw [coord_at])) j x _

theorem fedB (hF : AllFed m I c) (t : Fin cfg0.N) (h : 1 ≤ t.val) : Fed I t.val (blk m c t) (winB t h (blk m c t)) :=
  hF.fed t _ fun j x => win_at _ _ _ (128 * t.val + 896) ((k0_off6_eq _).trans (by rw [coord_at])) j x _

/-- The step past the first adds its part to the sums. -/
theorem carried_later (t : Fin cfg0.N) (h : 1 ≤ t.val) (X : Blk Ideal) (S : Scr Ideal) (hS : Carried I t.val S) (hX : Fed I t.val X (winB t h X)) (S' : Scr Ideal)
    (e0 : S'.bias = S.bias)
    (e1 : S'.dbias = left scr1.view (X.dbL (winB t h X) (scB0 t h X S) (scB1 t h X S) (pl0 S.dbias) (pl1 S.dbias) []))
    (e2 : S'.dkv = scr2.view.read (Elt Ideal) (scr2.view.writes (Elt Ideal) ((Memref.isWhole_whole cc0_scratch2).unread S.dkv) (dkvB t h X (scB0 t h X S) (scB1 t h X S) S.dkv)))
    (e3 : S'.dsink = left scr3.view [⟨Rect.unit ![0, 0] ![8, 512] inb_S8x512_S8x512_0_0, X.dsk (allS S.dsink)⟩]) :
    Carried I (t.val + 1) S' := by
  have ht : t.val < 32 := by have := t.isLt; have := points; omega
  have hz := scored_later t h S hS.bias hX
  refine ⟨e0 ▸ hS.bias, fun a r c => ?_, fun ρ x => ?_, fun a x => ?_⟩
  · rw [e1, Finset.sum_range_succ, EReal.coe_add, ← hS.dbias]
    exact hX.db_left hz _ _ _ _ (pl0_at _) (pl1_at _) a r c
  · rw [e2, Finset.sum_range_succ, EReal.coe_add, ← hS.dkv]
    have q7 := (k0_off7_eq (grid0.coords t)).trans (by rw [coord_at t])
    have q8 := (k0_off8_eq (grid0.coords t)).trans (by rw [coord_at t])
    have q9 := (k0_off9_eq (grid0.coords t)).trans (by rw [coord_at t])
    have q10 := (k0_off10_eq (grid0.coords t)).trans (by rw [coord_at t])
    exact hX.kv_left hz ht _ S.dkv (Memref.IsWhole.read_unread _ _) _ _ _ _ _ _ _ _ q7 q8 q9 q10 _ _ _ _
      (fun j x => ld_at _ _ _ _ _ q7 j x _ _) (fun j x => ld_at _ _ _ _ _ q8 j x _ _) (fun j x => ld_at _ _ _ _ _ q9 j x _ _) (fun j x => ld_at _ _ _ _ _ q10 j x _ _) ρ x
  · rw [e3, Finset.sum_range_succ, EReal.coe_add, ← hS.dsink]
    exact hX.sk_left _ _ _ (allS_at _) a x

theorem zDb_at (a : Fin 2) (r c : Fin 512) : left (F := Ideal) scr1.view zDb (ix3 a r c) = 0 := by
  unfold left zDb
  refine (View.read_writes_cons_unit_of_mem scr1.view _ _ _ _ (ix3 a r c) (ix3 a r c : S2x512x512.Idx) rfl (fun k => by fin_cases k <;> simp [ix3])).trans ?_
  pointwise [k0_pay102]

theorem zDkv_at (ρ : Fin 5120) (x : Fin 512) : left (F := Ideal) scr2.view zDkv (ix2 ρ x) = 0 := by
  unfold left zDkv
  refine (View.read_writes_cons_unit_of_mem scr2.view _ _ _ _ (ix2 ρ x) (ix2 ρ x : S5120x512.Idx) rfl (fun k => by fin_cases k <;> simp [ix2])).trans ?_
  pointwise [k0_pay103]

theorem zDs_at (a : Fin 8) (x : Fin 512) : left (F := Ideal) scr3.view zDs (ix2 a x) = 0 := by
  unfold left zDs
  refine (View.read_writes_cons_unit_of_mem scr3.view _ _ _ _ (ix2 a x) (ix2 a x : S8x512.Idx) rfl (fun k => by fin_cases k <;> simp [ix2])).trans ?_
  pointwise [k0_pay1, k0_pay104]

/-- A read of the running sums beside a store in other columns. -/
theorem beside (o R C : ℕ) (off : Fin 2 → ℕ) (inb : ∀ a, off a + S256x128.size a ≤ S5120x512.size a) (heq : off = ![R, o]) (w : FVec Ideal S256x128 .f32) (L : List (View.Piece (Elt Ideal) S5120x512 .f32))
    (ρ : Fin 5120) (x : Fin 512) (ho : x.val < o ∨ o + 128 ≤ x.val) :
    left scr2.view (⟨Rect.unit off S256x128.size inb, w⟩ :: L) (ix2 ρ x) = left scr2.view L (ix2 ρ x) := by
  unfold left
  refine View.read_writes_cons_unit_of_not_mem scr2.view (scr2.view.junk (Val := Elt Ideal)) inb w L (ix2 ρ x) heq (1 : Fin 2) ?_
  show x.val < o ∨ o + 128 ≤ x.val
  exact ho

/-- The first step fills the table and starts the sums. -/
theorem carried_first (t : Fin cfg0.N) (h : t.val = 0) (X : Blk Ideal) (hB : Based I X) (hX : Fed I t.val X (winA t h X)) (S' : Scr Ideal)
    (e0 : S'.bias = X.tab)
    (e1 : S'.dbias = left scr1.view (dbA t h X (scA0 t h X) (scA1 t h X)))
    (e2 : S'.dkv = left scr2.view (dkvA5 t h X (scA0 t h X) (scA1 t h X)))
    (e3 : S'.dsink = left scr3.view (⟨Rect.unit ![0, 0] ![8, 512] inb_S8x512_S8x512_0_0, X.dsk (allS (left scr3.view zDs))⟩ :: zDs)) :
    Carried I (t.val + 1) S' := by
  have ht : t.val < 32 := by have := t.isLt; have := points; omega
  have hz := scored_first t h hB hX
  have r0 : range t.val = ∅ := by rw [h]; rfl
  refine ⟨fun a r c => e0 ▸ tab_at I X hB a r c, fun a r c => ?_, fun ρ x => ?_, fun a x => ?_⟩
  · rw [e1, Finset.sum_range_succ, r0, Finset.sum_empty, zero_add]
    refine (hX.db_left hz (scr1.view.writes (Elt Ideal) scr1.view.junk zDb) (pl0 (left scr1.view zDb)) (pl1 (left scr1.view (dbA1 t h X (scA0 t h X)))) (left scr1.view zDb) (pl0_at _) (fun r c => ?_) a r c).trans ?_
    · rw [pl1_at]
      exact View.read_writes_cons_unit_of_not_mem scr1.view _ _ _ _ (ix3 1 r c) rfl 0 (Or.inr (by show 0 + 1 ≤ 1; omega))
    · rw [zDb_at, zero_add]
  · rw [e2, Finset.sum_range_succ, r0, Finset.sum_empty, zero_add]
    have q2 := (k0_off2_eq (grid0.coords t)).trans (by rw [coord_at t])
    have q3 := (k0_off3_eq (grid0.coords t)).trans (by rw [coord_at t])
    have q4 := (k0_off4_eq (grid0.coords t)).trans (by rw [coord_at t])
    have q5 := (k0_off5_eq (grid0.coords t)).trans (by rw [coord_at t])
    refine (hX.kv_left hz ht (scr2.view.writes (Elt Ideal) scr2.view.junk zDkv) (left scr2.view zDkv) rfl _ _ _ _ _ _ _ _ q2 q3 q4 q5
      (View.ld (Val := Elt Ideal) (left scr2.view zDkv) (Rect.unit (k0_off2 (grid0.coords t)) S256x128.size (k0_off2_inb _ ((opens_iff t).mpr h))))
      (View.ld (Val := Elt Ideal) (left scr2.view (dkvA2 t h X (scA0 t h X))) (Rect.unit (k0_off3 (grid0.coords t)) S256x128.size (k0_off3_inb _ ((opens_iff t).mpr h))))
      (View.ld (Val := Elt Ideal) (left scr2.view (dkvA3 t h X (scA0 t h X))) (Rect.unit (k0_off4 (grid0.coords t)) S256x128.size (k0_off4_inb _ ((opens_iff t).mpr h))))
      (View.ld (Val := Elt Ideal) (left scr2.view (dkvA4 t h X (scA0 t h X) (scA1 t h X))) (Rect.unit (k0_off5 (grid0.coords t)) S256x128.size (k0_off5_inb _ ((opens_iff t).mpr h))))
      (fun j x => ld_at _ _ _ _ _ q2 j x _ _) (fun j x => (ld_at _ _ _ _ _ q3 j x (by omega) (by omega)).trans ?_) (fun j x => (ld_at _ _ _ _ _ q4 j x (by omega) (by omega)).trans ?_) (fun j x => (ld_at _ _ _ _ _ q5 j x (by omega) (by omega)).trans ?_) ρ x).trans ?_
    · exact beside 0 _ 0 _ _ q2 _ _ _ _ (Or.inr (by show 0 + 128 ≤ 256 + x.val; omega))
    · exact (beside 256 _ 0 _ _ q3 _ _ _ _ (Or.inl (by show 128 + x.val < 256; omega))).trans (beside 0 _ 0 _ _ q2 _ _ _ _ (Or.inr (by show 0 + 128 ≤ 128 + x.val; omega)))
    · exact ((beside 128 _ 0 _ _ q4 _ _ _ _ (Or.inr (by show 128 + 128 ≤ 384 + x.val; omega))).trans (beside 256 _ 0 _ _ q3 _ _ _ _ (Or.inr (by show 256 + 128 ≤ 384 + x.val; omega)))).trans (beside 0 _ 0 _ _ q2 _ _ _ _ (Or.inr (by show 0 + 128 ≤ 384 + x.val; omega)))
    · rw [zDkv_at, zero_add]
  · rw [e3, Finset.sum_range_succ, r0, Finset.sum_empty, zero_add]
    refine (hX.sk_left (scr3.view.writes (Elt Ideal) scr3.view.junk zDs) _ (left scr3.view zDs) (allS_at _) a x).trans ?_
    rw [zDs_at, zero_add]

section
variable {F : FTy → Type} [FloatOps F] [Named F] (c : Dev nD) (t : Fin cfg0.N) (X : Blk F) (S : Scr F)

theorem stepA_bias (h : t.val = 0) : (stepA c t h X).2.bias = X.tab := by unfold stepA; dsimp only; rw [A_tab]; rfl
theorem stepA_dbias (h : t.val = 0) : (stepA c t h X).2.dbias = left scr1.view (dbA t h X (scA0 t h X) (scA1 t h X)) := by unfold stepA; dsimp only; rw [A_db]
theorem stepA_dkv (h : t.val = 0) : (stepA c t h X).2.dkv = left scr2.view (dkvA5 t h X (scA0 t h X) (scA1 t h X)) := by unfold stepA; dsimp only; rw [A_dkv]
theorem stepA_dsink (h : t.val = 0) : (stepA c t h X).2.dsink = left scr3.view (⟨Rect.unit ![0, 0] ![8, 512] inb_S8x512_S8x512_0_0, X.dsk (allS (left scr3.view zDs))⟩ :: zDs) := by
  unfold stepA; dsimp only; rw [A_dsk]
theorem stepA_dz (h : t.val = 0) : (stepA c t h X).1.dz = left V8 (atA c t h X).1 := by unfold stepA; dsimp only
theorem stepB_bias (h : 0 < t.val ∧ t.val < 31) : (stepB c t h X S).2.bias = S.bias := by unfold stepB; dsimp only
theorem stepB_dbias (h : 0 < t.val ∧ t.val < 31) : (stepB c t h X S).2.dbias = left scr1.view (X.dbL (winB t h.1 X) (scB0 t h.1 X S) (scB1 t h.1 X S) (pl0 S.dbias) (pl1 S.dbias) []) := by
  unfold stepB; dsimp only; rw [B_db]
theorem stepB_dkv (h : 0 < t.val ∧ t.val < 31) : (stepB c t h X S).2.dkv = scr2.view.read (Elt F) (scr2.view.writes (Elt F) ((Memref.isWhole_whole cc0_scratch2).unread S.dkv) (dkvB t h.1 X (scB0 t h.1 X S) (scB1 t h.1 X S) S.dkv)) := by
  unfold stepB; dsimp only; rw [B_dkv]
theorem stepB_dsink (h : 0 < t.val ∧ t.val < 31) : (stepB c t h X S).2.dsink = left scr3.view [⟨Rect.unit ![0, 0] ![8, 512] inb_S8x512_S8x512_0_0, X.dsk (allS S.dsink)⟩] := by
  unfold stepB; dsimp only; rw [B_dsk]
theorem stepB_dz (h : 0 < t.val ∧ t.val < 31) : (stepB c t h X S).1.dz = left V8 (atB c t h X S).1 := by unfold stepB; dsimp only
theorem stepC_bias (h : t.val = 31) : (stepC c t h X S).2.bias = S.bias := by unfold stepC; dsimp only
theorem stepC_dbias (h : t.val = 31) : (stepC c t h X S).2.dbias = left scr1.view (X.dbL (winB t (by omega) X) (scB0 t (by omega) X S) (scB1 t (by omega) X S) (pl0 S.dbias) (pl1 S.dbias) []) := by
  unfold stepC; dsimp only; rw [C_db]
theorem stepC_dkv (h : t.val = 31) : (stepC c t h X S).2.dkv = scr2.view.read (Elt F) (scr2.view.writes (Elt F) ((Memref.isWhole_whole cc0_scratch2).unread S.dkv) (dkvB t (by omega) X (scB0 t (by omega) X S) (scB1 t (by omega) X S) S.dkv)) := by
  unfold stepC; dsimp only; rw [C_dkv]
theorem stepC_dsink (h : t.val = 31) : (stepC c t h X S).2.dsink = left scr3.view [⟨Rect.unit ![0, 0] ![8, 512] inb_S8x512_S8x512_0_0, X.dsk (allS S.dsink)⟩] := by
  unfold stepC; dsimp only; rw [C_dsk]
theorem stepC_dz (h : t.val = 31) : (stepC c t h X S).1.dz = left V8 (atC c t h X S).1 := by unfold stepC; dsimp only
end

/-- After every step the carried buffers hold the sums so far. -/
theorem carried (hF : AllFed m I c) : ∀ (n : ℕ) (h : n < cfg0.N), Carried I (n + 1) (state m c n h).2
  | 0, h => by
    rw [state_A m c ⟨0, h⟩ rfl]
    exact carried_first ⟨0, h⟩ rfl (blk m c ⟨0, h⟩) (hF.base _) (fedA m hF _ _) _ (stepA_bias c _ _ _) (stepA_dbias c _ _ _) (stepA_dkv c _ _ _) (stepA_dsink c _ _ _)
  | n + 1, h => by
    have ih := carried hF n (by omega)
    have hN := points
    by_cases e : n + 1 = 31
    · rw [state_C m c ⟨n + 1, h⟩ e]
      exact carried_later ⟨n + 1, h⟩ (by show 1 ≤ n + 1; omega) (blk m c ⟨n + 1, h⟩) (state m c n (by omega)).2 ih (fedB m hF _ _) _ (stepC_bias c _ _ _ _) (stepC_dbias c _ _ _ _) (stepC_dkv c _ _ _ _) (stepC_dsink c _ _ _ _)
    · have e' : 0 < (⟨n + 1, h⟩ : Fin cfg0.N).val ∧ (⟨n + 1, h⟩ : Fin cfg0.N).val < 31 := ⟨Nat.succ_pos n, by show n + 1 < 31; omega⟩
      rw [state_B m c ⟨n + 1, h⟩ e']
      exact carried_later ⟨n + 1, h⟩ (by show 1 ≤ n + 1; omega) (blk m c ⟨n + 1, h⟩) (state m c n (by omega)).2 ih (fedB m hF _ _) _ (stepB_bias c _ _ _ _) (stepB_dbias c _ _ _ _) (stepB_dkv c _ _ _ _) (stepB_dsink c _ _ _ _)

/-- Every step leaves its rows of the gradients of the queries and of the gate. -/
theorem dz_at (hF : AllFed m I c) (t : Fin cfg0.N) (a : Fin 4) (i : Fin 128) (x : Fin 512) :
    (state m c t.val t.isLt).1.dz (ix3 a i x) = ((Fed.dzG I t.val a.val i.val x.val : ℝ) : EReal) := by
  have ht : t.val < 32 := by have := t.isLt; have := points; omega
  by_cases h0 : t.val = 0
  · rw [state_A m c t h0, stepA_dz]
    exact (fedA m hF t h0).dz_left (scored_first t h0 (hF.base t) (fedA m hF t h0)) ht t c _ (A_dz c t h0 _) (coverA_L8 c t h0 _) a i x
  · have hS := carried m hF (t.val - 1) (by have := t.isLt; omega)
    rw [Nat.sub_add_cancel (by omega)] at hS
    have hX := fedB m hF t (by omega)
    have hz := scored_later t (by omega) _ hS.bias hX
    by_cases h1 : t.val = 31
    · rw [state_C m c t h1, stepC_dz]
      exact hX.dz_left hz ht t c _ (C_dz c t h1 _ _) (coverC_L8 c t h1 _ _) a i x
    · have h2 : 0 < t.val ∧ t.val < 31 := by omega
      rw [state_B m c t h2, stepB_dz]
      exact hX.dz_left hz ht t c _ (B_dz c t h2 _ _) (coverB_L8 c t h2 _ _) a i x

end Cert.KernelIdeal.Attn
-- ==== Proof.Last.lean ====
module

public import proofs.«01_k».proof.Proof.Model

/-! # What the last grid step writes besides
After the sums' last stores the last step reads them back and writes the gradients of the keys and values, the sums of the bias's gradient along its
diagonals, and the gradients of the sinks. -/

@[expose] public section

noncomputable section

namespace Cert.KernelIdeal.Attn

open Cert.KernelIdeal.Gen
open Idealize.ShloMosaic Idealize.ShloMosaic.TcCoe Idealize.ShloMosaic.Tactic

set_option maxRecDepth 16384

variable {F : FTy → Type} [FloatOps F] [Named F]

/-- The gradients of the keys and values read off the sums. -/
def kvL (D : Vec F S5120x512 .f32) : List (View.Piece (Elt F) S4096x256 .bf16) :=
  [⟨Rect.unit ![0, 128] S4096x128.size inb_S4096x256_S4096x128_0_128, k0_pay279 (View.ld (Val := Elt F) D (Rect.unit ![1024, 256] S4096x128.size inb_S5120x512_S4096x128_1024_256)) (View.ld (Val := Elt F) D (Rect.unit ![1024, 384] S4096x128.size inb_S5120x512_S4096x128_1024_384))⟩,
   ⟨Rect.unit ![0, 0] S4096x128.size inb_S4096x256_S4096x128_0_0, k0_pay278 (View.ld (Val := Elt F) D (Rect.unit ![1024, 0] S4096x128.size inb_S5120x512_S4096x128_1024_0)) (View.ld (Val := Elt F) D (Rect.unit ![1024, 128] S4096x128.size inb_S5120x512_S4096x128_1024_128))⟩]

theorem C_kv (c : Dev nD) (t : Fin cfg0.N) (h : t.val = 31) (X : Blk F) (S : Scr F) :
    (atC c t h X S).2.1 = kvL (scr2.view.read (Elt F) (scr2.view.writes (Elt F) ((Memref.isWhole_whole cc0_scratch2).unread S.dkv) (atC c t h X S).2.2.2.2.2.1)) := by
  delta atC runC
  sl_kernel_rfl

/-- One head's tile of the sum of the bias's gradient. -/
abbrev tileOf (D : Vec F S2x512x512 .f32) (off : Fin 3 → ℕ) (h : ∀ a, off a + S1x256x128.size a ≤ S2x512x512.size a) : Vec F S1x256x128 .f32 :=
  View.ld (Val := Elt F) D (Rect.unit off S1x256x128.size h)

/-- The sums along the diagonals, head by head. -/
def sumL (D : Vec F S2x512x512 .f32) : List (View.Piece (Elt F) S16x1x384 .f32) :=
  [⟨Rect.unit ![15, 0, 0] S1x1x384.size inb_S16x1x384_S1x1x384_15_0_0, k0_pay285 (tileOf D ![1, 256, 384] inb_S2x512x512_S1x256x128_1_256_384)⟩,
   ⟨Rect.unit ![14, 0, 0] S1x1x384.size inb_S16x1x384_S1x1x384_14_0_0, k0_pay285 (tileOf D ![1, 0, 384] inb_S2x512x512_S1x256x128_1_0_384)⟩,
   ⟨Rect.unit ![13, 0, 0] S1x1x384.size inb_S16x1x384_S1x1x384_13_0_0, k0_pay285 (tileOf D ![1, 256, 256] inb_S2x512x512_S1x256x128_1_256_256)⟩,
   ⟨Rect.unit ![12, 0, 0] S1x1x384.size inb_S16x1x384_S1x1x384_12_0_0, k0_pay285 (tileOf D ![1, 0, 256] inb_S2x512x512_S1x256x128_1_0_256)⟩,
   ⟨Rect.unit ![11, 0, 0] S1x1x384.size inb_S16x1x384_S1x1x384_11_0_0, k0_pay285 (tileOf D ![1, 256, 128] inb_S2x512x512_S1x256x128_1_256_128)⟩,
   ⟨Rect.unit ![10, 0, 0] S1x1x384.size inb_S16x1x384_S1x1x384_10_0_0, k0_pay285 (tileOf D ![1, 0, 128] inb_S2x512x512_S1x256x128_1_0_128)⟩,
   ⟨Rect.unit ![9, 0, 0] S1x1x384.size inb_S16x1x384_S1x1x384_9_0_0, k0_pay285 (tileOf D ![1, 256, 0] inb_S2x512x512_S1x256x128_1_256_0)⟩,
   ⟨Rect.unit ![8, 0, 0] S1x1x384.size inb_S16x1x384_S1x1x384_8_0_0, k0_pay285 (tileOf D ![1, 0, 0] inb_S2x512x512_S1x256x128_1_0_0)⟩,
   ⟨Rect.unit ![7, 0, 0] S1x1x384.size inb_S16x1x384_S1x1x384_7_0_0, k0_pay285 (tileOf D ![0, 256, 384] inb_S2x512x512_S1x256x128_0_256_384)⟩,
   ⟨Rect.unit ![6, 0, 0] S1x1x384.size inb_S16x1x384_S1x1x384_6_0_0, k0_pay285 (tileOf D ![0, 0, 384] inb_S2x512x512_S1x256x128_0_0_384)⟩,
   ⟨Rect.unit ![5, 0, 0] S1x1x384.size inb_S16x1x384_S1x1x384_5_0_0, k0_pay285 (tileOf D ![0, 256, 256] inb_S2x512x512_S1x256x128_0_256_256)⟩,
   ⟨Rect.unit ![4, 0, 0] S1x1x384.size inb_S16x1x384_S1x1x384_4_0_0, k0_pay285 (tileOf D ![0, 0, 256] inb_S2x512x512_S1x256x128_0_0_256)⟩,
   ⟨Rect.unit ![3, 0, 0] S1x1x384.size inb_S16x1x384_S1x1x384_3_0_0, k0_pay285 (tileOf D ![0, 256, 128] inb_S2x512x512_S1x256x128_0_256_128)⟩,
   ⟨Rect.unit ![2, 0, 0] S1x1x384.size inb_S16x1x384_S1x1x384_2_0_0, k0_pay285 (tileOf D ![0, 0, 128] inb_S2x512x512_S1x256x128_0_0_128)⟩,
   ⟨Rect.unit ![1, 0, 0] S1x1x384.size inb_S16x1x384_S1x1x384_1_0_0, k0_pay285 (tileOf D ![0, 256, 0] inb_S2x512x512_S1x256x128_0_256_0)⟩,
   ⟨Rect.unit ![0, 0, 0] S1x1x384.size inb_S16x1x384_S1x1x384_0_0_0, k0_pay285 (tileOf D ![0, 0, 0] inb_S2x512x512_S1x256x128_0_0_0)⟩]

theorem C_sum (c : Dev nD) (t : Fin cfg0.N) (h : t.val = 31) (X : Blk F) (S : Scr F) :
    (atC c t h X S).2.2.1 = sumL (left scr1.view (atC c t h X S).2.2.2.2.1) := by
  delta atC runC
  sl_kernel_rfl

/-- One lane of the gradients of the sinks put in: a head's sum at its lane. -/
def pick (w : BitVec 32) (prev : FVec F S8x128 .f32) (row : Vec F S1x128 .f32) : FVec F S8x128 .f32 :=
  select (cmpi .eq (iota .tc S8x128 32 [1] iota_S8x128_d1_w32) (broadcast S8x128 w))
    (broadcastTo S8x128 (shapeCast S1x1 (shapeCast S1x1 (multiReduction .add [1] S1 row 0x00000000#32 reduces_S1x128_S1 (.inl rfl) rfl) shapeCasts_S1_S1x1) shapeCasts_S1x1_S1x1) broadcasts_S1x1_S8x128)
    prev

abbrev rowOf (D : Vec F S8x512 .f32) (off : Fin 2 → ℕ) (h : ∀ a, off a + S1x128.size a ≤ S8x512.size a) : Vec F S1x128 .f32 :=
  View.ld (Val := Elt F) D (Rect.unit off S1x128.size h)

/-- The gradients of the sinks, lane by lane. -/
def lanes (D : Vec F S8x512 .f32) : FVec F S8x128 .f32 :=
  pick 15#32 (pick 14#32 (pick 13#32 (pick 12#32 (pick 11#32 (pick 10#32 (pick 9#32 (pick 8#32
  (pick 7#32 (pick 6#32 (pick 5#32 (pick 4#32 (pick 3#32 (pick 2#32 (pick 1#32 (pick 0#32 k0_pay280
    (rowOf D ![0, 0] inb_S8x512_S1x128_0_0)) (rowOf D ![1, 0] inb_S8x512_S1x128_1_0)) (rowOf D ![0, 128] inb_S8x512_S1x128_0_128)) (rowOf D ![1, 128] inb_S8x512_S1x128_1_128))
    (rowOf D ![0, 256] inb_S8x512_S1x128_0_256)) (rowOf D ![1, 256] inb_S8x512_S1x128_1_256)) (rowOf D ![0, 384] inb_S8x512_S1x128_0_384)) (rowOf D ![1, 384] inb_S8x512_S1x128_1_384))
    (rowOf D ![2, 0] inb_S8x512_S1x128_2_0)) (rowOf D ![3, 0] inb_S8x512_S1x128_3_0)) (rowOf D ![2, 128] inb_S8x512_S1x128_2_128)) (rowOf D ![3, 128] inb_S8x512_S1x128_3_128))
    (rowOf D ![2, 256] inb_S8x512_S1x128_2_256)) (rowOf D ![3, 256] inb_S8x512_S1x128_3_256)) (rowOf D ![2, 384] inb_S8x512_S1x128_2_384)) (rowOf D ![3, 384] inb_S8x512_S1x128_3_384)

theorem C_sk (c : Dev nD) (t : Fin cfg0.N) (h : t.val = 31) (X : Blk F) (S : Scr F) :
    (atC c t h X S).2.2.2.1 = [⟨Rect.unit ![0, 0] ![8, 128] inb_S8x128_S8x128_0_0, lanes (left scr3.view (atC c t h X S).2.2.2.2.2.2.1)⟩] := by
  delta atC runC
  sl_kernel_rfl

end Cert.KernelIdeal.Attn
-- ==== Proof.Tail.lean ====
module

public import proofs.«01_k».proof.Proof.State
public import proofs.«01_k».proof.Proof.Last

/-! # The last step's gradients of keys, values, sinks and of the bias's diagonals
With the sums over all steps in the carried buffers, what the last step writes is a gradient's place: a key's sum over the query heads that share it,
a diagonal's sum over its tile, a sink's sum over the queries. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

theorem lane64 : ∀ c : Fin 128, IntOp.cmpi CmpIPredicate.slt (BitVec.ofNat 32 c.val) 64#32 = if c.val < 64 then 1#1 else 0#1 := by decide +kernel

set_option maxHeartbeats 2000000 in
theorem fold_at (w : FVec Ideal S4096x128 .bf16) (v v' : Vec Ideal S4096x128 .f32) (hw : w = k0_pay278 v v') (r : Fin 4096) (c : Fin 128) :
    w (ix2 r c) = (if c.val < 64 then v (ix2 r c) + v (ix2 r ⟨(c.val + 128 - 64) % 128, by omega⟩) else v' (ix2 r c) + v' (ix2 r ⟨(c.val + 128 - 64) % 128, by omega⟩) : EReal) := by
  subst hw
  pointwise [k0_pay278, k0_pay277]
  rw [lane64]
  by_cases h : c.val < 64
  · simp only [if_pos h, sel_one]
  · simp only [if_neg h, sel_zero]

theorem flip_at : ∀ a b : Fin 256, IntOp.cmpi CmpIPredicate.eq (IntOp.addi (BitVec.ofNat 32 a.val) (BitVec.ofNat 32 b.val)) 255#32 = if b = ⟨255 - a.val, by omega⟩ then 1#1 else 0#1 := by
  intro a b
  have ha := a.2
  have hb := b.2
  unfold IntOp.cmpi IntOp.addi
  have : (BitVec.ofNat 32 a.val + BitVec.ofNat 32 b.val = 255#32) ↔ b = ⟨255 - a.val, by omega⟩ := by
    rw [Fin.ext_iff, ← BitVec.toNat_inj, BitVec.toNat_add, BitVec.toNat_ofNat, BitVec.toNat_ofNat]
    show (a.val % 2 ^ 32 + b.val % 2 ^ 32) % 2 ^ 32 = 255 % 2 ^ 32 ↔ b.val = 255 - a.val
    omega
  by_cases h : b = ⟨255 - a.val, by omega⟩
  · rw [if_pos h]
    simp [this.2 h]
  · rw [if_neg h]
    rw [beq_eq_false_iff_ne.2 (mt this.1 h)]; rfl

theorem one_re : (FloatOps.sitofp (F := Ideal) FTy.f32 (BitVec.setWidth 32 (1#1))) = ((1 : ℝ) : EReal) := by
  show (((BitVec.setWidth 32 (1#1)).toInt : ℝ) : EReal) = _
  norm_num
theorem zero_re : (FloatOps.sitofp (F := Ideal) FTy.f32 (BitVec.setWidth 32 (0#1))) = ((0 : ℝ) : EReal) := by
  show (((BitVec.setWidth 32 (0#1)).toInt : ℝ) : EReal) = _
  norm_num

set_option maxHeartbeats 4000000 in
theorem diag_at (T : Vec Ideal S1x256x128 .f32) (f : ℕ → ℕ → ℝ) (hT : ∀ (r : Fin 256) (x : Fin 128), T (ix3 0 r x) = ((f r.val x.val : ℝ) : EReal)) (x : Fin 384) :
    k0_pay285 T (ix3 0 0 x) = ((∑ r ∈ range 256, (if r ≤ x.val ∧ x.val < r + 128 then f (255 - r) (x.val - r) else 0) : ℝ) : EReal) := by
  pointwise [k0_pay285]
  rw [Finset.sum_range, coe_sum]
  refine Finset.sum_congr rfl fun r _ => ?_
  have hr := r.2
  have hx := x.2
  by_cases h : (x.val + 512 - r.val % 512) % 512 < 128
  · rw [dif_pos h, if_pos (by omega)]
    rw [Finset.sum_eq_single (⟨255 - r.val, by omega⟩ : Fin 256)]
    · rw [flip_at, if_pos rfl, one_re, hT, ← EReal.coe_mul, one_mul]
      dsimp only
      congr 2
      omega
    · intro b _ hb
      rw [flip_at, if_neg hb, zero_re, hT, ← EReal.coe_mul, zero_mul]; rfl
    · exact fun h => absurd (Finset.mem_univ _) h
  · rw [dif_neg h, if_neg (by omega)]; rfl

theorem pick_at (w : BitVec 32) (prev : FVec Ideal S8x128 .f32) (row : Vec Ideal S1x128 .f32) (r : Fin 8) (c : Fin 128) :
    pick w prev row (ix2 r c) = (if BitVec.ofNat 32 c.val = w then ∑ i : Fin 128, row (ix2 0 i) else prev (ix2 r c) : EReal) := by
  pointwise [pick]
  by_cases h : BitVec.ofNat 32 c.val = w
  · rw [if_pos h]; simp [IntOp.cmpi, h]; rfl
  · rw [if_neg h]; unfold IntOp.cmpi; dsimp only; rw [beq_eq_false_iff_ne.2 h]; rfl

theorem pick_ofNat (w : ℕ) (hw : w < 128) (prev : FVec Ideal S8x128 .f32) (row : Vec Ideal S1x128 .f32) (r : Fin 8) (c : Fin 128) :
    pick (BitVec.ofNat 32 w) prev row (ix2 r c) = (if c.val = w then ∑ i : Fin 128, row (ix2 0 i) else prev (ix2 r c) : EReal) := by
  rw [pick_at]
  have : BitVec.ofNat 32 c.val = BitVec.ofNat 32 w ↔ c.val = w := by
    have := c.2
    rw [← BitVec.toNat_inj, BitVec.toNat_ofNat, BitVec.toNat_ofNat]; omega
  simp only [this]

variable {I : Inp}

/-- The sum of a head's row of the running sum. -/
theorem row_sum (D : Vec Ideal S8x512 .f32) (hD : ∀ (a : Fin 8) (x : Fin 512), D (ix2 a x) = ((∑ b ∈ range 32, (if a.val < 4 then I.skB b a.val x.val else 0) : ℝ) : EReal))
    (off : Fin 2 → ℕ) (h) (n : ℕ) (hn : n < 16) (e : off = ![2 * (n / 8) + n % 2, 128 * (n % 8 / 2)]) :
    (∑ i : Fin 128, rowOf D off h (ix2 0 i) : EReal) = ((I.DSk n : ℝ) : EReal) := by
  subst e
  rw [← I.DSk_blocks n hn, Finset.sum_range, coe_sum]
  refine Finset.sum_congr rfl fun i _ => ?_
  have hi := i.2
  have : rowOf D ![2 * (n / 8) + n % 2, 128 * (n % 8 / 2)] h (ix2 0 i) = D (ix2 ⟨2 * (n / 8) + n % 2, by omega⟩ ⟨128 * (n % 8 / 2) + i.val, by omega⟩) := by
    unfold rowOf View.ld; congr 1; funext a; fin_cases a <;> apply Fin.ext <;> (simp [LoadRect.idx, Rect.unit, ix2] <;> rfl)
  rw [this, hD]
  congr 1
  refine Finset.sum_congr rfl fun b _ => ?_
  rw [if_pos (show 2 * (n / 8) + n % 2 < 4 by omega)]

set_option maxHeartbeats 2000000 in
theorem lanes_at (D : Vec Ideal S8x512 .f32) (hD : ∀ (a : Fin 8) (x : Fin 512), D (ix2 a x) = ((∑ b ∈ range 32, (if a.val < 4 then I.skB b a.val x.val else 0) : ℝ) : EReal))
    (r : Fin 8) (n : Fin 16) : lanes D (ix2 r ⟨n.val, by omega⟩) = ((I.DSk n.val : ℝ) : EReal) := by
  have R := fun off h n hn e => row_sum (I := I) D hD off h n hn e
  unfold lanes
  simp only [pick_ofNat 15 (by omega), pick_ofNat 14 (by omega), pick_ofNat 13 (by omega), pick_ofNat 12 (by omega), pick_ofNat 11 (by omega), pick_ofNat 10 (by omega),
    pick_ofNat 9 (by omega), pick_ofNat 8 (by omega), pick_ofNat 7 (by omega), pick_ofNat 6 (by omega), pick_ofNat 5 (by omega), pick_ofNat 4 (by omega), pick_ofNat 3 (by omega),
    pick_ofNat 2 (by omega), pick_ofNat 1 (by omega), pick_ofNat 0 (by omega)]
  rw [R _ _ 15 (by omega) rfl, R _ _ 14 (by omega) rfl, R _ _ 13 (by omega) rfl, R _ _ 12 (by omega) rfl, R _ _ 11 (by omega) rfl, R _ _ 10 (by omega) rfl, R _ _ 9 (by omega) rfl,
    R _ _ 8 (by omega) rfl, R _ _ 7 (by omega) rfl, R _ _ 6 (by omega) rfl, R _ _ 5 (by omega) rfl, R _ _ 4 (by omega) rfl, R _ _ 3 (by omega) rfl, R _ _ 2 (by omega) rfl,
    R _ _ 1 (by omega) rfl, R _ _ 0 (by omega) rfl]
  revert n
  intro n
  obtain ⟨n, hn⟩ := n
  dsimp only
  interval_cases n <;> simp

/-- A tile's diagonal sums, as the last step leaves them. -/
def diagR (I : Inp) (n x : ℕ) : ℝ :=
  ∑ r ∈ range 256, (if r ≤ x ∧ x < r + 128 then ∑ b ∈ range 32, I.dsB b (n / 8) (256 * (n % 2) + (255 - r)) (128 * (n % 8 / 2) + (x - r)) else 0)

theorem tile_sum (D : Vec Ideal S2x512x512 .f32) (hD : ∀ (a : Fin 2) (r c : Fin 512), D (ix3 a r c) = ((∑ b ∈ range 32, I.dsB b a.val r.val c.val : ℝ) : EReal))
    (off : Fin 3 → ℕ) (h) (n : ℕ) (hn : n < 16) (e : off = ![n / 8, 256 * (n % 2), 128 * (n % 8 / 2)]) (x : Fin 384) :
    k0_pay285 (tileOf D off h) (ix3 0 0 x) = ((diagR I n x.val : ℝ) : EReal) := by
  subst e
  refine diag_at _ (fun r x => ∑ b ∈ range 32, I.dsB b (n / 8) (256 * (n % 2) + r) (128 * (n % 8 / 2) + x)) (fun r y => ?_) x
  have hr := r.2
  have hy := y.2
  have : tileOf D ![n / 8, 256 * (n % 2), 128 * (n % 8 / 2)] h (ix3 0 r y) = D (ix3 ⟨n / 8, by omega⟩ ⟨256 * (n % 2) + r.val, by omega⟩ ⟨128 * (n % 8 / 2) + y.val, by omega⟩) := by
    unfold tileOf View.ld; congr 1; funext a; fin_cases a <;> apply Fin.ext <;> (simp [LoadRect.idx, Rect.unit, ix3] <;> rfl)
  rw [this, hD]

/-- A place of the gradients of the keys and values, off the sums. -/
theorem fold_re (D : Vec Ideal S5120x512 .f32) (hD : ∀ (ρ : Fin 5120) (x : Fin 512), D (ix2 ρ x) = ((∑ b ∈ range 32, Fed.kvG I b ρ.val x.val : ℝ) : EReal))
    (w : FVec Ideal S4096x128 .bf16) (n : ℕ) (hn : n = 0 ∨ n = 256) (h) (h')
    (hw : w = k0_pay278 (View.ld (Val := Elt Ideal) D (Rect.unit ![1024, n] S4096x128.size h)) (View.ld (Val := Elt Ideal) D (Rect.unit ![1024, n + 128] S4096x128.size h')))
    (r : Fin 4096) (c : Fin 128) : w (ix2 r c) = (((if n = 0 then I.DK r.val c.val else I.DV r.val c.val : ℝ)) : EReal) := by
  have L : ∀ (o : ℕ) (ho : o ≤ 384) (h) (x : Fin 128), View.ld (Val := Elt Ideal) D (Rect.unit ![1024, o] S4096x128.size h) (ix2 r x) = D (ix2 ⟨1024 + r.val, by omega⟩ ⟨o + x.val, by omega⟩) := by
    intro o ho h x
    unfold View.ld; congr 1; funext a; fin_cases a <;> apply Fin.ext <;> (simp [LoadRect.idx, Rect.unit, ix2] <;> rfl)
  have hr := r.2
  have hc := c.2
  rw [fold_at w _ _ hw, L n (by omega), L n (by omega), L (n + 128) (by omega), L (n + 128) (by omega), hD, hD, hD, hD]
  rw [← EReal.coe_add, ← EReal.coe_add, ← apply_ite (fun x : ℝ => (x : EReal))]
  congr 1
  have K : ∀ (x y : ℕ), (∑ b ∈ range 32, Fed.kvG I b (1024 + r.val) x) = (∑ b ∈ range 32, if 128 * b + 896 ≤ 1024 + r.val ∧ 1024 + r.val < 128 * b + 1152 then
      (if x < 256 then I.dkB b (x / 128) (1024 + r.val - (128 * b + 896)) (x % 128) else I.dvB b ((x - 256) / 128) (1024 + r.val - (128 * b + 896)) (x % 128)) else 0) := fun _ _ => rfl
  have Kd : ∀ x gi z, x < 256 → x / 128 = gi → x % 128 = z → (∑ b ∈ range 32, Fed.kvG I b (1024 + r.val) x)
      = ∑ b ∈ range 32, if 128 * b + 896 ≤ 1024 + r.val ∧ 1024 + r.val < 128 * b + 1152 then I.dkB b gi (1024 + r.val - (128 * b + 896)) z else 0 := by
    intro x gi z h1 h2 h3; rw [K x x]; simp only [if_pos h1, h2, h3]
  have Vd : ∀ x gi z, ¬ x < 256 → (x - 256) / 128 = gi → x % 128 = z → (∑ b ∈ range 32, Fed.kvG I b (1024 + r.val) x)
      = ∑ b ∈ range 32, if 128 * b + 896 ≤ 1024 + r.val ∧ 1024 + r.val < 128 * b + 1152 then I.dvB b gi (1024 + r.val - (128 * b + 896)) z else 0 := by
    intro x gi z h1 h2 h3; rw [K x x]; simp only [if_neg h1, h2, h3]
  dsimp only
  rcases hn with rfl | rfl
  · rw [if_pos rfl]
    by_cases hd : c.val < 64
    · rw [if_pos hd, Kd _ 0 c.val (by omega) (by omega) (by omega), Kd _ 0 (64 + c.val) (by omega) (by omega) (by omega), I.DK_blocks r.val 0 c.val hr (by omega) hd]
      congr 1; omega
    · rw [if_neg hd, Kd _ 1 (64 + (c.val - 64)) (by omega) (by omega) (by omega), Kd _ 1 (c.val - 64) (by omega) (by omega) (by omega), add_comm, I.DK_blocks r.val 1 (c.val - 64) hr (by omega) (by omega)]
      congr 1; omega
  · rw [if_neg (show ¬ (256 = 0) by omega)]
    by_cases hd : c.val < 64
    · rw [if_pos hd, Vd _ 0 c.val (by omega) (by omega) (by omega), Vd _ 0 (64 + c.val) (by omega) (by omega) (by omega), I.DV_blocks r.val 0 c.val hr (by omega) hd]
      congr 1; omega
    · rw [if_neg hd, Vd _ 1 (64 + (c.val - 64)) (by omega) (by omega) (by omega), Vd _ 1 (c.val - 64) (by omega) (by omega) (by omega), add_comm, I.DV_blocks r.val 1 (c.val - 64) hr (by omega) (by omega)]
      congr 1; omega

/-- The gradients of the keys and values, side by side. -/
def kvR (I : Inp) (r x : ℕ) : ℝ := if x < 128 then I.DK r x else I.DV r (x - 128)

theorem kv_last (D : Vec Ideal S5120x512 .f32) (hD : ∀ (ρ : Fin 5120) (x : Fin 512), D (ix2 ρ x) = ((∑ b ∈ range 32, Fed.kvG I b ρ.val x.val : ℝ) : EReal))
    (L : List (View.Piece (Elt Ideal) S4096x256 .bf16)) (e : L = kvL D) (hcov : ∀ y, ∃ p ∈ L, y ∈ p.1.set) (r : Fin 4096) (x : Fin 256) :
    left V9 L (ix2 r x) = ((kvR I r.val x.val : ℝ) : EReal) := by
  subst e
  have k0 := fold_re D hD (k0_pay278 _ _) 0 (.inl rfl) inb_S5120x512_S4096x128_1024_0 inb_S5120x512_S4096x128_1024_128 rfl
  have k1 := fold_re D hD (k0_pay279 _ _) 256 (.inr rfl) inb_S5120x512_S4096x128_1024_256 inb_S5120x512_S4096x128_1024_384 rfl
  unfold left
  refine View.read_writes_apply_of_pieces V9 _ (fun y : S4096x256.Idx => ((kvR I (y 0).val (y 1).val : ℝ) : EReal)) _ ?_ (ix2 r x) (hcov _)
  intro p hp
  unfold kvL at hp
  simp only [List.mem_cons, List.not_mem_nil, or_false] at hp
  rcases hp with rfl | rfl
  · intro (x : S4096x128.Idx)
    idx_vars x
    refine (k1 x0 x1).trans ?_
    show _ = ((kvR I (0 + 1 * x0.val) (128 + 1 * x1.val) : ℝ) : EReal)
    unfold kvR
    rw [if_neg (by omega), if_neg (by omega)]
    congr 2 <;> omega
  · intro (x : S4096x128.Idx)
    idx_vars x
    refine (k0 x0 x1).trans ?_
    show _ = ((kvR I (0 + 1 * x0.val) (0 + 1 * x1.val) : ℝ) : EReal)
    unfold kvR
    rw [if_pos trivial, if_pos (by omega)]
    congr 2 <;> omega

theorem sk_last (D : Vec Ideal S8x512 .f32) (hD : ∀ (a : Fin 8) (x : Fin 512), D (ix2 a x) = ((∑ b ∈ range 32, (if a.val < 4 then I.skB b a.val x.val else 0) : ℝ) : EReal))
    (L : List (View.Piece (Elt Ideal) S8x128 .f32)) (e : L = [⟨Rect.unit ![0, 0] ![8, 128] inb_S8x128_S8x128_0_0, lanes D⟩]) (hcov : ∀ y, ∃ p ∈ L, y ∈ p.1.set) (r : Fin 8) (n : Fin 16) :
    left V11 L (ix2 r ⟨n.val, by omega⟩) = ((I.DSk n.val : ℝ) : EReal) := by
  subst e
  unfold left
  refine (View.read_writes_apply_of_pieces V11 _ (fun y : S8x128.Idx => lanes D y) _ ?_ (ix2 r ⟨n.val, by omega⟩) (hcov _)).trans (lanes_at D hD r n)
  intro p hp
  simp only [List.mem_cons, List.not_mem_nil, or_false] at hp
  subst hp
  intro (x : S8x128.Idx)
  show lanes D x = lanes D _
  congr 1
  idx_vars x
  funext a; fin_cases a <;> apply Fin.ext
  · show x0.val = 0 + 1 * x0.val; omega
  · show x1.val = 0 + 1 * x1.val; omega

theorem sum_last (D : Vec Ideal S2x512x512 .f32) (hD : ∀ (a : Fin 2) (r c : Fin 512), D (ix3 a r c) = ((∑ b ∈ range 32, I.dsB b a.val r.val c.val : ℝ) : EReal))
    (L : List (View.Piece (Elt Ideal) S16x1x384 .f32)) (e : L = sumL D) (hcov : ∀ y, ∃ p ∈ L, y ∈ p.1.set) (n : Fin 16) (x : Fin 384) :
    left V10 L (ix3 n 0 x) = ((diagR I n.val x.val : ℝ) : EReal) := by
  subst e
  unfold left
  refine View.read_writes_apply_of_pieces V10 _ (fun y : S16x1x384.Idx => ((diagR I (y 0).val (y 2).val : ℝ) : EReal)) _ ?_ (ix3 n 0 x) (hcov _)
  intro p hp
  unfold sumL at hp
  simp only [List.mem_cons, List.not_mem_nil, or_false] at hp
  have go : ∀ (off : Fin 3 → ℕ) (ho) (o : ℕ) (ho' : ∀ a, (![o, 0, 0] : Fin 3 → ℕ) a + S1x1x384.size a ≤ S16x1x384.size a) (hn : o < 16) (e : off = ![o / 8, 256 * (o % 2), 128 * (o % 8 / 2)]) (x : S1x1x384.Idx),
      k0_pay285 (tileOf D off ho) x = (fun y : S16x1x384.Idx => ((diagR I (y 0).val (y 2).val : ℝ) : EReal)) ((Rect.unit (s := S16x1x384) ![o, 0, 0] S1x1x384.size ho').emb x) := by
    intro off ho o ho' hn e x
    idx_vars x
    obtain rfl : x0 = 0 := Subsingleton.elim _ _
    obtain rfl : x1 = 0 := Subsingleton.elim _ _
    refine (tile_sum D hD off ho o hn e x2).trans ?_
    show _ = ((diagR I (o + 1 * 0) (0 + 1 * x2.val) : ℝ) : EReal)
    congr 2 <;> omega
  rcases hp with rfl | rfl | rfl | rfl | rfl | rfl | rfl | rfl | rfl | rfl | rfl | rfl | rfl | rfl | rfl | rfl
  · exact go _ _ 15 inb_S16x1x384_S1x1x384_15_0_0 (by omega) rfl
  · exact go _ _ 14 inb_S16x1x384_S1x1x384_14_0_0 (by omega) rfl
  · exact go _ _ 13 inb_S16x1x384_S1x1x384_13_0_0 (by omega) rfl
  · exact go _ _ 12 inb_S16x1x384_S1x1x384_12_0_0 (by omega) rfl
  · exact go _ _ 11 inb_S16x1x384_S1x1x384_11_0_0 (by omega) rfl
  · exact go _ _ 10 inb_S16x1x384_S1x1x384_10_0_0 (by omega) rfl
  · exact go _ _ 9 inb_S16x1x384_S1x1x384_9_0_0 (by omega) rfl
  · exact go _ _ 8 inb_S16x1x384_S1x1x384_8_0_0 (by omega) rfl
  · exact go _ _ 7 inb_S16x1x384_S1x1x384_7_0_0 (by omega) rfl
  · exact go _ _ 6 inb_S16x1x384_S1x1x384_6_0_0 (by omega) rfl
  · exact go _ _ 5 inb_S16x1x384_S1x1x384_5_0_0 (by omega) rfl
  · exact go _ _ 4 inb_S16x1x384_S1x1x384_4_0_0 (by omega) rfl
  · exact go _ _ 3 inb_S16x1x384_S1x1x384_3_0_0 (by omega) rfl
  · exact go _ _ 2 inb_S16x1x384_S1x1x384_2_0_0 (by omega) rfl
  · exact go _ _ 1 inb_S16x1x384_S1x1x384_1_0_0 (by omega) rfl
  · exact go _ _ 0 inb_S16x1x384_S1x1x384_0_0_0 (by omega) rfl

section
variable {F : FTy → Type} [FloatOps F] [Named F] (c : Dev nD) (t : Fin cfg0.N) (h : t.val = 31) (X : Blk F) (S : Scr F)
theorem last_kv : (stepC c t h X S).1.dkv = left V9 (atC c t h X S).2.1 := by unfold stepC; dsimp only
theorem last_sum : (stepC c t h X S).1.dsum = left V10 (atC c t h X S).2.2.1 := by unfold stepC; dsimp only
theorem last_sk : (stepC c t h X S).1.dsink = left V11 (atC c t h X S).2.2.2.1 := by unfold stepC; dsimp only
theorem list_kv : (atC c t h X S).2.1 = kvL (stepC c t h X S).2.dkv := by
  refine (C_kv c t h X S).trans ?_
  unfold stepC; dsimp only
theorem list_sum : (atC c t h X S).2.2.1 = sumL (stepC c t h X S).2.dbias := by
  refine (C_sum c t h X S).trans ?_
  unfold stepC; dsimp only
theorem list_sk : (atC c t h X S).2.2.2.1 = [⟨Rect.unit ![0, 0] ![8, 128] inb_S8x128_S8x128_0_0, lanes (stepC c t h X S).2.dsink⟩] := by
  refine (C_sk c t h X S).trans ?_
  unfold stepC; dsimp only
end

variable (m : (ℓ : Loc nD τ sig) → Buf (Elt Ideal) ℓ) {c : Dev nD}

theorem carried_last (hF : AllFed m I c) (t : Fin cfg0.N) (h : t.val = 31) : Carried I 32 (stepC c t h (blk m c t) (state m c (t.val - 1) (by omega)).2).2 := by
  have hS := carried m hF t.val t.isLt
  rw [state_C m c t h, show t.val + 1 = 32 by omega] at hS
  exact hS

/-- The gradients of the keys and values after the last step. -/
theorem dkv_at (hF : AllFed m I c) (t : Fin cfg0.N) (h : t.val = 31) (r : Fin 4096) (x : Fin 256) :
    (state m c t.val t.isLt).1.dkv (ix2 r x) = ((kvR I r.val x.val : ℝ) : EReal) := by
  rw [state_C m c t h, last_kv]
  exact kv_last _ (carried_last m hF t h).dkv _ (list_kv c t h _ _) (coverC_L9 c t h _ _) r x

/-- The gradients of the sinks after the last step. -/
theorem dsk_at (hF : AllFed m I c) (t : Fin cfg0.N) (h : t.val = 31) (r : Fin 8) (n : Fin 16) :
    (state m c t.val t.isLt).1.dsink (ix2 r ⟨n.val, by omega⟩) = ((I.DSk n.val : ℝ) : EReal) := by
  rw [state_C m c t h, last_sk]
  exact sk_last _ (carried_last m hF t h).dsink _ (list_sk c t h _ _) (coverC_L11 c t h _ _) r n

/-- The diagonal sums after the last step. -/
theorem dsum_at (hF : AllFed m I c) (t : Fin cfg0.N) (h : t.val = 31) (n : Fin 16) (x : Fin 384) :
    (state m c t.val t.isLt).1.dsum (ix3 n 0 x) = ((diagR I n.val x.val : ℝ) : EReal) := by
  rw [state_C m c t h, last_sum]
  exact sum_last _ (carried_last m hF t h).dbias _ (list_sum c t h _ _) (coverC_L10 c t h _ _) n x

end Cert.KernelIdeal.Attn
-- ==== Proof.Host.lean ====
module

public import proofs.«01_k».proof.Proof.Tail

/-! # The host lines before the kernel
The arrays the kernel reads, as the host lines compose them from the arguments: the positions, the buckets of the distances, the scores, the weights,
the attention's output, the rows' log-weights, the padded keys and values and the rows of the bias's diagonals. -/

@[expose] public section

noncomputable section

namespace Cert.KernelIdeal.Attn

open Cert.KernelIdeal.Gen Cert.Attn
open Idealize.ShloMosaic Idealize.ShloMosaic.TcCoe Idealize.ShloMosaic.Tactic

set_option maxRecDepth 16384

namespace Host0

variable {F : FTy → Type} [FloatOps F]

/-- Rows of a tensor of distances sent to their rows of the table, before the bounds. -/
def bucket (S : Shape) (hb : S_.BroadcastsInDim S (![] : Fin 0 → Fin S.rank)) (rel : IVec S 32) : IVec S 32 :=
  addi (id (select (cmpi .sgt rel (broadcastInDim S ![] hb (constantI S_ 32 0#32))) (broadcastInDim S ![] hb (constantI S_ 32 16#32)) (broadcastInDim S ![] hb (constantI S_ 32 0#32))))
    (select (cmpi .slt (absi rel) (broadcastInDim S ![] hb (constantI S_ 32 8#32))) (absi rel)
      (minsi (addi (broadcastInDim S ![] hb (constantI S_ 32 8#32))
        (fptosi (F := F) (φ := .f32) 32 (mulf (Host.divf (Host.log (Host.divf (sitofp .f32 (maxsi (absi rel) (broadcastInDim S ![] hb (constantI S_ 32 1#32)))) (broadcastInDim S ![] hb (constant S_ .f32 0x41000000#32))))
          (broadcastInDim S ![] hb (constant S_ .f32 0x40317218#32))) (broadcastInDim S ![] hb (constant S_ .f32 0x41000000#32)))))
        (broadcastInDim S ![] hb (constantI S_ 32 15#32))))

/-- A negative row counted from the end. -/
def wrap (S : Shape) (hb : S_.BroadcastsInDim S (![] : Fin 0 → Fin S.rank)) (x : IVec S 32) : IVec S 32 :=
  select (cmpi .slt x (broadcastInDim S ![] hb (constantI S_ 32 0#32))) (addi x (broadcastInDim S ![] hb (constantI S_ 32 32#32))) x

def pos : IVec S4096 32 := iotaInDim S4096 32 0

def rel : IVec S4096x4096 32 :=
  subi (broadcastInDim S4096x4096 ![0, 1] bcast_S1x4096_S4096x4096_0_1 (broadcastInDim S1x4096 ![1] bcast_S4096_S1x4096_1 pos))
    (broadcastInDim S4096x4096 ![0, 1] bcast_S4096x1_S4096x4096_0_1 (broadcastInDim S4096x1 ![0] bcast_S4096_S4096x1_0 pos))

def place (F : FTy → Type) [FloatOps F] : IVec S4096x4096x1 32 :=
  broadcastInDim S4096x4096x1 ![0, 1] bcast_S4096x4096_S4096x4096x1_0_1 (wrap S4096x4096 bcast_S_S4096x4096 (bucket (F := F) S4096x4096 bcast_S_S4096x4096 rel))

def bias (t : FVec F S32x16 .f32) : FVec F S2x8x4096x4096 .f32 :=
  shapeCast S2x8x4096x4096 (transpose S16x4096x4096 [2, 0, 1] (Host.gather gather_S32x16_S4096x4096x1_S4096x4096x16_2_0_n_n_0_2_116 t (place F)) transposes_S4096x4096x16_S16x4096x4096_2_0_1) shapeCasts_S16x4096x4096_S2x8x4096x4096

def sixtyfour : IVec S4096 32 := broadcastInDim S4096 ![] bcast_S_S4096 (id (constantI S_ 32 64#32))

def chunk : IVec S4096 32 :=
  select (andi (cmpi .ne (signi pos) (broadcastInDim S4096 ![] bcast_S_S4096 (signi (id (constantI S_ 32 64#32)))))
      (cmpi .ne (Host.remsi pos sixtyfour) (broadcastInDim S4096 ![] bcast_S_S4096 (constantI S_ 32 0#32))))
    (subi (Host.divsi pos sixtyfour) (broadcastInDim S4096 ![] bcast_S_S4096 (constantI S_ 32 1#32))) (Host.divsi pos sixtyfour)

def band : IVec S2x8x4096x4096 1 :=
  broadcastInDim S2x8x4096x4096 ![0, 1, 2, 3] bcast_S1x1x4096x4096_S2x8x4096x4096_0_1_2_3 (broadcastInDim S1x1x4096x4096 ![2, 3] bcast_S4096x4096_S1x1x4096x4096_2_3
    (andi (cmpi .sle (broadcastInDim S4096x4096 ![0, 1] bcast_S1x4096_S4096x4096_0_1 (broadcastInDim S1x4096 ![1] bcast_S4096_S1x4096_1 chunk))
        (broadcastInDim S4096x4096 ![0, 1] bcast_S4096x1_S4096x4096_0_1 (broadcastInDim S4096x1 ![0] bcast_S4096_S4096x1_0 chunk)))
      (cmpi .sle (broadcastInDim S4096x4096 ![0, 1] bcast_S4096x1_S4096x4096_0_1 (subi (broadcastInDim S4096x1 ![0] bcast_S4096_S4096x1_0 chunk) (broadcastInDim S4096x1 ![] bcast_S_S4096x1 (constantI S_ 32 2#32))))
        (broadcastInDim S4096x4096 ![0, 1] bcast_S1x4096_S4096x4096_0_1 (broadcastInDim S1x4096 ![1] bcast_S4096_S1x4096_1 chunk)))))

def scores (q : FVec F S4096x1024 .f32) (k : FVec F S4096x128 .f32) (t : FVec F S32x16 .f32) : FVec F S2x8x4096x4096 .f32 :=
  select band
    (addf (mulf (transpose S2x8x4096x4096 [0, 3, 2, 1] (Host.dotGeneral dot_S4096x2x64_S4096x2x8x64_S2x4096x4096x8_2_3_0_02_1_1 none (shapeCast S4096x2x64 k shapeCasts_S4096x128_S4096x2x64) (shapeCast S4096x2x8x64 q shapeCasts_S4096x1024_S4096x2x8x64)) transposes_S2x4096x4096x8_S2x8x4096x4096_0_3_2_1)
      (broadcastInDim S2x8x4096x4096 ![] bcast_S_S2x8x4096x4096 (constant S_ .f32 0x3E000000#32))) (bias t))
    (broadcastInDim S2x8x4096x4096 ![] bcast_S_S2x8x4096x4096 (id (constant S_ .f32 0xFF800000#32)))

def both (s : FVec F S1x16 .f32) (z : FVec F S2x8x4096x4096 .f32) : FVec F S2x8x4096x4097 .f32 :=
  concatenate S2x8x4096x4097 3 [⟨S2x8x4096x4096, z⟩, ⟨S2x8x4096x1, broadcastInDim S2x8x4096x1 ![0, 1, 2, 3] bcast_S2x8x1x1_S2x8x4096x1_0_1_2_3 (shapeCast S2x8x1x1 s shapeCasts_S1x16_S2x8x1x1)⟩] concatenates_S2x8x4096x4096_S2x8x4096x1_S2x8x4096x4097_d3

def top (z : FVec F S2x8x4096x4097 .f32) : FVec F S2x8x4096 .f32 :=
  Host.reduce FloatOps.maximumf z (constant S_ .f32 0xFF800000#32) reducesTo_S2x8x4096x4097_S2x8x4096_d3 h_S_

def spread (x : FVec F S2x8x4096 .f32) : FVec F S2x8x4096x4097 .f32 :=
  broadcastInDim S2x8x4096x4097 ![0, 1, 2, 3] bcast_S2x8x4096x1_S2x8x4096x4097_0_1_2_3 (broadcastInDim S2x8x4096x1 ![0, 1, 2] bcast_S2x8x4096_S2x8x4096x1_0_1_2 x)

def top' (z : FVec F S2x8x4096x4097 .f32) : FVec F S2x8x4096 .f32 :=
  maximumf (broadcastInDim S2x8x4096 ![] bcast_S_S2x8x4096 (constant S_ .f32 0xFF800000#32)) (top z)

def expo (z : FVec F S2x8x4096x4097 .f32) (M : FVec F S2x8x4096 .f32) : FVec F S2x8x4096x4097 .f32 := Host.exp (subf z (spread M))

def total (e : FVec F S2x8x4096x4097 .f32) : FVec F S2x8x4096 .f32 :=
  Host.reduceAdd e (constant S_ .f32 0x00000000#32) reducesTo_S2x8x4096x4097_S2x8x4096_d3 h_S_

def weights (e : FVec F S2x8x4096x4097 .f32) : FVec F S2x8x4096x4096 .f32 :=
  extractStridedSlice S2x8x4096x4096 ![0, 0, 0, 0] (Host.divf e (spread (total e))) slices_S2x8x4096x4097_S2x8x4096x4096_0_0_0_0

def out (v : FVec F S4096x128 .f32) (p : FVec F S2x8x4096x4096 .f32) : FVec F S4096x1024 .f32 :=
  shapeCast S4096x1024 (transpose S4096x2x8x64 [3, 0, 2, 1] (Host.dotGeneral dot_S4096x2x64_S2x8x4096x4096_S2x64x8x4096_0_3_2_12_1_0 none (shapeCast S4096x2x64 v shapeCasts_S4096x128_S4096x2x64) p) transposes_S2x64x8x4096_S4096x2x8x64_3_0_2_1) shapeCasts_S4096x2x8x64_S4096x1024

def lse (z : FVec F S2x8x4096x4097 .f32) : FVec F S2x8x4096 .f32 := addf (top z) (Host.log (total (expo z (top z))))

def lseRows (x : FVec F S2x8x4096 .f32) : FVec F S32x8x512 .f32 :=
  concatenate S32x8x512 1 [⟨S32x4x512, shapeCast S32x4x512 (transpose S32x2x2x4x128 [3, 0, 2, 1, 4] (shapeCast S2x4x2x32x128 x shapeCasts_S2x8x4096_S2x4x2x32x128) transposes_S2x4x2x32x128_S32x2x2x4x128_3_0_2_1_4) shapeCasts_S32x2x2x4x128_S32x4x512⟩,
    ⟨S32x4x512, broadcastInDim S32x4x512 ![] bcast_S_S32x4x512 (constant S_ .f32 0x00000000#32)⟩] concatenates_S32x4x512_S32x4x512_S32x8x512_d1

def kvs (k v : FVec F S4096x128 .f32) : FVec F S4096x512 .f32 :=
  concatenate S4096x512 1 [⟨S4096x64, extractStridedSlice S4096x64 ![0, 0] k slices_S4096x128_S4096x64_0_0⟩, ⟨S4096x64, extractStridedSlice S4096x64 ![0, 0] k slices_S4096x128_S4096x64_0_0⟩,
    ⟨S4096x64, extractStridedSlice S4096x64 ![0, 64] k slices_S4096x128_S4096x64_0_64⟩, ⟨S4096x64, extractStridedSlice S4096x64 ![0, 64] k slices_S4096x128_S4096x64_0_64⟩,
    ⟨S4096x64, extractStridedSlice S4096x64 ![0, 0] v slices_S4096x128_S4096x64_0_0⟩, ⟨S4096x64, extractStridedSlice S4096x64 ![0, 0] v slices_S4096x128_S4096x64_0_0⟩,
    ⟨S4096x64, extractStridedSlice S4096x64 ![0, 64] v slices_S4096x128_S4096x64_0_64⟩, ⟨S4096x64, extractStridedSlice S4096x64 ![0, 64] v slices_S4096x128_S4096x64_0_64⟩]
    concatenates_S4096x64_S4096x64_S4096x64_S4096x64_S4096x64_S4096x64_S4096x64_S4096x64_S4096x512_d1

def kvx (k v : FVec F S4096x128 .f32) : FVec F S5120x512 .bf16 :=
  truncf .bf16 (pad S5120x512 ![1024, 0] ![0, 0] ![0, 0] (kvs k v) (sitofp .f32 (constantI S_ 32 0#32)) pads_S4096x512_S5120x512_102400_000 h_S_) bitsLt_bf16_f32

def relb : IVec S384 32 :=
  subi (subi (iotaInDim S384 32 0) (broadcastInDim S384 ![] bcast_S_S384 (constantI S_ 32 127#32))) (broadcastInDim S384 ![] bcast_S_S384 (constantI S_ 32 128#32))

def placeb (F : FTy → Type) [FloatOps F] : IVec S384x1 32 :=
  broadcastInDim S384x1 ![0] bcast_S384_S384x1_0 (wrap S384 bcast_S_S384 (bucket (F := F) S384 bcast_S_S384 relb))

def diag (t : FVec F S32x16 .f32) : FVec F S16x1x384 .f32 :=
  Host.reverse [2] (shapeCast S16x1x384 (transpose S16x384 [1, 0] (Host.gather gather_S32x16_S384x1_S384x16_1_0_n_n_0_1_116 t (placeb F)) transposes_S384x16_S16x384_1_0) shapeCasts_S16x384_S16x1x384)

def base (t : FVec F S32x16 .f32) : FVec F S16x1x384 .f32 :=
  concatenate S16x1x384 2 [⟨S16x1x128, extractStridedSlice S16x1x128 ![0, 0, 256] (diag t) slices_S16x1x384_S16x1x128_0_0_256⟩, ⟨S16x1x256, extractStridedSlice S16x1x256 ![0, 0, 0] (diag t) slices_S16x1x384_S16x1x256_0_0_0⟩]
    concatenates_S16x1x128_S16x1x256_S16x1x384_d2

end Host0

section
variable (m : (ℓ : Loc nD τ sig) → Buf (Elt Ideal) ℓ) (c : Dev nD)

abbrev aq : FVec Ideal S4096x1024 .f32 := m ((c : Thread nD τ).loc main_arg0)
abbrev ag : FVec Ideal S4096x1024 .f32 := m ((c : Thread nD τ).loc main_arg1)
abbrev ak : FVec Ideal S4096x128 .f32 := m ((c : Thread nD τ).loc main_arg2)
abbrev av : FVec Ideal S4096x128 .f32 := m ((c : Thread nD τ).loc main_arg3)
abbrev asn : FVec Ideal S1x16 .f32 := m ((c : Thread nD τ).loc main_arg4)
abbrev at5 : FVec Ideal S32x16 .f32 := m ((c : Thread nD τ).loc main_arg5)
abbrev au : FVec Ideal S4096x1024 .f32 := m ((c : Thread nD τ).loc main_arg6)

theorem V_q : (V m c main_v206 : FVec Ideal S4096x1024 .bf16) = truncf .bf16 (aq m c) bitsLt_bf16_f32 := by
  entry_read
  rfl

theorem V_kvx : (V m c main_v165 : FVec Ideal S5120x512 .bf16) = Host0.kvx (ak m c) (av m c) := by
  entry_read
  rfl

set_option maxHeartbeats 2000000 in
theorem V_base : (V m c main_v205 : FVec Ideal S16x1x384 .f32) = Host0.base (at5 m c) := by
  entry_read
  sl_kernel_rfl

set_option maxHeartbeats 2000000 in
theorem V_place : (V m c main_v194 : IVec S384 32) = Host0.bucket (F := Ideal) S384 bcast_S_S384 Host0.relb := by
  entry_read
  sl_kernel_rfl

/-- The lines before the first softmax. -/
abbrev W7 : Valuation τ sig (Elt Ideal) := StableHlo.after (List.flatten [hostOps0, hostOps0_1, hostOps0_2, hostOps0_3, hostOps0_4, hostOps0_5, hostOps0_6, hostOps0_7]) (StableHlo.launchContents m c)
/-- The lines before the second one. -/
abbrev W15 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (StableHlo.launchContents m c)

set_option maxHeartbeats 2000000 in
theorem W7_scores : (W7 m c (Proc.devRef .tc main_v61) : FVec Ideal S2x8x4096x4096 .f32) = Host0.scores (aq m c) (ak m c) (at5 m c) := by
  unfold W7
  entry_read
  sl_kernel_rfl
set_option maxHeartbeats 2000000 in
theorem W7_v : (W7 m c (Proc.devRef .tc main_arg3) : FVec Ideal S4096x128 .f32) = av m c := by
  unfold W7
  entry_read
  rfl
set_option maxHeartbeats 2000000 in
theorem W7_s : (W7 m c (Proc.devRef .tc main_arg4) : FVec Ideal S1x16 .f32) = asn m c := by
  unfold W7
  entry_read
  rfl

theorem soft_o (W : Valuation τ sig (Elt Ideal)) (z : FVec Ideal S2x8x4096x4096 .f32) (s : FVec Ideal S1x16 .f32) (v : FVec Ideal S4096x128 .f32)
    (hs : W (Proc.devRef .tc main_arg4) = s) (hv : W (Proc.devRef .tc main_arg3) = v) (hz : W (Proc.devRef .tc main_v61) = z) :
    StableHlo.after hostOps0_8 W (Proc.devRef .tc main_v80) = (Host0.out v (Host0.weights (Host0.expo (Host0.both s z) (Host0.top' (Host0.both s z)))) : FVec Ideal S4096x1024 .f32) := by
  entry_read
  rw [hs, hz, hv]
  sl_kernel_rfl

set_option maxHeartbeats 2000000 in
theorem pass_o (W : Valuation τ sig (Elt Ideal)) (x : FVec Ideal S4096x1024 .f32) (hx : W (Proc.devRef .tc main_v80) = x) :
    StableHlo.after (List.flatten [hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) W (Proc.devRef .tc main_v80) = x := by
  entry_read
  exact hx

/-- The attention's output. -/
theorem V_o : (V m c main_v80 : FVec Ideal S4096x1024 .f32)
    = Host0.out (av m c) (Host0.weights (Host0.expo (Host0.both (asn m c) (Host0.scores (aq m c) (ak m c) (at5 m c))) (Host0.top' (Host0.both (asn m c) (Host0.scores (aq m c) (ak m c) (at5 m c)))))) := by
  have e : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] : List (HloOp τ sig (Elt Ideal))) = List.flatten [hostOps0, hostOps0_1, hostOps0_2, hostOps0_3, hostOps0_4, hostOps0_5, hostOps0_6, hostOps0_7] ++ (hostOps0_8 ++ List.flatten [hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) := by
    simp only [List.flatten_cons, List.flatten_nil, List.append_nil, List.append_assoc]
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (StableHlo.launchContents m c) (Proc.devRef .tc main_v80) = _
  rw [e, StableHlo.after_append, StableHlo.after_append]
  exact pass_o _ _ (soft_o _ _ _ _ (W7_s m c) (W7_v m c) (W7_scores m c))

set_option maxHeartbeats 2000000 in
theorem W15_scores : (W15 m c (Proc.devRef .tc main_v142) : FVec Ideal S2x8x4096x4096 .f32) = Host0.scores (aq m c) (ak m c) (at5 m c) := by
  unfold W15
  entry_read
  sl_kernel_rfl
set_option maxHeartbeats 2000000 in
theorem W15_s : (W15 m c (Proc.devRef .tc main_arg4) : FVec Ideal S1x16 .f32) = asn m c := by
  unfold W15
  entry_read
  rfl

theorem soft_lse (W : Valuation τ sig (Elt Ideal)) (z : FVec Ideal S2x8x4096x4096 .f32) (s : FVec Ideal S1x16 .f32)
    (hs : W (Proc.devRef .tc main_arg4) = s) (hz : W (Proc.devRef .tc main_v142) = z) :
    StableHlo.after hostOps0_16 W (Proc.devRef .tc main_v158) = (Host0.lseRows (Host0.lse (Host0.both s z)) : FVec Ideal S32x8x512 .f32) := by
  entry_read
  rw [hs, hz]
  sl_kernel_rfl

set_option maxHeartbeats 2000000 in
theorem pass_lse (W : Valuation τ sig (Elt Ideal)) (x : FVec Ideal S32x8x512 .f32) (hx : W (Proc.devRef .tc main_v158) = x) :
    StableHlo.after (List.flatten [hostOps0_17, hostOps0_18, hostOps0_19, hostOps0_20, hostOps0_21, hostOps0_22, hostOps0_23, hostOps0_24]) W (Proc.devRef .tc main_v158) = x := by
  entry_read
  exact hx

/-- The rows' log-weights. -/
theorem V_lse : (V m c main_v158 : FVec Ideal S32x8x512 .f32)
    = Host0.lseRows (Host0.lse (Host0.both (asn m c) (Host0.scores (aq m c) (ak m c) (at5 m c)))) := by
  have e : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] : List (HloOp τ sig (Elt Ideal))) = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] ++ (hostOps0_16 ++ List.flatten [hostOps0_17, hostOps0_18, hostOps0_19, hostOps0_20, hostOps0_21, hostOps0_22, hostOps0_23, hostOps0_24]) := by
    simp only [List.flatten_cons, List.flatten_nil, List.append_nil, List.append_assoc]
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (StableHlo.launchContents m c) (Proc.devRef .tc main_v158) = _
  rw [e, StableHlo.after_append, StableHlo.after_append]
  exact pass_lse _ _ (soft_lse _ _ _ (W15_s m c) (W15_scores m c))

end

end Cert.KernelIdeal.Attn
-- ==== Proof.HostFacts.lean ====
module

public import proofs.«01_k».proof.Proof.Host

/-! # The host lines over the reals
Where the arguments are finite, every array the host lines compose holds at every index the real number its formula says. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

/-- The table's row of a distance, a negative row counted from the end. -/
def bw (w : BitVec 32) : BitVec 32 := Host0.wrap S384 bcast_S_S384 (Host0.bucket (F := Ideal) S384 bcast_S_S384 (fun _ => w)) (ix1 0)

/-- The row the table is read at: a row outside it brought to its edge. -/
def clampRow (w : BitVec 32) : Fin 32 := ⟨min w.toInt.toNat 31, by omega⟩

/-- The row a distance is sent to. -/
def rowAt (w : BitVec 32) : Fin 32 := clampRow (bw w)

theorem wrap_bucket (S : Shape) (hb : S_.BroadcastsInDim S (![] : Fin 0 → Fin S.rank)) (r : IVec S 32) (i : S.Idx) :
    Host0.wrap S hb (Host0.bucket (F := Ideal) S hb r) i = bw (r i) := rfl

theorem rel_at (n κ : Fin 4096) : Host0.rel (ix2 n κ) = BitVec.ofNat 32 κ.val - BitVec.ofNat 32 n.val := by
  pointwise [Host0.rel, Host0.pos]
  rfl

theorem place_at (n κ : Fin 4096) : Host0.place Ideal (ix3 n κ 0) = bw (BitVec.ofNat 32 κ.val - BitVec.ofNat 32 n.val) := by
  pointwise [Host0.place]
  rw [wrap_bucket, rel_at]

theorem relb_at (x : Fin 384) : Host0.relb (ix1 x) = BitVec.ofInt 32 ((x.val : ℤ) - 255) := by
  pointwise [Host0.relb]
  revert x
  decide +kernel

theorem placeb_at (x : Fin 384) : Host0.placeb Ideal (ix2 x 0) = bw (BitVec.ofInt 32 ((x.val : ℤ) - 255)) := by
  pointwise [Host0.placeb]
  rw [wrap_bucket, relb_at]

theorem chunk_at (n : Fin 4096) : Host0.chunk (ix1 n) = BitVec.ofNat 32 (n.val / 64) := by
  pointwise [Host0.chunk, Host0.pos, Host0.sixtyfour]
  revert n
  decide +kernel

theorem band_at (a : Fin 2) (b : Fin 8) (n κ : Fin 4096) : Host0.band (ix4 a b n κ) = if Inp.band n.val κ.val then 1#1 else 0#1 := by
  pointwise [Host0.band]
  rw [chunk_at, chunk_at]
  have h : ∀ x y : Fin 64, IntOp.andi (IntOp.cmpi CmpIPredicate.sle (BitVec.ofNat 32 y.val) (BitVec.ofNat 32 x.val))
      (IntOp.cmpi CmpIPredicate.sle (IntOp.subi (BitVec.ofNat 32 x.val) 2#32) (BitVec.ofNat 32 y.val)) = if y.val ≤ x.val ∧ x.val ≤ y.val + 2 then 1#1 else 0#1 := by decide +kernel
  exact h ⟨n.val / 64, by omega⟩ ⟨κ.val / 64, by omega⟩

/-- The table read along a row of distances. -/
theorem gather384 (t : FVec Ideal S32x16 .f32) (idx : IVec S384x1 32) (x : Fin 384) (n : Fin 16) :
    Host.gather gather_S32x16_S384x1_S384x16_1_0_n_n_0_1_116 t idx (ix2 x n) = t (ix2 (clampRow (idx (ix2 x 0))) n) := by
  unfold Host.gather
  congr 1
  funext a
  refine Fin.ext ?_
  show GatherDims.start _ _ _ _ + GatherDims.batchCoord _ _ _ + GatherDims.offCoord _ _ _ = _
  have h01 : a = (0 : Fin 2) ∨ a = (1 : Fin 2) := by
    match a with
    | ⟨0, _⟩ => exact Or.inl rfl
    | ⟨1, _⟩ => exact Or.inr rfl
  rw [GatherDims.batchCoord_eq_zero _ _ _ (by simp [gather_S32x16_S384x1_S384x16_1_0_n_n_0_1_116])]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x16_S384x1_S384x16_1_0_n_n_0_1_116.startIndexMap from List.mem_singleton.mpr rfl)]
    have hsi : gather_S32x16_S384x1_S384x16_1_0_n_n_0_1_116.siIdx (ix2 x n) ⟨List.idxOf (0 : Fin 2) gather_S32x16_S384x1_S384x16_1_0_n_n_0_1_116.startIndexMap,
        List.idxOf_lt_length_iff.2 (List.mem_singleton.mpr rfl)⟩ = ix2 x 0 := by
      funext b; refine Fin.ext ?_
      match b with
      | ⟨0, _⟩ => rfl
      | ⟨1, _⟩ => rfl
    rw [hsi]
    rfl
  · unfold GatherDims.start
    rw [dif_neg (by simp [gather_S32x16_S384x1_S384x16_1_0_n_n_0_1_116])]
    simp only [Nat.zero_add, Nat.add_zero]
    rfl

/-- The table read over all the pairs. -/
theorem gather4096 (t : FVec Ideal S32x16 .f32) (idx : IVec S4096x4096x1 32) (x y : Fin 4096) (n : Fin 16) :
    Host.gather gather_S32x16_S4096x4096x1_S4096x4096x16_2_0_n_n_0_2_116 t idx (ix3 x y n) = t (ix2 (clampRow (idx (ix3 x y 0))) n) := by
  unfold Host.gather
  congr 1
  funext a
  refine Fin.ext ?_
  show GatherDims.start _ _ _ _ + GatherDims.batchCoord _ _ _ + GatherDims.offCoord _ _ _ = _
  have h01 : a = (0 : Fin 2) ∨ a = (1 : Fin 2) := by
    match a with
    | ⟨0, _⟩ => exact Or.inl rfl
    | ⟨1, _⟩ => exact Or.inr rfl
  rw [GatherDims.batchCoord_eq_zero _ _ _ (by simp [gather_S32x16_S4096x4096x1_S4096x4096x16_2_0_n_n_0_2_116])]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x16_S4096x4096x1_S4096x4096x16_2_0_n_n_0_2_116.startIndexMap from List.mem_singleton.mpr rfl)]
    have hsi : gather_S32x16_S4096x4096x1_S4096x4096x16_2_0_n_n_0_2_116.siIdx (ix3 x y n) ⟨List.idxOf (0 : Fin 2) gather_S32x16_S4096x4096x1_S4096x4096x16_2_0_n_n_0_2_116.startIndexMap,
        List.idxOf_lt_length_iff.2 (List.mem_singleton.mpr rfl)⟩ = ix3 x y 0 := by
      funext b; refine Fin.ext ?_
      match b with
      | ⟨0, _⟩ => rfl
      | ⟨1, _⟩ => rfl
      | ⟨2, _⟩ => rfl
    rw [hsi]
    rfl
  · unfold GatherDims.start
    rw [dif_neg (by simp [gather_S32x16_S4096x4096x1_S4096x4096x16_2_0_n_n_0_2_116])]
    simp only [Nat.zero_add, Nat.add_zero]
    rfl

/-- The arguments hold the reals of `I`. -/
structure Holds (I : Inp) (q g : FVec Ideal S4096x1024 .f32) (k v : FVec Ideal S4096x128 .f32) (s : FVec Ideal S1x16 .f32) (t : FVec Ideal S32x16 .f32)
    (u : FVec Ideal S4096x1024 .f32) : Prop where
  q : ∀ (n : Fin 4096) (c : Fin 1024), q (ix2 n c) = ((I.q n.val c.val : ℝ) : EReal)
  g : ∀ (n : Fin 4096) (c : Fin 1024), g (ix2 n c) = ((I.g n.val c.val : ℝ) : EReal)
  k : ∀ (n : Fin 4096) (c : Fin 128), k (ix2 n c) = ((I.k n.val c.val : ℝ) : EReal)
  v : ∀ (n : Fin 4096) (c : Fin 128), v (ix2 n c) = ((I.v n.val c.val : ℝ) : EReal)
  s : ∀ h : Fin 16, s (ix2 0 h) = ((I.s h.val : ℝ) : EReal)
  t : ∀ (w : BitVec 32) (h : Fin 16), t (ix2 (rowAt w) h) = ((I.t h.val w : ℝ) : EReal)
  u : ∀ (n : Fin 4096) (c : Fin 1024), u (ix2 n c) = ((I.u n.val c.val : ℝ) : EReal)

/-- The reals the arguments hold. -/
def realsOf (q g : FVec Ideal S4096x1024 .f32) (k v : FVec Ideal S4096x128 .f32) (s : FVec Ideal S1x16 .f32) (t : FVec Ideal S32x16 .f32)
    (u : FVec Ideal S4096x1024 .f32) : Inp where
  q n c := if h : n < 4096 ∧ c < 1024 then EReal.toReal (q (ix2 ⟨n, h.1⟩ ⟨c, h.2⟩)) else 0
  g n c := if h : n < 4096 ∧ c < 1024 then EReal.toReal (g (ix2 ⟨n, h.1⟩ ⟨c, h.2⟩)) else 0
  k n c := if h : n < 4096 ∧ c < 128 then EReal.toReal (k (ix2 ⟨n, h.1⟩ ⟨c, h.2⟩)) else 0
  v n c := if h : n < 4096 ∧ c < 128 then EReal.toReal (v (ix2 ⟨n, h.1⟩ ⟨c, h.2⟩)) else 0
  u n c := if h : n < 4096 ∧ c < 1024 then EReal.toReal (u (ix2 ⟨n, h.1⟩ ⟨c, h.2⟩)) else 0
  s n := if h : n < 16 then EReal.toReal (s (ix2 0 ⟨n, h⟩)) else 0
  t n w := if h : n < 16 then EReal.toReal (t (ix2 (rowAt w) ⟨n, h⟩)) else 0

/-- Every entry is a real number. -/
def AllReal {S : Shape} (x : FVec Ideal S .f32) : Prop := ∀ i, ((EReal.toReal (x i) : ℝ) : EReal) = x i

theorem holds_realsOf (q g : FVec Ideal S4096x1024 .f32) (k v : FVec Ideal S4096x128 .f32) (s : FVec Ideal S1x16 .f32) (t : FVec Ideal S32x16 .f32)
    (u : FVec Ideal S4096x1024 .f32) (hq : AllReal q) (hg : AllReal g) (hk : AllReal k) (hv : AllReal v) (hs : AllReal s) (ht : AllReal t) (hu : AllReal u) :
    Holds (realsOf q g k v s t u) q g k v s t u where
  q n c := by simp only [realsOf, n.isLt, c.isLt, and_self, dif_pos]; exact (hq _).symm
  g n c := by simp only [realsOf, n.isLt, c.isLt, and_self, dif_pos]; exact (hg _).symm
  k n c := by simp only [realsOf, n.isLt, c.isLt, and_self, dif_pos]; exact (hk _).symm
  v n c := by simp only [realsOf, n.isLt, c.isLt, and_self, dif_pos]; exact (hv _).symm
  u n c := by simp only [realsOf, n.isLt, c.isLt, and_self, dif_pos]; exact (hu _).symm
  s h := by simp only [realsOf, h.isLt, dif_pos]; exact (hs _).symm
  t w h := by simp only [realsOf, h.isLt, dif_pos]; exact (ht _).symm

theorem log_coe {x : ℝ} (h : 0 < x) : Ideal.log (x : EReal) = ((Real.log x : ℝ) : EReal) := by
  show (if x ≤ 0 then ⊥ else _) = _
  rw [if_neg (not_le.mpr h)]

/-- The maximum of a row with a real entry and none at plus infinity is real. -/
theorem fold_max_real {n : ℕ} (f : Fin n → EReal) (h : ∀ i, f i ≠ ⊤) (i₀ : Fin n) (h₀ : f i₀ ≠ ⊥) :
    ∃ μ : ℝ, Finset.fold max ⊥ f Finset.univ = (μ : EReal) := by
  have h1 : Finset.fold max ⊥ f Finset.univ ≠ ⊤ := by
    refine ne_of_lt ?_
    rw [Finset.fold_max_lt]
    exact ⟨bot_lt_top, fun i _ => lt_top_iff_ne_top.mpr (h i)⟩
  have h2 : Finset.fold max ⊥ f Finset.univ ≠ ⊥ := by
    refine ne_of_gt (lt_of_lt_of_le (bot_lt_iff_ne_bot.mpr h₀) ?_)
    rw [Finset.le_fold_max]
    exact Or.inr ⟨i₀, Finset.mem_univ _, le_rfl⟩
  exact ⟨EReal.toReal _, (EReal.coe_toReal h1 h2).symm⟩

end Cert.KernelIdeal.Attn
-- ==== Proof.HostVals.lean ====
module

public import proofs.«01_k».proof.Proof.HostFacts

/-! # The softmax of the host lines over the reals
The logits, the maximum of each row, the weights, the output of the attention and the logarithm of each row's sum. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

section
variable {I : Inp} {q g : FVec Ideal S4096x1024 .f32} {k v : FVec Ideal S4096x128 .f32} {s : FVec Ideal S1x16 .f32} {t : FVec Ideal S32x16 .f32} {u : FVec Ideal S4096x1024 .f32}

theorem bias_at (H : Holds I q g k v s t u) (a : Fin 2) (b : Fin 8) (n κ : Fin 4096) :
    Host0.bias t (ix4 a b n κ) = ((I.t (8 * a.val + b.val) (BitVec.ofNat 32 κ.val - BitVec.ofNat 32 n.val) : ℝ) : EReal) := by
  pointwise [Host0.bias]
  rw [gather4096, place_at]
  refine (H.t (BitVec.ofNat 32 κ.val - BitVec.ofNat 32 n.val) ⟨a.val * 8 + b.val, by omega⟩).trans ?_
  congr 2
  exact congrArg (· + b.val) (Nat.mul_comm _ _)

/-- The logit, minus infinity where the row does not see the key. -/
theorem scores_at (H : Holds I q g k v s t u) (a : Fin 2) (b : Fin 8) (n κ : Fin 4096) :
    Host0.scores q k t (ix4 a b n κ) = if Inp.band n.val κ.val then ((I.L (8 * a.val + b.val) n.val κ.val : ℝ) : EReal) else ⊥ := by
  pointwise [Host0.scores]
  rw [band_at]
  by_cases hb : Inp.band n.val κ.val
  · rw [if_pos hb, if_pos hb]
    refine (sel_one _ _).trans ?_
    rw [bias_at H, ofBits_eighth32]
    rw [sum_fin_coe _ (fun d => I.q n.val (64 * (8 * a.val + b.val) + d) * I.k κ.val (64 * ((8 * a.val + b.val) / 8) + d))]
    · rw [← EReal.coe_mul, ← EReal.coe_add]
      rfl
    · intro x
      rw [H.k, H.q, ← EReal.coe_mul, mul_comm]
      congr 3 <;> (simp only []; omega)
  · rw [if_neg hb, if_neg hb]
    refine (sel_zero _ _).trans ?_
    exact ofBits_neg_inf

/-- The row with the sink behind it. -/
def zR (I : Inp) (h n κ : ℕ) : EReal := if κ < 4096 then (if Inp.band n κ then ((I.L h n κ : ℝ) : EReal) else ⊥) else ((I.s h : ℝ) : EReal)

theorem both_at (H : Holds I q g k v s t u) (a : Fin 2) (b : Fin 8) (n : Fin 4096) (κ : Fin 4097) :
    Host0.both s (Host0.scores q k t) (ix4 a b n κ) = zR I (8 * a.val + b.val) n.val κ.val := by
  pointwise [Host0.both]
  unfold zR
  by_cases h : κ.val < 4096
  · rw [dif_pos h, if_pos h, scores_at H]
  · rw [dif_neg h, if_neg h]
    refine (H.s ⟨a.val * 8 + b.val, by omega⟩).trans ?_
    congr 2
    exact congrArg (· + b.val) (Nat.mul_comm _ _)

/-- A row with its sink: the entries of a tensor that has `zR`'s. -/
def Rows (I : Inp) (z : FVec Ideal S2x8x4096x4097 .f32) : Prop :=
  ∀ (a : Fin 2) (b : Fin 8) (n : Fin 4096) (κ : Fin 4097), z (ix4 a b n κ) = zR I (8 * a.val + b.val) n.val κ.val

theorem zR_ne_top (h n κ : ℕ) : zR I h n κ ≠ ⊤ := by
  unfold zR
  split_ifs
  · exact EReal.coe_ne_top _
  · exact bot_ne_top
  · exact EReal.coe_ne_top _

/-- A shift per row: a real for each. -/
def Shifts (M : FVec Ideal S2x8x4096 .f32) (μ : ℕ → ℕ → ℝ) : Prop :=
  ∀ (a : Fin 2) (b : Fin 8) (n : Fin 4096), M (ix3 a b n) = ((μ (8 * a.val + b.val) n.val : ℝ) : EReal)

theorem top_real {z : FVec Ideal S2x8x4096x4097 .f32} (hz : Rows I z) (a : Fin 2) (b : Fin 8) (n : Fin 4096) : ∃ μ : ℝ, Host0.top z (ix3 a b n) = (μ : EReal) := by
  pointwise [Host0.top]
  rw [ofBits_neg_inf]
  refine fold_max_real _ (fun κ => ?_) (Fin.last 4096) ?_
  · rw [hz]; exact zR_ne_top _ _ _
  · rw [hz]
    unfold zR
    rw [if_neg (by simp)]
    exact EReal.coe_ne_bot _

theorem top_shifts {z : FVec Ideal S2x8x4096x4097 .f32} (hz : Rows I z) : ∃ μ, Shifts (Host0.top z) μ := by
  choose μ hμ using top_real hz
  refine ⟨fun h n => if hh : h < 16 ∧ n < 4096 then μ ⟨h / 8, by omega⟩ ⟨h % 8, by omega⟩ ⟨n, hh.2⟩ else 0, fun a b n => ?_⟩
  have hh : 8 * a.val + b.val < 16 ∧ n.val < 4096 := ⟨by omega, n.isLt⟩
  beta_reduce
  rw [hμ, dif_pos hh]
  congr 2
  · apply Fin.ext; show a.val = (8 * a.val + b.val) / 8; omega
  · apply Fin.ext; show b.val = (8 * a.val + b.val) % 8; omega

theorem max_neg_inf (x : FVec Ideal S2x8x4096 .f32) : maximumf (broadcastInDim S2x8x4096 ![] bcast_S_S2x8x4096 (constant S_ .f32 0xFF800000#32)) x = x := by
  funext i
  show max (Ideal.ofBits .f32 0xFF800000#32) (x i) = _
  rw [ofBits_neg_inf]
  exact max_eq_right bot_le

theorem top'_at (z : FVec Ideal S2x8x4096x4097 .f32) : Host0.top' z = Host0.top z := by
  unfold Host0.top'
  exact max_neg_inf (Host0.top z)

theorem top'_shifts {z : FVec Ideal S2x8x4096x4097 .f32} (hz : Rows I z) : ∃ μ, Shifts (Host0.top' z) μ := by
  rw [top'_at]; exact top_shifts hz

/-- The weight at a place of the row with its sink. -/
def eR (I : Inp) (h n κ : ℕ) : ℝ := if κ < 4096 then I.E h n κ else Real.exp (I.s h)

theorem exp_zR (h n κ : ℕ) (μ : ℝ) : Ideal.exp (zR I h n κ - (μ : EReal)) = ((eR I h n κ * Real.exp (-μ) : ℝ) : EReal) := by
  unfold zR eR
  by_cases h1 : κ < 4096
  · rw [if_pos h1, if_pos h1]
    unfold Inp.E
    by_cases h2 : Inp.band n κ
    · rw [if_pos h2, if_pos h2, ← EReal.coe_sub, Ideal.exp_coe, sub_eq_add_neg, Real.exp_add]
    · rw [if_neg h2, if_neg h2, zero_mul, EReal.bot_sub]
      exact Ideal.exp_bot
  · rw [if_neg h1, if_neg h1, ← EReal.coe_sub, Ideal.exp_coe, sub_eq_add_neg, Real.exp_add]

theorem sum_eR (h n : ℕ) : ∑ κ ∈ range 4097, eR I h n κ = I.Z h n := by
  rw [Finset.sum_range_succ]
  unfold Inp.Z eR
  rw [if_neg (lt_irrefl _)]
  congr 1

section
variable {z : FVec Ideal S2x8x4096x4097 .f32} (hz : Rows I z) {M : FVec Ideal S2x8x4096 .f32} {μ : ℕ → ℕ → ℝ} (hM : Shifts M μ)
include hz hM

theorem expo_at (a : Fin 2) (b : Fin 8) (n : Fin 4096) (κ : Fin 4097) :
    Host0.expo z M (ix4 a b n κ) = ((eR I (8 * a.val + b.val) n.val κ.val * Real.exp (-μ (8 * a.val + b.val) n.val) : ℝ) : EReal) := by
  pointwise [Host0.expo, Host0.spread]
  rw [hz, hM, exp_zR]

theorem total_at (a : Fin 2) (b : Fin 8) (n : Fin 4096) :
    Host0.total (Host0.expo z M) (ix3 a b n) = ((I.Z (8 * a.val + b.val) n.val * Real.exp (-μ (8 * a.val + b.val) n.val) : ℝ) : EReal) := by
  pointwise [Host0.total]
  rw [sum_fin_coe _ (fun x => eR I (8 * a.val + b.val) n.val x * Real.exp (-μ (8 * a.val + b.val) n.val)) fun x => expo_at hz hM a b n x, ← Finset.sum_mul, sum_eR]

theorem weights_at (a : Fin 2) (b : Fin 8) (n κ : Fin 4096) :
    Host0.weights (Host0.expo z M) (ix4 a b n κ) = ((I.P (8 * a.val + b.val) n.val κ.val : ℝ) : EReal) := by
  pointwise [Host0.weights, Host0.spread]
  rw [total_at hz hM]
  have e := expo_at hz hM a b n ⟨κ.val, by omega⟩
  have hZ := I.Z_pos (8 * a.val + b.val) n.val
  have hX := Real.exp_pos (-μ (8 * a.val + b.val) n.val)
  rw [e, Ideal.div_coe (mul_pos hZ hX).ne', ← EReal.coe_mul]
  congr 1
  unfold eR Inp.P
  rw [if_pos κ.isLt]
  field_simp

theorem out_at (H : Holds I q g k v s t u) (n : Fin 4096) (x : Fin 1024) :
    Host0.out v (Host0.weights (Host0.expo z M)) (ix2 n x) = ((I.O (x.val / 64) n.val (x.val % 64) : ℝ) : EReal) := by
  pointwise [Host0.out]
  have hx := x.isLt
  refine sum_fin_coe _ (fun κ => I.P (x.val / 64) n.val κ * I.v κ (64 * (x.val / 64 / 8) + x.val % 64)) fun κ => ?_
  rw [weights_at hz hM, H.v, ← EReal.coe_mul, mul_comm]
  congr 3 <;> (simp only []; omega)
end

theorem add_log (x y : FVec Ideal S2x8x4096 .f32) (i) : addf x (Host.log y) i = x i + Ideal.log (y i) := rfl

theorem lseH_at {z : FVec Ideal S2x8x4096x4097 .f32} (hz : Rows I z) (a : Fin 2) (b : Fin 8) (n : Fin 4096) :
    Host0.lse z (ix3 a b n) = ((Real.log (I.Z (8 * a.val + b.val) n.val) : ℝ) : EReal) := by
  obtain ⟨μ, hμ⟩ := top_shifts hz
  unfold Host0.lse
  rw [add_log]
  have hZ := I.Z_pos (8 * a.val + b.val) n.val
  have hX := Real.exp_pos (-μ (8 * a.val + b.val) n.val)
  rw [total_at hz hμ, hμ, log_coe (mul_pos hZ hX), ← EReal.coe_add, Real.log_mul hZ.ne' hX.ne', Real.log_exp]
  congr 1
  ring

theorem lseRows_at {x : FVec Ideal S2x8x4096 .f32} (hx : ∀ (a : Fin 2) (b : Fin 8) (n : Fin 4096), x (ix3 a b n) = ((Real.log (I.Z (8 * a.val + b.val) n.val) : ℝ) : EReal))
    (b : Fin 32) (a : Fin 8) (c : Fin 512) (ha : a.val < 4) :
    Host0.lseRows x (ix3 b a c) = ((Real.log (I.Z (8 * (a.val / 2) + 2 * (c.val / 128) + a.val % 2) (128 * b.val + c.val % 128)) : ℝ) : EReal) := by
  have hc := c.isLt
  pointwise [Host0.lseRows]
  rw [dif_pos ha, hx]
  congr 3 <;> (simp only []; omega)

end

end Cert.KernelIdeal.Attn
-- ==== Proof.RefTerms.lean ====
module

public import proofs.«01_k».proof.Proof.HostVals
public import proofs.«01_k».proof.Proof.Gen.ReferenceIdeal.Run

/-! # The reference's results, named
The reference's host lines as terms of its argument arrays; its softmax is the one of the host lines before the kernel, and the terms share their names. -/

@[expose] public section

noncomputable section

namespace Cert.ReferenceIdeal.Attn

open Cert.ReferenceIdeal Cert.ReferenceIdeal.Gen Cert.ReferenceIdeal.Value Cert.KernelIdeal.Attn
open Idealize.ShloMosaic Idealize.ShloMosaic.TcCoe

set_option maxRecDepth 16384

namespace Ref0

/-- The logistic function of the gate. -/
def sig (g : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf g)))

/-- The cotangent of the attention's output. -/
def dout (g u : FVec Ideal S4096x1024 .f32) : FVec Ideal S2x64x8x4096 .f32 :=
  transpose S2x64x8x4096 [1, 3, 2, 0] (shapeCast S4096x2x8x64 (mulf u (mulf g (sig g))) shapeCasts_S4096x1024_S4096x2x8x64) transposes_S4096x2x8x64_S2x64x8x4096_1_3_2_0

/-- The cotangent of the weights, the sink's zero. -/
def dwt (d : FVec Ideal S2x64x8x4096 .f32) (v : FVec Ideal S4096x128 .f32) : FVec Ideal S2x8x4096x4097 .f32 :=
  pad S2x8x4096x4097 ![0, 0, 0, 0] ![0, 0, 0, 1] ![0, 0, 0, 0] (Host.dotGeneral dot_S2x64x8x4096_S4096x2x64_S2x8x4096x4096_1_2_23_0_0_1 none d (shapeCast S4096x2x64 v shapeCasts_S4096x128_S4096x2x64)) (constant S_ .f32 0x00000000#32) pads_S2x8x4096x4096_S2x8x4096x4097_000_000_000_010 h_S_

def col (e : FVec Ideal S2x8x4096x4097 .f32) : FVec Ideal S2x8x4096x1 .f32 :=
  broadcastInDim S2x8x4096x1 ![0, 1, 2] bcast_S2x8x4096_S2x8x4096x1_0_1_2 (Host0.total e)

def inv2 (T : FVec Ideal S2x8x4096x1 .f32) : FVec Ideal S2x8x4096x4097 .f32 :=
  broadcastInDim S2x8x4096x4097 ![0, 1, 2, 3] bcast_S2x8x4096x1_S2x8x4096x4097_0_1_2_3 (Host.divf (broadcastInDim S2x8x4096x1 ![] bcast_S_S2x8x4096x1 (constant S_ .f32 0x3F800000#32)) (mulf T T))

/-- A row's mean. -/
def mean (D e : FVec Ideal S2x8x4096x4097 .f32) (T : FVec Ideal S2x8x4096x1 .f32) : FVec Ideal S2x8x4096 .f32 :=
  Host.reduceAdd (mulf (mulf D (inv2 T)) e) (constant S_ .f32 0x00000000#32) reducesTo_S2x8x4096x4097_S2x8x4096_d3 h_S_

def minus (μ : FVec Ideal S2x8x4096 .f32) : FVec Ideal S2x8x4096 .f32 :=
  Host.reduceAdd (Host.negf (shapeCast S2x8x4096x1 μ shapeCasts_S2x8x4096_S2x8x4096x1)) (constant S_ .f32 0x00000000#32) reducesTo_S2x8x4096x1_S2x8x4096_d3 h_S_

/-- The cotangent of the scores, the sink's last. -/
def dz (D e : FVec Ideal S2x8x4096x4097 .f32) (T : FVec Ideal S2x8x4096x1 .f32) : FVec Ideal S2x8x4096x4097 .f32 :=
  mulf (addf (Host.divf D (broadcastInDim S2x8x4096x4097 ![0, 1, 2, 3] bcast_S2x8x4096x1_S2x8x4096x4097_0_1_2_3 T)) (broadcastInDim S2x8x4096x4097 ![0, 1, 2] bcast_S2x8x4096_S2x8x4096x4097_0_1_2 (minus (mean D e T)))) e

/-- Its band. -/
def ds (z : FVec Ideal S2x8x4096x4097 .f32) : FVec Ideal S2x8x4096x4096 .f32 :=
  select Host0.band (extractStridedSlice S2x8x4096x4096 ![0, 0, 0, 0] z slices_S2x8x4096x4097_S2x8x4096x4096_0_0_0_0) (broadcastInDim S2x8x4096x4096 ![] bcast_S_S2x8x4096x4096 (constant S_ .f32 0x00000000#32))

def scaled (d : FVec Ideal S2x8x4096x4096 .f32) : FVec Ideal S2x4096x4096x8 .f32 :=
  transpose S2x4096x4096x8 [0, 3, 2, 1] (mulf d (broadcastInDim S2x8x4096x4096 ![] bcast_S_S2x8x4096x4096 (constant S_ .f32 0x3E000000#32))) transposes_S2x8x4096x4096_S2x4096x4096x8_0_3_2_1

def dq (d : FVec Ideal S2x4096x4096x8 .f32) (k : FVec Ideal S4096x128 .f32) : FVec Ideal S4096x1024 .f32 :=
  shapeCast S4096x1024 (transpose S4096x2x8x64 [1, 0, 2, 3] (Host.dotGeneral dot_S2x4096x4096x8_S4096x2x64_S2x4096x8x64_1_0_23_2_0_1 none d (shapeCast S4096x2x64 k shapeCasts_S4096x128_S4096x2x64)) transposes_S2x4096x8x64_S4096x2x8x64_1_0_2_3) shapeCasts_S4096x2x8x64_S4096x1024

def dk (d : FVec Ideal S2x4096x4096x8 .f32) (q : FVec Ideal S4096x1024 .f32) : FVec Ideal S4096x128 .f32 :=
  shapeCast S4096x128 (transpose S4096x2x64 [1, 0, 2] (Host.dotGeneral dot_S2x4096x4096x8_S4096x2x8x64_S2x4096x64_23_02_1_3_0_1 none d (shapeCast S4096x2x8x64 q shapeCasts_S4096x1024_S4096x2x8x64)) transposes_S2x4096x64_S4096x2x64_1_0_2) shapeCasts_S4096x2x64_S4096x128

def dv (d : FVec Ideal S2x64x8x4096 .f32) (p : FVec Ideal S2x8x4096x4096 .f32) : FVec Ideal S4096x128 .f32 :=
  shapeCast S4096x128 (transpose S4096x2x64 [2, 0, 1] (Host.dotGeneral dot_S2x64x8x4096_S2x8x4096x4096_S2x64x4096_23_12_1_3_0_0 none d p) transposes_S2x64x4096_S4096x2x64_2_0_1) shapeCasts_S4096x2x64_S4096x128

def dg (g o u : FVec Ideal S4096x1024 .f32) : FVec Ideal S4096x1024 .f32 :=
  addf (mulf (mulf o u) (sig g)) (mulf (mulf g (mulf o u)) (mulf (sig g) (subf (broadcastInDim S4096x1024 ![] bcast_S_S4096x1024 (constant S_ .f32 0x3F800000#32)) (sig g))))

def dsinks (z : FVec Ideal S2x8x4096x4097 .f32) : FVec Ideal S1x16 .f32 :=
  shapeCast S1x16 (broadcastInDim S2x8x1x1 ![0, 1] bcast_S2x8_S2x8x1x1_0_1 (Host.reduceAdd (extractStridedSlice S2x8x4096x1 ![0, 0, 0, 4096] z slices_S2x8x4096x4097_S2x8x4096x1_0_0_0_4096) (constant S_ .f32 0x00000000#32) reducesTo_S2x8x4096x1_S2x8_d2_3 h_S_)) shapeCasts_S2x8x1x1_S1x16

def rows (d : FVec Ideal S2x8x4096x4096 .f32) : FVec Ideal S4096x4096x16 .f32 :=
  transpose S4096x4096x16 [1, 2, 0] (shapeCast S16x4096x4096 d shapeCasts_S2x8x4096x4096_S16x4096x4096) transposes_S16x4096x4096_S4096x4096x16_1_2_0

def dt (pl : IVec S4096x4096x1 32) (d : FVec Ideal S4096x4096x16 .f32) : FVec Ideal S32x16 .f32 :=
  Host.scatterAdd scatter_S32x16_S4096x4096x1_S4096x4096x16_2_0_0_2 (broadcastInDim S32x16 ![] bcast_S_S32x16 (constant S_ .f32 0x00000000#32)) pl d

end Ref0

section
variable (V : Valuation τ sig (Elt Ideal))

abbrev bq : FVec Ideal S4096x1024 .f32 := V (Proc.devRef .tc main_arg0)
abbrev bg : FVec Ideal S4096x1024 .f32 := V (Proc.devRef .tc main_arg1)
abbrev bk : FVec Ideal S4096x128 .f32 := V (Proc.devRef .tc main_arg2)
abbrev bv : FVec Ideal S4096x128 .f32 := V (Proc.devRef .tc main_arg3)
abbrev bs : FVec Ideal S1x16 .f32 := V (Proc.devRef .tc main_arg4)
abbrev bt : FVec Ideal S32x16 .f32 := V (Proc.devRef .tc main_arg5)
abbrev bu : FVec Ideal S4096x1024 .f32 := V (Proc.devRef .tc main_arg6)

/-- The scores with the sinks. -/
abbrev zz : FVec Ideal S2x8x4096x4097 .f32 := Host0.both (bs V) (Host0.scores (bq V) (bk V) (bt V))
/-- Their exponentials, shifted. -/
abbrev ee : FVec Ideal S2x8x4096x4097 .f32 := Host0.expo (zz V) (Host0.top' (zz V))

theorem t_place : (res_main_v37 V : IVec S4096x4096x1 32) = Host0.place Ideal := by rfl
theorem t_band : (res_main_v61_1 V : IVec S2x8x4096x4096 1) = Host0.band := by rfl
theorem t_both : res_main_v64 V = zz V := by
  unfold res_main_v64 zz Host0.both Host0.scores Host0.bias
  rw [t_place, t_band]; rfl
theorem t_expo : res_main_v85 V = ee V := by
  unfold res_main_v85 res_main_v65 ee
  rw [t_both]; rfl
theorem t_total : res_main_v87 V = Ref0.col (ee V) := by
  unfold res_main_v87
  rw [t_expo]; rfl
theorem t_weights : res_main_v93 V = Host0.weights (ee V) := by
  unfold res_main_v93
  rw [t_expo, t_total]; rfl
theorem t_out : res_main_v97 V = Host0.out (bv V) (Host0.weights (ee V)) := by
  unfold res_main_v97
  rw [t_weights]; rfl
theorem t_sig : res_main_v98_2 V = Ref0.sig (bg V) := by rfl
theorem t_dout : res_main_v104 V = Ref0.dout (bg V) (bu V) := by rfl
theorem t_dwt : res_main_v109 V = Ref0.dwt (Ref0.dout (bg V) (bu V)) (bv V) := by
  unfold res_main_v109
  rw [t_dout]; rfl
/-- The cotangent of the scores. -/
abbrev zd : FVec Ideal S2x8x4096x4097 .f32 := Ref0.dz (Ref0.dwt (Ref0.dout (bg V) (bu V)) (bv V)) (ee V) (Ref0.col (ee V))
theorem t_dz : res_main_v121 V = zd V := by
  unfold res_main_v121
  rw [t_dwt, t_total, t_expo]; rfl
theorem t_ds : res_main_v127 V = Ref0.ds (zd V) := by
  unfold res_main_v127
  rw [t_dz, t_band]; rfl
theorem t_scaled : res_main_v130 V = Ref0.scaled (Ref0.ds (zd V)) := by
  unfold res_main_v130
  rw [t_ds]; rfl
end

end Cert.ReferenceIdeal.Attn
-- ==== Proof.RefVals.lean ====
module

public import proofs.«01_k».proof.Proof.RefTerms

/-! # The reference's results over the reals
Each named term read at an index, the arguments being reals. -/

@[expose] public section

noncomputable section

namespace Cert.ReferenceIdeal.Attn

open Cert.ReferenceIdeal Cert.ReferenceIdeal.Gen Cert.KernelIdeal.Attn Cert.Attn
open Idealize.ShloMosaic Idealize.ShloMosaic.TcCoe Idealize.ShloMosaic.Tactic
open Finset (range)

set_option maxRecDepth 16384

variable {I : Inp} {q g : FVec Ideal S4096x1024 .f32} {k v : FVec Ideal S4096x128 .f32} {s : FVec Ideal S1x16 .f32} {t : FVec Ideal S32x16 .f32} {u : FVec Ideal S4096x1024 .f32}

/-- The logistic quotient at a real. -/
theorem logistic_quotient (x : ℝ) : Ideal.div 1 (1 + Ideal.exp (-(x : EReal))) = ((Inp.sg x : ℝ) : EReal) := by
  have hx := Real.exp_pos (-x)
  rw [← EReal.coe_neg, Ideal.exp_coe, ← EReal.coe_one, ← EReal.coe_add, Ideal.div_coe (by positivity), ← EReal.coe_mul]
  unfold Inp.sg
  rw [one_mul, one_div]

theorem sig_at (H : Holds I q g k v s t u) (n : Fin 4096) (x : Fin 1024) :
    Ref0.sig g (ix2 n x) = ((Inp.sg (I.g n.val x.val) : ℝ) : EReal) := by
  pointwise [Ref0.sig]
  rw [H.g]
  exact logistic_quotient _

/-- Every cotangent of the attention's output is the real one. -/
def OutCot (I : Inp) (D : FVec Ideal S2x64x8x4096 .f32) : Prop :=
  ∀ (a : Fin 2) (d : Fin 64) (b : Fin 8) (n : Fin 4096), D (ix4 a d b n) = ((I.dO n.val (64 * (8 * a.val + b.val) + d.val) : ℝ) : EReal)

theorem dout_at (H : Holds I q g k v s t u) : OutCot I (Ref0.dout g u) := by
  intro a d b n
  pointwise [Ref0.dout]
  rw [sig_at H, H.g, H.u, ← EReal.coe_mul, ← EReal.coe_mul]
  show ((I.dO n.val (a.val * 512 + b.val * 64 + d.val) : ℝ) : EReal) = _
  congr 2
  omega

/-- The cotangent of a weight; the sink's is zero. -/
def dwR (I : Inp) (h n κ : ℕ) : ℝ := if κ < 4096 then I.dP h n κ else 0

theorem dwt_at {D : FVec Ideal S2x64x8x4096 .f32} (hD : OutCot I D) (H : Holds I q g k v s t u) (a : Fin 2) (b : Fin 8) (n : Fin 4096) (κ : Fin 4097) :
    Ref0.dwt D v (ix4 a b n κ) = ((dwR I (8 * a.val + b.val) n.val κ.val : ℝ) : EReal) := by
  pointwise [Ref0.dwt]
  unfold dwR
  by_cases h : κ.val < 4096
  · rw [dif_pos h, if_pos h]
    unfold Inp.dP
    refine sum_fin_coe _ (fun d => I.v κ.val (64 * ((8 * a.val + b.val) / 8) + d) * I.dO n.val (64 * (8 * a.val + b.val) + d)) fun d => ?_
    rw [hD, H.v, ← EReal.coe_mul, mul_comm]
    congr 3
    simp only []
    omega
  · rw [dif_neg h, if_neg h]; rfl

section
variable {D : FVec Ideal S2x8x4096x4097 .f32} (hD : ∀ (a : Fin 2) (b : Fin 8) (n : Fin 4096) (κ : Fin 4097), D (ix4 a b n κ) = ((dwR I (8 * a.val + b.val) n.val κ.val : ℝ) : EReal))
  {z : FVec Ideal S2x8x4096x4097 .f32} (hz : Rows I z) {M : FVec Ideal S2x8x4096 .f32} {μ : ℕ → ℕ → ℝ} (hM : Shifts M μ)
include hz hM

theorem col_at (a : Fin 2) (b : Fin 8) (n : Fin 4096) :
    Ref0.col (Host0.expo z M) (ix4 a b n 0) = ((I.Z (8 * a.val + b.val) n.val * Real.exp (-μ (8 * a.val + b.val) n.val) : ℝ) : EReal) := by
  pointwise [Ref0.col]
  exact total_at hz hM a b n

include hD
theorem mean_at (a : Fin 2) (b : Fin 8) (n : Fin 4096) :
    Ref0.mean D (Host0.expo z M) (Ref0.col (Host0.expo z M)) (ix3 a b n) = ((I.Dl (8 * a.val + b.val) n.val / (I.Z (8 * a.val + b.val) n.val * Real.exp (-μ (8 * a.val + b.val) n.val)) : ℝ) : EReal) := by
  pointwise [Ref0.mean, Ref0.inv2]
  have hZ := I.Z_pos (8 * a.val + b.val) n.val
  have hX := Real.exp_pos (-μ (8 * a.val + b.val) n.val)
  generalize hT : I.Z (8 * a.val + b.val) n.val * Real.exp (-μ (8 * a.val + b.val) n.val) = T
  have hTp : 0 < T := by rw [← hT]; exact mul_pos hZ hX
  refine (sum_fin_coe _ (fun κ => dwR I (8 * a.val + b.val) n.val κ * (T * T)⁻¹ * (eR I (8 * a.val + b.val) n.val κ * Real.exp (-μ (8 * a.val + b.val) n.val))) fun κ => ?_).trans ?_
  · rw [hD, col_at hz hM, expo_at hz hM, hT, ← EReal.coe_mul, ← EReal.coe_one, Ideal.div_coe (mul_pos hTp hTp).ne', ← EReal.coe_mul, ← EReal.coe_mul, ← EReal.coe_mul, one_mul, one_div]
  · congr 1
    rw [Finset.sum_range_succ]
    unfold dwR eR Inp.Dl
    rw [if_neg (lt_irrefl _), zero_mul, zero_mul, add_zero, Finset.sum_div]
    refine Finset.sum_congr rfl fun κ hκ => ?_
    have hκ' := Finset.mem_range.mp hκ
    rw [if_pos hκ', if_pos hκ']
    unfold Inp.P
    subst hT
    have := hZ.ne'
    have := hX.ne'
    field_simp
end

theorem minus_at (M : FVec Ideal S2x8x4096 .f32) (a : Fin 2) (b : Fin 8) (n : Fin 4096) : Ref0.minus M (ix3 a b n) = -(M (ix3 a b n)) := by
  pointwise [Ref0.minus]
  exact Fintype.sum_unique (ι := Fin 1) _

/-- The cotangent of a score, the sink's last. -/
def dzR (I : Inp) (h n κ : ℕ) : ℝ := if κ < 4096 then I.DS h n κ else -(Real.exp (I.s h) / I.Z h n) * I.Dl h n

section
variable {D : FVec Ideal S2x8x4096x4097 .f32} (hD : ∀ (a : Fin 2) (b : Fin 8) (n : Fin 4096) (κ : Fin 4097), D (ix4 a b n κ) = ((dwR I (8 * a.val + b.val) n.val κ.val : ℝ) : EReal))
  {z : FVec Ideal S2x8x4096x4097 .f32} (hz : Rows I z) {M : FVec Ideal S2x8x4096 .f32} {μ : ℕ → ℕ → ℝ} (hM : Shifts M μ)
include hz hM hD
theorem dz_at (a : Fin 2) (b : Fin 8) (n : Fin 4096) (κ : Fin 4097) :
    Ref0.dz D (Host0.expo z M) (Ref0.col (Host0.expo z M)) (ix4 a b n κ) = ((dzR I (8 * a.val + b.val) n.val κ.val : ℝ) : EReal) := by
  pointwise [Ref0.dz]
  have hZ := I.Z_pos (8 * a.val + b.val) n.val
  have hX := Real.exp_pos (-μ (8 * a.val + b.val) n.val)
  rw [minus_at, mean_at hD hz hM, hD, col_at hz hM, expo_at hz hM, Ideal.div_coe (mul_pos hZ hX).ne', ← EReal.coe_mul, ← EReal.coe_neg, ← EReal.coe_add, ← EReal.coe_mul]
  congr 1
  have := hZ.ne'
  have := hX.ne'
  unfold dwR dzR eR Inp.DS Inp.P
  split_ifs
  · field_simp
    ring
  · field_simp
    ring

theorem ds_at (a : Fin 2) (b : Fin 8) (n κ : Fin 4096) :
    Ref0.ds (Ref0.dz D (Host0.expo z M) (Ref0.col (Host0.expo z M))) (ix4 a b n κ) = ((I.DS (8 * a.val + b.val) n.val κ.val : ℝ) : EReal) := by
  pointwise [Ref0.ds]
  rw [band_at]
  by_cases hb : Inp.band n.val κ.val
  · rw [if_pos hb]
    refine (sel_one _ _).trans ((dz_at hD hz hM a b n ⟨κ.val, by omega⟩).trans ?_)
    unfold dzR
    rw [if_pos κ.isLt]
  · rw [if_neg hb, I.DS_of_not_band hb]
    exact sel_zero _ _
end

section
variable {z : FVec Ideal S2x8x4096x4097 .f32} (hz : ∀ (a : Fin 2) (b : Fin 8) (n : Fin 4096) (κ : Fin 4097), z (ix4 a b n κ) = ((dzR I (8 * a.val + b.val) n.val κ.val : ℝ) : EReal))
include hz
theorem dsinks_at (h : Fin 16) : Ref0.dsinks z (ix2 0 h) = ((I.DSk h.val : ℝ) : EReal) := by
  pointwise [Ref0.dsinks]
  have hh : 8 * (h.val / 8) + h.val % 8 = h.val := by omega
  refine sum_fin_coe _ (fun n => -(Real.exp (I.s h.val) / I.Z h.val n) * I.Dl h.val n) fun n => ?_
  rw [Fintype.sum_unique, hz]
  unfold dzR
  rw [if_neg (show ¬ (4096 : Fin 4097).val < 4096 by decide)]
  simp only [hh]
end

/-- Every banded cotangent of a score is the real one. -/
def ScoreCot (I : Inp) (d : FVec Ideal S2x8x4096x4096 .f32) : Prop :=
  ∀ (a : Fin 2) (b : Fin 8) (n κ : Fin 4096), d (ix4 a b n κ) = ((I.DS (8 * a.val + b.val) n.val κ.val : ℝ) : EReal)

section
variable {d : FVec Ideal S2x8x4096x4096 .f32} (hd : ScoreCot I d) (H : Holds I q g k v s t u)
include hd

theorem scaled_at (a : Fin 2) (κ n : Fin 4096) (b : Fin 8) : Ref0.scaled d (ix4 a κ n b) = ((I.DS (8 * a.val + b.val) n.val κ.val * (1 / 8) : ℝ) : EReal) := by
  pointwise [Ref0.scaled]
  rw [hd, ofBits_eighth32, ← EReal.coe_mul]

include H
theorem dq_at (n : Fin 4096) (x : Fin 1024) : Ref0.dq (Ref0.scaled d) k (ix2 n x) = ((I.DQ n.val x.val : ℝ) : EReal) := by
  pointwise [Ref0.dq]
  have hx := x.isLt
  have hh : 8 * (x.val / 512) + x.val / 64 % 8 = x.val / 64 := by omega
  have e : x.val / 512 * 64 + x.val % 64 = 64 * (x.val / 512) + x.val % 64 := by omega
  refine (sum_fin_coe _ (fun κ => I.DS (x.val / 64) n.val κ * (1 / 8) * I.k κ (64 * (x.val / 512) + x.val % 64)) fun κ => ?_).trans ?_
  · rw [scaled_at hd, H.k, ← EReal.coe_mul]
    simp only [hh, e]
  · congr 1
    unfold Inp.DQ
    rw [Finset.sum_mul]
    exact Finset.sum_congr rfl fun κ _ => by ring

theorem dk_at (κ : Fin 4096) (x : Fin 128) : Ref0.dk (Ref0.scaled d) q (ix2 κ x) = ((I.DK κ.val x.val : ℝ) : EReal) := by
  pointwise [Ref0.dk]
  have hx := x.isLt
  refine (sum_fin_coe _ (fun n => ∑ b ∈ range 8, I.DS (8 * (x.val / 64) + b) n κ.val * (1 / 8) * I.q n (x.val / 64 * 512 + b * 64 + x.val % 64)) fun n =>
    sum_fin_coe _ (fun b => I.DS (8 * (x.val / 64) + b) n.val κ.val * (1 / 8) * I.q n.val (x.val / 64 * 512 + b * 64 + x.val % 64)) fun b => ?_).trans ?_
  · rw [scaled_at hd, H.q, ← EReal.coe_mul]
  · congr 1
    unfold Inp.DK
    rw [Finset.sum_comm]
    refine Finset.sum_congr rfl fun b _ => Finset.sum_congr rfl fun n _ => ?_
    rw [show x.val / 64 * 512 + b * 64 + x.val % 64 = 64 * (8 * (x.val / 64) + b) + x.val % 64 by omega]
    ring

omit H in
theorem rows_at (n κ : Fin 4096) (h : Fin 16) : Ref0.rows d (ix3 n κ h) = ((I.DS h.val n.val κ.val : ℝ) : EReal) := by
  pointwise [Ref0.rows]
  rw [hd]
  simp only [show 8 * (h.val / 8) + h.val % 8 = h.val by omega]
end

theorem dv_at {D : FVec Ideal S2x64x8x4096 .f32} (hD : OutCot I D) {p : FVec Ideal S2x8x4096x4096 .f32}
    (hp : ∀ (a : Fin 2) (b : Fin 8) (n κ : Fin 4096), p (ix4 a b n κ) = ((I.P (8 * a.val + b.val) n.val κ.val : ℝ) : EReal)) (κ : Fin 4096) (x : Fin 128) :
    Ref0.dv D p (ix2 κ x) = ((I.DV κ.val x.val : ℝ) : EReal) := by
  pointwise [Ref0.dv]
  have hx := x.isLt
  refine (sum_fin_coe _ (fun b => ∑ n ∈ range 4096, I.P (8 * (x.val / 64) + b) n κ.val * I.dO n (64 * (8 * (x.val / 64) + b) + x.val % 64)) fun b =>
    sum_fin_coe _ (fun n => I.P (8 * (x.val / 64) + b.val) n κ.val * I.dO n (64 * (8 * (x.val / 64) + b.val) + x.val % 64)) fun n => ?_)
  rw [hD, hp, ← EReal.coe_mul, mul_comm]

theorem dg_at {o : FVec Ideal S4096x1024 .f32} (ho : ∀ (n : Fin 4096) (x : Fin 1024), o (ix2 n x) = ((I.O (x.val / 64) n.val (x.val % 64) : ℝ) : EReal)) (H : Holds I q g k v s t u)
    (n : Fin 4096) (x : Fin 1024) : Ref0.dg g o u (ix2 n x) = ((I.DG n.val x.val : ℝ) : EReal) := by
  pointwise [Ref0.dg]
  rw [sig_at H, ho, H.g, H.u, ← EReal.coe_one, ← EReal.coe_sub, ← EReal.coe_mul, ← EReal.coe_mul, ← EReal.coe_mul, ← EReal.coe_mul, ← EReal.coe_mul, ← EReal.coe_add]
  congr 1
  unfold Inp.DG
  ring

end Cert.ReferenceIdeal.Attn
-- ==== Proof.Feed.lean ====
module

public import proofs.«01_k».proof.Proof.HostVals
public import Idealize.ShloMosaic.Lib.Pipeline.ValueKit

/-! # The blocks the kernel reads, over the reals
Each block at each point is its array read at the point's rows; with the host lines' values the kernel's body is fed at every point. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

section
variable {I : Inp} {q g : FVec Ideal S4096x1024 .f32} {k v : FVec Ideal S4096x128 .f32} {s : FVec Ideal S1x16 .f32} {t : FVec Ideal S32x16 .f32} {u : FVec Ideal S4096x1024 .f32}

theorem pad_zero : (FloatOps.sitofp (F := Ideal) .f32 (0#32)) = ((0 : ℝ) : EReal) := by
  show ((((0#32).toInt : ℤ) : ℝ) : EReal) = _
  simp

theorem kvs_at (H : Holds I q g k v s t u) (ρ : Fin 4096) (x : Fin 512) :
    Host0.kvs k v (ix2 ρ x) = ((if x.val < 256 then I.k ρ.val (64 * (x.val / 128) + x.val % 64) else I.v ρ.val (64 * (x.val / 128 - 2) + x.val % 64) : ℝ) : EReal) := by
  pointwise [Host0.kvs]
  have hx := x.isLt
  by_cases h0 : x.val < 64
  · rw [dif_pos h0]
    refine (H.k _ _).trans (Eq.trans (congrArg (fun y : ℕ => ((I.k ρ.val y : ℝ) : EReal)) (show x.val = 64 * (x.val / 128) + x.val % 64 by omega)) ?_)
    rw [if_pos (by omega)]
  rw [dif_neg h0]
  by_cases h1 : x.val - 64 < 64
  · rw [dif_pos h1]
    refine (H.k _ _).trans (Eq.trans (congrArg (fun y : ℕ => ((I.k ρ.val y : ℝ) : EReal)) (show x.val - 64 = 64 * (x.val / 128) + x.val % 64 by omega)) ?_)
    rw [if_pos (by omega)]
  rw [dif_neg h1]
  by_cases h2 : x.val - 64 - 64 < 64
  · rw [dif_pos h2]
    refine (H.k _ _).trans (Eq.trans (congrArg (fun y : ℕ => ((I.k ρ.val y : ℝ) : EReal)) (show 64 + (x.val - 64 - 64) = 64 * (x.val / 128) + x.val % 64 by omega)) ?_)
    rw [if_pos (by omega)]
  rw [dif_neg h2]
  by_cases h3 : x.val - 64 - 64 - 64 < 64
  · rw [dif_pos h3]
    refine (H.k _ _).trans (Eq.trans (congrArg (fun y : ℕ => ((I.k ρ.val y : ℝ) : EReal)) (show 64 + (x.val - 64 - 64 - 64) = 64 * (x.val / 128) + x.val % 64 by omega)) ?_)
    rw [if_pos (by omega)]
  rw [dif_neg h3]
  by_cases h4 : x.val - 64 - 64 - 64 - 64 < 64
  · rw [dif_pos h4]
    refine (H.v _ _).trans (Eq.trans (congrArg (fun y : ℕ => ((I.v ρ.val y : ℝ) : EReal)) (show x.val - 64 - 64 - 64 - 64 = 64 * (x.val / 128 - 2) + x.val % 64 by omega)) ?_)
    rw [if_neg (by omega)]
  rw [dif_neg h4]
  by_cases h5 : x.val - 64 - 64 - 64 - 64 - 64 < 64
  · rw [dif_pos h5]
    refine (H.v _ _).trans (Eq.trans (congrArg (fun y : ℕ => ((I.v ρ.val y : ℝ) : EReal)) (show x.val - 64 - 64 - 64 - 64 - 64 = 64 * (x.val / 128 - 2) + x.val % 64 by omega)) ?_)
    rw [if_neg (by omega)]
  rw [dif_neg h5]
  by_cases h6 : x.val - 64 - 64 - 64 - 64 - 64 - 64 < 64
  · rw [dif_pos h6]
    refine (H.v _ _).trans (Eq.trans (congrArg (fun y : ℕ => ((I.v ρ.val y : ℝ) : EReal)) (show 64 + (x.val - 64 - 64 - 64 - 64 - 64 - 64) = 64 * (x.val / 128 - 2) + x.val % 64 by omega)) ?_)
    rw [if_neg (by omega)]
  rw [dif_neg h6]
  refine (H.v _ _).trans (Eq.trans (congrArg (fun y : ℕ => ((I.v ρ.val y : ℝ) : EReal)) (show 64 + (x.val - 64 - 64 - 64 - 64 - 64 - 64 - 64) = 64 * (x.val / 128 - 2) + x.val % 64 by omega)) ?_)
  rw [if_neg (by omega)]

/-- The keys and values, each twice, behind 1024 rows of zeros. -/
theorem kvx_at (H : Holds I q g k v s t u) (ρ : Fin 5120) (x : Fin 512) :
    Host0.kvx k v (ix2 ρ x) = ((if x.val < 256 then I.kp (x.val / 128) ρ.val x.val else I.vp (x.val / 128 - 2) ρ.val x.val : ℝ) : EReal) := by
  pointwise [Host0.kvx]
  have hρ := ρ.isLt
  unfold Inp.kp Inp.vp
  by_cases h : 1024 ≤ ρ.val
  · rw [dif_pos ⟨h, by omega⟩, kvs_at H]
    simp only [if_neg (show ¬ ρ.val < 1024 by omega)]
  · rw [dif_neg (fun h' => h h'.1)]
    simp only [if_pos (show ρ.val < 1024 by omega), ite_self]
    exact pad_zero

theorem base_at (H : Holds I q g k v s t u) (n : Fin 16) (x : Fin 384) :
    Host0.base t (ix3 n 0 x) = ((I.t n.val (BitVec.ofInt 32 (if x.val < 128 then -128 - (x.val : ℤ) else 256 - (x.val : ℤ))) : ℝ) : EReal) := by
  pointwise [Host0.base, Host0.diag]
  have hx := x.isLt
  by_cases h : x.val < 128
  · simp only [h, if_true, dif_pos]
    show Host.gather gather_S32x16_S384x1_S384x16_1_0_n_n_0_1_116 t (Host0.placeb Ideal) (ix2 (Fin.rev (n := 384) ⟨256 + x.val, by omega⟩) n) = _
    rw [gather384, placeb_at]
    refine (H.t _ n).trans (congrArg (fun y : ℤ => ((I.t n.val (BitVec.ofInt 32 y) : ℝ) : EReal)) ?_)
    simp only [Fin.val_rev]
    omega
  · simp only [h, if_false, dif_neg, not_false_iff]
    show Host.gather gather_S32x16_S384x1_S384x16_1_0_n_n_0_1_116 t (Host0.placeb Ideal) (ix2 (Fin.rev (n := 384) ⟨x.val - 128, by omega⟩) n) = _
    rw [gather384, placeb_at]
    refine (H.t _ n).trans (congrArg (fun y : ℤ => ((I.t n.val (BitVec.ofInt 32 y) : ℝ) : EReal)) ?_)
    simp only [Fin.val_rev]
    omega

end

section
variable (m : (ℓ : Loc nD τ sig) → Buf (Elt Ideal) ℓ) (c : Dev nD)

theorem rowsOf (t : Fin cfg0.N) (a : ℕ) (ha : a < 128) : 128 * t.val + a < 4096 := by have := t.isLt; have := points; omega

theorem read_q (A : Vec Ideal S4096x1024 .bf16) (t : Fin cfg0.N) (i : Fin 128) (x : Fin 1024) : (win0_0.blk t).view.read (Elt Ideal) A (ix2 i x) = A (ix2 ⟨128 * t.val + i.val, rowsOf t _ i.isLt⟩ x) := by
  have idx : win0_0.index t = ![t.val, 0] := by revert t; decide +kernel
  blk_ext [idx]
theorem blk_q (t : Fin cfg0.N) (i : Fin 128) (x : Fin 1024) : (blk m c t).q (ix2 i x) = V m c main_v206 (ix2 ⟨128 * t.val + i.val, rowsOf t _ i.isLt⟩ x) := read_q (V m c main_v206) t i x
theorem read_kv (A : Vec Ideal S5120x512 .bf16) (t : Fin cfg0.N) (i : Fin 5120) (x : Fin 512) : (win0_1.blk t).view.read (Elt Ideal) A (ix2 i x) = A (ix2 i x) := by
  have idx : win0_1.index t = ![0, 0] := by revert t; decide +kernel
  blk_ext [idx]
theorem blk_kv (t : Fin cfg0.N) (i : Fin 5120) (x : Fin 512) : (blk m c t).kv (ix2 i x) = V m c main_v165 (ix2 i x) := read_kv (V m c main_v165) t i x
theorem read_gate (A : Vec Ideal S4096x1024 .f32) (t : Fin cfg0.N) (i : Fin 128) (x : Fin 1024) : (win0_2.blk t).view.read (Elt Ideal) A (ix2 i x) = A (ix2 ⟨128 * t.val + i.val, rowsOf t _ i.isLt⟩ x) := by
  have idx : win0_2.index t = ![t.val, 0] := by revert t; decide +kernel
  blk_ext [idx]
theorem blk_gate (t : Fin cfg0.N) (i : Fin 128) (x : Fin 1024) : (blk m c t).gate (ix2 i x) = V m c main_arg1 (ix2 ⟨128 * t.val + i.val, rowsOf t _ i.isLt⟩ x) := read_gate (V m c main_arg1) t i x
theorem read_o (A : Vec Ideal S4096x1024 .f32) (t : Fin cfg0.N) (i : Fin 128) (x : Fin 1024) : (win0_3.blk t).view.read (Elt Ideal) A (ix2 i x) = A (ix2 ⟨128 * t.val + i.val, rowsOf t _ i.isLt⟩ x) := by
  have idx : win0_3.index t = ![t.val, 0] := by revert t; decide +kernel
  blk_ext [idx]
theorem blk_o (t : Fin cfg0.N) (i : Fin 128) (x : Fin 1024) : (blk m c t).o (ix2 i x) = V m c main_v80 (ix2 ⟨128 * t.val + i.val, rowsOf t _ i.isLt⟩ x) := read_o (V m c main_v80) t i x
theorem read_du (A : Vec Ideal S4096x1024 .f32) (t : Fin cfg0.N) (i : Fin 128) (x : Fin 1024) : (win0_4.blk t).view.read (Elt Ideal) A (ix2 i x) = A (ix2 ⟨128 * t.val + i.val, rowsOf t _ i.isLt⟩ x) := by
  have idx : win0_4.index t = ![t.val, 0] := by revert t; decide +kernel
  blk_ext [idx]
theorem blk_du (t : Fin cfg0.N) (i : Fin 128) (x : Fin 1024) : (blk m c t).du (ix2 i x) = V m c main_arg6 (ix2 ⟨128 * t.val + i.val, rowsOf t _ i.isLt⟩ x) := read_du (V m c main_arg6) t i x
theorem read_lse (A : Vec Ideal S32x8x512 .f32) (t : Fin cfg0.N) (a : Fin 8) (x : Fin 512) : (win0_5.blk t).view.read (Elt Ideal) A (ix3 0 a x) = A (ix3 ⟨t.val, by have := t.isLt; have := points; omega⟩ a x) := by
  have idx : win0_5.index t = ![t.val, 0, 0] := by revert t; decide +kernel
  blk_ext [idx]
theorem blk_lse (t : Fin cfg0.N) (a : Fin 8) (x : Fin 512) : (blk m c t).lse (ix3 0 a x) = V m c main_v158 (ix3 ⟨t.val, by have := t.isLt; have := points; omega⟩ a x) := read_lse (V m c main_v158) t a x
theorem read_base (A : Vec Ideal S16x1x384 .f32) (t : Fin cfg0.N) (n : Fin 16) (x : Fin 384) : (win0_6.blk t).view.read (Elt Ideal) A (ix3 n 0 x) = A (ix3 n 0 x) := by
  have idx : win0_6.index t = ![0, 0, 0] := by revert t; decide +kernel
  blk_ext [idx]
theorem blk_base (t : Fin cfg0.N) (n : Fin 16) (x : Fin 384) : (blk m c t).base (ix3 n 0 x) = V m c main_v205 (ix3 n 0 x) := read_base (V m c main_v205) t n x
theorem read_sinks (A : Vec Ideal S1x16 .f32) (t : Fin cfg0.N) (n : Fin 16) : (win0_7.blk t).view.read (Elt Ideal) A (ix2 0 n) = A (ix2 0 n) := by
  have idx : win0_7.index t = ![0, 0] := by revert t; decide +kernel
  blk_ext [idx]
theorem blk_sinks (t : Fin cfg0.N) (n : Fin 16) : (blk m c t).sinks (ix2 0 n) = V m c main_arg4 (ix2 0 n) := read_sinks (V m c main_arg4) t n

/-- The body is fed at every point. -/
theorem allFed {I : Inp} (H : Holds I (aq m c) (ag m c) (ak m c) (av m c) (asn m c) (at5 m c) (au m c)) : AllFed m I c where
  base t n x := by
    rw [blk_base]
    exact (congrFun (V_base m c) _).trans (base_at H n x)
  fed t W hW :=
    { q := fun i x => by
        rw [blk_q]
        exact (congrFun (V_q m c) _).trans (H.q _ _)
      gate := fun i x => by
        rw [blk_gate, V_main_arg1]
        exact H.g _ _
      du := fun i x => by
        rw [blk_du, V_main_arg6]
        exact H.u _ _
      o := fun i x => by
        rw [blk_o]
        refine (congrFun (V_o m c) _).trans ?_
        obtain ⟨μ, hμ⟩ := top'_shifts (both_at H)
        exact out_at (both_at H) hμ H _ _
      sinks := fun n => by
        rw [blk_sinks, V_main_arg4]
        exact H.s n
      lse := fun a x ha => by
        rw [blk_lse]
        refine (congrFun (V_lse m c) _).trans ?_
        exact lseRows_at (fun a b n => lseH_at (both_at H) a b n) _ a x ha
      keys := fun gi j x hg hj hx => by
        rw [hW, blk_kv]
        refine (congrFun (V_kvx m c) _).trans ((kvx_at H _ _).trans ?_)
        simp only [if_pos (show 128 * gi + x < 256 by omega)]
        unfold Inp.kp
        have e1 : (128 * gi + x) / 128 = gi := by omega
        have e2 : (128 * gi + x) % 64 = x % 64 := by omega
        rw [e1, e2]
      vals := fun gi j x hg hj hx => by
        rw [hW, blk_kv]
        refine (congrFun (V_kvx m c) _).trans ((kvx_at H _ _).trans ?_)
        simp only [if_neg (show ¬ 256 + 128 * gi + x < 256 by omega)]
        unfold Inp.vp
        have e1 : (256 + 128 * gi + x) / 128 - 2 = gi := by omega
        have e2 : (256 + 128 * gi + x) % 64 = x % 64 := by omega
        rw [e1, e2] }

end

end Cert.KernelIdeal.Attn
-- ==== Proof.Arrays.lean ====
module

public import proofs.«01_k».proof.Proof.Feed

/-! # What the kernel leaves in its four result arrays
Each block written back at its place: the gradients of the queries and of the gate row block by row block, the other three whole after the last step. -/

@[expose] public section

noncomputable section

namespace Cert.KernelIdeal.Attn

open Cert.KernelIdeal.Gen Cert.Attn
open Idealize.ShloMosaic Idealize.ShloMosaic.TcCoe Idealize.ShloMosaic.Tactic

set_option maxRecDepth 16384

variable {I : Inp} (m : (ℓ : Loc nD τ sig) → Buf (Elt Ideal) ℓ) (c : Dev nD)

/-- The last grid point. -/
def tLast : Fin cfg0.N := ⟨31, by have := points; omega⟩

/-- The gradients of the queries and of the gate, in four planes of 512 columns. -/
def dzA (I : Inp) : FVec Ideal S4x4096x512 .bf16 := fun i =>
  ((Fed.dzG I ((i 1).val / 128) (i 0).val ((i 1).val % 128) (i 2).val : ℝ) : EReal)

theorem idx8 : ∀ t : Fin cfg0.N, win0_8.index t = ![0, t.val, 0] :=
  (by decide +kernel : ∀ t : Fin grid0.N, _)

/-- The place of a block's element in the array. -/
theorem read8 (A : FVec Ideal S4x4096x512 .bf16) (t : Fin cfg0.N) (a : Fin 4) (i : Fin 128) (x : Fin 512) (h : 128 * t.val + i.val < 4096) :
    A ((win0_8.blk t).view.emb (ix3 a i x)) = A (ix3 a ⟨128 * t.val + i.val, h⟩ x) := by
  have idx := idx8 t
  blk_ext [idx]

theorem arr8 (hF : AllFed m I c) : (dats m 0 c).arrAt 8 cfg0.N = (dzA I : FVec Ideal S4x4096x512 .bf16) := by
  refine (dats m 0 c).arrAt_eq_of_covers 8 _ (by decide +kernel) fun t hf y => ?_
  blk_simp
  rw [after8]
  revert y
  intro (y : S4x128x512.Idx)
  idx_vars y
  have ht : t.val < 32 := lt_of_lt_of_eq t.isLt points
  have hi := y1.isLt
  refine (dz_at m hF t y0 y1 y2).trans (Eq.trans ?_ (read8 (dzA I) t y0 y1 y2 (by omega)).symm)
  show _ = ((Fed.dzG I ((128 * t.val + y1.val) / 128) y0.val ((128 * t.val + y1.val) % 128) y2.val : ℝ) : EReal)
  rw [show (128 * t.val + y1.val) / 128 = t.val by omega, show (128 * t.val + y1.val) % 128 = y1.val by omega]

theorem arr9 : (dats m 0 c).arrAt 9 cfg0.N = (state m c 31 tLast.isLt).1.dkv := by
  refine (dats m 0 c).arrAt_eq_of_after_last 9 tLast (by decide +kernel) _ fun j => ?_
  blk_simp
  rw [after9]
  rfl

theorem arr10 : (dats m 0 c).arrAt 10 cfg0.N = (state m c 31 tLast.isLt).1.dsum := by
  refine (dats m 0 c).arrAt_eq_of_after_last 10 tLast (by decide +kernel) _ fun j => ?_
  blk_simp
  rw [after10]
  rfl

theorem arr11 : (dats m 0 c).arrAt 11 cfg0.N = (state m c 31 tLast.isLt).1.dsink := by
  refine (dats m 0 c).arrAt_eq_of_after_last 11 tLast (by decide +kernel) _ fun j => ?_
  blk_simp
  rw [after11]
  rfl

/-! ## The host lines after the kernel -/

/-- The host lines after the kernel. -/
abbrev tail : List (HloOp τ sig (Elt Ideal)) := List.flatten [hostOps1, hostOps1_1, hostOps1_2]

namespace Host1

def left (x : FVec Ideal S4x4096x512 .bf16) : FVec Ideal S4096x1024 .f32 :=
  concatenate S4096x1024 1 [⟨S4096x512, shapeCast S4096x512 (extractStridedSlice S1x4096x512 ![0, 0, 0] (extf .f32 x bitsLt_bf16_f32) slices_S4x4096x512_S1x4096x512_0_0_0) shapeCasts_S1x4096x512_S4096x512⟩,
    ⟨S4096x512, shapeCast S4096x512 (extractStridedSlice S1x4096x512 ![1, 0, 0] (extf .f32 x bitsLt_bf16_f32) slices_S4x4096x512_S1x4096x512_1_0_0) shapeCasts_S1x4096x512_S4096x512⟩] concatenates_S4096x512_S4096x512_S4096x1024_d1

def right (x : FVec Ideal S4x4096x512 .bf16) : FVec Ideal S4096x1024 .f32 :=
  concatenate S4096x1024 1 [⟨S4096x512, shapeCast S4096x512 (extractStridedSlice S1x4096x512 ![2, 0, 0] (extf .f32 x bitsLt_bf16_f32) slices_S4x4096x512_S1x4096x512_2_0_0) shapeCasts_S1x4096x512_S4096x512⟩,
    ⟨S4096x512, shapeCast S4096x512 (extractStridedSlice S1x4096x512 ![3, 0, 0] (extf .f32 x bitsLt_bf16_f32) slices_S4x4096x512_S1x4096x512_3_0_0) shapeCasts_S1x4096x512_S4096x512⟩] concatenates_S4096x512_S4096x512_S4096x1024_d1

def keys (x : FVec Ideal S4096x256 .bf16) : FVec Ideal S4096x128 .f32 := extractStridedSlice S4096x128 ![0, 0] (extf .f32 x bitsLt_bf16_f32) slices_S4096x256_S4096x128_0_0
def vals (x : FVec Ideal S4096x256 .bf16) : FVec Ideal S4096x128 .f32 := extractStridedSlice S4096x128 ![0, 128] (extf .f32 x bitsLt_bf16_f32) slices_S4096x256_S4096x128_0_128
def sinks (x : FVec Ideal S8x128 .f32) : FVec Ideal S1x16 .f32 := extractStridedSlice S1x16 ![0, 0] x slices_S8x128_S1x16_0_0

/-- The diagonal sums, the distances ascending and the one past the end last. -/
def turned (x : FVec Ideal S16x1x384 .f32) : FVec Ideal S384x16 .f32 :=
  transpose S384x16 [1, 0] (shapeCast S16x384 (concatenate S16x1x384 2 [⟨S16x1x383, extractStridedSlice S16x1x383 ![0, 0, 1] (Host.reverse [2] x) slices_S16x1x384_S16x1x383_0_0_1⟩, ⟨S16x1x1, extractStridedSlice S16x1x1 ![0, 0, 0] (Host.reverse [2] x) slices_S16x1x384_S16x1x1_0_0_0⟩] concatenates_S16x1x383_S16x1x1_S16x1x384_d2) shapeCasts_S16x1x384_S16x384) transposes_S16x384_S384x16_1_0

def table (pl : IVec S384 32) (x : FVec Ideal S384x16 .f32) : FVec Ideal S32x16 .f32 :=
  Host.scatterAdd scatter_S32x16_S384x1_S384x16_1_0_0_1 (broadcastInDim S32x16 ![] bcast_S_S32x16 (constant S_ .f32 0x00000000#32))
    (broadcastInDim S384x1 ![0] bcast_S384_S384x1_0 (Host0.wrap S384 bcast_S_S384 pl)) x

end Host1

section
variable (W : Valuation τ sig (Elt Ideal))
theorem tail_left : (StableHlo.after tail W (Proc.devRef .tc main_v226) : FVec Ideal S4096x1024 .f32) = Host1.left (W (Proc.devRef .tc main_v207_0)) := by
  entry_read
  rfl
theorem tail_right : (StableHlo.after tail W (Proc.devRef .tc main_v231) : FVec Ideal S4096x1024 .f32) = Host1.right (W (Proc.devRef .tc main_v207_0)) := by
  entry_read
  rfl
theorem tail_keys : (StableHlo.after tail W (Proc.devRef .tc main_v232) : FVec Ideal S4096x128 .f32) = Host1.keys (W (Proc.devRef .tc main_v207_1)) := by
  entry_read
  rfl
theorem tail_vals : (StableHlo.after tail W (Proc.devRef .tc main_v233) : FVec Ideal S4096x128 .f32) = Host1.vals (W (Proc.devRef .tc main_v207_1)) := by
  entry_read
  rfl
theorem tail_sinks : (StableHlo.after tail W (Proc.devRef .tc main_v234) : FVec Ideal S1x16 .f32) = Host1.sinks (W (Proc.devRef .tc main_v207_3)) := by
  entry_read
  rfl
theorem tail_table : (StableHlo.after tail W (Proc.devRef .tc main_v221) : FVec Ideal S32x16 .f32) = Host1.table (W (Proc.devRef .tc main_v194)) (Host1.turned (W (Proc.devRef .tc main_v207_2))) := by
  entry_read
  rfl
end

theorem arr_inj : Function.Injective (Pipeline.arrRef spec0) := by decide

/-- The contents the lines after the kernel begin from. -/
abbrev Wend : Valuation τ sig (Elt Ideal) := Pipeline.withArrays spec0 c (V0 m c) fun w => (dats m 0 c).arrAt w cfg0.N

theorem end8 : (Wend m c (Proc.devRef .tc main_v207_0) : FVec Ideal S4x4096x512 .bf16) = (dats m 0 c).arrAt 8 cfg0.N :=
  Pipeline.withArrays_arr spec0 arr_inj c (V0 m c) _ 8
theorem end9 : (Wend m c (Proc.devRef .tc main_v207_1) : FVec Ideal S4096x256 .bf16) = (dats m 0 c).arrAt 9 cfg0.N :=
  Pipeline.withArrays_arr spec0 arr_inj c (V0 m c) _ 9
theorem end10 : (Wend m c (Proc.devRef .tc main_v207_2) : FVec Ideal S16x1x384 .f32) = (dats m 0 c).arrAt 10 cfg0.N :=
  Pipeline.withArrays_arr spec0 arr_inj c (V0 m c) _ 10
theorem end11 : (Wend m c (Proc.devRef .tc main_v207_3) : FVec Ideal S8x128 .f32) = (dats m 0 c).arrAt 11 cfg0.N :=
  Pipeline.withArrays_arr spec0 arr_inj c (V0 m c) _ 11
theorem end_place : (Wend m c (Proc.devRef .tc main_v194) : IVec S384 32) = Host0.bucket (F := Ideal) S384 bcast_S_S384 Host0.relb :=
  (Pipeline.withArrays_of_ne spec0 c (V0 m c) _ main_v194 (by decide)).trans (V_place m c)

/-! ## The results -/

/-- A matrix of reals as an array. -/
def mat (R C : ℕ) (f : ℕ → ℕ → ℝ) : FVec Ideal (⟨2, ![R, C]⟩ : Shape) .f32 := fun i => ((f (i 0).val (i 1).val : ℝ) : EReal)

theorem mat_ext {R C : ℕ} {f : ℕ → ℕ → ℝ} {x : FVec Ideal (⟨2, ![R, C]⟩ : Shape) .f32} (h : ∀ (a : Fin R) (b : Fin C), x (ix2 a b) = ((f a.val b.val : ℝ) : EReal)) : x = mat R C f := by
  funext i
  have e : i = ix2 (i 0) (i 1) := by
    funext a
    match a with
    | ⟨0, _⟩ => rfl
    | ⟨1, _⟩ => rfl
  exact (congrArg x e).trans (h (i 0) (i 1))

theorem left_at : Host1.left (dzA I) = mat 4096 1024 I.DQ := by
  refine mat_ext fun n x => ?_
  pointwise [Host1.left]
  have hx := x.isLt
  by_cases h : x.val < 512
  · rw [dif_pos h]
    show ((Fed.dzG I (n.val / 128) 0 (n.val % 128) x.val : ℝ) : EReal) = _
    unfold Fed.dzG
    rw [if_pos (by decide)]
    congr 2 <;> omega
  · rw [dif_neg h]
    show ((Fed.dzG I (n.val / 128) 1 (n.val % 128) (x.val - 512) : ℝ) : EReal) = _
    unfold Fed.dzG
    rw [if_pos (by decide)]
    congr 2 <;> omega

theorem right_at : Host1.right (dzA I) = mat 4096 1024 I.DG := by
  refine mat_ext fun n x => ?_
  pointwise [Host1.right]
  have hx := x.isLt
  by_cases h : x.val < 512
  · rw [dif_pos h]
    show ((Fed.dzG I (n.val / 128) 2 (n.val % 128) x.val : ℝ) : EReal) = _
    unfold Fed.dzG
    rw [if_neg (by decide)]
    congr 2 <;> omega
  · rw [dif_neg h]
    show ((Fed.dzG I (n.val / 128) 3 (n.val % 128) (x.val - 512) : ℝ) : EReal) = _
    unfold Fed.dzG
    rw [if_neg (by decide)]
    congr 2 <;> omega

section
variable {x : FVec Ideal S4096x256 .bf16} (hx : ∀ (r : Fin 4096) (y : Fin 256), x (ix2 r y) = ((kvR I r.val y.val : ℝ) : EReal))
include hx
theorem keys_at : Host1.keys x = mat 4096 128 I.DK := by
  refine mat_ext fun n y => ?_
  pointwise [Host1.keys]
  rw [hx]
  unfold kvR
  rw [if_pos y.isLt]
theorem vals_at : Host1.vals x = mat 4096 128 I.DV := by
  refine mat_ext fun n y => ?_
  pointwise [Host1.vals]
  rw [hx]
  unfold kvR
  rw [if_neg (show ¬ 128 + y.val < 128 by omega), show 128 + y.val - 128 = y.val by omega]
end

theorem sinks_at {x : FVec Ideal S8x128 .f32} (hx : ∀ (r : Fin 8) (n : Fin 16), x (ix2 r ⟨n.val, by omega⟩) = ((I.DSk n.val : ℝ) : EReal)) : Host1.sinks x = mat 1 16 fun _ h => I.DSk h := by
  refine mat_ext fun n y => ?_
  pointwise [Host1.sinks]
  exact hx 0 y

theorem turned_at {x : FVec Ideal S16x1x384 .f32} (hx : ∀ (n : Fin 16) (y : Fin 384), x (ix3 n 0 y) = ((diagR I n.val y.val : ℝ) : EReal)) (y : Fin 384) (h : Fin 16) :
    Host1.turned x (ix2 y h) = ((diagR I h.val (if y.val < 383 then 382 - y.val else 383) : ℝ) : EReal) := by
  pointwise [Host1.turned]
  have hy := y.isLt
  by_cases h1 : y.val < 383
  · rw [dif_pos h1, if_pos h1]
    show x (ix3 h 0 (Fin.rev (n := 384) ⟨1 + y.val, by omega⟩)) = _
    rw [hx]
    congr 2
    show 384 - (1 + y.val + 1) = _
    omega
  · rw [dif_neg h1, if_neg h1]
    show x (ix3 h 0 (Fin.rev (n := 384) ⟨y.val - 383, by omega⟩)) = _
    rw [hx]
    congr 2
    show 384 - (y.val - 383 + 1) = _
    omega

end Cert.KernelIdeal.Attn
-- ==== Proof.Scatter.lean ====
module

public import proofs.«01_k».proof.Proof.RefVals
public import proofs.«01_k».proof.Proof.Arrays

/-! # The gradient of the table
Both programs add cotangents into the table's rows: the reference a cotangent of every pair, the kernel's host lines a diagonal's sum at its distance. The two sums regroup one family. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

/-- A row of the table and a column: where an update lands, from the two coordinates of its place. -/
theorem lands_iff {si su : Shape} (d : ScatterDims S32x16 si su) (j : su.Idx) (idx : IVec si 32) (w : BitVec 32) (n : Fin 16) (b : Fin 32) (h : Fin 16)
    (s0 : d.start j idx (0 : Fin 2) + (d.window j (0 : Fin 2) : ℤ) = w.toInt) (s1 : d.start j idx (1 : Fin 2) + (d.window j (1 : Fin 2) : ℤ) = (n.val : ℤ)) :
    d.resultIdx? j idx = some (ix2 b h) ↔ w.toInt = (b.val : ℤ) ∧ n = h := by
  have two : ∀ a : Fin 2, a = 0 ∨ a = 1 := by decide
  unfold ScatterDims.resultIdx?
  constructor
  · intro e
    split at e
    · rename_i hh
      have e := Option.some.inj e
      have e0 := congrArg Fin.val (congrFun e (0 : Fin 2))
      have e1 := congrArg Fin.val (congrFun e (1 : Fin 2))
      have h0 := hh (0 : Fin 2)
      dsimp only at e0 e1
      rw [s0] at e0 h0
      rw [s1] at e1
      have e0' : w.toInt.toNat = b.val := e0
      have e1' : ((n.val : ℤ)).toNat = h.val := e1
      exact ⟨by omega, Fin.ext (by omega)⟩
    · exact absurd e (by simp)
  · rintro ⟨e0, rfl⟩
    have hall : ∀ a : Fin 2, 0 ≤ d.start j idx a + (d.window j a : ℤ) ∧ d.start j idx a + (d.window j a : ℤ) < (S32x16.size a : ℤ) := by
      intro a
      rcases two a with rfl | rfl
      · rw [s0, e0]
        exact ⟨by omega, by show (b.val : ℤ) < 32; omega⟩
      · rw [s1]
        exact ⟨by omega, by show (n.val : ℤ) < 16; omega⟩
    rw [dif_pos hall]
    congr 1
    funext a
    refine Fin.ext ?_
    rcases two a with rfl | rfl
    · show (d.start j idx (0 : Fin 2) + (d.window j (0 : Fin 2) : ℤ)).toNat = b.val
      rw [s0, e0]; omega
    · show (d.start j idx (1 : Fin 2) + (d.window j (1 : Fin 2) : ℤ)).toNat = n.val
      rw [s1]; omega

/-- Where a diagonal's sum lands: the table's row is the word read signed, the column the sum's own. -/
theorem lands384 (idx : IVec S384x1 32) (x : Fin 384) (n : Fin 16) (b : Fin 32) (h : Fin 16) :
    scatter_S32x16_S384x1_S384x16_1_0_0_1.resultIdx? (ix2 x n) idx = some (ix2 b h) ↔ (idx (ix2 x 0)).toInt = (b.val : ℤ) ∧ n = h := by
  have s0 : scatter_S32x16_S384x1_S384x16_1_0_0_1.start (ix2 x n) idx (0 : Fin 2) + (scatter_S32x16_S384x1_S384x16_1_0_0_1.window (ix2 x n) (0 : Fin 2) : ℤ) = (idx (ix2 x 0)).toInt := by
    unfold ScatterDims.start ScatterDims.window
    rw [dif_pos (show (0 : Fin 2) ∈ scatter_S32x16_S384x1_S384x16_1_0_0_1.scatterDimsToOperandDims from List.mem_singleton.mpr rfl), dif_neg (by decide)]
    have hsi : scatter_S32x16_S384x1_S384x16_1_0_0_1.siIdx (ix2 x n) ⟨List.idxOf (0 : Fin 2) scatter_S32x16_S384x1_S384x16_1_0_0_1.scatterDimsToOperandDims,
        List.idxOf_lt_length_iff.2 (List.mem_singleton.mpr rfl)⟩ = ix2 x 0 := by
      funext b; refine Fin.ext ?_
      match b with
      | ⟨0, _⟩ => rfl
      | ⟨1, _⟩ => rfl
    rw [hsi]
    simp
  have s1 : scatter_S32x16_S384x1_S384x16_1_0_0_1.start (ix2 x n) idx (1 : Fin 2) + (scatter_S32x16_S384x1_S384x16_1_0_0_1.window (ix2 x n) (1 : Fin 2) : ℤ) = (n.val : ℤ) := by
    unfold ScatterDims.start ScatterDims.window
    rw [dif_neg (by decide), dif_pos (by decide)]
    simp only [zero_add]
    rfl
  exact lands_iff _ _ _ _ n b h s0 s1

/-- The table's gradient out of the diagonals' sums. -/
theorem added384 (idx : IVec S384x1 32) (w : ℕ → BitVec 32) (hw : ∀ x : Fin 384, idx (ix2 x 0) = w x.val) (D : FVec Ideal S384x16 .f32) (f : ℕ → ℕ → ℝ)
    (hD : ∀ (x : Fin 384) (h : Fin 16), D (ix2 x h) = ((f x.val h.val : ℝ) : EReal)) (b : Fin 32) (h : Fin 16) :
    Host.scatterAdd scatter_S32x16_S384x1_S384x16_1_0_0_1 (broadcastInDim S32x16 ![] bcast_S_S32x16 (constant (F := Ideal) S_ .f32 0x00000000#32)) idx D (ix2 b h)
      = ((∑ x ∈ range 384, (if (w x).toInt = (b.val : ℤ) then f x h.val else 0) : ℝ) : EReal) := by
  show Ideal.ofBits .f32 0x00000000#32 + ∑ j ∈ Finset.univ.filter (fun j => scatter_S32x16_S384x1_S384x16_1_0_0_1.resultIdx? j idx = some (ix2 b h)), D j = _
  rw [show Ideal.ofBits .f32 0x00000000#32 = 0 by simp [Ideal.ofBits, Ideal.ieee], zero_add, Finset.sum_filter]
  refine (sum_idx2 (n0 := 384) (n1 := 16) _).trans ?_
  refine sum_fin_coe _ (fun x => if (w x).toInt = (b.val : ℤ) then f x h.val else 0) fun x => ?_
  rw [Finset.sum_eq_single h]
  · by_cases e : (w x.val).toInt = (b.val : ℤ)
    · rw [if_pos ((lands384 idx x h b h).mpr ⟨by rw [hw]; exact e, rfl⟩), if_pos e, hD]
    · rw [if_neg fun hh => e (by rw [← hw]; exact ((lands384 idx x h b h).mp hh).1), if_neg e]; rfl
  · intro n _ hn
    exact if_neg fun hh => hn ((lands384 idx x n b h).mp hh).2
  · intro hh; exact absurd (Finset.mem_univ h) hh

/-- Where a pair's cotangent lands. -/
theorem lands4096 (idx : IVec S4096x4096x1 32) (x y : Fin 4096) (n : Fin 16) (b : Fin 32) (h : Fin 16) :
    Cert.ReferenceIdeal.scatter_S32x16_S4096x4096x1_S4096x4096x16_2_0_0_2.resultIdx? (ix3 x y n) idx = some (ix2 b h) ↔ (idx (ix3 x y 0)).toInt = (b.val : ℤ) ∧ n = h := by
  have s0 : Cert.ReferenceIdeal.scatter_S32x16_S4096x4096x1_S4096x4096x16_2_0_0_2.start (ix3 x y n) idx (0 : Fin 2) + (Cert.ReferenceIdeal.scatter_S32x16_S4096x4096x1_S4096x4096x16_2_0_0_2.window (ix3 x y n) (0 : Fin 2) : ℤ) = (idx (ix3 x y 0)).toInt := by
    unfold ScatterDims.start ScatterDims.window
    rw [dif_pos (show (0 : Fin 2) ∈ Cert.ReferenceIdeal.scatter_S32x16_S4096x4096x1_S4096x4096x16_2_0_0_2.scatterDimsToOperandDims from List.mem_singleton.mpr rfl), dif_neg (by decide)]
    have hsi : Cert.ReferenceIdeal.scatter_S32x16_S4096x4096x1_S4096x4096x16_2_0_0_2.siIdx (ix3 x y n) ⟨List.idxOf (0 : Fin 2) Cert.ReferenceIdeal.scatter_S32x16_S4096x4096x1_S4096x4096x16_2_0_0_2.scatterDimsToOperandDims,
        List.idxOf_lt_length_iff.2 (List.mem_singleton.mpr rfl)⟩ = ix3 x y 0 := by
      funext b; refine Fin.ext ?_
      match b with
      | ⟨0, _⟩ => rfl
      | ⟨1, _⟩ => rfl
      | ⟨2, _⟩ => rfl
    rw [hsi]
    simp
  have s1 : Cert.ReferenceIdeal.scatter_S32x16_S4096x4096x1_S4096x4096x16_2_0_0_2.start (ix3 x y n) idx (1 : Fin 2) + (Cert.ReferenceIdeal.scatter_S32x16_S4096x4096x1_S4096x4096x16_2_0_0_2.window (ix3 x y n) (1 : Fin 2) : ℤ) = (n.val : ℤ) := by
    unfold ScatterDims.start ScatterDims.window
    rw [dif_neg (by decide), dif_pos (by decide)]
    simp only [zero_add]
    rfl
  exact lands_iff _ _ _ _ n b h s0 s1

/-- The table's gradient out of the pairs' cotangents. -/
theorem added4096 (idx : IVec S4096x4096x1 32) (w : ℕ → ℕ → BitVec 32) (hw : ∀ x y : Fin 4096, idx (ix3 x y 0) = w x.val y.val) (D : FVec Ideal S4096x4096x16 .f32) (f : ℕ → ℕ → ℕ → ℝ)
    (hD : ∀ (x y : Fin 4096) (h : Fin 16), D (ix3 x y h) = ((f h.val x.val y.val : ℝ) : EReal)) (b : Fin 32) (h : Fin 16) :
    Host.scatterAdd Cert.ReferenceIdeal.scatter_S32x16_S4096x4096x1_S4096x4096x16_2_0_0_2 (broadcastInDim S32x16 ![] bcast_S_S32x16 (constant (F := Ideal) S_ .f32 0x00000000#32)) idx D (ix2 b h)
      = ((∑ x ∈ range 4096, ∑ y ∈ range 4096, (if (w x y).toInt = (b.val : ℤ) then f h.val x y else 0) : ℝ) : EReal) := by
  show Ideal.ofBits .f32 0x00000000#32 + ∑ j ∈ Finset.univ.filter (fun j => Cert.ReferenceIdeal.scatter_S32x16_S4096x4096x1_S4096x4096x16_2_0_0_2.resultIdx? j idx = some (ix2 b h)), D j = _
  rw [show Ideal.ofBits .f32 0x00000000#32 = 0 by simp [Ideal.ofBits, Ideal.ieee], zero_add, Finset.sum_filter]
  refine (sum_idx3 (n0 := 4096) (n1 := 4096) (n2 := 16) _).trans ?_
  refine sum_fin_coe _ (fun x => ∑ y ∈ range 4096, if (w x y).toInt = (b.val : ℤ) then f h.val x y else 0) fun x =>
    sum_fin_coe _ (fun y => if (w x.val y).toInt = (b.val : ℤ) then f h.val x.val y else 0) fun y => ?_
  rw [Finset.sum_eq_single h]
  · by_cases e : (w x.val y.val).toInt = (b.val : ℤ)
    · rw [if_pos ((lands4096 idx x y h b h).mpr ⟨by rw [hw]; exact e, rfl⟩), if_pos e, hD]
    · rw [if_neg fun hh => e (by rw [← hw]; exact ((lands4096 idx x y h b h).mp hh).1), if_neg e]; rfl
  · intro n _ hn
    exact if_neg fun hh => hn ((lands4096 idx x y n b h).mp hh).2
  · intro hh; exact absurd (Finset.mem_univ h) hh

end Cert.KernelIdeal.Attn
-- ==== Proof.Diagonals.lean ====
module

public import proofs.«01_k».proof.Proof.Tail

/-! # The diagonals regrouped
The sums along the diagonals, added over the diagonals a condition on the distance picks, are the pairs' cotangents added over the pairs it picks. -/

@[expose] public section

noncomputable section

namespace Cert.KernelIdeal.Attn

open Cert.Attn
open Finset (range)

variable (I : Inp)

theorem shifted (r : ℕ) (hr : r < 256) (f : ℕ → ℝ) : ∑ x ∈ range 383, (if r ≤ x ∧ x < r + 128 then f x else 0) = ∑ i ∈ range 128, f (r + i) := by
  rw [← Finset.sum_filter]
  refine Finset.sum_bij' (fun x _ => x - r) (fun i _ => r + i) ?_ ?_ ?_ ?_ ?_
  · intro x hx; simp only [Finset.mem_filter, Finset.mem_range] at hx ⊢; omega
  · intro i hi; simp only [Finset.mem_filter, Finset.mem_range] at hi ⊢; omega
  · intro x hx; simp only [Finset.mem_filter, Finset.mem_range] at hx ⊢; omega
  · intro i hi; simp only [Finset.mem_range] at hi ⊢; omega
  · intro x hx
    simp only [Finset.mem_filter, Finset.mem_range] at hx
    rw [show r + (x - r) = x by omega]

theorem by_blocks (f : ℕ → ℝ) : ∑ n ∈ range 4096, f n = ∑ b ∈ range 32, ∑ i ∈ range 128, f (128 * b + i) := by
  rw [← Finset.sum_product']
  refine Finset.sum_bij' (fun n _ => (n / 128, n % 128)) (fun p _ => 128 * p.1 + p.2) ?_ ?_ ?_ ?_ ?_
  · intro n hn; simp only [Finset.mem_product, Finset.mem_range] at hn ⊢; omega
  · intro p hp; simp only [Finset.mem_product, Finset.mem_range] at hp ⊢; omega
  · intro n hn; simp only; omega
  · intro p hp
    simp only [Finset.mem_product, Finset.mem_range] at hp
    ext <;> simp only <;> omega
  · intro n hn; simp only; congr 1; omega

theorem diagR_end (h : ℕ) : diagR I h 383 = 0 := by
  unfold diagR
  refine Finset.sum_eq_zero fun r hr => if_neg ?_
  have := Finset.mem_range.mp hr
  omega

variable (G : ℤ → Prop) [DecidablePred G]

theorem gated_sum (P : Prop) [Decidable P] (s : Finset ℕ) (f : ℕ → ℝ) : (if P then ∑ x ∈ s, f x else 0) = ∑ x ∈ s, if P then f x else 0 := by
  split_ifs
  · rfl
  · exact (Finset.sum_const_zero).symm

theorem diag_regroup (h : ℕ) (hh : h < 16) :
    ∑ y ∈ range 384, (if G ((y : ℤ) - 255) then diagR I h (if y < 383 then 382 - y else 383) else 0)
      = ∑ n ∈ range 4096, ∑ κ ∈ range 4096, (if G ((κ : ℤ) - (n : ℤ)) then I.DS h n κ else 0) := by
  have e1 : ∑ y ∈ range 384, (if G ((y : ℤ) - 255) then diagR I h (if y < 383 then 382 - y else 383) else 0)
      = ∑ x ∈ range 383, (if G (127 - (x : ℤ)) then diagR I h x else 0) := by
    rw [Finset.sum_range_succ, if_neg (lt_irrefl 383), diagR_end, ite_self, add_zero, ← Finset.sum_range_reflect]
    refine Finset.sum_congr rfl fun y hy => ?_
    have hy := Finset.mem_range.mp hy
    rw [if_pos (show 383 - 1 - y < 383 by omega), show ((383 - 1 - y : ℕ) : ℤ) - 255 = 127 - (y : ℤ) by omega, show 382 - (383 - 1 - y) = y by omega]
  have e2 : ∑ x ∈ range 383, (if G (127 - (x : ℤ)) then diagR I h x else 0)
      = ∑ r ∈ range 256, ∑ i ∈ range 128, (if G (127 - ((r + i : ℕ) : ℤ)) then ∑ b ∈ range 32, I.dsB b (h / 8) (256 * (h % 2) + (255 - r)) (128 * (h % 8 / 2) + i) else 0) := by
    unfold diagR
    refine (Finset.sum_congr rfl fun (x : ℕ) _ => gated_sum (G (127 - (x : ℤ))) (range 256) _).trans ?_
    rw [Finset.sum_comm]
    refine Finset.sum_congr rfl fun r hr => ?_
    refine (Finset.sum_congr rfl fun x _ => ?_).trans ((shifted r (Finset.mem_range.mp hr) (fun x => if G (127 - (x : ℤ)) then ∑ b ∈ range 32, I.dsB b (h / 8) (256 * (h % 2) + (255 - r)) (128 * (h % 8 / 2) + (x - r)) else 0)).trans ?_)
    · by_cases g1 : G (127 - (x : ℤ)) <;> by_cases g2 : r ≤ x ∧ x < r + 128
      · rw [if_pos g1, if_pos g2, if_pos g2, if_pos g1]
      · rw [if_pos g1, if_neg g2, if_neg g2]
      · rw [if_neg g1, if_pos g2, if_neg g1]
      · rw [if_neg g1, if_neg g2]
    · refine Finset.sum_congr rfl fun i _ => ?_
      rw [Nat.add_sub_cancel_left]
  have e3 : ∑ r ∈ range 256, ∑ i ∈ range 128, (if G (127 - ((r + i : ℕ) : ℤ)) then ∑ b ∈ range 32, I.dsB b (h / 8) (256 * (h % 2) + (255 - r)) (128 * (h % 8 / 2) + i) else 0)
      = ∑ ρ ∈ range 256, ∑ b ∈ range 32, ∑ i ∈ range 128, (if G ((ρ : ℤ) - 128 - (i : ℤ)) then I.dsB b (h / 8) (256 * (h % 2) + ρ) (128 * (h % 8 / 2) + i) else 0) := by
    rw [← Finset.sum_range_reflect]
    refine Finset.sum_congr rfl fun ρ hρ => ?_
    have hρ := Finset.mem_range.mp hρ
    rw [Finset.sum_comm]
    refine Finset.sum_congr rfl fun i _ => ?_
    rw [show 127 - ((256 - 1 - ρ + i : ℕ) : ℤ) = (ρ : ℤ) - 128 - (i : ℤ) by omega, show 255 - (256 - 1 - ρ) = ρ by omega]
    exact gated_sum _ _ _
  rw [e1, e2, e3, by_blocks, Finset.sum_comm]
  refine Finset.sum_congr rfl fun b hb => ?_
  have hb := Finset.mem_range.mp hb
  rw [Finset.sum_comm]
  refine Finset.sum_congr rfl fun i hi => ?_
  have hi := Finset.mem_range.mp hi
  rw [Inp.sum_window b i hb hi (fun κ => if G ((κ : ℤ) - ((128 * b + i : ℕ) : ℤ)) then I.DS h (128 * b + i) κ else 0)
    (fun κ hκ => by rw [I.DS_of_not_band hκ, ite_self])]
  refine Finset.sum_congr rfl fun ρ hρ => ?_
  have hρ := Finset.mem_range.mp hρ
  rw [I.dsB_eq b (h / 8) _ _ (by omega) (by omega) (by omega), show (256 * (h % 2) + ρ) % 256 = ρ by omega, show (128 * (h % 8 / 2) + i) % 128 = i by omega]
  by_cases h1 : 128 ≤ 128 * b + ρ
  · rw [if_pos h1, if_pos h1, show ((128 * b + ρ - 128 : ℕ) : ℤ) - ((128 * b + i : ℕ) : ℤ) = (ρ : ℤ) - 128 - (i : ℤ) by omega,
      show Inp.hd (h / 8) (256 * (h % 2) + ρ) (128 * (h % 8 / 2) + i) = h by unfold Inp.hd; omega]
  · rw [if_neg h1, if_neg h1, ite_self]

end Cert.KernelIdeal.Attn
-- ==== Proof.Results.lean ====
module

public import proofs.«01_k».proof.Proof.Scatter
public import proofs.«01_k».proof.Proof.Diagonals

/-! # The results over the reals
What each program returns, as matrices of the same real functions of the arguments. -/

@[expose] public section

noncomputable section

namespace Cert.KernelIdeal.Attn

open Cert.KernelIdeal.Gen Cert.Attn
open Idealize.ShloMosaic Idealize.ShloMosaic.TcCoe Idealize.ShloMosaic.Tactic
open Finset (range)

set_option maxRecDepth 16384

variable {I : Inp}

theorem word_sub (n κ : ℕ) : BitVec.ofNat 32 κ - BitVec.ofNat 32 n = BitVec.ofInt 32 ((κ : ℤ) - (n : ℤ)) := by
  apply BitVec.eq_of_toInt_eq
  rw [← BitVec.ofInt_natCast, ← BitVec.ofInt_natCast, BitVec.toInt_sub, BitVec.toInt_ofInt, BitVec.toInt_ofInt, BitVec.toInt_ofInt]
  simp

/-- The diagonal sums sorted by the row a word names are the double sum over the scores. -/
theorem word_regroup (I : Inp) (w : BitVec 32 → BitVec 32) (b : ℤ) (h : ℕ) (hh : h < 16) :
    ∑ y ∈ range 384, (if (w (BitVec.ofInt 32 ((y : ℤ) - 255))).toInt = b then diagR I h (if y < 383 then 382 - y else 383) else 0)
      = ∑ n ∈ range 4096, ∑ κ ∈ range 4096, (if (w (BitVec.ofNat 32 κ - BitVec.ofNat 32 n)).toInt = b then I.DS h n κ else 0) := by
  refine (diag_regroup I (fun z => (w (BitVec.ofInt 32 z)).toInt = b) h hh).trans ?_
  refine Finset.sum_congr rfl fun n _ => Finset.sum_congr rfl fun κ _ => ?_
  rw [word_sub]

/-- The gradient of the distance table: row `b`, head `h` sums the scores' cotangents of the distances sent to that row. -/
def DT5 (I : Inp) (b h : ℕ) : ℝ :=
  ∑ n ∈ range 4096, ∑ κ ∈ range 4096, if (bw (BitVec.ofNat 32 κ - BitVec.ofNat 32 n)).toInt = (b : ℤ) then I.DS h n κ else 0

theorem table_at {x : FVec Ideal S16x1x384 .f32} (hx : ∀ (n : Fin 16) (y : Fin 384), x (ix3 n 0 y) = ((diagR I n.val y.val : ℝ) : EReal)) :
    Host1.table (Host0.bucket (F := Ideal) S384 bcast_S_S384 Host0.relb) (Host1.turned x) = mat 32 16 (DT5 I) := by
  refine mat_ext fun b h => ?_
  refine (added384 _ (fun x => bw (BitVec.ofInt 32 ((x : ℤ) - 255))) (fun x => placeb_at x) _ (fun y h => diagR I h (if y < 383 then 382 - y else 383)) (turned_at hx) b h).trans ?_
  exact congrArg _ (word_regroup I bw b.val h.val h.isLt)

section
variable (m : (ℓ : Loc nD τ sig) → Buf (Elt Ideal) ℓ) (c : Dev nD)
variable (H : Holds I (aq m c) (ag m c) (ak m c) (av m c) (asn m c) (at5 m c) (au m c))
include H

theorem res_dq : (StableHlo.after tail (Wend m c) (Proc.devRef .tc main_v226) : FVec Ideal S4096x1024 .f32) = mat 4096 1024 I.DQ :=
  (tail_left _).trans ((congrArg Host1.left ((end8 m c).trans (arr8 m c (allFed m c H)))).trans left_at)
theorem res_dg : (StableHlo.after tail (Wend m c) (Proc.devRef .tc main_v231) : FVec Ideal S4096x1024 .f32) = mat 4096 1024 I.DG :=
  (tail_right _).trans ((congrArg Host1.right ((end8 m c).trans (arr8 m c (allFed m c H)))).trans right_at)
theorem res_dk : (StableHlo.after tail (Wend m c) (Proc.devRef .tc main_v232) : FVec Ideal S4096x128 .f32) = mat 4096 128 I.DK :=
  (tail_keys _).trans ((congrArg Host1.keys ((end9 m c).trans (arr9 m c))).trans (keys_at fun r y => dkv_at m (allFed m c H) tLast rfl r y))
theorem res_dv : (StableHlo.after tail (Wend m c) (Proc.devRef .tc main_v233) : FVec Ideal S4096x128 .f32) = mat 4096 128 I.DV :=
  (tail_vals _).trans ((congrArg Host1.vals ((end9 m c).trans (arr9 m c))).trans (vals_at fun r y => dkv_at m (allFed m c H) tLast rfl r y))
theorem res_ds : (StableHlo.after tail (Wend m c) (Proc.devRef .tc main_v234) : FVec Ideal S1x16 .f32) = mat 1 16 fun _ h => I.DSk h :=
  (tail_sinks _).trans ((congrArg Host1.sinks ((end11 m c).trans (arr11 m c))).trans (sinks_at fun r n => dsk_at m (allFed m c H) tLast rfl r n))
theorem res_dt : (StableHlo.after tail (Wend m c) (Proc.devRef .tc main_v221) : FVec Ideal S32x16 .f32) = mat 32 16 (DT5 I) :=
  (tail_table _).trans ((congr (congrArg Host1.table (end_place m c)) (congrArg Host1.turned ((end10 m c).trans (arr10 m c)))).trans
    (table_at fun n y => dsum_at m (allFed m c H) tLast rfl n y))
end

end Cert.KernelIdeal.Attn

namespace Cert.ReferenceIdeal.Attn

open Cert.ReferenceIdeal Cert.ReferenceIdeal.Gen Cert.ReferenceIdeal.Value Cert.KernelIdeal.Attn Cert.Attn
open Idealize.ShloMosaic Idealize.ShloMosaic.TcCoe

set_option maxRecDepth 16384

section
variable {I : Inp} (V : Valuation τ sig (Elt Ideal)) (H : Holds I (bq V) (bg V) (bk V) (bv V) (bs V) (bt V) (bu V))
include H

theorem ref_ds : ScoreCot I (Ref0.ds (zd V)) := by
  obtain ⟨μ, hM⟩ := top'_shifts (both_at H)
  exact ds_at (dwt_at (dout_at H) H) (both_at H) hM

theorem ref_dq : Ref0.dq (res_main_v130 V) (bk V) = mat 4096 1024 I.DQ := by
  rw [t_scaled]
  exact mat_ext (dq_at (ref_ds V H) H)

theorem ref_dg : addf (mulf (res_main_v100 V) (res_main_v98_2 V)) (mulf (mulf (V (Proc.devRef .tc main_arg1)) (res_main_v100 V)) (mulf (res_main_v98_2 V) (subf (broadcastInDim S4096x1024 ![] bcast_S_S4096x1024 (constant (F := Ideal) S_ .f32 0x3F800000#32)) (res_main_v98_2 V)))) = mat 4096 1024 I.DG := by
  obtain ⟨μ, hM⟩ := top'_shifts (both_at H)
  refine Eq.trans ?_ (mat_ext (x := Ref0.dg (bg V) (Host0.out (bv V) (Host0.weights (ee V))) (bu V)) (dg_at (out_at (both_at H) hM H) H))
  rw [← t_out]
  rfl

theorem ref_dk : Ref0.dk (res_main_v130 V) (bq V) = mat 4096 128 I.DK := by
  rw [t_scaled]
  exact mat_ext (dk_at (ref_ds V H) H)

theorem ref_dv : Ref0.dv (res_main_v104 V) (res_main_v93 V) = mat 4096 128 I.DV := by
  obtain ⟨μ, hM⟩ := top'_shifts (both_at H)
  rw [t_dout, t_weights]
  exact mat_ext (dv_at (dout_at H) (weights_at (both_at H) hM))

theorem ref_dsinks : Ref0.dsinks (res_main_v121 V) = mat 1 16 fun _ h => I.DSk h := by
  obtain ⟨μ, hM⟩ := top'_shifts (both_at H)
  rw [t_dz]
  refine mat_ext fun z h => ?_
  rw [Fin.eq_zero z]
  exact dsinks_at (dz_at (dwt_at (dout_at H) H) (both_at H) hM) h

theorem ref_dt : Ref0.dt (res_main_v37 V) (Ref0.rows (res_main_v127 V)) = mat 32 16 (DT5 I) := by
  rw [t_ds, t_place]
  exact mat_ext fun b h => added4096 (Host0.place Ideal) (fun n κ => bw (BitVec.ofNat 32 κ - BitVec.ofNat 32 n)) place_at _ I.DS (rows_at (ref_ds V H)) b h
end

end Cert.ReferenceIdeal.Attn
-- ==== Proof.Values.lean ====
module

public import proofs.«01_k».proof.Proof.Results
public import proofs.«01_k».proof.Proof.IdealFrame

/-! # What each run returns
The final memories of the two programs, their arguments being reals. -/

@[expose] public section

noncomputable section

namespace Cert.KernelIdeal.Attn

open Cert.KernelIdeal Cert.KernelIdeal.Gen Cert.Attn
open Idealize.ShloMosaic Idealize.ShloMosaic.TcCoe Idealize.SL.Sem

set_option maxRecDepth 16384

variable (m : (ℓ : Loc nD τ sig) → Buf (Elt Ideal) ℓ) (ρ : Dev nD → PrngReg)

/-- The reals the arguments hold. -/
abbrev reals (c : Dev nD) : Inp := realsOf (aq m c) (ag m c) (ak m c) (av m c) (asn m c) (at5 m c) (au m c)

theorem values (H : ∀ c : Dev nD, Holds (reals m c) (aq m c) (ag m c) (ak m c) (av m c) (asn m c) (at5 m c) (au m c)) :
    θ_run defs (onTc (τ := τ) (main (F := Ideal))) ⟨m, fun _ => 0, ρ⟩ (fun r => ∀ c : Dev nD,
      r.2.mem ((c.tc : Thread nD τ).loc main_v226) = mat 4096 1024 (reals m c).DQ
      ∧ r.2.mem ((c.tc : Thread nD τ).loc main_v231) = mat 4096 1024 (reals m c).DG
      ∧ r.2.mem ((c.tc : Thread nD τ).loc main_v232) = mat 4096 128 (reals m c).DK
      ∧ r.2.mem ((c.tc : Thread nD τ).loc main_v233) = mat 4096 128 (reals m c).DV
      ∧ r.2.mem ((c.tc : Thread nD τ).loc main_v234) = mat 1 16 (fun _ h => (reals m c).DSk h)
      ∧ r.2.mem ((c.tc : Thread nD τ).loc main_v221) = mat 32 16 (DT5 (reals m c))) := by
  refine (θ_run defs _ _).mono (fun r h c => ?_) (run m ρ)
  have hr := (h c).2
  exact ⟨(hr main_v226 (by decide)).trans (res_dq m c (H c)), (hr main_v231 (by decide)).trans (res_dg m c (H c)), (hr main_v232 (by decide)).trans (res_dk m c (H c)),
    (hr main_v233 (by decide)).trans (res_dv m c (H c)), (hr main_v234 (by decide)).trans (res_ds m c (H c)), (hr main_v221 (by decide)).trans (res_dt m c (H c))⟩

end Cert.KernelIdeal.Attn

namespace Cert.ReferenceIdeal.Attn

open Cert.ReferenceIdeal Cert.ReferenceIdeal.Gen Cert.ReferenceIdeal.Value Cert.KernelIdeal.Attn Cert.Attn
open Idealize.ShloMosaic Idealize.ShloMosaic.TcCoe Idealize.ShloMosaic.StableHlo Idealize.SL.Sem

set_option maxRecDepth 16384

variable (m : (ℓ : Loc nD τ sig) → Buf (Elt Ideal) ℓ) (ρ : Dev nD → PrngReg) (J : Dev nD → Inp)

theorem values (H : ∀ c : Dev nD, Holds (J c) (bq (launchContents m c)) (bg (launchContents m c)) (bk (launchContents m c)) (bv (launchContents m c)) (bs (launchContents m c)) (bt (launchContents m c)) (bu (launchContents m c))) :
    θ_run defs (onTc (τ := τ) (main (F := Ideal))) ⟨m, fun _ => 0, ρ⟩ (fun r => ∀ c : Dev nD,
      r.2.mem ((c.tc : Thread nD τ).loc main_v140) = mat 4096 1024 (J c).DQ
      ∧ r.2.mem ((c.tc : Thread nD τ).loc main_v102) = mat 4096 1024 (J c).DG
      ∧ r.2.mem ((c.tc : Thread nD τ).loc main_v139) = mat 4096 128 (J c).DK
      ∧ r.2.mem ((c.tc : Thread nD τ).loc main_v108) = mat 4096 128 (J c).DV
      ∧ r.2.mem ((c.tc : Thread nD τ).loc main_v126) = mat 1 16 (fun _ h => (J c).DSk h)
      ∧ r.2.mem ((c.tc : Thread nD τ).loc main_v138) = mat 32 16 (DT5 (J c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run (F := Ideal) m ρ)
  obtain ⟨h0, h1, h2, h3, h4, h5, ha⟩ := h c
  refine ⟨h0.trans ?_, h1.trans ?_, h2.trans ?_, h3.trans ?_, h4.trans ?_, h5.trans ?_, ha⟩
  · exact ref_dq (launchContents m c) (H c)
  · exact ref_dg (launchContents m c) (H c)
  · exact ref_dk (launchContents m c) (H c)
  · exact ref_dv (launchContents m c) (H c)
  · exact ref_dsinks (launchContents m c) (H c)
  · exact ref_dt (launchContents m c) (H c)

end Cert.ReferenceIdeal.Attn
-- ==== Proof.Finite.lean ====
module

public import proofs.«01_k».proof.Pre_finite
public import proofs.«01_k».proof.Proof.HostFacts

/-! # The precondition
Arguments all of whose entries are finite are arrays of real numbers. -/

@[expose] public section

noncomputable section

namespace Cert.Pre_finite

open Idealize.ShloMosaic Idealize.ShloMosaic.TcCoe Idealize.ShloMosaic.Tactic Cert.KernelIdeal.Attn

set_option maxRecDepth 16384

/-- The shape relations of the precondition. -/
theorem facts : Facts := by constructor <;> decide

theorem real_of_lt {x : EReal} (h : Ideal.cmp .olt (max x (-x)) (Ideal.ofBits .f32 0x7F800000#32) = 1#1) : ((x.toReal : ℝ) : EReal) = x := by
  have hb : Ideal.ofBits .f32 0x7F800000#32 = ⊤ := by simp [Ideal.ofBits, Ideal.ieee]
  rw [hb] at h
  have h1 : max x (-x) < ⊤ := by
    by_contra hn
    unfold Ideal.cmp at h
    simp only [hn, decide_false] at h
    exact absurd h (by decide)
  refine EReal.coe_toReal (ne_of_lt (lt_of_le_of_lt (le_max_left _ _) h1)) ?_
  rintro rfl
  exact absurd h1 (by simp)

theorem real_at {S : Shape} {x : FVec Ideal S .f32} {i j : S.Idx} (h : ((EReal.toReal (x i) : ℝ) : EReal) = x i) (e : i = j) : ((EReal.toReal (x j) : ℝ) : EReal) = x j := e ▸ h

variable [Facts] {q g : FVec Ideal S4096x1024 .f32} {k v : FVec Ideal S4096x128 .f32} {s : FVec Ideal S1x16 .f32} {t : FVec Ideal S32x16 .f32} {u : FVec Ideal S4096x1024 .f32}

theorem real_q (h : fn (F := Ideal) q g k v s t u = fun _ => 1#1) : AllReal q := by
  intro i
  idx_vars i
  have e := congrFun h (ix2 i0 ⟨i1.val, by omega⟩)
  revert e
  pointwise [fn]
  intro e
  exact real_of_lt e

theorem real_g (h : fn (F := Ideal) q g k v s t u = fun _ => 1#1) : AllReal g := by
  intro i
  idx_vars i
  have e := congrFun h (ix2 i0 ⟨1024 + i1.val, by omega⟩)
  revert e
  pointwise [fn]
  intro e
  exact real_of_lt e

theorem real_k (h : fn (F := Ideal) q g k v s t u = fun _ => 1#1) : AllReal k := by
  intro i
  idx_vars i
  have e := congrFun h (ix2 i0 ⟨2048 + i1.val, by omega⟩)
  revert e
  pointwise [fn]
  intro e
  rw [dif_neg (by omega), dif_neg (by omega), dif_pos (by omega)] at e
  refine real_at (real_of_lt e) ?_
  exact congrArg (ix2 i0) (Fin.ext (by simp only []; omega))

theorem real_v (h : fn (F := Ideal) q g k v s t u = fun _ => 1#1) : AllReal v := by
  intro i
  idx_vars i
  have e := congrFun h (ix2 i0 ⟨2176 + i1.val, by omega⟩)
  revert e
  pointwise [fn]
  intro e
  rw [dif_neg (by omega), dif_neg (by omega), dif_neg (by omega), dif_pos (by omega)] at e
  refine real_at (real_of_lt e) ?_
  exact congrArg (ix2 i0) (Fin.ext (by simp only []; omega))

theorem real_u (h : fn (F := Ideal) q g k v s t u = fun _ => 1#1) : AllReal u := by
  intro i
  idx_vars i
  have e := congrFun h (ix2 i0 ⟨2304 + i1.val, by omega⟩)
  revert e
  pointwise [fn]
  intro e
  rw [dif_neg (by omega), dif_neg (by omega), dif_neg (by omega), dif_neg (by omega), dif_pos (by omega)] at e
  refine real_at (real_of_lt e) ?_
  exact congrArg (ix2 i0) (Fin.ext (by simp only []; omega))

theorem real_s (h : fn (F := Ideal) q g k v s t u = fun _ => 1#1) : AllReal s := by
  intro i
  idx_vars i
  have e := congrFun h (ix2 0 ⟨3328 + i1.val, by omega⟩)
  revert e
  pointwise [fn]
  intro e
  rw [dif_neg (by omega), dif_neg (by omega), dif_neg (by omega), dif_neg (by omega), dif_neg (by omega), dif_pos (by omega)] at e
  refine real_at (real_of_lt e) ?_
  exact congr (congrArg ix2 (Fin.eq_zero _).symm) (Fin.ext (by simp only []; omega))

theorem real_t (h : fn (F := Ideal) q g k v s t u = fun _ => 1#1) : AllReal t := by
  intro i
  idx_vars i
  have e := congrFun h (ix2 0 ⟨3344 + (16 * i0.val + i1.val), by omega⟩)
  revert e
  pointwise [fn]
  intro e
  rw [dif_neg (by omega), dif_neg (by omega), dif_neg (by omega), dif_neg (by omega), dif_neg (by omega), dif_neg (by omega)] at e
  refine real_at (real_of_lt e) ?_
  exact congr (congrArg ix2 (Fin.ext (by simp only []; omega))) (Fin.ext (by simp only []; omega))

/-- Under the precondition the arguments hold the reals read off them. -/
theorem holds (h : fn (F := Ideal) q g k v s t u = fun _ => 1#1) : Holds (realsOf q g k v s t u) q g k v s t u :=
  holds_realsOf q g k v s t u (real_q h) (real_g h) (real_k h) (real_v h) (real_s h) (real_t h) (real_u h)

end Cert.Pre_finite
-- ==== Proof.DwInA.lean ====
module

public import proofs.«01_k».proof.Defs
public import proofs.«01_k».proof.Proof.Gen.Kernel2.Value
public import proofs.«01_k».proof.Proof.Gen.Kernel2Ideal.Value
public import proofs.«01_k».proof.Proof.Gen.Reference2Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic.IndexArith

/-! # The gradient of the first mixer's input projection
The kernel's eight blocks and the reference's one product hold the same sums, element by element. -/

@[expose] public section

noncomputable section

namespace Cert.Kernel2Ideal.Product

open Cert.Kernel2Ideal Cert.Kernel2Ideal.Gen Cert.Kernel2Ideal.Value
open Idealize.ShloMosaic Idealize.ShloMosaic.TcCoe Idealize.ShloMosaic.Tactic Idealize.SL.Sem

set_option maxRecDepth 16384

/-- The gradient: rows summed, the columns in four planes. -/
def grad (x : FVec Ideal S4096x1024 .f32) (z : FVec Ideal S4096x4096 .f32) (p : Fin 4) (r : Fin 1024) (y : Fin 1024) : EReal :=
  ∑ ρ : Fin 4096, x (ix2 ρ r) * z (ix2 ρ ⟨1024 * p.val + y.val, by omega⟩)

def gradV {φ : FTy} (x : FVec Ideal S4096x1024 .f32) (z : FVec Ideal S4096x4096 .f32) : FVec Ideal S4x1024x1024 φ :=
  fun i => grad x z (i 0) (i 1) (i 2)

/-- A block of the product. -/
theorem pay_at (a : Vec Ideal S4096x1024 .bf16) (b : Vec Ideal S1x4096x512 .bf16) (r : Fin 1024) (y : Fin 512) :
    k0_pay1 a b (ix2 r y) = ∑ ρ : Fin 4096, a (ix2 ρ r) * b (ix3 0 ρ y) := by
  pointwise [k0_pay1]

variable (m : (ℓ : Loc nD τ sig) → Buf (Elt Ideal) ℓ) (c : Dev nD)

abbrev ax : FVec Ideal S4096x1024 .f32 := m ((c : Thread nD τ).loc main_arg0)
abbrev az : FVec Ideal S4096x4096 .f32 := m ((c : Thread nD τ).loc main_arg1)

theorem points : cfg0.N = 8 := by decide

theorem V_x : (V m c main_v0 : FVec Ideal S4096x1024 .bf16) = truncf .bf16 (ax m c) bitsLt_bf16_f32 := by
  entry_read
  rfl

theorem V_z : (V m c main_v3 : FVec Ideal S4x4096x1024 .bf16)
    = truncf .bf16 (transpose S4x4096x1024 [1, 0, 2] (shapeCast S4096x4x1024 (az m c) shapeCasts_S4096x4096_S4096x4x1024) transposes_S4096x4x1024_S4x4096x1024_1_0_2) bitsLt_bf16_f32 := by
  entry_read
  rfl

theorem V_x_at (ρ : Fin 4096) (r : Fin 1024) : (V m c main_v0 : FVec Ideal S4096x1024 .bf16) (ix2 ρ r) = ax m c (ix2 ρ r) := by
  rw [V_x]; rfl

theorem V_z_at (p : Fin 4) (ρ : Fin 4096) (y : Fin 1024) :
    (V m c main_v3 : FVec Ideal S4x4096x1024 .bf16) (ix3 p ρ y) = az m c (ix2 ρ ⟨1024 * p.val + y.val, by omega⟩) := by
  rw [V_z]
  pointwise []
  congr 2
  exact Fin.ext (by show p.val * 1024 + y.val = 1024 * p.val + y.val; omega)

theorem read0 (A : Vec Ideal S4096x1024 .bf16) (t : Fin cfg0.N) (ρ : Fin 4096) (r : Fin 1024) :
    (win0_0.blk t).view.read (Elt Ideal) A (ix2 ρ r) = A (ix2 ρ r) := by
  have idx : win0_0.index t = ![0, 0] := by revert t; decide +kernel
  blk_ext [idx]

theorem idx1 : ∀ t : Fin cfg0.N, win0_1.index t = ![t.val / 2, 0, t.val % 2] :=
  (by decide +kernel : ∀ t : Fin grid0.N, _)
theorem idx2 : ∀ t : Fin cfg0.N, win0_2.index t = ![t.val / 2, 0, t.val % 2] :=
  (by decide +kernel : ∀ t : Fin grid0.N, _)
theorem idx3 : ∀ t : Fin cfg0.N, win0_3.index t = ![t.val / 2, 0, t.val % 2] :=
  (by decide +kernel : ∀ t : Fin grid0.N, _)

theorem plane (t : Fin cfg0.N) : t.val / 2 < 4 := by have := t.isLt; have := points; omega
theorem column (t : Fin cfg0.N) (y : Fin 512) : 512 * (t.val % 2) + y.val < 1024 := by omega

theorem read1 (A : Vec Ideal S4x4096x1024 .bf16) (t : Fin cfg0.N) (ρ : Fin 4096) (y : Fin 512) :
    (win0_1.blk t).view.read (Elt Ideal) A (ix3 0 ρ y) = A (ix3 ⟨t.val / 2, plane t⟩ ρ ⟨512 * (t.val % 2) + y.val, column t y⟩) := by
  have idx := idx1 t
  blk_ext [idx]

theorem read2 (A : FVec Ideal S4x1024x1024 .f32) (t : Fin cfg0.N) (z : Fin 1) (r : Fin 1024) (y : Fin 512) :
    A ((win0_2.blk t).view.emb (ix3 z r y)) = A (ix3 ⟨t.val / 2, plane t⟩ r ⟨512 * (t.val % 2) + y.val, column t y⟩) := by
  have idx := idx2 t
  blk_ext [idx]

theorem read3 (A : FVec Ideal S4x1024x1024 .bf16) (t : Fin cfg0.N) (z : Fin 1) (r : Fin 1024) (y : Fin 512) :
    A ((win0_3.blk t).view.emb (ix3 z r y)) = A (ix3 ⟨t.val / 2, plane t⟩ r ⟨512 * (t.val % 2) + y.val, column t y⟩) := by
  have idx := idx3 t
  blk_ext [idx]

/-- A point's block of the product, from the arguments. -/
theorem block_at (t : Fin cfg0.N) (r : Fin 1024) (y : Fin 512) :
    k0_pay1 (iblk m c 0 t) (iblk m c 1 t) (ix2 r y) = grad (ax m c) (az m c) ⟨t.val / 2, plane t⟩ r ⟨512 * (t.val % 2) + y.val, column t y⟩ := by
  rw [pay_at]
  unfold grad
  refine Finset.sum_congr rfl fun ρ _ => ?_
  exact congrArg₂ (· * ·) ((read0 (V m c main_v0) t ρ r).trans (V_x_at m c ρ r)) ((read1 (V m c main_v3) t ρ y).trans (V_z_at m c _ ρ _))

theorem out2_at (t : Fin cfg0.N) (z : Fin 1) (r : Fin 1024) (y : Fin 512) :
    out0_2 (iblk m c 0 t) (iblk m c 1 t) (ix3 z r y) = k0_pay1 (iblk m c 0 t) (iblk m c 1 t) (ix2 r y) := by
  unfold out0_2
  rw [canon2_eq, View.ld_unit_zero (by decide), View.ld_unit_zero (by decide)]
  refine congrArg (k0_pay1 (F := Ideal) _ _) (funext fun a => ?_)
  match a with | ⟨0, _⟩ => rfl | ⟨1, _⟩ => rfl

theorem out3_at (t : Fin cfg0.N) (z : Fin 1) (r : Fin 1024) (y : Fin 512) :
    out0_3 (iblk m c 0 t) (iblk m c 1 t) (ix3 z r y) = k0_pay1 (iblk m c 0 t) (iblk m c 1 t) (ix2 r y) := by
  unfold out0_3
  rw [canon3_eq, View.ld_unit_zero (by decide), View.ld_unit_zero (by decide)]
  refine congrArg (k0_pay1 (F := Ideal) _ _) (funext fun a => ?_)
  match a with | ⟨0, _⟩ => rfl | ⟨1, _⟩ => rfl

theorem arr2 : (dats m 0 c).arrAt 2 cfg0.N = (gradV (ax m c) (az m c) : FVec Ideal S4x1024x1024 .f32) := by
  refine (dats m 0 c).arrAt_eq_of_covers 2 _ (by decide +kernel) fun t hf y => ?_
  blk_simp
  rw [after0_2]
  revert y
  intro (y : S1x1024x512.Idx)
  idx_vars y
  refine (out2_at m c t y0 y1 y2).trans ((block_at m c t y1 y2).trans (Eq.trans ?_ (read2 (gradV (ax m c) (az m c)) t y0 y1 y2).symm))
  rfl

theorem arr3 : (dats m 0 c).arrAt 3 cfg0.N = (gradV (ax m c) (az m c) : FVec Ideal S4x1024x1024 .bf16) := by
  refine (dats m 0 c).arrAt_eq_of_covers 3 _ (by decide +kernel) fun t hf y => ?_
  blk_simp
  rw [after0_3]
  revert y
  intro (y : S1x1024x512.Idx)
  idx_vars y
  refine (out3_at m c t y0 y1 y2).trans ((block_at m c t y1 y2).trans (Eq.trans ?_ (read3 (gradV (ax m c) (az m c)) t y0 y1 y2).symm))
  rfl

/-- The reference's product, its columns in planes. -/
theorem reference_at (x : FVec Ideal S4096x1024 .f32) (z : FVec Ideal S4096x4096 .f32) :
    transpose Cert.Reference2Ideal.S4x1024x1024 [1, 0, 2] (shapeCast _ (transpose Cert.Reference2Ideal.S1024x4096 [1, 0] (Host.dotGeneral Cert.Reference2Ideal.dot_S4096x4096_S4096x1024_S4096x1024_0_0_1_1_n_n none z x) Cert.Reference2Ideal.Gen.facts.transposes_S4096x1024_S1024x4096_1_0) Cert.Reference2Ideal.Gen.facts.shapeCasts_S1024x4096_S1024x4x1024) Cert.Reference2Ideal.Gen.facts.transposes_S1024x4x1024_S4x1024x1024_1_0_2
      = (gradV x z : FVec Ideal S4x1024x1024 .f32) := by
  funext i
  revert i
  intro (i : S4x1024x1024.Idx)
  idx_vars i
  pointwise []
  show _ = grad x z i0 i1 i2
  unfold grad
  refine Finset.sum_congr rfl fun ρ _ => ?_
  rw [mul_comm]
  congr 3
  exact Fin.ext (by show i0.val * 1024 + i2.val = 1024 * i0.val + i2.val; omega)

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ => Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => ⟨(h c).2.2.1, (h c).2.2.2⟩, sem_eq_zero_of_no_sems (by decide) r.2⟩)
    (Cert.Reference2Ideal.Value.run (F := Ideal) m ρ)

/-- The kernel's blocks and the reference's product are the same gradient. -/
theorem agree : Cert.algebraic_Kernel2Ideal_Reference2Ideal (hKernel2Ideal := Cert.Kernel2Ideal.Gen.facts) (hReference2Ideal := Cert.Reference2Ideal.Gen.facts) := by
  intro m ρ m' ρ' _ hargs
  refine ⟨fun c => (gradV (ax m c) (az m c) : FVec Ideal S4x1024x1024 .f32), fun c => (gradV (ax m c) (az m c) : FVec Ideal S4x1024x1024 .bf16),
    (θ_run Cert.Kernel2Ideal.defs _ _).mono (fun r h c => ⟨(h c).1.trans (arr2 m c), (h c).2.1.trans (arr3 m c), (h c).2.2⟩) (run_blocks m ρ), ?_⟩
  refine (θ_run Cert.Reference2Ideal.defs _ _).mono (fun r h c => ?_) (Cert.Reference2Ideal.Value.run (F := Ideal) m' ρ')
  have e0 := (hargs c).1
  have e1 := (hargs c).2
  have e := reference_at (ax m c) (az m c)
  refine ⟨(h c).1.trans ?_, (h c).2.1.trans ?_, (h c).2.2⟩
  · rw [e0, e1]; exact e
  · rw [e0, e1]; exact congrArg (fun v => truncf (F := Ideal) .bf16 v Cert.Reference2Ideal.Gen.facts.bitsLt_bf16_f32) e

end Cert.Kernel2Ideal.Product

end
-- ==== Proof.DwInB.lean ====
module

public import proofs.«01_k».proof.Defs
public import proofs.«01_k».proof.Proof.Gen.Kernel3.Value
public import proofs.«01_k».proof.Proof.Gen.Kernel3Ideal.Value
public import proofs.«01_k».proof.Proof.Gen.Reference3Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic.IndexArith

/-! # The gradient of the second mixer's input projection
The kernel's four blocks and the reference's one product hold the same sums, element by element. -/

@[expose] public section

noncomputable section

namespace Cert.Kernel3Ideal.Product

open Cert.Kernel3Ideal Cert.Kernel3Ideal.Gen Cert.Kernel3Ideal.Value
open Idealize.ShloMosaic Idealize.ShloMosaic.TcCoe Idealize.ShloMosaic.Tactic Idealize.SL.Sem

set_option maxRecDepth 16384

/-- The gradient: rows summed, the columns in four planes. -/
def grad (x : FVec Ideal S4096x1024 .f32) (z : FVec Ideal S4096x2048 .f32) (p : Fin 4) (r : Fin 1024) (y : Fin 512) : EReal :=
  ∑ ρ : Fin 4096, x (ix2 ρ r) * z (ix2 ρ ⟨512 * p.val + y.val, by omega⟩)

def gradV {φ : FTy} (x : FVec Ideal S4096x1024 .f32) (z : FVec Ideal S4096x2048 .f32) : FVec Ideal S4x1024x512 φ :=
  fun i => grad x z (i 0) (i 1) (i 2)

/-- A block of the product. -/
theorem pay_at (a : Vec Ideal S4096x1024 .bf16) (b : Vec Ideal S1x4096x512 .bf16) (r : Fin 1024) (y : Fin 512) :
    k0_pay1 a b (ix2 r y) = ∑ ρ : Fin 4096, a (ix2 ρ r) * b (ix3 0 ρ y) := by
  pointwise [k0_pay1]

variable (m : (ℓ : Loc nD τ sig) → Buf (Elt Ideal) ℓ) (c : Dev nD)

abbrev ax : FVec Ideal S4096x1024 .f32 := m ((c : Thread nD τ).loc main_arg0)
abbrev az : FVec Ideal S4096x2048 .f32 := m ((c : Thread nD τ).loc main_arg1)

theorem points : cfg0.N = 4 := by decide

theorem V_x : (V m c main_v0 : FVec Ideal S4096x1024 .bf16) = truncf .bf16 (ax m c) bitsLt_bf16_f32 := by
  entry_read
  rfl

theorem V_z : (V m c main_v3 : FVec Ideal S4x4096x512 .bf16)
    = truncf .bf16 (transpose S4x4096x512 [1, 0, 2] (shapeCast S4096x4x512 (az m c) shapeCasts_S4096x2048_S4096x4x512) transposes_S4096x4x512_S4x4096x512_1_0_2) bitsLt_bf16_f32 := by
  entry_read
  rfl

theorem V_x_at (ρ : Fin 4096) (r : Fin 1024) : (V m c main_v0 : FVec Ideal S4096x1024 .bf16) (ix2 ρ r) = ax m c (ix2 ρ r) := by
  rw [V_x]; rfl

theorem V_z_at (p : Fin 4) (ρ : Fin 4096) (y : Fin 512) :
    (V m c main_v3 : FVec Ideal S4x4096x512 .bf16) (ix3 p ρ y) = az m c (ix2 ρ ⟨512 * p.val + y.val, by omega⟩) := by
  rw [V_z]
  pointwise []
  congr 2
  exact Fin.ext (by show p.val * 512 + y.val = 512 * p.val + y.val; omega)

theorem read0 (A : Vec Ideal S4096x1024 .bf16) (t : Fin cfg0.N) (ρ : Fin 4096) (r : Fin 1024) :
    (win0_0.blk t).view.read (Elt Ideal) A (ix2 ρ r) = A (ix2 ρ r) := by
  have idx : win0_0.index t = ![0, 0] := by revert t; decide +kernel
  blk_ext [idx]

theorem idx1 : ∀ t : Fin cfg0.N, win0_1.index t = ![t.val, 0, 0] :=
  (by decide +kernel : ∀ t : Fin grid0.N, _)
theorem idx2 : ∀ t : Fin cfg0.N, win0_2.index t = ![t.val, 0, 0] :=
  (by decide +kernel : ∀ t : Fin grid0.N, _)
theorem idx3 : ∀ t : Fin cfg0.N, win0_3.index t = ![t.val, 0, 0] :=
  (by decide +kernel : ∀ t : Fin grid0.N, _)

theorem plane (t : Fin cfg0.N) : t.val < 4 := by have := t.isLt; have := points; omega

theorem read1 (A : Vec Ideal S4x4096x512 .bf16) (t : Fin cfg0.N) (ρ : Fin 4096) (y : Fin 512) :
    (win0_1.blk t).view.read (Elt Ideal) A (ix3 0 ρ y) = A (ix3 ⟨t.val, plane t⟩ ρ y) := by
  have idx := idx1 t
  blk_ext [idx]

theorem read2 (A : FVec Ideal S4x1024x512 .f32) (t : Fin cfg0.N) (z : Fin 1) (r : Fin 1024) (y : Fin 512) :
    A ((win0_2.blk t).view.emb (ix3 z r y)) = A (ix3 ⟨t.val, plane t⟩ r y) := by
  have idx := idx2 t
  blk_ext [idx]

theorem read3 (A : FVec Ideal S4x1024x512 .bf16) (t : Fin cfg0.N) (z : Fin 1) (r : Fin 1024) (y : Fin 512) :
    A ((win0_3.blk t).view.emb (ix3 z r y)) = A (ix3 ⟨t.val, plane t⟩ r y) := by
  have idx := idx3 t
  blk_ext [idx]

/-- A point's block of the product, from the arguments. -/
theorem block_at (t : Fin cfg0.N) (r : Fin 1024) (y : Fin 512) :
    k0_pay1 (iblk m c 0 t) (iblk m c 1 t) (ix2 r y) = grad (ax m c) (az m c) ⟨t.val, plane t⟩ r y := by
  rw [pay_at]
  unfold grad
  refine Finset.sum_congr rfl fun ρ _ => ?_
  exact congrArg₂ (· * ·) ((read0 (V m c main_v0) t ρ r).trans (V_x_at m c ρ r)) ((read1 (V m c main_v3) t ρ y).trans (V_z_at m c _ ρ _))

theorem out2_at (t : Fin cfg0.N) (z : Fin 1) (r : Fin 1024) (y : Fin 512) :
    out0_2 (iblk m c 0 t) (iblk m c 1 t) (ix3 z r y) = k0_pay1 (iblk m c 0 t) (iblk m c 1 t) (ix2 r y) := by
  unfold out0_2
  rw [canon2_eq, View.ld_unit_zero (by decide), View.ld_unit_zero (by decide)]
  refine congrArg (k0_pay1 (F := Ideal) _ _) (funext fun a => ?_)
  match a with | ⟨0, _⟩ => rfl | ⟨1, _⟩ => rfl

theorem out3_at (t : Fin cfg0.N) (z : Fin 1) (r : Fin 1024) (y : Fin 512) :
    out0_3 (iblk m c 0 t) (iblk m c 1 t) (ix3 z r y) = k0_pay1 (iblk m c 0 t) (iblk m c 1 t) (ix2 r y) := by
  unfold out0_3
  rw [canon3_eq, View.ld_unit_zero (by decide), View.ld_unit_zero (by decide)]
  refine congrArg (k0_pay1 (F := Ideal) _ _) (funext fun a => ?_)
  match a with | ⟨0, _⟩ => rfl | ⟨1, _⟩ => rfl

theorem arr2 : (dats m 0 c).arrAt 2 cfg0.N = (gradV (ax m c) (az m c) : FVec Ideal S4x1024x512 .f32) := by
  refine (dats m 0 c).arrAt_eq_of_covers 2 _ (by decide +kernel) fun t hf y => ?_
  blk_simp
  rw [after0_2]
  revert y
  intro (y : S1x1024x512.Idx)
  idx_vars y
  refine (out2_at m c t y0 y1 y2).trans ((block_at m c t y1 y2).trans (Eq.trans ?_ (read2 (gradV (ax m c) (az m c)) t y0 y1 y2).symm))
  rfl

theorem arr3 : (dats m 0 c).arrAt 3 cfg0.N = (gradV (ax m c) (az m c) : FVec Ideal S4x1024x512 .bf16) := by
  refine (dats m 0 c).arrAt_eq_of_covers 3 _ (by decide +kernel) fun t hf y => ?_
  blk_simp
  rw [after0_3]
  revert y
  intro (y : S1x1024x512.Idx)
  idx_vars y
  refine (out3_at m c t y0 y1 y2).trans ((block_at m c t y1 y2).trans (Eq.trans ?_ (read3 (gradV (ax m c) (az m c)) t y0 y1 y2).symm))
  rfl

/-- The reference's product, its columns in planes. -/
theorem reference_at (x : FVec Ideal S4096x1024 .f32) (z : FVec Ideal S4096x2048 .f32) :
    transpose Cert.Reference3Ideal.S4x1024x512 [1, 0, 2] (shapeCast _ (transpose Cert.Reference3Ideal.S1024x2048 [1, 0] (Host.dotGeneral Cert.Reference3Ideal.dot_S4096x2048_S4096x1024_S2048x1024_0_0_1_1_n_n none z x) Cert.Reference3Ideal.Gen.facts.transposes_S2048x1024_S1024x2048_1_0) Cert.Reference3Ideal.Gen.facts.shapeCasts_S1024x2048_S1024x4x512) Cert.Reference3Ideal.Gen.facts.transposes_S1024x4x512_S4x1024x512_1_0_2
      = (gradV x z : FVec Ideal S4x1024x512 .f32) := by
  funext i
  revert i
  intro (i : S4x1024x512.Idx)
  idx_vars i
  pointwise []
  show _ = grad x z i0 i1 i2
  unfold grad
  refine Finset.sum_congr rfl fun ρ _ => ?_
  rw [mul_comm]
  congr 3
  exact Fin.ext (by show i0.val * 512 + i2.val = 512 * i0.val + i2.val; omega)

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => ⟨(h c).2.2.1, (h c).2.2.2⟩, sem_eq_zero_of_no_sems (by decide) r.2⟩)
    (Cert.Reference3Ideal.Value.run (F := Ideal) m ρ)

/-- The kernel's blocks and the reference's product are the same gradient. -/
theorem agree : Cert.algebraic_Kernel3Ideal_Reference3Ideal (hKernel3Ideal := Cert.Kernel3Ideal.Gen.facts) (hReference3Ideal := Cert.Reference3Ideal.Gen.facts) := by
  intro m ρ m' ρ' _ hargs
  refine ⟨fun c => (gradV (ax m c) (az m c) : FVec Ideal S4x1024x512 .f32), fun c => (gradV (ax m c) (az m c) : FVec Ideal S4x1024x512 .bf16),
    (θ_run Cert.Kernel3Ideal.defs _ _).mono (fun r h c => ⟨(h c).1.trans (arr2 m c), (h c).2.1.trans (arr3 m c), (h c).2.2⟩) (run_blocks m ρ), ?_⟩
  refine (θ_run Cert.Reference3Ideal.defs _ _).mono (fun r h c => ?_) (Cert.Reference3Ideal.Value.run (F := Ideal) m' ρ')
  have e0 := (hargs c).1
  have e1 := (hargs c).2
  have e := reference_at (ax m c) (az m c)
  refine ⟨(h c).1.trans ?_, (h c).2.1.trans ?_, (h c).2.2⟩
  · rw [e0, e1]; exact e
  · rw [e0, e1]; exact congrArg (fun v => truncf (F := Ideal) .bf16 v Cert.Reference3Ideal.Gen.facts.bitsLt_bf16_f32) e

end Cert.Kernel3Ideal.Product

end
-- ==== Proof.DwOut.lean ====
module

public import proofs.«01_k».proof.Defs
public import proofs.«01_k».proof.Proof.Gen.Kernel4.Value
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic.IndexArith

/-! # The gradient of a mixer's output projection
The kernel's blocks and the reference's product hold the same sums, element by element. -/

@[expose] public section

noncomputable section

namespace Cert.Kernel4Ideal.Product

open Cert.Kernel4Ideal Cert.Kernel4Ideal.Gen Cert.Kernel4Ideal.Value
open Idealize.ShloMosaic Idealize.ShloMosaic.TcCoe Idealize.ShloMosaic.Tactic Idealize.SL.Sem

set_option maxRecDepth 16384

/-- The gradient: rows summed. -/
def grad (x : FVec Ideal S4096x1024 .f32) (z : FVec Ideal S4096x1024 .f32) (r : Fin 1024) (y : Fin 1024) : EReal :=
  ∑ ρ : Fin 4096, x (ix2 ρ r) * z (ix2 ρ y)

def gradV {φ : FTy} (x : FVec Ideal S4096x1024 .f32) (z : FVec Ideal S4096x1024 .f32) : FVec Ideal S1024x1024 φ :=
  fun i => grad x z (i 0) (i 1)

/-- A block of the product. -/
theorem pay_at (a : Vec Ideal S4096x1024 .bf16) (b : Vec Ideal S4096x512 .f32) (r : Fin 1024) (y : Fin 512) :
    k0_pay1 a b (ix2 r y) = ∑ ρ : Fin 4096, a (ix2 ρ r) * b (ix2 ρ y) := by
  pointwise [k0_pay1]

variable (m : (ℓ : Loc nD τ sig) → Buf (Elt Ideal) ℓ) (c : Dev nD)

abbrev ax : FVec Ideal S4096x1024 .f32 := m ((c : Thread nD τ).loc main_arg0)
abbrev az : FVec Ideal S4096x1024 .f32 := m ((c : Thread nD τ).loc main_arg1)

theorem points : cfg0.N = 2 := by decide

theorem V_x_at (ρ : Fin 4096) (r : Fin 1024) : (V m c main_v0 : FVec Ideal S4096x1024 .bf16) (ix2 ρ r) = ax m c (ix2 ρ r) := by
  have h : (V m c main_v0 : FVec Ideal S4096x1024 .bf16) = truncf .bf16 (ax m c) bitsLt_bf16_f32 := by
    entry_read
    rfl
  rw [h]; rfl

theorem V_z_at (ρ : Fin 4096) (y : Fin 1024) : (V m c main_arg1 : FVec Ideal S4096x1024 .f32) (ix2 ρ y) = az m c (ix2 ρ y) := by
  rw [show (V m c main_arg1 : FVec Ideal S4096x1024 .f32) = az m c from V_main_arg1 m c]

theorem read0 (A : Vec Ideal S4096x1024 .bf16) (t : Fin cfg0.N) (ρ : Fin 4096) (r : Fin 1024) :
    (win0_0.blk t).view.read (Elt Ideal) A (ix2 ρ r) = A (ix2 ρ r) := by
  have idx : win0_0.index t = ![0, 0] := by revert t; decide +kernel
  blk_ext [idx]

theorem column (t : Fin cfg0.N) (y : Fin 512) : 512 * t.val + y.val < 1024 := by have := t.isLt; have := points; omega

theorem read1 (A : Vec Ideal S4096x1024 .f32) (t : Fin cfg0.N) (ρ : Fin 4096) (y : Fin 512) :
    (win0_1.blk t).view.read (Elt Ideal) A (ix2 ρ y) = A (ix2 ρ ⟨512 * t.val + y.val, column t y⟩) := by
  have idx : win0_1.index t = ![0, t.val] := by revert t; decide +kernel
  blk_ext [idx]

theorem read2 (A : FVec Ideal S1024x1024 .f32) (t : Fin cfg0.N) (r : Fin 1024) (y : Fin 512) :
    A ((win0_2.blk t).view.emb (ix2 r y)) = A (ix2 r ⟨512 * t.val + y.val, column t y⟩) := by
  have idx : win0_2.index t = ![0, t.val] := by revert t; decide +kernel
  blk_ext [idx]

theorem read3 (A : FVec Ideal S1024x1024 .bf16) (t : Fin cfg0.N) (r : Fin 1024) (y : Fin 512) :
    A ((win0_3.blk t).view.emb (ix2 r y)) = A (ix2 r ⟨512 * t.val + y.val, column t y⟩) := by
  have idx : win0_3.index t = ![0, t.val] := by revert t; decide +kernel
  blk_ext [idx]

/-- A point's block of the product, from the arguments. -/
theorem block_at (t : Fin cfg0.N) (r : Fin 1024) (y : Fin 512) :
    k0_pay1 (iblk m c 0 t) (iblk m c 1 t) (ix2 r y) = grad (ax m c) (az m c) r ⟨512 * t.val + y.val, column t y⟩ := by
  rw [pay_at]
  unfold grad
  refine Finset.sum_congr rfl fun ρ _ => ?_
  exact congrArg₂ (· * ·) ((read0 (V m c main_v0) t ρ r).trans (V_x_at m c ρ r)) ((read1 (V m c main_arg1) t ρ y).trans (V_z_at m c ρ _))

theorem out2_eq (t : Fin cfg0.N) : out0_2 (iblk m c 0 t) (iblk m c 1 t) = k0_pay1 (iblk m c 0 t) (iblk m c 1 t) := by
  unfold out0_2
  rw [View.canon_unit_zero (by decide), View.ld_unit_zero (by decide), View.ld_unit_zero (by decide)]

theorem out3_eq (t : Fin cfg0.N) : out0_3 (iblk m c 0 t) (iblk m c 1 t) = k0_pay2 (iblk m c 0 t) (iblk m c 1 t) := by
  unfold out0_3
  rw [View.canon_unit_zero (by decide), View.ld_unit_zero (by decide), View.ld_unit_zero (by decide)]

theorem arr2 : (dats m 0 c).arrAt 2 cfg0.N = (gradV (ax m c) (az m c) : FVec Ideal S1024x1024 .f32) := by
  refine (dats m 0 c).arrAt_eq_of_covers 2 _ (by decide +kernel) fun t hf y => ?_
  blk_simp
  rw [after0_2, out2_eq]
  revert y
  intro (y : S1024x512.Idx)
  idx_vars y
  refine (block_at m c t y0 y1).trans (Eq.trans ?_ (read2 (gradV (ax m c) (az m c)) t y0 y1).symm)
  rfl

theorem arr3 : (dats m 0 c).arrAt 3 cfg0.N = (gradV (ax m c) (az m c) : FVec Ideal S1024x1024 .bf16) := by
  refine (dats m 0 c).arrAt_eq_of_covers 3 _ (by decide +kernel) fun t hf y => ?_
  blk_simp
  rw [after0_3, out3_eq]
  revert y
  intro (y : S1024x512.Idx)
  idx_vars y
  refine (block_at m c t y0 y1).trans (Eq.trans ?_ (read3 (gradV (ax m c) (az m c)) t y0 y1).symm)
  rfl

/-- The reference's product. -/
theorem reference_at (x : FVec Ideal S4096x1024 .f32) (z : FVec Ideal S4096x1024 .f32) :
    transpose Cert.Reference4Ideal.S1024x1024 [1, 0] (Host.dotGeneral Cert.Reference4Ideal.dot_S4096x1024_S4096x1024_S1024x1024_0_0_1_1_n_n none z x) Cert.Reference4Ideal.Gen.facts.transposes_S1024x1024_S1024x1024_1_0
      = (gradV x z : FVec Ideal S1024x1024 .f32) := by
  funext i
  revert i
  intro (i : S1024x1024.Idx)
  idx_vars i
  pointwise []
  show _ = grad x z i0 i1
  unfold grad
  refine Finset.sum_congr rfl fun ρ _ => ?_
  rw [mul_comm]

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => ⟨(h c).2.2.1, (h c).2.2.2⟩, sem_eq_zero_of_no_sems (by decide) r.2⟩)
    (Cert.Reference4Ideal.Value.run (F := Ideal) m ρ)

/-- The kernel's blocks and the reference's product are the same gradient. -/
theorem agree : Cert.algebraic_Kernel4Ideal_Reference4Ideal (hKernel4Ideal := Cert.Kernel4Ideal.Gen.facts) (hReference4Ideal := Cert.Reference4Ideal.Gen.facts) := by
  intro m ρ m' ρ' _ hargs
  refine ⟨fun c => (gradV (ax m c) (az m c) : FVec Ideal S1024x1024 .f32), fun c => (gradV (ax m c) (az m c) : FVec Ideal S1024x1024 .bf16),
    (θ_run Cert.Kernel4Ideal.defs _ _).mono (fun r h c => ⟨(h c).1.trans (arr2 m c), (h c).2.1.trans (arr3 m c), (h c).2.2⟩) (run_blocks m ρ), ?_⟩
  refine (θ_run Cert.Reference4Ideal.defs _ _).mono (fun r h c => ?_) (Cert.Reference4Ideal.Value.run (F := Ideal) m' ρ')
  have e0 := (hargs c).1
  have e1 := (hargs c).2
  have e := reference_at (ax m c) (az m c)
  refine ⟨(h c).1.trans ?_, (h c).2.1.trans ?_, (h c).2.2⟩
  · rw [e0, e1]; exact e
  · rw [e0, e1]; exact congrArg (fun v => truncf (F := Ideal) .bf16 v Cert.Reference4Ideal.Gen.facts.bitsLt_bf16_f32) e

end Cert.Kernel4Ideal.Product

end
-- ==== Proof.Dout.lean ====
module

public import proofs.«01_k».proof.Defs
public import proofs.«01_k».proof.Proof.Gen.Kernel5.Value
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic.IndexArith

/-! # The gradient that goes through a mixer's output projection
The kernel's blocks and the reference's product hold the same sums, element by element. -/

@[expose] public section

noncomputable section

namespace Cert.Kernel5Ideal.Product

open Cert.Kernel5Ideal Cert.Kernel5Ideal.Gen Cert.Kernel5Ideal.Value
open Idealize.ShloMosaic Idealize.ShloMosaic.TcCoe Idealize.ShloMosaic.Tactic Idealize.SL.Sem

set_option maxRecDepth 16384

/-- The gradient: a row of the cotangent against a row of the weights. -/
def grad (d : FVec Ideal S4096x1024 .f32) (w : FVec Ideal S1024x1024 .f32) (n : Fin 4096) (y : Fin 1024) : EReal :=
  ∑ x : Fin 1024, d (ix2 n x) * w (ix2 y x)

def gradV (d : FVec Ideal S4096x1024 .f32) (w : FVec Ideal S1024x1024 .f32) : FVec Ideal S4096x1024 .f32 :=
  fun i => grad d w (i 0) (i 1)

/-- A block of the product. -/
theorem pay_at (a : Vec Ideal S1024x1024 .f32) (b : Vec Ideal S1024x1024 .bf16) (n : Fin 1024) (y : Fin 1024) :
    k0_pay1 a b (ix2 n y) = ∑ x : Fin 1024, a (ix2 n x) * b (ix2 y x) := by
  pointwise [k0_pay1]

variable (m : (ℓ : Loc nD τ sig) → Buf (Elt Ideal) ℓ) (c : Dev nD)

abbrev ad : FVec Ideal S4096x1024 .f32 := m ((c : Thread nD τ).loc main_arg0)
abbrev aw : FVec Ideal S1024x1024 .f32 := m ((c : Thread nD τ).loc main_arg1)

theorem points : cfg0.N = 4 := by decide

theorem V_d_at (n : Fin 4096) (x : Fin 1024) : (V m c main_arg0 : FVec Ideal S4096x1024 .f32) (ix2 n x) = ad m c (ix2 n x) := by
  rw [show (V m c main_arg0 : FVec Ideal S4096x1024 .f32) = ad m c from V_main_arg0 m c]

theorem V_w_at (y x : Fin 1024) : (V m c main_v0 : FVec Ideal S1024x1024 .bf16) (ix2 y x) = aw m c (ix2 y x) := by
  have h : (V m c main_v0 : FVec Ideal S1024x1024 .bf16) = truncf .bf16 (aw m c) bitsLt_bf16_f32 := by
    entry_read
    rfl
  rw [h]; rfl

theorem row (t : Fin cfg0.N) (n : Fin 1024) : 1024 * t.val + n.val < 4096 := by have := t.isLt; have := points; omega

theorem read0 (A : Vec Ideal S4096x1024 .f32) (t : Fin cfg0.N) (n x : Fin 1024) :
    (win0_0.blk t).view.read (Elt Ideal) A (ix2 n x) = A (ix2 ⟨1024 * t.val + n.val, row t n⟩ x) := by
  have idx : win0_0.index t = ![t.val, 0] := by revert t; decide +kernel
  blk_ext [idx]

theorem read1 (A : Vec Ideal S1024x1024 .bf16) (t : Fin cfg0.N) (y x : Fin 1024) :
    (win0_1.blk t).view.read (Elt Ideal) A (ix2 y x) = A (ix2 y x) := by
  have idx : win0_1.index t = ![0, 0] := by revert t; decide +kernel
  blk_ext [idx]

theorem read2 (A : FVec Ideal S4096x1024 .f32) (t : Fin cfg0.N) (n y : Fin 1024) :
    A ((win0_2.blk t).view.emb (ix2 n y)) = A (ix2 ⟨1024 * t.val + n.val, row t n⟩ y) := by
  have idx : win0_2.index t = ![t.val, 0] := by revert t; decide +kernel
  blk_ext [idx]

/-- A point's block of the product, from the arguments. -/
theorem block_at (t : Fin cfg0.N) (n y : Fin 1024) :
    k0_pay1 (iblk m c 0 t) (iblk m c 1 t) (ix2 n y) = grad (ad m c) (aw m c) ⟨1024 * t.val + n.val, row t n⟩ y := by
  rw [pay_at]
  unfold grad
  refine Finset.sum_congr rfl fun x _ => ?_
  exact congrArg₂ (· * ·) ((read0 (V m c main_arg0) t n x).trans (V_d_at m c _ x)) ((read1 (V m c main_v0) t y x).trans (V_w_at m c y x))

theorem out2_eq (t : Fin cfg0.N) : out0_2 (iblk m c 0 t) (iblk m c 1 t) = k0_pay1 (iblk m c 0 t) (iblk m c 1 t) := by
  unfold out0_2
  rw [View.canon_unit_zero (by decide), View.ld_unit_zero (by decide), View.ld_unit_zero (by decide)]

theorem arr2 : (dats m 0 c).arrAt 2 cfg0.N = (gradV (ad m c) (aw m c) : FVec Ideal S4096x1024 .f32) := by
  refine (dats m 0 c).arrAt_eq_of_covers 2 _ (by decide +kernel) fun t hf y => ?_
  blk_simp
  rw [after0_2, out2_eq]
  revert y
  intro (y : S1024x1024.Idx)
  idx_vars y
  refine (block_at m c t y0 y1).trans (Eq.trans ?_ (read2 (gradV (ad m c) (aw m c)) t y0 y1).symm)
  rfl

/-- The reference's product. -/
theorem reference_at (d : FVec Ideal S4096x1024 .f32) (w : FVec Ideal S1024x1024 .f32) :
    Host.dotGeneral Cert.Reference5Ideal.dot_S4096x1024_S1024x1024_S4096x1024_1_1_0_0_n_n none d w = (gradV d w : FVec Ideal S4096x1024 .f32) := by
  funext i
  revert i
  intro (i : S4096x1024.Idx)
  idx_vars i
  pointwise []
  rfl

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => ⟨(h c).2.1, (h c).2.2⟩, sem_eq_zero_of_no_sems (by decide) r.2⟩)
    (Cert.Reference5Ideal.Value.run (F := Ideal) m ρ)

/-- The kernel's blocks and the reference's product are the same gradient. -/
theorem agree : Cert.algebraic_Kernel5Ideal_Reference5Ideal (hKernel5Ideal := Cert.Kernel5Ideal.Gen.facts) (hReference5Ideal := Cert.Reference5Ideal.Gen.facts) := by
  intro m ρ m' ρ' _ hargs
  refine ⟨fun c => (gradV (ad m c) (aw m c) : FVec Ideal S4096x1024 .f32),
    (θ_run Cert.Kernel5Ideal.defs _ _).mono (fun r h c => ⟨(h c).1.trans (arr2 m c), (h c).2⟩) (run_blocks m ρ), ?_⟩
  refine (θ_run Cert.Reference5Ideal.defs _ _).mono (fun r h c => ?_) (Cert.Reference5Ideal.Value.run (F := Ideal) m' ρ')
  have e0 := (hargs c).1
  have e1 := (hargs c).2
  have e := reference_at (ad m c) (aw m c)
  refine ⟨(h c).1.trans ?_, (h c).2⟩
  rw [e0, e1]; exact e

end Cert.Kernel5Ideal.Product

end
-- ==== Proof.DwKv.lean ====
module

public import proofs.«01_k».proof.Defs
public import proofs.«01_k».proof.Proof.Gen.Kernel6.Value
public import proofs.«01_k».proof.Proof.Gen.Kernel6Ideal.Value
public import proofs.«01_k».proof.Proof.Gen.Reference6Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic.IndexArith

/-! # The gradient of the projection to the keys and the values
The kernel's blocks and the reference's product hold the same sums, element by element. -/

@[expose] public section

noncomputable section

namespace Cert.Kernel6Ideal.Product

open Cert.Kernel6Ideal Cert.Kernel6Ideal.Gen Cert.Kernel6Ideal.Value
open Idealize.ShloMosaic Idealize.ShloMosaic.TcCoe Idealize.ShloMosaic.Tactic Idealize.SL.Sem

set_option maxRecDepth 16384

/-- The gradient: rows summed. -/
def grad (x : FVec Ideal S4096x1024 .f32) (z : FVec Ideal S4096x256 .f32) (r : Fin 1024) (y : Fin 256) : EReal :=
  ∑ ρ : Fin 4096, x (ix2 ρ r) * z (ix2 ρ y)

def gradV {φ : FTy} (x : FVec Ideal S4096x1024 .f32) (z : FVec Ideal S4096x256 .f32) : FVec Ideal S1024x256 φ :=
  fun i => grad x z (i 0) (i 1)

/-- A block of the product. -/
theorem pay_at (a : Vec Ideal S4096x1024 .bf16) (b : Vec Ideal S4096x256 .bf16) (r : Fin 1024) (y : Fin 256) :
    k0_pay1 a b (ix2 r y) = ∑ ρ : Fin 4096, a (ix2 ρ r) * b (ix2 ρ y) := by
  pointwise [k0_pay1]

variable (m : (ℓ : Loc nD τ sig) → Buf (Elt Ideal) ℓ) (c : Dev nD)

abbrev ax : FVec Ideal S4096x1024 .f32 := m ((c : Thread nD τ).loc main_arg0)
abbrev az : FVec Ideal S4096x256 .f32 := m ((c : Thread nD τ).loc main_arg1)

theorem points : cfg0.N = 1 := by decide

theorem V_x_at (ρ : Fin 4096) (r : Fin 1024) : (V m c main_v0 : FVec Ideal S4096x1024 .bf16) (ix2 ρ r) = ax m c (ix2 ρ r) := by
  have h : (V m c main_v0 : FVec Ideal S4096x1024 .bf16) = truncf .bf16 (ax m c) bitsLt_bf16_f32 := by
    entry_read
    rfl
  rw [h]; rfl

theorem V_z_at (ρ : Fin 4096) (y : Fin 256) : (V m c main_v1 : FVec Ideal S4096x256 .bf16) (ix2 ρ y) = az m c (ix2 ρ y) := by
  have h : (V m c main_v1 : FVec Ideal S4096x256 .bf16) = truncf .bf16 (az m c) bitsLt_bf16_f32 := by
    entry_read
    rfl
  rw [h]; rfl

theorem read0 (A : Vec Ideal S4096x1024 .bf16) (t : Fin cfg0.N) (ρ : Fin 4096) (r : Fin 1024) :
    (win0_0.blk t).view.read (Elt Ideal) A (ix2 ρ r) = A (ix2 ρ r) := by
  have idx : win0_0.index t = ![0, 0] := by revert t; decide +kernel
  blk_ext [idx]

theorem read1 (A : Vec Ideal S4096x256 .bf16) (t : Fin cfg0.N) (ρ : Fin 4096) (y : Fin 256) :
    (win0_1.blk t).view.read (Elt Ideal) A (ix2 ρ y) = A (ix2 ρ y) := by
  have idx : win0_1.index t = ![0, 0] := by revert t; decide +kernel
  blk_ext [idx]

theorem read2 (A : FVec Ideal S1024x256 .f32) (t : Fin cfg0.N) (r : Fin 1024) (y : Fin 256) :
    A ((win0_2.blk t).view.emb (ix2 r y)) = A (ix2 r y) := by
  have idx : win0_2.index t = ![0, 0] := by revert t; decide +kernel
  blk_ext [idx]

theorem read3 (A : FVec Ideal S1024x256 .bf16) (t : Fin cfg0.N) (r : Fin 1024) (y : Fin 256) :
    A ((win0_3.blk t).view.emb (ix2 r y)) = A (ix2 r y) := by
  have idx : win0_3.index t = ![0, 0] := by revert t; decide +kernel
  blk_ext [idx]

/-- A point's block of the product, from the arguments. -/
theorem block_at (t : Fin cfg0.N) (r : Fin 1024) (y : Fin 256) :
    k0_pay1 (iblk m c 0 t) (iblk m c 1 t) (ix2 r y) = grad (ax m c) (az m c) r y := by
  rw [pay_at]
  unfold grad
  refine Finset.sum_congr rfl fun ρ _ => ?_
  exact congrArg₂ (· * ·) ((read0 (V m c main_v0) t ρ r).trans (V_x_at m c ρ r)) ((read1 (V m c main_v1) t ρ y).trans (V_z_at m c ρ _))

theorem out2_eq (t : Fin cfg0.N) : out0_2 (iblk m c 0 t) (iblk m c 1 t) = k0_pay1 (iblk m c 0 t) (iblk m c 1 t) := by
  unfold out0_2
  rw [View.canon_unit_zero (by decide), View.ld_unit_zero (by decide), View.ld_unit_zero (by decide)]

theorem out3_eq (t : Fin cfg0.N) : out0_3 (iblk m c 0 t) (iblk m c 1 t) = k0_pay2 (iblk m c 0 t) (iblk m c 1 t) := by
  unfold out0_3
  rw [View.canon_unit_zero (by decide), View.ld_unit_zero (by decide), View.ld_unit_zero (by decide)]

theorem arr2 : (dats m 0 c).arrAt 2 cfg0.N = (gradV (ax m c) (az m c) : FVec Ideal S1024x256 .f32) := by
  refine (dats m 0 c).arrAt_eq_of_covers 2 _ (by decide +kernel) fun t hf y => ?_
  blk_simp
  rw [after0_2, out2_eq]
  revert y
  intro (y : S1024x256.Idx)
  idx_vars y
  refine (block_at m c t y0 y1).trans (Eq.trans ?_ (read2 (gradV (ax m c) (az m c)) t y0 y1).symm)
  rfl

theorem arr3 : (dats m 0 c).arrAt 3 cfg0.N = (gradV (ax m c) (az m c) : FVec Ideal S1024x256 .bf16) := by
  refine (dats m 0 c).arrAt_eq_of_covers 3 _ (by decide +kernel) fun t hf y => ?_
  blk_simp
  rw [after0_3, out3_eq]
  revert y
  intro (y : S1024x256.Idx)
  idx_vars y
  refine (block_at m c t y0 y1).trans (Eq.trans ?_ (read3 (gradV (ax m c) (az m c)) t y0 y1).symm)
  rfl

/-- The reference's product. -/
theorem reference_at (x : FVec Ideal S4096x1024 .f32) (z : FVec Ideal S4096x256 .f32) :
    transpose Cert.Reference6Ideal.S1024x256 [1, 0] (Host.dotGeneral Cert.Reference6Ideal.dot_S4096x256_S4096x1024_S256x1024_0_0_1_1_n_n none z x) Cert.Reference6Ideal.Gen.facts.transposes_S256x1024_S1024x256_1_0
      = (gradV x z : FVec Ideal S1024x256 .f32) := by
  funext i
  revert i
  intro (i : S1024x256.Idx)
  idx_vars i
  pointwise []
  show _ = grad x z i0 i1
  unfold grad
  refine Finset.sum_congr rfl fun ρ _ => ?_
  rw [mul_comm]

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => ⟨(h c).2.2.1, (h c).2.2.2⟩, sem_eq_zero_of_no_sems (by decide) r.2⟩)
    (Cert.Reference6Ideal.Value.run (F := Ideal) m ρ)

/-- The kernel's blocks and the reference's product are the same gradient. -/
theorem agree : Cert.algebraic_Kernel6Ideal_Reference6Ideal (hKernel6Ideal := Cert.Kernel6Ideal.Gen.facts) (hReference6Ideal := Cert.Reference6Ideal.Gen.facts) := by
  intro m ρ m' ρ' _ hargs
  refine ⟨fun c => (gradV (ax m c) (az m c) : FVec Ideal S1024x256 .f32), fun c => (gradV (ax m c) (az m c) : FVec Ideal S1024x256 .bf16),
    (θ_run Cert.Kernel6Ideal.defs _ _).mono (fun r h c => ⟨(h c).1.trans (arr2 m c), (h c).2.1.trans (arr3 m c), (h c).2.2⟩) (run_blocks m ρ), ?_⟩
  refine (θ_run Cert.Reference6Ideal.defs _ _).mono (fun r h c => ?_) (Cert.Reference6Ideal.Value.run (F := Ideal) m' ρ')
  have e0 := (hargs c).1
  have e1 := (hargs c).2
  have e := reference_at (ax m c) (az m c)
  refine ⟨(h c).1.trans ?_, (h c).2.1.trans ?_, (h c).2.2⟩
  · rw [e0, e1]; exact e
  · rw [e0, e1]; exact congrArg (fun v => truncf (F := Ideal) .bf16 v Cert.Reference6Ideal.Gen.facts.bitsLt_bf16_f32) e

end Cert.Kernel6Ideal.Product

end
-- ==== Proof.NormLaw.lean ====
module

public import Idealize.ShloMosaic.Lib.Pointwise

/-! # The gradient through a norm
A row `X` over the extended reals, its norm's factor `rs X`, and the gradient that goes back through the norm from the gradient `A` of the normalised
row: in the kernel's words and in those of the differentiated norm. No entry need be finite: the factor is a number that is not negative, and such a
number distributes over sums of any extended reals. -/

@[expose] public section

noncomputable section

namespace Cert.Norm

open Idealize.ShloMosaic

/-- The width, the small number under the root and minus one half, as both programs write them. -/
abbrev width : EReal := Ideal.ofBits .f32 0x44800000#32
abbrev small : EReal := Ideal.ofBits .f32 0x358637BD#32
abbrev mhalf : EReal := Ideal.ofBits .f32 0xBF000000#32

theorem width_eq : width = ((1024 : ℝ) : EReal) := by
  simp [width, Ideal.ofBits, Ideal.ieee, -EReal.coe_mul]; norm_num

theorem mhalf_eq : mhalf = ((-(1 / 2) : ℝ) : EReal) := by
  simp [mhalf, Ideal.ofBits, Ideal.ieee, -EReal.coe_mul, -EReal.coe_neg]; norm_num

theorem small_eq : ∃ e : ℝ, 0 < e ∧ small = (e : EReal) := by
  refine ⟨8796093 * (2 : ℝ) ^ (-43 : ℤ), by positivity, ?_⟩
  simp [small, Ideal.ofBits, Ideal.ieee, -EReal.coe_mul]

/-- The row's mean square and the small number. -/
def var (X : Fin 1024 → EReal) : EReal := Ideal.div (∑ j, X j * X j) width + small

/-- The factor of the norm. -/
def rs (X : Fin 1024 → EReal) : EReal := Ideal.rsqrt (var X)

theorem div_width (x : EReal) : Ideal.div x width = x * ((1 / 1024 : ℝ) : EReal) := by
  rw [width_eq, Ideal.div_coe (by norm_num)]

theorem mul_self_nonneg' (x : EReal) : 0 ≤ x * x := by
  rcases le_total 0 x with h | h
  · exact mul_nonneg h h
  · rw [← neg_mul_neg]
    exact mul_nonneg (by simpa using EReal.neg_le_neg_iff.mpr h) (by simpa using EReal.neg_le_neg_iff.mpr h)

/-- The mean square is infinite or a positive number. -/
theorem var_cases (X : Fin 1024 → EReal) : var X = ⊤ ∨ ∃ v : ℝ, 0 < v ∧ var X = (v : EReal) := by
  obtain ⟨e, he, hs⟩ := small_eq
  have h0 : 0 ≤ (∑ j, X j * X j) * ((1 / 1024 : ℝ) : EReal) :=
    mul_nonneg (Finset.sum_nonneg fun j _ => mul_self_nonneg' _) (EReal.coe_nonneg.mpr (by norm_num))
  unfold var
  rw [div_width, hs]
  generalize (∑ j, X j * X j) * ((1 / 1024 : ℝ) : EReal) = s at h0
  induction s with
  | bot => exact absurd h0 (by simp)
  | top => exact Or.inl (by simp)
  | coe s => exact Or.inr ⟨s + e, add_pos_of_nonneg_of_pos (EReal.coe_nonneg.mp h0) he, by rw [EReal.coe_add]⟩

/-- A number that is not negative and not infinite distributes over a finite sum. -/
theorem mul_sum {ι : Type*} (r : EReal) (h0 : 0 ≤ r) (ht : r ≠ ⊤) (s : Finset ι) (f : ι → EReal) : r * ∑ i ∈ s, f i = ∑ i ∈ s, r * f i := by
  classical
  induction s using Finset.induction_on with
  | empty => simp
  | insert a s ha ih => rw [Finset.sum_insert ha, Finset.sum_insert ha, EReal.left_distrib_of_nonneg_of_ne_top h0 ht, ih]

/-- The coefficient of the row in the differentiated norm. -/
def coef (X A : Fin 1024 → EReal) : EReal := Ideal.div ((∑ j, X j * A j) * (mhalf * Ideal.div (rs X) (var X))) width

/-- The gradient through the norm, in the two words. -/
theorem row_law (X A : Fin 1024 → EReal) (c : Fin 1024) (D : EReal) :
    D + rs X * (A c - X c * rs X * Ideal.div (∑ j, X j * rs X * A j) width) = D + A c * rs X + X c * coef X A + coef X A * X c := by
  unfold coef
  rcases var_cases X with hv | ⟨v, hv0, hv⟩
  · have hr : rs X = 0 := by unfold rs; rw [hv]; rfl
    have hd : Ideal.div 0 (⊤ : EReal) = 0 := by simp [Ideal.div]
    simp only [hr, hv, hd, div_width, mul_zero, zero_mul, add_zero]
  · have hr : rs X = (((Real.sqrt v)⁻¹ : ℝ) : EReal) := by
      unfold rs; rw [hv, Ideal.rsqrt_coe, if_neg (not_lt.mpr hv0.le), if_neg hv0.ne']
    have hρ : 0 ≤ (Real.sqrt v)⁻¹ := inv_nonneg.mpr (Real.sqrt_nonneg v)
    have hsq : (Real.sqrt v)⁻¹ * (Real.sqrt v)⁻¹ = 1 / v := by
      rw [← mul_inv, Real.mul_self_sqrt hv0.le, one_div]
    rw [hr, hv, div_width, div_width, mhalf_eq, Ideal.div_coe hv0.ne']
    generalize (Real.sqrt v)⁻¹ = ρ at hρ hsq
    have hρ' : 0 ≤ (ρ : EReal) := EReal.coe_nonneg.mpr hρ
    have hS : ∑ j, X j * (ρ : EReal) * A j = (ρ : EReal) * ∑ j, X j * A j := by
      rw [mul_sum _ hρ' (EReal.coe_ne_top _)]
      exact Finset.sum_congr rfl fun j _ => by rw [mul_comm (X j), mul_assoc]
    rw [hS]
    generalize ∑ j, X j * A j = S
    rw [sub_eq_add_neg, EReal.left_distrib_of_nonneg_of_ne_top hρ' (EReal.coe_ne_top _), mul_comm (ρ : EReal) (A c), ← add_assoc, add_assoc (D + A c * (ρ : EReal))]
    congr 1
    have hq : 0 ≤ 1 / 2 * (ρ * (1 / v)) * (1 / 1024) := by positivity
    have e1 : (ρ : EReal) * -(X c * (ρ : EReal) * ((ρ : EReal) * S * ((1 / 1024 : ℝ) : EReal))) = -(X c * S) * ((ρ * (1 / v) * (1 / 1024) : ℝ) : EReal) := by
      rw [mul_neg, neg_mul, ← hsq]
      push_cast
      congr 1
      ac_rfl
    have e2 : S * (((-(1 / 2) : ℝ) : EReal) * ((ρ : EReal) * ((1 / v : ℝ) : EReal))) * ((1 / 1024 : ℝ) : EReal)
        = -(S * ((1 / 2 * (ρ * (1 / v)) * (1 / 1024) : ℝ) : EReal)) := by
      rw [← EReal.coe_mul, ← EReal.coe_mul, mul_assoc, ← EReal.coe_mul, ← mul_neg, ← EReal.coe_neg]
      congr 2
      ring
    have e3 : -(S * ((1 / 2 * (ρ * (1 / v)) * (1 / 1024) : ℝ) : EReal)) * X c = X c * -(S * ((1 / 2 * (ρ * (1 / v)) * (1 / 1024) : ℝ) : EReal)) := mul_comm _ _
    have e4 : X c * -(S * ((1 / 2 * (ρ * (1 / v)) * (1 / 1024) : ℝ) : EReal)) = -(X c * S) * ((1 / 2 * (ρ * (1 / v)) * (1 / 1024) : ℝ) : EReal) := by
      rw [mul_neg, neg_mul, mul_assoc (X c) S]
    rw [e1, e2, e3, e4, ← EReal.left_distrib_of_nonneg (EReal.coe_nonneg.mpr hq) (EReal.coe_nonneg.mpr hq), ← EReal.coe_add]
    congr 2
    ring

end Cert.Norm

end
-- ==== Proof.DprojA.lean ====
module

public import proofs.«01_k».proof.Defs
public import proofs.«01_k».proof.Proof.NormLaw
public import proofs.«01_k».proof.Proof.Gen.Kernel7.Value
public import proofs.«01_k».proof.Proof.Gen.Kernel7Ideal.Value
public import proofs.«01_k».proof.Proof.Gen.Reference7Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic
public import Idealize.ShloMosaic.Lib.Tactic.IndexArith

/-! # The gradient back through the first mixer's input projection and its norm -/

@[expose] public section

noncomputable section

namespace Cert.Kernel7Ideal.Product

open Cert.Kernel7Ideal Cert.Kernel7Ideal.Gen Cert.Kernel7Ideal.Value
open Idealize.ShloMosaic Idealize.ShloMosaic.TcCoe Idealize.ShloMosaic.Tactic Idealize.SL.Sem

set_option maxRecDepth 16384

/-! ## What a block leaves in the two buffers -/

/-- A part of a block of the gradients, and of the weights. -/
def zpart (x : Vec Ideal S4x512x512 .bf16) (p : ℕ) (h : ∀ a, (![p, 0, 0] : Fin 3 → ℕ) a + S1x512x512.size a ≤ S4x512x512.size a) : Vec Ideal S1x512x512 .bf16 :=
  View.ld (Val := Elt Ideal) x (Rect.unit (s := S4x512x512) ![p, 0, 0] S1x512x512.size h)
def wpart (x : Vec Ideal S4x1024x512 .bf16) (p : ℕ) (h : ∀ a, (![p, 0, 0] : Fin 3 → ℕ) a + S1x1024x512.size a ≤ S4x1024x512.size a) : Vec Ideal S1x1024x512 .bf16 :=
  View.ld (Val := Elt Ideal) x (Rect.unit (s := S4x1024x512) ![p, 0, 0] S1x1024x512.size h)

theorem zpart_at (x : Vec Ideal S4x512x512 .bf16) (p : ℕ) (h) (r : Fin 512) (y : Fin 512) : zpart x p h (ix3 0 r y) = x (ix3 ⟨p, h 0⟩ r y) := by
  refine View.ld_unit_apply_of _ _ _ _ _ _ fun a => ?_
  match a with
  | ⟨0, _⟩ => rfl
  | ⟨1, _⟩ => show r.val = 0 + r.val; omega
  | ⟨2, _⟩ => show y.val = 0 + y.val; omega

theorem wpart_at (x : Vec Ideal S4x1024x512 .bf16) (p : ℕ) (h) (r : Fin 1024) (y : Fin 512) : wpart x p h (ix3 0 r y) = x (ix3 ⟨p, h 0⟩ r y) := by
  refine View.ld_unit_apply_of _ _ _ _ _ _ fun a => ?_
  match a with
  | ⟨0, _⟩ => rfl
  | ⟨1, _⟩ => show r.val = 0 + r.val; omega
  | ⟨2, _⟩ => show y.val = 0 + y.val; omega

/-- The sum of the first seven of a block's eight products. -/
def seven (x3 : Vec Ideal S4x512x512 .bf16) (x4 : Vec Ideal S4x1024x512 .bf16) (x5 : Vec Ideal S4x512x512 .bf16) (x6 : Vec Ideal S4x1024x512 .bf16) :
    FVec Ideal S512x1024 .f32 :=
  k0_pay9 (k0_pay7 (zpart x3 0 (by decide)) (wpart x4 0 (by decide)) (zpart x3 1 (by decide)) (wpart x4 1 (by decide))) (k0_pay8 (zpart x3 2 (by decide)) (wpart x4 2 (by decide))) (zpart x3 3 (by decide)) (wpart x4 3 (by decide))
    (zpart x5 0 (by decide)) (wpart x6 0 (by decide)) (zpart x5 1 (by decide)) (wpart x6 1 (by decide)) (zpart x5 2 (by decide)) (wpart x6 2 (by decide))

/-- A block's rows of the first result, and its sum over the rows for the second added to what was there. -/
def rows (x0 x1 : Vec Ideal S512x1024 .f32) (x2 : Vec Ideal S1x1024 .f32) (x3 : Vec Ideal S4x512x512 .bf16) (x4 : Vec Ideal S4x1024x512 .bf16) (x5 : Vec Ideal S4x512x512 .bf16)
    (x6 : Vec Ideal S4x1024x512 .bf16) : FVec Ideal S512x1024 .f32 :=
  k0_pay3 (k0_pay4 x0) (k0_pay5 x0) (seven x3 x4 x5 x6) (k0_pay10 (zpart x5 3 (by decide))) (wpart x6 3 (by decide)) x2 x1
def acc (x0 : Vec Ideal S512x1024 .f32) (x3 : Vec Ideal S4x512x512 .bf16) (x4 : Vec Ideal S4x1024x512 .bf16) (x5 : Vec Ideal S4x512x512 .bf16)
    (x6 : Vec Ideal S4x1024x512 .bf16) (o : Vec Ideal S1x1024 .f32) : FVec Ideal S1x1024 .f32 :=
  k0_pay2 (k0_pay5 x0) (seven x3 x4 x5 x6) (k0_pay10 (zpart x5 3 (by decide))) (wpart x6 3 (by decide)) o

theorem hz : (![0, 0] : Fin 2 → Nat) = fun _ => 0 := funext fun a => by fin_cases a <;> rfl

section
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S4x512x512 .bf16) (h4 : a4.IsWhole)
  (a5 : Memref sig .tc .vmem S4x1024x512 .bf16) (h5 : a5.IsWhole) (a6 : Memref sig .tc .vmem S4x512x512 .bf16) (h6 : a6.IsWhole)
  (a7 : Memref sig .tc .vmem S4x1024x512 .bf16) (h7 : a7.IsWhole) (a8 : Memref sig .tc .vmem S512x1024 .f32) (h8 : a8.IsWhole)
  (a9 : Memref sig .tc .vmem S1x1024 .f32) (h9 : a9.IsWhole)
  (x0 x1 : Vec Ideal S512x1024 .f32) (x2 : Vec Ideal S1x1024 .f32) (x3 : Vec Ideal S4x512x512 .bf16) (x4 : Vec Ideal S4x1024x512 .bf16)
  (x5 : Vec Ideal S4x512x512 .bf16) (x6 : Vec Ideal S4x1024x512 .bf16) (o : Vec Ideal S1x1024 .f32)

theorem out_A_7 (hc : cond0_0 i) :
    out0_A_7 c i a1 h1 a2 h2 a3 h3 a4 h4 a5 h5 a6 h6 a7 h7 a8 h8 a9 h9 hc x0 x1 x2 x3 x4 x5 x6 = rows x0 x1 x2 x3 x4 x5 x6 := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x1024) hz, View.ld_unit_zero (S := S1x1024) hz]
  unfold rows seven zpart wpart
  rfl

theorem out_A_8 (hc : cond0_0 i) :
    out0_A_8 c i a1 h1 a2 h2 a3 h3 a4 h4 a5 h5 a6 h6 a7 h7 a8 h8 a9 h9 hc x0 x1 x2 x3 x4 x5 x6 = acc x0 x3 x4 x5 x6 (k0_pay6 (F := Ideal)) := by
  unfold out0_A_8
  rw [View.read_writes_eq_canon _ _ _ (cover0_A_8 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h9.read_unread,
    View.ld_unit_zero (S := S512x1024) hz, View.ld_unit_zero (S := S1x1024) hz]
  unfold acc seven zpart wpart
  rfl

theorem out_B_7 (hc : ¬cond0_0 i) :
    out0_B_7 c i a1 h1 a2 h2 a3 h3 a4 h4 a5 h5 a6 h6 a7 h7 a8 h8 a9 h9 hc x0 x1 x2 x3 x4 x5 x6 o = rows x0 x1 x2 x3 x4 x5 x6 := by
  unfold out0_B_7
  rw [View.read_writes_eq_canon _ _ _ (cover0_B_7 c i a1 h1 a2 h2 a3 h3 a4 h4 a5 h5 a6 h6 a7 h7 a8 h8 a9 h9 hc x0 x1 x2 x3 x4 x5 x6 o)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x1024) hz, View.ld_unit_zero (S := S1x1024) hz]
  unfold rows seven zpart wpart
  rfl

theorem out_B_8 (hc : ¬cond0_0 i) :
    out0_B_8 c i a1 h1 a2 h2 a3 h3 a4 h4 a5 h5 a6 h6 a7 h7 a8 h8 a9 h9 hc x0 x1 x2 x3 x4 x5 x6 o = acc x0 x3 x4 x5 x6 o := by
  unfold out0_B_8
  rw [View.read_writes_eq_canon _ _ _ (cover0_B_8 c i a1 h1 a2 h2 a3 h3 a4 h4 a5 h5 a6 h6 a7 h7 a8 h8 a9 h9 hc x0 x1 x2 x3 x4 x5 x6 o)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x1024) hz, View.ld_unit_zero (S := S1x1024) hz]
  unfold acc seven zpart wpart
  rfl

end

/-! ## The buffers as sums -/

/-- A part's product of a block. -/
abbrev prod (a : Vec Ideal S4x512x512 .bf16) (b : Vec Ideal S4x1024x512 .bf16) (p : Fin 4) (r : Fin 512) (y : Fin 1024) : EReal :=
  ∑ k : Fin 512, a (ix3 p r k) * b (ix3 p y k)

theorem seven_at (x3 : Vec Ideal S4x512x512 .bf16) (x4 : Vec Ideal S4x1024x512 .bf16) (x5 : Vec Ideal S4x512x512 .bf16) (x6 : Vec Ideal S4x1024x512 .bf16)
    (r : Fin 512) (y : Fin 1024) :
    seven x3 x4 x5 x6 (ix2 r y)
      = prod x3 x4 0 r y + prod x3 x4 1 r y + prod x3 x4 2 r y + prod x3 x4 3 r y + prod x5 x6 0 r y + prod x5 x6 1 r y + prod x5 x6 2 r y := by
  unfold seven
  pointwise [k0_pay9, k0_pay8, k0_pay7]
  simp only [zpart_at, wpart_at]
  rfl

theorem pay1_at (v : FVec Ideal S512x1024 .f32) (x5 : Vec Ideal S4x512x512 .bf16) (x6 : Vec Ideal S4x1024x512 .bf16) (r : Fin 512) (y : Fin 1024) (h h') :
    k0_pay1 v (k0_pay10 (zpart x5 3 h)) (wpart x6 3 h') (ix2 r y) = v (ix2 r y) + prod x5 x6 3 r y := by
  pointwise [k0_pay1, k0_pay10]
  simp only [zpart_at, wpart_at]
  rfl

/-- A row of a block and its normalised entries. -/
abbrev row (x : Vec Ideal S512x1024 .f32) (r : Fin 512) : Fin 1024 → EReal := fun j => x (ix2 r j)

theorem pay4_at (x : Vec Ideal S512x1024 .f32) (r : Fin 512) : k0_pay4 x (ix2 r 0) = Norm.rs (row x r) := by
  pointwise [k0_pay4]
  rfl

theorem pay5_at (x : Vec Ideal S512x1024 .f32) (r : Fin 512) (y : Fin 1024) : k0_pay5 x (ix2 r y) = x (ix2 r y) * Norm.rs (row x r) := by
  rw [← pay4_at]
  unfold k0_pay5
  generalize k0_pay4 x = q
  pointwise []

theorem pay3_at (v8 : FVec Ideal S512x1 .f32) (v10 v54 : FVec Ideal S512x1024 .f32) (v56 : FVec Ideal S512x512 .bf16) (v57 : Vec Ideal S1x1024x512 .bf16)
    (g : Vec Ideal S1x1024 .f32) (d : Vec Ideal S512x1024 .f32) (r : Fin 512) (y : Fin 1024) :
    k0_pay3 v8 v10 v54 v56 v57 g d (ix2 r y)
      = d (ix2 r y) + v8 (ix2 r 0) * (k0_pay1 v54 v56 v57 (ix2 r y) * g (ix2 0 y)
          - v10 (ix2 r y) * Ideal.div (∑ j : Fin 1024, v10 (ix2 r j) * (k0_pay1 v54 v56 v57 (ix2 r j) * g (ix2 0 j))) Norm.width) := by
  unfold k0_pay3
  generalize k0_pay1 v54 v56 v57 = q
  pointwise []

theorem pay2_at (v10 v54 : FVec Ideal S512x1024 .f32) (v56 : FVec Ideal S512x512 .bf16) (v57 : Vec Ideal S1x1024x512 .bf16)
    (o : Vec Ideal S1x1024 .f32) (y : Fin 1024) :
    k0_pay2 v10 v54 v56 v57 o (ix2 0 y) = o (ix2 0 y) + ∑ r : Fin 512, k0_pay1 v54 v56 v57 (ix2 r y) * v10 (ix2 r y) := by
  unfold k0_pay2
  generalize k0_pay1 v54 v56 v57 = q
  pointwise []

theorem pay6_at (y : Fin 1024) : k0_pay6 (F := Ideal) (ix2 0 y) = 0 := by
  pointwise [k0_pay6]

/-! ## The whole sums -/

/-- A sum over 4096 entries in eight blocks of 512. -/
theorem sum_blocks (f : Fin 4096 → EReal) : ∑ m, f m = ∑ q : Fin 8, ∑ k : Fin 512, f ⟨512 * q.val + k.val, by omega⟩ := by
  rw [← Equiv.sum_comp (finProdFinEquiv (m := 8) (n := 512)) f, Fintype.sum_prod_type]
  refine Finset.sum_congr rfl fun q _ => Finset.sum_congr rfl fun k _ => congrArg f (Fin.ext ?_)
  show k.val + 512 * q.val = 512 * q.val + k.val
  omega

/-- The normalised rows' gradient. -/
def dn (z : FVec Ideal S4096x4096 .f32) (w : FVec Ideal S1024x4096 .f32) (ρ : Fin 4096) (y : Fin 1024) : EReal :=
  ∑ m : Fin 4096, z (ix2 ρ m) * w (ix2 y m)

/-- A row of the input, and the gradient of its normalised row after the gain. -/
abbrev rowOf (x : FVec Ideal S4096x1024 .f32) (ρ : Fin 4096) : Fin 1024 → EReal := fun j => x (ix2 ρ j)
abbrev gained (g : FVec Ideal S1x1024 .f32) (z : FVec Ideal S4096x4096 .f32) (w : FVec Ideal S1024x4096 .f32) (ρ : Fin 4096) : Fin 1024 → EReal :=
  fun j => dn z w ρ j * g (ix2 0 j)

/-- The two results. -/
def dxAt (x d : FVec Ideal S4096x1024 .f32) (g : FVec Ideal S1x1024 .f32) (z : FVec Ideal S4096x4096 .f32) (w : FVec Ideal S1024x4096 .f32) (ρ : Fin 4096) (y : Fin 1024) : EReal :=
  d (ix2 ρ y) + Norm.rs (rowOf x ρ) * (gained g z w ρ y
    - x (ix2 ρ y) * Norm.rs (rowOf x ρ) * Ideal.div (∑ j, x (ix2 ρ j) * Norm.rs (rowOf x ρ) * gained g z w ρ j) Norm.width)
def dgTerm (x : FVec Ideal S4096x1024 .f32) (z : FVec Ideal S4096x4096 .f32) (w : FVec Ideal S1024x4096 .f32) (y : Fin 1024) (ρ : Fin 4096) : EReal :=
  dn z w ρ y * (x (ix2 ρ y) * Norm.rs (rowOf x ρ))
def dxV (x d : FVec Ideal S4096x1024 .f32) (g : FVec Ideal S1x1024 .f32) (z : FVec Ideal S4096x4096 .f32) (w : FVec Ideal S1024x4096 .f32) : FVec Ideal S4096x1024 .f32 :=
  fun i => dxAt x d g z w (i 0) (i 1)
def dgV (x : FVec Ideal S4096x1024 .f32) (z : FVec Ideal S4096x4096 .f32) (w : FVec Ideal S1024x4096 .f32) : FVec Ideal S1x1024 .f32 :=
  fun i => ∑ ρ, dgTerm x z w (i 1) ρ

/-! ## The blocks of the arguments -/

variable (m : (ℓ : Loc nD τ sig) → Buf (Elt Ideal) ℓ) (c : Dev nD)

abbrev ax : FVec Ideal S4096x1024 .f32 := m ((c : Thread nD τ).loc main_arg0)
abbrev ad : FVec Ideal S4096x1024 .f32 := m ((c : Thread nD τ).loc main_arg1)
abbrev ag : FVec Ideal S1x1024 .f32 := m ((c : Thread nD τ).loc main_arg2)
abbrev az : FVec Ideal S4096x4096 .f32 := m ((c : Thread nD τ).loc main_arg3)
abbrev aw : FVec Ideal S1024x4096 .f32 := m ((c : Thread nD τ).loc main_arg4)

theorem points : cfg0.N = 8 := by decide

theorem V_x : (V m c main_arg0 : FVec Ideal S4096x1024 .f32) = ax m c := by
  entry_read
  rfl
theorem V_d : (V m c main_arg1 : FVec Ideal S4096x1024 .f32) = ad m c := by
  entry_read
  rfl
theorem V_g : (V m c main_arg2 : FVec Ideal S1x1024 .f32) = ag m c := by
  entry_read
  rfl

theorem V_z : (V m c main_v5 : FVec Ideal S4x4096x1024 .bf16)
    = truncf .bf16 (transpose S4x4096x1024 [1, 0, 2] (shapeCast S4096x4x1024 (az m c) shapeCasts_S4096x4096_S4096x4x1024) transposes_S4096x4x1024_S4x4096x1024_1_0_2) bitsLt_bf16_f32 := by
  entry_read
  rfl

/-- The weights' parts before the cut into halves. -/
def wparts : FVec Ideal S4x1024x1024 .bf16 :=
  truncf .bf16 (transpose S4x1024x1024 [1, 0, 2] (shapeCast S1024x4x1024 (aw m c) shapeCasts_S1024x4096_S1024x4x1024) transposes_S1024x4x1024_S4x1024x1024_1_0_2) bitsLt_bf16_f32

theorem V_w0 : (V m c main_v6 : FVec Ideal S4x1024x512 .bf16) = extractStridedSlice S4x1024x512 ![0, 0, 0] (wparts m c) slices_S4x1024x1024_S4x1024x512_0_0_0 := by
  entry_read
  rfl
theorem V_w1 : (V m c main_v7 : FVec Ideal S4x1024x512 .bf16) = extractStridedSlice S4x1024x512 ![0, 0, 512] (wparts m c) slices_S4x1024x1024_S4x1024x512_0_0_512 := by
  entry_read
  rfl

theorem wparts_at (p : Fin 4) (r y : Fin 1024) : wparts m c (ix3 p r y) = aw m c (ix2 r ⟨1024 * p.val + y.val, by omega⟩) := by
  unfold wparts
  pointwise []
  congr 2
  exact Fin.ext (by show p.val * 1024 + y.val = 1024 * p.val + y.val; omega)

theorem V_z_at (p : Fin 4) (ρ : Fin 4096) (y : Fin 1024) :
    (V m c main_v5 : FVec Ideal S4x4096x1024 .bf16) (ix3 p ρ y) = az m c (ix2 ρ ⟨1024 * p.val + y.val, by omega⟩) := by
  rw [V_z]
  pointwise []
  congr 2
  exact Fin.ext (by show p.val * 1024 + y.val = 1024 * p.val + y.val; omega)

theorem V_w0_at (p : Fin 4) (r : Fin 1024) (y : Fin 512) :
    (V m c main_v6 : FVec Ideal S4x1024x512 .bf16) (ix3 p r y) = aw m c (ix2 r ⟨1024 * p.val + y.val, by omega⟩) := by
  rw [V_w0]
  refine Eq.trans ?_ (wparts_at m c p r ⟨y.val, by omega⟩)
  generalize wparts m c = v
  pointwise []

theorem V_w1_at (p : Fin 4) (r : Fin 1024) (y : Fin 512) :
    (V m c main_v7 : FVec Ideal S4x1024x512 .bf16) (ix3 p r y) = aw m c (ix2 r ⟨1024 * p.val + 512 + y.val, by omega⟩) := by
  rw [V_w1]
  have e := wparts_at m c p r ⟨512 + y.val, by omega⟩
  rw [show (⟨1024 * p.val + 512 + y.val, by omega⟩ : Fin 4096) = ⟨1024 * p.val + (512 + y.val), by omega⟩ from Fin.ext (Nat.add_assoc _ _ _)]
  refine Eq.trans ?_ e
  generalize wparts m c = v
  pointwise []

theorem at_row (t : Fin cfg0.N) (r : Fin 512) : 512 * t.val + r.val < 4096 := by have := t.isLt; have := points; omega

/-- The row of the whole that is a point's `r`-th. -/
abbrev rowAt (t : Fin cfg0.N) (r : Fin 512) : Fin 4096 := ⟨512 * t.val + r.val, at_row t r⟩

theorem read0 (A : Vec Ideal S4096x1024 .f32) (t : Fin cfg0.N) (r : Fin 512) (y : Fin 1024) :
    (win0_0.blk t).view.read (Elt Ideal) A (ix2 r y) = A (ix2 (rowAt t r) y) := by
  have idx : win0_0.index t = ![t.val, 0] := by revert t; decide +kernel
  blk_ext [idx]
theorem read1 (A : Vec Ideal S4096x1024 .f32) (t : Fin cfg0.N) (r : Fin 512) (y : Fin 1024) :
    (win0_1.blk t).view.read (Elt Ideal) A (ix2 r y) = A (ix2 (rowAt t r) y) := by
  have idx : win0_1.index t = ![t.val, 0] := by revert t; decide +kernel
  blk_ext [idx]
theorem read2 (A : Vec Ideal S1x1024 .f32) (t : Fin cfg0.N) (y : Fin 1024) :
    (win0_2.blk t).view.read (Elt Ideal) A (ix2 0 y) = A (ix2 0 y) := by
  have idx : win0_2.index t = ![0, 0] := by revert t; decide +kernel
  blk_ext [idx]
theorem read3 (A : Vec Ideal S4x4096x1024 .bf16) (t : Fin cfg0.N) (p : Fin 4) (r : Fin 512) (k : Fin 512) :
    (win0_3.blk t).view.read (Elt Ideal) A (ix3 p r k) = A (ix3 p (rowAt t r) ⟨k.val, by omega⟩) := by
  have idx : win0_3.index t = ![0, t.val, 0] := by revert t; decide +kernel
  blk_ext [idx]
theorem read4 (A : Vec Ideal S4x1024x512 .bf16) (t : Fin cfg0.N) (p : Fin 4) (r : Fin 1024) (k : Fin 512) :
    (win0_4.blk t).view.read (Elt Ideal) A (ix3 p r k) = A (ix3 p r k) := by
  have idx : win0_4.index t = ![0, 0, 0] := by revert t; decide +kernel
  blk_ext [idx]
theorem read5 (A : Vec Ideal S4x4096x1024 .bf16) (t : Fin cfg0.N) (p : Fin 4) (r : Fin 512) (k : Fin 512) :
    (win0_5.blk t).view.read (Elt Ideal) A (ix3 p r k) = A (ix3 p (rowAt t r) ⟨512 + k.val, by omega⟩) := by
  have idx : win0_5.index t = ![0, t.val, 1] := by revert t; decide +kernel
  blk_ext [idx]
theorem read6 (A : Vec Ideal S4x1024x512 .bf16) (t : Fin cfg0.N) (p : Fin 4) (r : Fin 1024) (k : Fin 512) :
    (win0_6.blk t).view.read (Elt Ideal) A (ix3 p r k) = A (ix3 p r k) := by
  have idx : win0_6.index t = ![0, 0, 0] := by revert t; decide +kernel
  blk_ext [idx]
theorem read7 (A : FVec Ideal S4096x1024 .f32) (t : Fin cfg0.N) (r : Fin 512) (y : Fin 1024) :
    A ((win0_7.blk t).view.emb (ix2 r y)) = A (ix2 (rowAt t r) y) := by
  have idx : win0_7.index t = ![t.val, 0] := by revert t; decide +kernel
  blk_ext [idx]

theorem b0 (t : Fin cfg0.N) (r : Fin 512) (y : Fin 1024) : (iblk m c 0 t : Vec Ideal S512x1024 .f32) (ix2 r y) = ax m c (ix2 (rowAt t r) y) :=
  (read0 (V m c main_arg0) t r y).trans (congrFun (V_x m c) _)
theorem b1 (t : Fin cfg0.N) (r : Fin 512) (y : Fin 1024) : (iblk m c 1 t : Vec Ideal S512x1024 .f32) (ix2 r y) = ad m c (ix2 (rowAt t r) y) :=
  (read1 (V m c main_arg1) t r y).trans (congrFun (V_d m c) _)
theorem b2 (t : Fin cfg0.N) (y : Fin 1024) : (iblk m c 2 t : Vec Ideal S1x1024 .f32) (ix2 0 y) = ag m c (ix2 0 y) :=
  (read2 (V m c main_arg2) t y).trans (congrFun (V_g m c) _)

theorem prod0 (t : Fin cfg0.N) (p : Fin 4) (r : Fin 512) (y : Fin 1024) :
    prod (iblk m c 3 t) (iblk m c 4 t) p r y
      = ∑ k : Fin 512, az m c (ix2 (rowAt t r) ⟨1024 * p.val + k.val, by omega⟩) * aw m c (ix2 y ⟨1024 * p.val + k.val, by omega⟩) :=
  Finset.sum_congr rfl fun k _ => congrArg₂ (· * ·) ((read3 (V m c main_v5) t p r k).trans (V_z_at m c _ _ _)) ((read4 (V m c main_v6) t p y k).trans (V_w0_at m c _ _ _))
theorem prod1 (t : Fin cfg0.N) (p : Fin 4) (r : Fin 512) (y : Fin 1024) :
    prod (iblk m c 5 t) (iblk m c 6 t) p r y
      = ∑ k : Fin 512, az m c (ix2 (rowAt t r) ⟨1024 * p.val + (512 + k.val), by omega⟩) * aw m c (ix2 y ⟨1024 * p.val + 512 + k.val, by omega⟩) :=
  Finset.sum_congr rfl fun k _ => congrArg₂ (· * ·) ((read5 (V m c main_v5) t p r k).trans (V_z_at m c _ _ _)) ((read6 (V m c main_v7) t p y k).trans (V_w1_at m c _ _ _))

/-- A block's rows of the normalised rows' gradient. -/
theorem dn_at (t : Fin cfg0.N) (r : Fin 512) (y : Fin 1024) (h h') :
    k0_pay1 (seven (iblk m c 3 t) (iblk m c 4 t) (iblk m c 5 t) (iblk m c 6 t)) (k0_pay10 (zpart (iblk m c 5 t) 3 h)) (wpart (iblk m c 6 t) 3 h') (ix2 r y)
      = dn (az m c) (aw m c) (rowAt t r) y := by
  rw [pay1_at, seven_at, prod0, prod0, prod0, prod0, prod1, prod1, prod1, prod1]
  unfold dn
  rw [sum_blocks, Fin.sum_univ_eight]
  have e (a0 a1 a2 a3 a4 a5 a6 a7 : EReal) : a0 + a2 + a4 + a6 + a1 + a3 + a5 + a7 = a0 + a1 + a2 + a3 + a4 + a5 + a6 + a7 := by ac_rfl
  exact e _ _ _ _ _ _ _ _

theorem row_at (t : Fin cfg0.N) (r : Fin 512) : row (iblk m c 0 t) r = rowOf (ax m c) (rowAt t r) := funext fun j => b0 m c t r j

theorem rows_at (t : Fin cfg0.N) (r : Fin 512) (y : Fin 1024) :
    rows (iblk m c 0 t) (iblk m c 1 t) (iblk m c 2 t) (iblk m c 3 t) (iblk m c 4 t) (iblk m c 5 t) (iblk m c 6 t) (ix2 r y)
      = dxAt (ax m c) (ad m c) (ag m c) (az m c) (aw m c) (rowAt t r) y := by
  unfold rows
  rw [pay3_at]
  simp only [pay4_at, pay5_at, dn_at, row_at, b0, b1, b2]
  rfl

theorem acc_at (t : Fin cfg0.N) (o : Vec Ideal S1x1024 .f32) (y : Fin 1024) :
    acc (iblk m c 0 t) (iblk m c 3 t) (iblk m c 4 t) (iblk m c 5 t) (iblk m c 6 t) o (ix2 0 y)
      = o (ix2 0 y) + ∑ r : Fin 512, dgTerm (ax m c) (az m c) (aw m c) y (rowAt t r) := by
  unfold acc
  rw [pay2_at]
  simp only [pay5_at, dn_at, row_at, b0]
  rfl

/-! ## The buffers after each point -/

theorem rows_after (t : Fin cfg0.N) :
    (outsAt0 m c t.val t.isLt).1 = rows (iblk m c 0 t) (iblk m c 1 t) (iblk m c 2 t) (iblk m c 3 t) (iblk m c 4 t) (iblk m c 5 t) (iblk m c 6 t) := by
  by_cases h0 : t.val % 8 = 0
  · rw [outsAt0_A m c t h0]; dsimp only; rw [out_A_7]
  · rw [outsAt0_B m c t h0]; dsimp only; rw [out_B_7]

/-- A point's share of the second result. -/
def share (y : Fin 1024) (q : ℕ) : EReal := if h : q < cfg0.N then ∑ r : Fin 512, dgTerm (ax m c) (az m c) (aw m c) y (rowAt ⟨q, h⟩ r) else 0

theorem acc_share (t : Fin cfg0.N) (o : Vec Ideal S1x1024 .f32) (y : Fin 1024) :
    acc (iblk m c 0 t) (iblk m c 3 t) (iblk m c 4 t) (iblk m c 5 t) (iblk m c 6 t) o (ix2 0 y) = o (ix2 0 y) + share m c y t.val := by
  rw [acc_at]
  unfold share
  rw [dif_pos t.isLt]

theorem acc_after (y : Fin 1024) : ∀ (n : ℕ) (h : n < cfg0.N), (outsAt0 m c n h).2 (ix2 0 y) = ∑ q ∈ Finset.range (n + 1), share m c y q
  | 0, h => by
    have e := outsAt0_A m c ⟨0, h⟩ rfl
    rw [show outsAt0 m c 0 h = _ from e]
    dsimp only
    rw [out_A_8]
    refine (acc_share m c ⟨0, h⟩ _ y).trans ?_
    rw [pay6_at, zero_add, Finset.sum_range_one]
  | n + 1, h => by
    have hB : ¬(⟨n + 1, h⟩ : Fin cfg0.N).val % 8 = 0 := by have := points; dsimp only; omega
    have e := outsAt0_B m c ⟨n + 1, h⟩ hB
    rw [show outsAt0 m c (n + 1) h = _ from e]
    dsimp only
    rw [out_B_8]
    refine (acc_share m c ⟨n + 1, h⟩ _ y).trans ?_
    rw [Finset.sum_range_succ, ← acc_after y n (Nat.lt_of_succ_lt h)]
    rfl

theorem share_sum (y : Fin 1024) : ∑ q ∈ Finset.range 8, share m c y q = ∑ ρ, dgTerm (ax m c) (az m c) (aw m c) y ρ := by
  rw [sum_blocks, Finset.sum_range]
  refine Finset.sum_congr rfl fun q _ => ?_
  unfold share
  rw [dif_pos (show q.val < cfg0.N by have := points; omega)]

theorem arr7 : (dats m 0 c).arrAt 7 cfg0.N = (dxV (ax m c) (ad m c) (ag m c) (az m c) (aw m c) : FVec Ideal S4096x1024 .f32) := by
  refine (dats m 0 c).arrAt_eq_of_covers 7 _ (by decide +kernel) fun t hf y => ?_
  blk_simp
  rw [after0_7, rows_after]
  revert y
  intro (y : S512x1024.Idx)
  idx_vars y
  refine (rows_at m c t y0 y1).trans (Eq.trans ?_ (read7 (dxV (ax m c) (ad m c) (ag m c) (az m c) (aw m c)) t y0 y1).symm)
  rfl

theorem read8 (A : FVec Ideal S1x1024 .f32) (t : Fin cfg0.N) (z : Fin 1) (y : Fin 1024) :
    A ((win0_8.blk t).view.emb (ix2 z y)) = A (ix2 z y) := by
  have idx : win0_8.index t = ![0, 0] := by revert t; decide +kernel
  blk_ext [idx]

theorem arr8 : (dats m 0 c).arrAt 8 cfg0.N = (dgV (ax m c) (az m c) (aw m c) : FVec Ideal S1x1024 .f32) := by
  refine (dats m 0 c).arrAt_eq_of_covers 8 _ (by decide +kernel) fun t hf y => ?_
  have h7 : t.val = 7 := by have := (flush0_8 t).mp hf; have := t.isLt; have := points; omega
  blk_simp
  rw [after0_8]
  revert y
  intro (y : S1x1024.Idx)
  idx_vars y
  obtain rfl : y0 = 0 := Subsingleton.elim _ _
  refine (acc_after m c y1 t.val t.isLt).trans (Eq.trans ?_ (read8 (dgV (ax m c) (az m c) (aw m c)) t 0 y1).symm)
  rw [h7]
  exact share_sum m c y1

/-! ## The reference -/

open Cert.Reference7Ideal.Value in
theorem reference_dx (m : (ℓ : Loc Cert.Reference7Ideal.nD Cert.Reference7Ideal.τ Cert.Reference7Ideal.sig) → Buf (Elt Ideal) ℓ) (c : Dev Cert.Reference7Ideal.nD) (x d : FVec Ideal S4096x1024 .f32) (g : FVec Ideal S1x1024 .f32) (z : FVec Ideal S4096x4096 .f32) (w : FVec Ideal S1024x4096 .f32)
    (hx : m ((c.tc : Thread Cert.Reference7Ideal.nD Cert.Reference7Ideal.τ).loc Cert.Reference7Ideal.main_arg0) = x)
    (hd : m ((c.tc : Thread Cert.Reference7Ideal.nD Cert.Reference7Ideal.τ).loc Cert.Reference7Ideal.main_arg1) = d)
    (hg : m ((c.tc : Thread Cert.Reference7Ideal.nD Cert.Reference7Ideal.τ).loc Cert.Reference7Ideal.main_arg2) = g)
    (hz : m ((c.tc : Thread Cert.Reference7Ideal.nD Cert.Reference7Ideal.τ).loc Cert.Reference7Ideal.main_arg3) = z)
    (hw : m ((c.tc : Thread Cert.Reference7Ideal.nD Cert.Reference7Ideal.τ).loc Cert.Reference7Ideal.main_arg4) = w) :
    res_main_v36 m c = dxV x d g z w := by
  unfold res_main_v36
  rw [hx, hd, hg, hz, hw]
  funext i
  revert i
  intro (i : S4096x1024.Idx)
  idx_vars i
  pointwise []
  simp only [Finset.univ_unique, Finset.sum_singleton]
  refine Eq.trans ?_ (Norm.row_law (rowOf x i0) (gained g z w i0) i1 (d (ix2 i0 i1))).symm
  rfl

/-! ## The claims -/

theorem frame_kernel : Cert.quiescent_Kernel7 (hKernel7 := Cert.Kernel7.Gen.facts) := fun m ρ _ => Cert.Kernel7.Gen.frame m ρ

theorem frame_ideal : Cert.quiescent_Kernel7Ideal (hKernel7Ideal := Cert.Kernel7Ideal.Gen.facts) := fun m ρ _ => Cert.Kernel7Ideal.Gen.frame m ρ

theorem frame_reference : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The kernel's two results are the reference's. -/
theorem agree : Cert.algebraic_Kernel7Ideal_Reference7Ideal (hKernel7Ideal := Cert.Kernel7Ideal.Gen.facts) (hReference7Ideal := Cert.Reference7Ideal.Gen.facts) := by
  intro m ρ m' ρ' _ hargs
  refine ⟨fun c => dxV (ax m c) (ad m c) (ag m c) (az m c) (aw m c), fun c => dgV (ax m c) (az m c) (aw m c),
    (θ_run Cert.Kernel7Ideal.defs _ _).mono (fun r h c => ⟨(h c).1.trans (arr7 m c), (h c).2.1.trans (arr8 m c), (h c).2.2⟩) (run_blocks m ρ), ?_⟩
  refine (θ_run Cert.Reference7Ideal.defs _ _).mono (fun r h c => ?_) (Cert.Reference7Ideal.Value.run (F := Ideal) m' ρ')
  obtain ⟨e0, e1, e2, e3, e4⟩ := hargs c
  refine ⟨(h c).1.trans (reference_dx m' c _ _ _ _ _ e0 e1 e2 e3 e4), (h c).2.1.trans ?_, (h c).2.2⟩
  rw [e0, e3, e4]
  show _ = dgV (ax m c) (az m c) (aw m c)
  funext i
  revert i
  intro (i : S1x1024.Idx)
  idx_vars i
  pointwise []
  refine Finset.sum_congr rfl fun ρ _ => ?_
  exact mul_comm (ax m c (ix2 ρ i1) * Norm.rs (rowOf (ax m c) ρ)) (dn (az m c) (aw m c) ρ i1)

end Cert.Kernel7Ideal.Product

end
-- ==== Proof.TwoGradients.lean ====
module

public import proofs.«01_k».proof.Proof.NormLaw
public import proofs.«01_k».proof.Proof.Reals

/-! # Two gradients through one norm
The gradients of two normalised rows that come from one row, added before they go back through the norm and after. With gradients that are numbers the
two are the same: either the row's factor is zero, or the row's entries are numbers too. -/

@[expose] public section

noncomputable section

namespace Cert.Norm

open Idealize.ShloMosaic

/-- An extended real that is a number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.sum {ι : Type*} (s : Finset ι) (f : ι → EReal) (h : ∀ i, IsReal (f i)) : IsReal (∑ i ∈ s, f i) := by
  choose g hg using h
  exact ⟨_, Cert.Attn.sum_coe s f g fun i _ => hg i⟩

/-- A row whose mean square is a number holds numbers. -/
theorem real_of_var {X : Fin 1024 → EReal} (h : var X ≠ ⊤) (c : Fin 1024) : IsReal (X c) := by
  obtain ⟨e, -, hs⟩ := small_eq
  have hsq (t : X c * X c = ⊤) : False := by
    refine h ?_
    have hS : ∑ j, X j * X j = ⊤ := top_le_iff.mp (t ▸ Finset.single_le_sum (f := fun j => X j * X j) (fun j _ => mul_self_nonneg' _) (Finset.mem_univ c))
    unfold var
    rw [div_width, hS, hs, EReal.top_mul_coe_of_pos (by norm_num), EReal.top_add_coe]
  generalize X c = x at hsq
  induction x with
  | bot => exact (hsq EReal.bot_mul_bot).elim
  | top => exact (hsq EReal.top_mul_top).elim
  | coe r => exact ⟨r, rfl⟩

/-- The coefficient of numbers. -/
theorem coef_real (x a : Fin 1024 → ℝ) (ρ v : ℝ) (hv0 : v ≠ 0) (hv : var (fun j => (x j : EReal)) = (v : EReal)) (hr : rs (fun j => (x j : EReal)) = (ρ : EReal)) :
    coef (fun j => (x j : EReal)) (fun j => (a j : EReal)) = (((∑ j, x j * a j) * (-(1 / 2) * (ρ * (1 / v))) * (1 / 1024) : ℝ) : EReal) := by
  unfold coef
  rw [hr, hv, div_width, mhalf_eq, Ideal.div_coe hv0, ← EReal.coe_mul, ← EReal.coe_mul,
    Cert.Attn.sum_coe Finset.univ _ (fun j => x j * a j) (fun j _ => (EReal.coe_mul (x j) (a j)).symm), ← EReal.coe_mul, ← EReal.coe_mul]

/-- The gradient of the sum is the sum of the gradients. -/
theorem two_law (X A B : Fin 1024 → EReal) (c : Fin 1024) (D : EReal) (hA : ∀ j, IsReal (A j)) (hB : ∀ j, IsReal (B j)) :
    D + rs X * ((A c + B c) - X c * rs X * Ideal.div (∑ j, X j * rs X * (A j + B j)) width)
      = D + B c * rs X + X c * coef X B + coef X B * X c + A c * rs X + X c * coef X A + coef X A * X c := by
  refine (row_law X (fun j => A j + B j) c D).trans ?_
  rcases var_cases X with hv | ⟨v, hv0, hv⟩
  · have hr : rs X = 0 := by unfold rs; rw [hv]; rfl
    have hd : Ideal.div 0 (⊤ : EReal) = 0 := by simp [Ideal.div]
    simp only [coef, hr, hv, hd, div_width, mul_zero, zero_mul, add_zero]
  · have hr : rs X = (((Real.sqrt v)⁻¹ : ℝ) : EReal) := by
      unfold rs; rw [hv, Ideal.rsqrt_coe, if_neg (not_lt.mpr hv0.le), if_neg hv0.ne']
    generalize (Real.sqrt v)⁻¹ = ρ at hr
    choose x hx using real_of_var (X := X) (by rw [hv]; exact EReal.coe_ne_top v)
    choose a ha using hA
    choose b hb using hB
    obtain rfl : X = fun j => (x j : EReal) := funext hx
    obtain rfl : A = fun j => (a j : EReal) := funext ha
    obtain rfl : B = fun j => (b j : EReal) := funext hb
    have hs : (fun j => (a j : EReal) + (b j : EReal)) = fun j => ((a j + b j : ℝ) : EReal) := funext fun j => (EReal.coe_add _ _).symm
    rw [hs, coef_real x _ ρ v hv0.ne' hv hr, coef_real x a ρ v hv0.ne' hv hr, coef_real x b ρ v hv0.ne' hv hr, hr]
    simp only [← EReal.coe_mul, ← EReal.coe_add, add_assoc]
    congr 2
    simp only [mul_add, Finset.sum_add_distrib]
    ring

end Cert.Norm

end
-- ==== Proof.FiniteGradients.lean ====
module

public import proofs.«01_k».proof.Pre_finite_gradients
public import proofs.«01_k».proof.Proof.Finite
public import proofs.«01_k».proof.Proof.TwoGradients

/-! # The precondition of the two gradients
Under it the gains, the two gradients and the two weights hold numbers. -/

@[expose] public section

noncomputable section

namespace Cert.Pre_finite_gradients

open Idealize.ShloMosaic Idealize.ShloMosaic.TcCoe Idealize.ShloMosaic.Tactic
open Cert.Norm (IsReal)

set_option maxRecDepth 16384

/-- The shape relations of the precondition. -/
theorem facts : Facts := by constructor <;> decide

theorem isReal_of_lt {x y : EReal} (h : Ideal.cmp .olt (max x (-x)) (Ideal.ofBits .f32 0x7F800000#32) = 1#1) (e : x = y) : IsReal y :=
  ⟨x.toReal, e ▸ (Cert.Pre_finite.real_of_lt h).symm⟩

variable [Facts] {x d : FVec Ideal S4096x1024 .f32} {g : FVec Ideal S2x1024 .f32} {k : FVec Ideal S4096x256 .f32} {l : FVec Ideal S1024x256 .f32}
  {z : FVec Ideal S4096x2048 .f32} {w : FVec Ideal S1024x2048 .f32}

theorem real_z (h : fn (F := Ideal) x d g k l z w = fun _ => 1#1) (i : Fin 4096) (j : Fin 2048) : IsReal (z (ix2 i j)) := by
  have e := congrFun h (ix2 ⟨i.val, by omega⟩ j)
  revert e
  pointwise [fn]
  intro e
  exact isReal_of_lt e rfl

theorem real_w (h : fn (F := Ideal) x d g k l z w = fun _ => 1#1) (i : Fin 1024) (j : Fin 2048) : IsReal (w (ix2 i j)) := by
  have e := congrFun h (ix2 ⟨4096 + i.val, by omega⟩ j)
  revert e
  pointwise [fn]
  intro e
  exact isReal_of_lt e rfl

theorem real_k (h : fn (F := Ideal) x d g k l z w = fun _ => 1#1) (i : Fin 4096) (j : Fin 256) : IsReal (k (ix2 i j)) := by
  have e := congrFun h (ix2 ⟨5120 + (256 * i.val + j.val) / 2048, by omega⟩ ⟨(256 * i.val + j.val) % 2048, by omega⟩)
  revert e
  pointwise [fn]
  intro e
  rw [dif_neg (by omega), dif_neg (by omega), dif_pos (by omega)] at e
  refine isReal_of_lt e ?_
  exact congr (congrArg ix2 (Fin.ext (by simp only []))) (Fin.ext (by simp only [])) |> congrArg k

theorem real_l (h : fn (F := Ideal) x d g k l z w = fun _ => 1#1) (i : Fin 1024) (j : Fin 256) : IsReal (l (ix2 i j)) := by
  have e := congrFun h (ix2 ⟨5632 + (256 * i.val + j.val) / 2048, by omega⟩ ⟨(256 * i.val + j.val) % 2048, by omega⟩)
  revert e
  pointwise [fn]
  intro e
  rw [dif_neg (by omega), dif_neg (by omega), dif_neg (by omega), dif_pos (by omega)] at e
  refine isReal_of_lt e ?_
  exact congr (congrArg ix2 (Fin.ext (by simp only []))) (Fin.ext (by simp only [])) |> congrArg l

theorem real_g (h : fn (F := Ideal) x d g k l z w = fun _ => 1#1) (i : Fin 2) (j : Fin 1024) : IsReal (g (ix2 i j)) := by
  have e := congrFun h (ix2 5760 ⟨1024 * i.val + j.val, by omega⟩)
  revert e
  pointwise [fn]
  intro e
  try rw [dif_neg (by omega), dif_neg (by omega), dif_neg (by omega), dif_neg (by omega)] at e
  refine isReal_of_lt e ?_
  exact congr (congrArg ix2 (Fin.ext (by simp only []))) (Fin.ext (by simp only [])) |> congrArg g

end Cert.Pre_finite_gradients

end
-- ==== Proof.DprojKvB.lean ====
module

public import proofs.«01_k».proof.Defs
public import proofs.«01_k».proof.Proof.TwoGradients
public import proofs.«01_k».proof.Proof.FiniteGradients
public import proofs.«01_k».proof.Proof.Gen.Kernel8.Value
public import proofs.«01_k».proof.Proof.Gen.Kernel8Ideal.Value
public import proofs.«01_k».proof.Proof.Gen.Reference8Ideal.Run
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Tactic.IndexArith

/-! # The gradient back through the second mixer's input projections and their two norms -/

@[expose] public section

noncomputable section

namespace Cert.Kernel8Ideal.Product

open Cert.Kernel8Ideal Cert.Kernel8Ideal.Gen Cert.Kernel8Ideal.Value
open Idealize.ShloMosaic Idealize.ShloMosaic.TcCoe Idealize.ShloMosaic.Tactic Idealize.SL.Sem

set_option maxRecDepth 16384

/-! ## What a block leaves in the two buffers -/

/-- A part of a block of the gradients, and of the weights. -/
def zpart (x : Vec Ideal S4x512x512 .bf16) (p : ℕ) (h : ∀ a, (![p, 0, 0] : Fin 3 → ℕ) a + S1x512x512.size a ≤ S4x512x512.size a) : Vec Ideal S1x512x512 .bf16 :=
  View.ld (Val := Elt Ideal) x (Rect.unit (s := S4x512x512) ![p, 0, 0] S1x512x512.size h)
def wpart (x : Vec Ideal S4x1024x512 .bf16) (p : ℕ) (h : ∀ a, (![p, 0, 0] : Fin 3 → ℕ) a + S1x1024x512.size a ≤ S4x1024x512.size a) : Vec Ideal S1x1024x512 .bf16 :=
  View.ld (Val := Elt Ideal) x (Rect.unit (s := S4x1024x512) ![p, 0, 0] S1x1024x512.size h)

theorem zpart_at (x : Vec Ideal S4x512x512 .bf16) (p : ℕ) (h) (r : Fin 512) (y : Fin 512) : zpart x p h (ix3 0 r y) = x (ix3 ⟨p, h 0⟩ r y) := by
  refine View.ld_unit_apply_of _ _ _ _ _ _ fun a => ?_
  match a with
  | ⟨0, _⟩ => rfl
  | ⟨1, _⟩ => show r.val = 0 + r.val; omega
  | ⟨2, _⟩ => show y.val = 0 + y.val; omega

theorem wpart_at (x : Vec Ideal S4x1024x512 .bf16) (p : ℕ) (h) (r : Fin 1024) (y : Fin 512) : wpart x p h (ix3 0 r y) = x (ix3 ⟨p, h 0⟩ r y) := by
  refine View.ld_unit_apply_of _ _ _ _ _ _ fun a => ?_
  match a with
  | ⟨0, _⟩ => rfl
  | ⟨1, _⟩ => show r.val = 0 + r.val; omega
  | ⟨2, _⟩ => show y.val = 0 + y.val; omega

/-- A row of an array of two. -/
def gpart (x : Vec Ideal S2x1024 .f32) (p : ℕ) (h : ∀ a, (![p, 0] : Fin 2 → ℕ) a + S1x1024.size a ≤ S2x1024.size a) : Vec Ideal S1x1024 .f32 :=
  View.ld (Val := Elt Ideal) x (Rect.unit (s := S2x1024) ![p, 0] S1x1024.size h)

theorem gpart0_at (x : Vec Ideal S2x1024 .f32) (h) (y : Fin 1024) : gpart x 0 h (ix2 0 y) = x (ix2 0 y) := by
  refine View.ld_unit_apply_of _ _ _ _ _ _ fun a => ?_
  match a with
  | ⟨0, _⟩ => rfl
  | ⟨1, _⟩ => show y.val = 0 + y.val; omega

theorem gpart1_at (x : Vec Ideal S2x1024 .f32) (h) (y : Fin 1024) : gpart x 1 h (ix2 0 y) = x (ix2 1 y) := by
  refine View.ld_unit_apply_of _ _ _ _ _ _ fun a => ?_
  match a with
  | ⟨0, _⟩ => rfl
  | ⟨1, _⟩ => show y.val = 0 + y.val; omega

/-- A block's rows of the first result, and its sums over the rows for the two rows of the second added to what was there. -/
def rows (x0 x1 : Vec Ideal S512x1024 .f32) (x2 : Vec Ideal S2x1024 .f32) (x3 : Vec Ideal S1x512x256 .bf16) (x4 : Vec Ideal S1x1024x256 .bf16) (x5 : Vec Ideal S4x512x512 .bf16)
    (x6 : Vec Ideal S4x1024x512 .bf16) : FVec Ideal S512x1024 .f32 :=
  k0_pay1 (k0_pay2 x0) (k0_pay3 x0) (k0_pay10 (k0_pay6 x3 x4 (gpart x2 0 (by decide))) (k0_pay8 (zpart x5 0 (by decide))) (wpart x6 0 (by decide)) (zpart x5 1 (by decide)) (wpart x6 1 (by decide)) (zpart x5 2 (by decide)) (wpart x6 2 (by decide))
    (zpart x5 3 (by decide)) (wpart x6 3 (by decide)) (gpart x2 1 (by decide))) x1
def acc0 (x0 : Vec Ideal S512x1024 .f32) (x3 : Vec Ideal S1x512x256 .bf16) (x4 : Vec Ideal S1x1024x256 .bf16) (o : Vec Ideal S2x1024 .f32) : FVec Ideal S1x1024 .f32 :=
  k0_pay7 x0 x3 x4 (gpart o 0 (by decide))
def acc1 (x0 : Vec Ideal S512x1024 .f32) (x5 : Vec Ideal S4x512x512 .bf16) (x6 : Vec Ideal S4x1024x512 .bf16) (o : Vec Ideal S2x1024 .f32) : FVec Ideal S1x1024 .f32 :=
  k0_pay11 (k0_pay3 x0) (k0_pay8 (zpart x5 0 (by decide))) (wpart x6 0 (by decide)) (zpart x5 1 (by decide)) (wpart x6 1 (by decide)) (zpart x5 2 (by decide)) (wpart x6 2 (by decide))
    (zpart x5 3 (by decide)) (wpart x6 3 (by decide)) (gpart o 1 (by decide))

/-- The two rows written over what was written before. -/
def both (u0 u1 : FVec Ideal S1x1024 .f32) (L : List (View.Piece (Elt Ideal) S2x1024 .f32)) : FVec Ideal S2x1024 .f32 :=
  View.canon (⟨Rect.unit (s := S2x1024) ![1, 0] S1x1024.size inb_S2x1024_S1x1024_1_0, u1⟩ :: ⟨Rect.unit (s := S2x1024) ![0, 0] S1x1024.size inb_S2x1024_S1x1024_0_0, u0⟩ :: L)

theorem both_1 (u0 u1 : FVec Ideal S1x1024 .f32) (L : List (View.Piece (Elt Ideal) S2x1024 .f32)) (y : Fin 1024) : both u0 u1 L (ix2 1 y) = u1 (ix2 0 y) := by
  have he : (Rect.unit (s := S2x1024) ![1, 0] S1x1024.size inb_S2x1024_S1x1024_1_0).emb (ix2 0 y) = ix2 1 y := by
    funext a
    apply Fin.ext
    fin_cases a
    · rfl
    · show 0 + 1 * y.val = y.val; omega
  unfold both
  rw [← he]
  exact View.canon_cons_emb _ _ _ _

theorem both_0 (u0 u1 : FVec Ideal S1x1024 .f32) (L : List (View.Piece (Elt Ideal) S2x1024 .f32)) (y : Fin 1024) : both u0 u1 L (ix2 0 y) = u0 (ix2 0 y) := by
  have he : (Rect.unit (s := S2x1024) ![0, 0] S1x1024.size inb_S2x1024_S1x1024_0_0).emb (ix2 0 y) = ix2 0 y := by
    funext a
    apply Fin.ext
    fin_cases a
    · rfl
    · show 0 + 1 * y.val = y.val; omega
  unfold both
  rw [View.canon_cons_of_not_mem _ _ (by
    intro hm
    obtain ⟨j, -, hj⟩ := (LoadRect.mem_set _).mp hm 0
    exact absurd hj (by show ¬ 0 = 1 + 1 * j; omega)), ← he]
  exact View.canon_cons_emb _ _ _ _

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S2x1024 .f32) (h3 : a3.IsWhole) (a4 : Memref sig .tc .vmem S1x512x256 .bf16) (h4 : a4.IsWhole)
  (a5 : Memref sig .tc .vmem S1x1024x256 .bf16) (h5 : a5.IsWhole) (a6 : Memref sig .tc .vmem S4x512x512 .bf16) (h6 : a6.IsWhole)
  (a7 : Memref sig .tc .vmem S4x1024x512 .bf16) (h7 : a7.IsWhole) (a8 : Memref sig .tc .vmem S512x1024 .f32) (h8 : a8.IsWhole)
  (a9 : Memref sig .tc .vmem S2x1024 .f32) (h9 : a9.IsWhole)
  (x0 x1 : Vec Ideal S512x1024 .f32) (x2 : Vec Ideal S2x1024 .f32) (x3 : Vec Ideal S1x512x256 .bf16) (x4 : Vec Ideal S1x1024x256 .bf16)
  (x5 : Vec Ideal S4x512x512 .bf16) (x6 : Vec Ideal S4x1024x512 .bf16) (o : Vec Ideal S2x1024 .f32)

theorem out_A_7 (hc : cond0_0 i) :
    out0_A_7 c i a1 h1 a2 h2 a3 h3 a4 h4 a5 h5 a6 h6 a7 h7 a8 h8 a9 h9 hc x0 x1 x2 x3 x4 x5 x6 = rows x0 x1 x2 x3 x4 x5 x6 := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x1024) hz, View.ld_unit_zero (S := S1x512x256) hz3, View.ld_unit_zero (S := S1x1024x256) hz3]
  unfold rows zpart wpart gpart
  rfl

theorem out_A_8 (hc : cond0_0 i) :
    out0_A_8 c i a1 h1 a2 h2 a3 h3 a4 h4 a5 h5 a6 h6 a7 h7 a8 h8 a9 h9 hc x0 x1 x2 x3 x4 x5 x6 = both (acc0 x0 x3 x4 (k0_pay4 (F := Ideal))) (acc1 x0 x5 x6 (k0_pay4 (F := Ideal)))
      [⟨Rect.unit (s := S2x1024) ![0, 0] S2x1024.size inb_S2x1024_S2x1024_0_0, k0_pay4 (F := Ideal)⟩] := by
  unfold out0_A_8
  rw [View.read_writes_eq_canon _ _ _ (cover0_A_8 c i a1 h1 a2 h2 a3 h3 a4 h4 a5 h5 a6 h6 a7 h7 a8 h8 a9 h9 hc x0 x1 x2 x3 x4 x5 x6)]
  unfold kernelRun0_A
  dsimp only
  sl_unfold_words
  rw [View.readCov_skip _ _ _ _ _ (by decide), View.readCov_fill (s := S2x1024) _ _ _ _ _ (by decide), View.readCov_fill (s := S2x1024) _ _ _ _ _ (by decide)]
  simp only [View.readAt_eq_ld, h1.read_unread, h2.read_unread, h3.read_unread, h4.read_unread, h5.read_unread, h6.read_unread, h7.read_unread, h9.read_unread,
    View.ld_unit_zero (S := S512x1024) hz, View.ld_unit_zero (S := S1x512x256) hz3, View.ld_unit_zero (S := S1x1024x256) hz3]
  unfold both acc0 acc1 zpart wpart gpart
  rfl

theorem out_B_7 (hc : ¬cond0_0 i) :
    out0_B_7 c i a1 h1 a2 h2 a3 h3 a4 h4 a5 h5 a6 h6 a7 h7 a8 h8 a9 h9 hc x0 x1 x2 x3 x4 x5 x6 o = rows x0 x1 x2 x3 x4 x5 x6 := by
  unfold out0_B_7
  rw [View.read_writes_eq_canon _ _ _ (cover0_B_7 c i a1 h1 a2 h2 a3 h3 a4 h4 a5 h5 a6 h6 a7 h7 a8 h8 a9 h9 hc x0 x1 x2 x3 x4 x5 x6 o)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x1024) hz, View.ld_unit_zero (S := S1x512x256) hz3, View.ld_unit_zero (S := S1x1024x256) hz3]
  unfold rows zpart wpart gpart
  rfl

theorem out_B_8 (hc : ¬cond0_0 i) :
    out0_B_8 c i a1 h1 a2 h2 a3 h3 a4 h4 a5 h5 a6 h6 a7 h7 a8 h8 a9 h9 hc x0 x1 x2 x3 x4 x5 x6 o = both (acc0 x0 x3 x4 o) (acc1 x0 x5 x6 o) [] := by
  unfold out0_B_8
  rw [View.read_writes_eq_canon _ _ _ (cover0_B_8 c i a1 h1 a2 h2 a3 h3 a4 h4 a5 h5 a6 h6 a7 h7 a8 h8 a9 h9 hc x0 x1 x2 x3 x4 x5 x6 o)]
  unfold kernelRun0_B
  dsimp only
  sl_unfold_words
  simp only [View.readAt_eq_ld, h1.read_unread, h2.read_unread, h3.read_unread, h4.read_unread, h5.read_unread, h6.read_unread, h7.read_unread, h9.read_unread,
    View.ld_unit_zero (S := S512x1024) hz, View.ld_unit_zero (S := S1x512x256) hz3, View.ld_unit_zero (S := S1x1024x256) hz3]
  unfold both acc0 acc1 zpart wpart gpart
  rfl

end

/-! ## The buffers as sums -/

/-- A part's product of a block, and the product of the other gradient. -/
abbrev prod (a : Vec Ideal S4x512x512 .bf16) (b : Vec Ideal S4x1024x512 .bf16) (p : Fin 4) (r : Fin 512) (y : Fin 1024) : EReal :=
  ∑ k : Fin 512, a (ix3 p r k) * b (ix3 p y k)
abbrev prodk (a : Vec Ideal S1x512x256 .bf16) (b : Vec Ideal S1x1024x256 .bf16) (r : Fin 512) (y : Fin 1024) : EReal :=
  ∑ k : Fin 256, a (ix3 0 r k) * b (ix3 0 y k)

/-- The sum of a block's four products. -/
def four (x5 : Vec Ideal S4x512x512 .bf16) (x6 : Vec Ideal S4x1024x512 .bf16) : FVec Ideal S512x1024 .f32 :=
  k0_pay9 (k0_pay8 (zpart x5 0 (by decide))) (wpart x6 0 (by decide)) (zpart x5 1 (by decide)) (wpart x6 1 (by decide)) (zpart x5 2 (by decide)) (wpart x6 2 (by decide))
    (zpart x5 3 (by decide)) (wpart x6 3 (by decide))

theorem four_at (x5 : Vec Ideal S4x512x512 .bf16) (x6 : Vec Ideal S4x1024x512 .bf16) (r : Fin 512) (y : Fin 1024) :
    four x5 x6 (ix2 r y) = prod x5 x6 0 r y + prod x5 x6 1 r y + prod x5 x6 2 r y + prod x5 x6 3 r y := by
  unfold four
  pointwise [k0_pay9, k0_pay8]
  simp only [zpart_at, wpart_at]
  rfl

theorem pay5_at (a : Vec Ideal S1x512x256 .bf16) (b : Vec Ideal S1x1024x256 .bf16) (r : Fin 512) (y : Fin 1024) : k0_pay5 a b (ix2 r y) = prodk a b r y := by
  pointwise [k0_pay5]

/-- A row of a block and its normalised entries. -/
abbrev row (x : Vec Ideal S512x1024 .f32) (r : Fin 512) : Fin 1024 → EReal := fun j => x (ix2 r j)

theorem pay2_at (x : Vec Ideal S512x1024 .f32) (r : Fin 512) : k0_pay2 x (ix2 r 0) = Norm.rs (row x r) := by
  pointwise [k0_pay2]
  rfl

theorem pay3_at (x : Vec Ideal S512x1024 .f32) (r : Fin 512) (y : Fin 1024) : k0_pay3 x (ix2 r y) = x (ix2 r y) * Norm.rs (row x r) := by
  rw [← pay2_at]
  unfold k0_pay3
  generalize k0_pay2 x = q
  pointwise []

theorem pay6_at (a : Vec Ideal S1x512x256 .bf16) (b : Vec Ideal S1x1024x256 .bf16) (g : Vec Ideal S1x1024 .f32) (r : Fin 512) (y : Fin 1024) :
    k0_pay6 a b g (ix2 r y) = prodk a b r y * g (ix2 0 y) := by
  rw [← pay5_at]
  unfold k0_pay6
  generalize k0_pay5 a b = q
  pointwise []

theorem pay1_at (v8 : FVec Ideal S512x1 .f32) (v10 v55 : FVec Ideal S512x1024 .f32) (d : Vec Ideal S512x1024 .f32) (r : Fin 512) (y : Fin 1024) :
    k0_pay1 v8 v10 v55 d (ix2 r y)
      = d (ix2 r y) + v8 (ix2 r 0) * (v55 (ix2 r y) - v10 (ix2 r y) * Ideal.div (∑ j : Fin 1024, v10 (ix2 r j) * v55 (ix2 r j)) Norm.width) := by
  pointwise [k0_pay1]

theorem sum_at (v : FVec Ideal S512x1024 .f32) (x5 : Vec Ideal S4x512x512 .bf16) (x6 : Vec Ideal S4x1024x512 .bf16) (g : Vec Ideal S1x1024 .f32) (r : Fin 512) (y : Fin 1024) :
    k0_pay10 v (k0_pay8 (zpart x5 0 (by decide))) (wpart x6 0 (by decide)) (zpart x5 1 (by decide)) (wpart x6 1 (by decide)) (zpart x5 2 (by decide)) (wpart x6 2 (by decide))
    (zpart x5 3 (by decide)) (wpart x6 3 (by decide)) g (ix2 r y) = v (ix2 r y) + four x5 x6 (ix2 r y) * g (ix2 0 y) := by
  unfold k0_pay10
  rw [show k0_pay9 (k0_pay8 (zpart x5 0 (by decide))) (wpart x6 0 (by decide)) (zpart x5 1 (by decide)) (wpart x6 1 (by decide)) (zpart x5 2 (by decide)) (wpart x6 2 (by decide))
    (zpart x5 3 (by decide)) (wpart x6 3 (by decide)) = four x5 x6 from rfl]
  generalize four x5 x6 = q
  pointwise []

theorem acc0_sum (x0 : Vec Ideal S512x1024 .f32) (x3 : Vec Ideal S1x512x256 .bf16) (x4 : Vec Ideal S1x1024x256 .bf16) (o : Vec Ideal S2x1024 .f32) (y : Fin 1024) :
    acc0 x0 x3 x4 o (ix2 0 y) = o (ix2 0 y) + ∑ r : Fin 512, k0_pay5 x3 x4 (ix2 r y) * k0_pay3 x0 (ix2 r y) := by
  rw [show o (ix2 0 y) = gpart o 0 (by decide) (ix2 0 y) from (gpart0_at o _ y).symm]
  unfold acc0 k0_pay7
  generalize k0_pay5 x3 x4 = q
  generalize k0_pay3 x0 = n
  generalize gpart o 0 _ = u
  pointwise []

theorem acc1_sum (x0 : Vec Ideal S512x1024 .f32) (x5 : Vec Ideal S4x512x512 .bf16) (x6 : Vec Ideal S4x1024x512 .bf16) (o : Vec Ideal S2x1024 .f32) (y : Fin 1024) :
    acc1 x0 x5 x6 o (ix2 0 y) = o (ix2 1 y) + ∑ r : Fin 512, four x5 x6 (ix2 r y) * k0_pay3 x0 (ix2 r y) := by
  rw [show o (ix2 1 y) = gpart o 1 (by decide) (ix2 0 y) from (gpart1_at o _ y).symm]
  unfold acc1 k0_pay11
  rw [show k0_pay9 (k0_pay8 (zpart x5 0 (by decide))) (wpart x6 0 (by decide)) (zpart x5 1 (by decide)) (wpart x6 1 (by decide)) (zpart x5 2 (by decide)) (wpart x6 2 (by decide))
    (zpart x5 3 (by decide)) (wpart x6 3 (by decide)) = four x5 x6 from rfl]
  generalize four x5 x6 = q
  generalize k0_pay3 x0 = n
  generalize gpart o 1 _ = u
  pointwise []

theorem pay4_at (p : Fin 2) (y : Fin 1024) : k0_pay4 (F := Ideal) (ix2 p y) = 0 := by
  pointwise [k0_pay4]

/-! ## The whole sums -/

/-- A sum over 2048 entries in four blocks of 512, and one over 4096 in eight. -/
theorem sum_parts (f : Fin 2048 → EReal) : ∑ m, f m = ∑ q : Fin 4, ∑ k : Fin 512, f ⟨512 * q.val + k.val, by omega⟩ := by
  rw [← Equiv.sum_comp (finProdFinEquiv (m := 4) (n := 512)) f, Fintype.sum_prod_type]
  refine Finset.sum_congr rfl fun q _ => Finset.sum_congr rfl fun k _ => congrArg f (Fin.ext ?_)
  show k.val + 512 * q.val = 512 * q.val + k.val
  omega
theorem sum_blocks (f : Fin 4096 → EReal) : ∑ m, f m = ∑ q : Fin 8, ∑ k : Fin 512, f ⟨512 * q.val + k.val, by omega⟩ := by
  rw [← Equiv.sum_comp (finProdFinEquiv (m := 8) (n := 512)) f, Fintype.sum_prod_type]
  refine Finset.sum_congr rfl fun q _ => Finset.sum_congr rfl fun k _ => congrArg f (Fin.ext ?_)
  show k.val + 512 * q.val = 512 * q.val + k.val
  omega

/-- The gradients of the two normalised rows. -/
def dn0 (k : FVec Ideal S4096x256 .f32) (l : FVec Ideal S1024x256 .f32) (ρ : Fin 4096) (y : Fin 1024) : EReal :=
  ∑ m : Fin 256, k (ix2 ρ m) * l (ix2 y m)
def dn1 (z : FVec Ideal S4096x2048 .f32) (w : FVec Ideal S1024x2048 .f32) (ρ : Fin 4096) (y : Fin 1024) : EReal :=
  ∑ m : Fin 2048, z (ix2 ρ m) * w (ix2 y m)

/-- A row of the input, and the two gradients after the gains. -/
abbrev rowOf (x : FVec Ideal S4096x1024 .f32) (ρ : Fin 4096) : Fin 1024 → EReal := fun j => x (ix2 ρ j)
abbrev gained0 (g : FVec Ideal S2x1024 .f32) (k : FVec Ideal S4096x256 .f32) (l : FVec Ideal S1024x256 .f32) (ρ : Fin 4096) : Fin 1024 → EReal :=
  fun j => dn0 k l ρ j * g (ix2 0 j)
abbrev gained1 (g : FVec Ideal S2x1024 .f32) (z : FVec Ideal S4096x2048 .f32) (w : FVec Ideal S1024x2048 .f32) (ρ : Fin 4096) : Fin 1024 → EReal :=
  fun j => dn1 z w ρ j * g (ix2 1 j)

/-- The two results. -/
def dxAt (x d : FVec Ideal S4096x1024 .f32) (A B : Fin 4096 → Fin 1024 → EReal) (ρ : Fin 4096) (y : Fin 1024) : EReal :=
  d (ix2 ρ y) + Norm.rs (rowOf x ρ) * ((A ρ y + B ρ y)
    - x (ix2 ρ y) * Norm.rs (rowOf x ρ) * Ideal.div (∑ j, x (ix2 ρ j) * Norm.rs (rowOf x ρ) * (A ρ j + B ρ j)) Norm.width)
def dgTerm (x : FVec Ideal S4096x1024 .f32) (n : Fin 4096 → Fin 1024 → EReal) (y : Fin 1024) (ρ : Fin 4096) : EReal :=
  n ρ y * (x (ix2 ρ y) * Norm.rs (rowOf x ρ))
def dxV (x d : FVec Ideal S4096x1024 .f32) (A B : Fin 4096 → Fin 1024 → EReal) : FVec Ideal S4096x1024 .f32 :=
  fun i => dxAt x d A B (i 0) (i 1)
def dgV (x : FVec Ideal S4096x1024 .f32) (n0 n1 : Fin 4096 → Fin 1024 → EReal) : FVec Ideal S2x1024 .f32 :=
  fun i => if (i 0).val = 0 then ∑ ρ, dgTerm x n0 (i 1) ρ else ∑ ρ, dgTerm x n1 (i 1) ρ

/-! ## The blocks of the arguments -/

variable (m : (ℓ : Loc nD τ sig) → Buf (Elt Ideal) ℓ) (c : Dev nD)

abbrev ax : FVec Ideal S4096x1024 .f32 := m ((c : Thread nD τ).loc main_arg0)
abbrev ad : FVec Ideal S4096x1024 .f32 := m ((c : Thread nD τ).loc main_arg1)
abbrev ag : FVec Ideal S2x1024 .f32 := m ((c : Thread nD τ).loc main_arg2)
abbrev ak : FVec Ideal S4096x256 .f32 := m ((c : Thread nD τ).loc main_arg3)
abbrev al : FVec Ideal S1024x256 .f32 := m ((c : Thread nD τ).loc main_arg4)
abbrev az : FVec Ideal S4096x2048 .f32 := m ((c : Thread nD τ).loc main_arg5)
abbrev aw : FVec Ideal S1024x2048 .f32 := m ((c : Thread nD τ).loc main_arg6)

theorem points : cfg0.N = 8 := by decide

theorem V_x : (V m c main_arg0 : FVec Ideal S4096x1024 .f32) = ax m c := by
  entry_read
  rfl
theorem V_d : (V m c main_arg1 : FVec Ideal S4096x1024 .f32) = ad m c := by
  entry_read
  rfl
theorem V_g : (V m c main_arg2 : FVec Ideal S2x1024 .f32) = ag m c := by
  entry_read
  rfl
theorem V_k : (V m c main_v1 : FVec Ideal S1x4096x256 .bf16) = broadcastInDim S1x4096x256 ![1, 2] bcast_S4096x256_S1x4096x256_1_2 (truncf .bf16 (ak m c) bitsLt_bf16_f32) := by
  entry_read
  rfl
theorem V_l : (V m c main_v3 : FVec Ideal S1x1024x256 .bf16) = broadcastInDim S1x1024x256 ![1, 2] bcast_S1024x256_S1x1024x256_1_2 (truncf .bf16 (al m c) bitsLt_bf16_f32) := by
  entry_read
  rfl
theorem V_z : (V m c main_v6 : FVec Ideal S4x4096x512 .bf16)
    = truncf .bf16 (transpose S4x4096x512 [1, 0, 2] (shapeCast S4096x4x512 (az m c) shapeCasts_S4096x2048_S4096x4x512) transposes_S4096x4x512_S4x4096x512_1_0_2) bitsLt_bf16_f32 := by
  entry_read
  rfl
theorem V_w : (V m c main_v9 : FVec Ideal S4x1024x512 .bf16)
    = truncf .bf16 (transpose S4x1024x512 [1, 0, 2] (shapeCast S1024x4x512 (aw m c) shapeCasts_S1024x2048_S1024x4x512) transposes_S1024x4x512_S4x1024x512_1_0_2) bitsLt_bf16_f32 := by
  entry_read
  rfl

theorem V_k_at (ρ : Fin 4096) (y : Fin 256) : (V m c main_v1 : FVec Ideal S1x4096x256 .bf16) (ix3 0 ρ y) = ak m c (ix2 ρ y) := by
  rw [V_k]
  pointwise []
theorem V_l_at (ρ : Fin 1024) (y : Fin 256) : (V m c main_v3 : FVec Ideal S1x1024x256 .bf16) (ix3 0 ρ y) = al m c (ix2 ρ y) := by
  rw [V_l]
  pointwise []
theorem V_z_at (p : Fin 4) (ρ : Fin 4096) (y : Fin 512) :
    (V m c main_v6 : FVec Ideal S4x4096x512 .bf16) (ix3 p ρ y) = az m c (ix2 ρ ⟨512 * p.val + y.val, by omega⟩) := by
  rw [V_z]
  pointwise []
  congr 2
  exact Fin.ext (by show p.val * 512 + y.val = 512 * p.val + y.val; omega)
theorem V_w_at (p : Fin 4) (ρ : Fin 1024) (y : Fin 512) :
    (V m c main_v9 : FVec Ideal S4x1024x512 .bf16) (ix3 p ρ y) = aw m c (ix2 ρ ⟨512 * p.val + y.val, by omega⟩) := by
  rw [V_w]
  pointwise []
  congr 2
  exact Fin.ext (by show p.val * 512 + y.val = 512 * p.val + y.val; omega)

theorem at_row (t : Fin cfg0.N) (r : Fin 512) : 512 * t.val + r.val < 4096 := by have := t.isLt; have := points; omega

/-- The row of the whole that is a point's `r`-th. -/
abbrev rowAt (t : Fin cfg0.N) (r : Fin 512) : Fin 4096 := ⟨512 * t.val + r.val, at_row t r⟩

theorem read0 (A : Vec Ideal S4096x1024 .f32) (t : Fin cfg0.N) (r : Fin 512) (y : Fin 1024) :
    (win0_0.blk t).view.read (Elt Ideal) A (ix2 r y) = A (ix2 (rowAt t r) y) := by
  have idx : win0_0.index t = ![t.val, 0] := by revert t; decide +kernel
  blk_ext [idx]
theorem read1 (A : Vec Ideal S4096x1024 .f32) (t : Fin cfg0.N) (r : Fin 512) (y : Fin 1024) :
    (win0_1.blk t).view.read (Elt Ideal) A (ix2 r y) = A (ix2 (rowAt t r) y) := by
  have idx : win0_1.index t = ![t.val, 0] := by revert t; decide +kernel
  blk_ext [idx]
theorem read2 (A : Vec Ideal S2x1024 .f32) (t : Fin cfg0.N) (p : Fin 2) (y : Fin 1024) :
    (win0_2.blk t).view.read (Elt Ideal) A (ix2 p y) = A (ix2 p y) := by
  have idx : win0_2.index t = ![0, 0] := by revert t; decide +kernel
  blk_ext [idx]
theorem read3 (A : Vec Ideal S1x4096x256 .bf16) (t : Fin cfg0.N) (r : Fin 512) (k : Fin 256) :
    (win0_3.blk t).view.read (Elt Ideal) A (ix3 0 r k) = A (ix3 0 (rowAt t r) k) := by
  have idx : win0_3.index t = ![0, t.val, 0] := by revert t; decide +kernel
  blk_ext [idx]
theorem read4 (A : Vec Ideal S1x1024x256 .bf16) (t : Fin cfg0.N) (r : Fin 1024) (k : Fin 256) :
    (win0_4.blk t).view.read (Elt Ideal) A (ix3 0 r k) = A (ix3 0 r k) := by
  have idx : win0_4.index t = ![0, 0, 0] := by revert t; decide +kernel
  blk_ext [idx]
theorem read5 (A : Vec Ideal S4x4096x512 .bf16) (t : Fin cfg0.N) (p : Fin 4) (r : Fin 512) (k : Fin 512) :
    (win0_5.blk t).view.read (Elt Ideal) A (ix3 p r k) = A (ix3 p (rowAt t r) k) := by
  have idx : win0_5.index t = ![0, t.val, 0] := by revert t; decide +kernel
  blk_ext [idx]
theorem read6 (A : Vec Ideal S4x1024x512 .bf16) (t : Fin cfg0.N) (p : Fin 4) (r : Fin 1024) (k : Fin 512) :
    (win0_6.blk t).view.read (Elt Ideal) A (ix3 p r k) = A (ix3 p r k) := by
  have idx : win0_6.index t = ![0, 0, 0] := by revert t; decide +kernel
  blk_ext [idx]
theorem read7 (A : FVec Ideal S4096x1024 .f32) (t : Fin cfg0.N) (r : Fin 512) (y : Fin 1024) :
    A ((win0_7.blk t).view.emb (ix2 r y)) = A (ix2 (rowAt t r) y) := by
  have idx : win0_7.index t = ![t.val, 0] := by revert t; decide +kernel
  blk_ext [idx]
theorem read8 (A : FVec Ideal S2x1024 .f32) (t : Fin cfg0.N) (p : Fin 2) (y : Fin 1024) :
    A ((win0_8.blk t).view.emb (ix2 p y)) = A (ix2 p y) := by
  have idx : win0_8.index t = ![0, 0] := by revert t; decide +kernel
  blk_ext [idx]

theorem b0 (t : Fin cfg0.N) (r : Fin 512) (y : Fin 1024) : (iblk m c 0 t : Vec Ideal S512x1024 .f32) (ix2 r y) = ax m c (ix2 (rowAt t r) y) :=
  (read0 (V m c main_arg0) t r y).trans (congrFun (V_x m c) _)
theorem b1 (t : Fin cfg0.N) (r : Fin 512) (y : Fin 1024) : (iblk m c 1 t : Vec Ideal S512x1024 .f32) (ix2 r y) = ad m c (ix2 (rowAt t r) y) :=
  (read1 (V m c main_arg1) t r y).trans (congrFun (V_d m c) _)
theorem b2 (t : Fin cfg0.N) (p : Fin 2) (y : Fin 1024) : (iblk m c 2 t : Vec Ideal S2x1024 .f32) (ix2 p y) = ag m c (ix2 p y) :=
  (read2 (V m c main_arg2) t p y).trans (congrFun (V_g m c) _)
theorem bk (t : Fin cfg0.N) (r : Fin 512) (y : Fin 1024) : prodk (iblk m c 3 t) (iblk m c 4 t) r y = dn0 (ak m c) (al m c) (rowAt t r) y :=
  Finset.sum_congr rfl fun k _ => congrArg₂ (· * ·) ((read3 (V m c main_v1) t r k).trans (V_k_at m c _ _)) ((read4 (V m c main_v3) t y k).trans (V_l_at m c _ _))
theorem bz (t : Fin cfg0.N) (p : Fin 4) (r : Fin 512) (y : Fin 1024) :
    prod (iblk m c 5 t) (iblk m c 6 t) p r y
      = ∑ k : Fin 512, az m c (ix2 (rowAt t r) ⟨512 * p.val + k.val, by omega⟩) * aw m c (ix2 y ⟨512 * p.val + k.val, by omega⟩) :=
  Finset.sum_congr rfl fun k _ => congrArg₂ (· * ·) ((read5 (V m c main_v6) t p r k).trans (V_z_at m c _ _ _)) ((read6 (V m c main_v9) t p y k).trans (V_w_at m c _ _ _))

theorem dn1_at (t : Fin cfg0.N) (r : Fin 512) (y : Fin 1024) : four (iblk m c 5 t) (iblk m c 6 t) (ix2 r y) = dn1 (az m c) (aw m c) (rowAt t r) y := by
  rw [four_at, bz, bz, bz, bz]
  unfold dn1
  rw [sum_parts, Fin.sum_univ_four]

theorem row_at (t : Fin cfg0.N) (r : Fin 512) : row (iblk m c 0 t) r = rowOf (ax m c) (rowAt t r) := funext fun j => b0 m c t r j

abbrev gA := gained0 (ag m c) (ak m c) (al m c)
abbrev gB := gained1 (ag m c) (az m c) (aw m c)

theorem gained_at (t : Fin cfg0.N) (r : Fin 512) (y : Fin 1024) :
    k0_pay10 (k0_pay6 (iblk m c 3 t) (iblk m c 4 t) (gpart (iblk m c 2 t) 0 (by decide))) (k0_pay8 (zpart (iblk m c 5 t) 0 (by decide))) (wpart (iblk m c 6 t) 0 (by decide)) (zpart (iblk m c 5 t) 1 (by decide)) (wpart (iblk m c 6 t) 1 (by decide)) (zpart (iblk m c 5 t) 2 (by decide)) (wpart (iblk m c 6 t) 2 (by decide))
    (zpart (iblk m c 5 t) 3 (by decide)) (wpart (iblk m c 6 t) 3 (by decide)) (gpart (iblk m c 2 t) 1 (by decide)) (ix2 r y)
      = gA m c (rowAt t r) y + gB m c (rowAt t r) y := by
  rw [sum_at, pay6_at, bk, dn1_at, gpart0_at, gpart1_at]
  exact congrArg₂ (· + ·) (congrArg (_ * ·) (b2 m c t 0 y)) (congrArg (_ * ·) (b2 m c t 1 y))

theorem rows_at (t : Fin cfg0.N) (r : Fin 512) (y : Fin 1024) :
    rows (iblk m c 0 t) (iblk m c 1 t) (iblk m c 2 t) (iblk m c 3 t) (iblk m c 4 t) (iblk m c 5 t) (iblk m c 6 t) (ix2 r y)
      = dxAt (ax m c) (ad m c) (gA m c) (gB m c) (rowAt t r) y := by
  unfold rows
  rw [pay1_at]
  simp only [pay2_at, pay3_at, gained_at, row_at, b0, b1]
  rfl

/-! ## The buffers after each point -/

theorem rows_after (t : Fin cfg0.N) :
    (outsAt0 m c t.val t.isLt).1 = rows (iblk m c 0 t) (iblk m c 1 t) (iblk m c 2 t) (iblk m c 3 t) (iblk m c 4 t) (iblk m c 5 t) (iblk m c 6 t) := by
  by_cases h0 : t.val % 8 = 0
  · rw [outsAt0_A m c t h0]; dsimp only; rw [out_A_7]
  · rw [outsAt0_B m c t h0]; dsimp only; rw [out_B_7]

/-- A point's share of a row of the second result. -/
def share (n : Fin 4096 → Fin 1024 → EReal) (y : Fin 1024) (q : ℕ) : EReal := if h : q < cfg0.N then ∑ r : Fin 512, dgTerm (ax m c) n y (rowAt ⟨q, h⟩ r) else 0

abbrev n0 := dn0 (ak m c) (al m c)
abbrev n1 := dn1 (az m c) (aw m c)

theorem acc0_share (t : Fin cfg0.N) (o : Vec Ideal S2x1024 .f32) (y : Fin 1024) :
    acc0 (iblk m c 0 t) (iblk m c 3 t) (iblk m c 4 t) o (ix2 0 y) = o (ix2 0 y) + share m c (n0 m c) y t.val := by
  rw [acc0_sum]
  unfold share
  rw [dif_pos t.isLt]
  simp only [pay5_at, bk, pay3_at, row_at, b0]
  rfl

theorem acc1_share (t : Fin cfg0.N) (o : Vec Ideal S2x1024 .f32) (y : Fin 1024) :
    acc1 (iblk m c 0 t) (iblk m c 5 t) (iblk m c 6 t) o (ix2 0 y) = o (ix2 1 y) + share m c (n1 m c) y t.val := by
  rw [acc1_sum]
  unfold share
  rw [dif_pos t.isLt]
  simp only [dn1_at, pay3_at, row_at, b0]
  rfl

theorem acc_after (y : Fin 1024) : ∀ (n : ℕ) (h : n < cfg0.N), (outsAt0 m c n h).2 (ix2 0 y) = ∑ q ∈ Finset.range (n + 1), share m c (n0 m c) y q
    ∧ (outsAt0 m c n h).2 (ix2 1 y) = ∑ q ∈ Finset.range (n + 1), share m c (n1 m c) y q
  | 0, h => by
    have e := outsAt0_A m c ⟨0, h⟩ rfl
    rw [show outsAt0 m c 0 h = _ from e]
    dsimp only
    rw [out_A_8]
    refine ⟨(both_0 _ _ _ y).trans ((acc0_share m c ⟨0, h⟩ _ y).trans ?_), (both_1 _ _ _ y).trans ((acc1_share m c ⟨0, h⟩ _ y).trans ?_)⟩
    · rw [pay4_at, zero_add, Finset.sum_range_one]
    · rw [pay4_at, zero_add, Finset.sum_range_one]
  | n + 1, h => by
    have hB : ¬(⟨n + 1, h⟩ : Fin cfg0.N).val % 8 = 0 := by have := points; dsimp only; omega
    have e := outsAt0_B m c ⟨n + 1, h⟩ hB
    obtain ⟨p0, p1⟩ := acc_after y n (Nat.lt_of_succ_lt h)
    rw [show outsAt0 m c (n + 1) h = _ from e]
    dsimp only
    rw [out_B_8]
    refine ⟨(both_0 _ _ _ y).trans ((acc0_share m c ⟨n + 1, h⟩ _ y).trans ?_), (both_1 _ _ _ y).trans ((acc1_share m c ⟨n + 1, h⟩ _ y).trans ?_)⟩
    · rw [Finset.sum_range_succ, ← p0]; rfl
    · rw [Finset.sum_range_succ, ← p1]; rfl

theorem share_sum (n : Fin 4096 → Fin 1024 → EReal) (y : Fin 1024) : ∑ q ∈ Finset.range 8, share m c n y q = ∑ ρ, dgTerm (ax m c) n y ρ := by
  rw [sum_blocks, Finset.sum_range]
  refine Finset.sum_congr rfl fun q _ => ?_
  unfold share
  rw [dif_pos (show q.val < cfg0.N by have := points; omega)]

theorem arr7 : (dats m 0 c).arrAt 7 cfg0.N = (dxV (ax m c) (ad m c) (gA m c) (gB m c) : FVec Ideal S4096x1024 .f32) := by
  refine (dats m 0 c).arrAt_eq_of_covers 7 _ (by decide +kernel) fun t hf y => ?_
  blk_simp
  rw [after0_7, rows_after]
  revert y
  intro (y : S512x1024.Idx)
  idx_vars y
  refine (rows_at m c t y0 y1).trans (Eq.trans ?_ (read7 (dxV (ax m c) (ad m c) (gA m c) (gB m c)) t y0 y1).symm)
  rfl

theorem arr8 : (dats m 0 c).arrAt 8 cfg0.N = (dgV (ax m c) (n0 m c) (n1 m c) : FVec Ideal S2x1024 .f32) := by
  refine (dats m 0 c).arrAt_eq_of_covers 8 _ (by decide +kernel) fun t hf y => ?_
  have h7 : t.val = 7 := by have := (flush0_8 t).mp hf; have := t.isLt; have := points; omega
  blk_simp
  rw [after0_8]
  revert y
  intro (y : S2x1024.Idx)
  idx_vars y
  refine Eq.trans ?_ (read8 (dgV (ax m c) (n0 m c) (n1 m c)) t y0 y1).symm
  obtain ⟨p0, p1⟩ := acc_after m c y1 t.val t.isLt
  rw [show t.val + 1 = 8 by omega] at p0 p1
  fin_cases y0
  · exact p0.trans (share_sum m c _ y1)
  · exact p1.trans (share_sum m c _ y1)

/-! ## The reference -/

open Cert.Reference8Ideal.Value in
theorem reference_dx (m : (ℓ : Loc Cert.Reference8Ideal.nD Cert.Reference8Ideal.τ Cert.Reference8Ideal.sig) → Buf (Elt Ideal) ℓ) (c : Dev Cert.Reference8Ideal.nD) (x d : FVec Ideal S4096x1024 .f32) (g : FVec Ideal S2x1024 .f32)
    (k : FVec Ideal S4096x256 .f32) (l : FVec Ideal S1024x256 .f32) (z : FVec Ideal S4096x2048 .f32) (w : FVec Ideal S1024x2048 .f32)
    (hx : m ((c.tc : Thread Cert.Reference8Ideal.nD Cert.Reference8Ideal.τ).loc Cert.Reference8Ideal.main_arg0) = x)
    (hd : m ((c.tc : Thread Cert.Reference8Ideal.nD Cert.Reference8Ideal.τ).loc Cert.Reference8Ideal.main_arg1) = d)
    (hg : m ((c.tc : Thread Cert.Reference8Ideal.nD Cert.Reference8Ideal.τ).loc Cert.Reference8Ideal.main_arg2) = g)
    (hk : m ((c.tc : Thread Cert.Reference8Ideal.nD Cert.Reference8Ideal.τ).loc Cert.Reference8Ideal.main_arg3) = k)
    (hl : m ((c.tc : Thread Cert.Reference8Ideal.nD Cert.Reference8Ideal.τ).loc Cert.Reference8Ideal.main_arg4) = l)
    (hz : m ((c.tc : Thread Cert.Reference8Ideal.nD Cert.Reference8Ideal.τ).loc Cert.Reference8Ideal.main_arg5) = z)
    (hw : m ((c.tc : Thread Cert.Reference8Ideal.nD Cert.Reference8Ideal.τ).loc Cert.Reference8Ideal.main_arg6) = w)
    (hA : ∀ ρ j, Norm.IsReal (gained0 g k l ρ j)) (hB : ∀ ρ j, Norm.IsReal (gained1 g z w ρ j)) :
    res_main_v76 m c = dxV x d (gained0 g k l) (gained1 g z w) := by
  unfold res_main_v76
  rw [hx, hd, hg, hk, hl, hz, hw]
  funext i
  revert i
  intro (i : S4096x1024.Idx)
  idx_vars i
  pointwise []
  simp only [Finset.univ_unique, Finset.sum_singleton]
  refine Eq.trans ?_ (Norm.two_law (rowOf x i0) (gained0 g k l i0) (gained1 g z w i0) i1 (d (ix2 i0 i1)) (hA i0) (hB i0)).symm
  rfl

/-! ## The claims -/

theorem frame_kernel : Cert.quiescent_Kernel8 (hKernel8 := Cert.Kernel8.Gen.facts) := fun m ρ _ => Cert.Kernel8.Gen.frame m ρ

theorem frame_ideal : Cert.quiescent_Kernel8Ideal (hKernel8Ideal := Cert.Kernel8Ideal.Gen.facts) := fun m ρ _ => Cert.Kernel8Ideal.Gen.frame m ρ

theorem frame_reference : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The kernel's two results are the reference's where the gains, the gradients and the weights are numbers. -/
theorem agree : Cert.algebraic_Kernel8Ideal_Reference8Ideal_pre_finite_gradients (hKernel8Ideal := Cert.Kernel8Ideal.Gen.facts) (hReference8Ideal := Cert.Reference8Ideal.Gen.facts)
    (hPre_finite_gradients := Cert.Pre_finite_gradients.facts) := by
  intro m ρ m' ρ' hpre hargs
  haveI := Cert.Pre_finite_gradients.facts
  refine ⟨fun c => dxV (ax m c) (ad m c) (gA m c) (gB m c), fun c => dgV (ax m c) (n0 m c) (n1 m c),
    (θ_run Cert.Kernel8Ideal.defs _ _).mono (fun r h c => ⟨(h c).1.trans (arr7 m c), (h c).2.1.trans (arr8 m c), (h c).2.2⟩) (run_blocks m ρ), ?_⟩
  refine (θ_run Cert.Reference8Ideal.defs _ _).mono (fun r h c => ?_) (Cert.Reference8Ideal.Value.run (F := Ideal) m' ρ')
  obtain ⟨e0, e1, e2, e3, e4, e5, e6⟩ := hargs c
  have hp := hpre c
  have hA (ρ : Fin 4096) (j : Fin 1024) : Norm.IsReal (gA m c ρ j) :=
    (Norm.IsReal.sum _ _ fun q => (Cert.Pre_finite_gradients.real_k hp ρ q).mul (Cert.Pre_finite_gradients.real_l hp j q)).mul (Cert.Pre_finite_gradients.real_g hp 0 j)
  have hB (ρ : Fin 4096) (j : Fin 1024) : Norm.IsReal (gB m c ρ j) :=
    (Norm.IsReal.sum _ _ fun q => (Cert.Pre_finite_gradients.real_z hp ρ q).mul (Cert.Pre_finite_gradients.real_w hp j q)).mul (Cert.Pre_finite_gradients.real_g hp 1 j)
  refine ⟨(h c).1.trans (reference_dx m' c _ _ _ _ _ _ _ e0 e1 e2 e3 e4 e5 e6 hA hB), (h c).2.1.trans ?_, (h c).2.2⟩
  rw [e0, e3, e4, e5, e6]
  show _ = dgV (ax m c) (n0 m c) (n1 m c)
  funext i
  revert i
  intro (i : S2x1024.Idx)
  idx_vars i
  fin_cases i0
  · pointwise []
    refine Finset.sum_congr rfl fun ρ _ => ?_
    exact mul_comm (ax m c (ix2 ρ i1) * Norm.rs (rowOf (ax m c) ρ)) (dn0 (ak m c) (al m c) ρ i1)
  · pointwise []
    refine Finset.sum_congr rfl fun ρ _ => ?_
    exact mul_comm (ax m c (ix2 ρ i1) * Norm.rs (rowOf (ax m c) ρ)) (dn1 (az m c) (aw m c) ρ i1)

end Cert.Kernel8Ideal.Product

end
-- ==== Proof.OutNorms.lean ====
module

public import proofs.«01_k».proof.Defs
public import proofs.«01_k».proof.Proof.NormLaw
public import proofs.«01_k».proof.Proof.Gen.Kernel9.Value
public import proofs.«01_k».proof.Proof.Gen.Kernel9Ideal.Value
public import proofs.«01_k».proof.Proof.Gen.Reference9Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic.IndexArith

/-! # The first mixer's output projection, added to the input, and the two norms of the sum -/

@[expose] public section

noncomputable section

namespace Cert.Kernel9Ideal.Product

open Cert.Kernel9Ideal Cert.Kernel9Ideal.Gen Cert.Kernel9Ideal.Value
open Idealize.ShloMosaic Idealize.ShloMosaic.TcCoe Idealize.ShloMosaic.Tactic Idealize.SL.Sem

set_option maxRecDepth 16384

/-! ## The three results -/

/-- The sum of the input and the projection. -/
def hAt (u : FVec Ideal S4096x1024 .f32) (w : FVec Ideal S1024x1024 .f32) (x : FVec Ideal S4096x1024 .f32) (ρ : Fin 4096) (y : Fin 1024) : EReal :=
  x (ix2 ρ y) + ∑ k : Fin 1024, u (ix2 ρ k) * w (ix2 k y)

/-- Its norm with a gain. -/
def nAt (u : FVec Ideal S4096x1024 .f32) (w : FVec Ideal S1024x1024 .f32) (x : FVec Ideal S4096x1024 .f32) (g : FVec Ideal S2x1024 .f32) (a : Fin 2) (ρ : Fin 4096) (y : Fin 1024) : EReal :=
  hAt u w x ρ y * Norm.rs (hAt u w x ρ) * g (ix2 a y)

def hV (u : FVec Ideal S4096x1024 .f32) (w : FVec Ideal S1024x1024 .f32) (x : FVec Ideal S4096x1024 .f32) : FVec Ideal S4096x1024 .f32 := fun i => hAt u w x (i 0) (i 1)
def nV (u : FVec Ideal S4096x1024 .f32) (w : FVec Ideal S1024x1024 .f32) (x : FVec Ideal S4096x1024 .f32) (g : FVec Ideal S2x1024 .f32) (a : Fin 2) : FVec Ideal S4096x1024 .bf16 :=
  fun i => nAt u w x g a (i 0) (i 1)

/-! ## A block's values -/

variable (v0 : Vec Ideal S512x1024 .f32) (v1 : Vec Ideal S512x1024 .bf16) (v3 : Vec Ideal S1024x1024 .bf16)

theorem pay1_at (r : Fin 512) (y : Fin 1024) : k0_pay1 v0 v1 v3 (ix2 r y) = v0 (ix2 r y) + ∑ k : Fin 1024, v1 (ix2 r k) * v3 (ix2 k y) := by
  pointwise [k0_pay1]

theorem pay2_at (r : Fin 512) (y : Fin 1024) : k0_pay2 v0 v1 v3 (ix2 r y) = k0_pay1 v0 v1 v3 (ix2 r y) * Norm.rs fun j => k0_pay1 v0 v1 v3 (ix2 r j) := by
  unfold k0_pay2
  generalize k0_pay1 v0 v1 v3 = q
  pointwise []
  rfl

theorem pay3_at (g : Vec Ideal S1x1024 .f32) (r : Fin 512) (y : Fin 1024) : k0_pay3 v0 v1 v3 g (ix2 r y) = k0_pay2 v0 v1 v3 (ix2 r y) * g (ix2 0 y) := by
  unfold k0_pay3
  generalize k0_pay2 v0 v1 v3 = q
  pointwise []

theorem pay4_at (g : Vec Ideal S1x1024 .f32) (r : Fin 512) (y : Fin 1024) : k0_pay4 v0 v1 v3 g (ix2 r y) = k0_pay2 v0 v1 v3 (ix2 r y) * g (ix2 0 y) := by
  unfold k0_pay4
  generalize k0_pay2 v0 v1 v3 = q
  pointwise []

theorem gain_at (g : Vec Ideal S2x1024 .f32) (a : ℕ) (h) (y : Fin 1024) :
    View.ld (Val := Elt Ideal) g (Rect.unit (s := S2x1024) ![a, 0] S1x1024.size h) (ix2 0 y) = g (ix2 ⟨a, h 0⟩ y) := by
  refine View.ld_unit_apply_of _ _ _ _ _ _ fun b => ?_
  match b with
  | ⟨0, _⟩ => rfl
  | ⟨1, _⟩ => show y.val = 0 + y.val; omega

/-! ## The blocks of the arguments -/

variable (m : (ℓ : Loc nD τ sig) → Buf (Elt Ideal) ℓ) (c : Dev nD)

abbrev au : FVec Ideal S4096x1024 .f32 := m ((c : Thread nD τ).loc main_arg0)
abbrev aw : FVec Ideal S1024x1024 .f32 := m ((c : Thread nD τ).loc main_arg1)
abbrev ax : FVec Ideal S4096x1024 .f32 := m ((c : Thread nD τ).loc main_arg2)
abbrev ag : FVec Ideal S2x1024 .f32 := m ((c : Thread nD τ).loc main_arg3)

theorem points : cfg0.N = 8 := by decide

theorem V_u : (V m c main_v0 : FVec Ideal S4096x1024 .bf16) = truncf .bf16 (au m c) bitsLt_bf16_f32 := by
  entry_read
  rfl
theorem V_w : (V m c main_v1 : FVec Ideal S1024x1024 .bf16) = truncf .bf16 (aw m c) bitsLt_bf16_f32 := by
  entry_read
  rfl
theorem V_x : (V m c main_arg2 : FVec Ideal S4096x1024 .f32) = ax m c := by
  entry_read
  rfl
theorem V_g : (V m c main_arg3 : FVec Ideal S2x1024 .f32) = ag m c := by
  entry_read
  rfl

theorem at_row (t : Fin cfg0.N) (r : Fin 512) : 512 * t.val + r.val < 4096 := by have := t.isLt; have := points; omega

/-- The row of the whole that is a point's `r`-th. -/
abbrev rowAt (t : Fin cfg0.N) (r : Fin 512) : Fin 4096 := ⟨512 * t.val + r.val, at_row t r⟩

theorem read0 (A : Vec Ideal S4096x1024 .bf16) (t : Fin cfg0.N) (r : Fin 512) (y : Fin 1024) :
    (win0_0.blk t).view.read (Elt Ideal) A (ix2 r y) = A (ix2 (rowAt t r) y) := by
  have idx : win0_0.index t = ![t.val, 0] := by revert t; decide +kernel
  blk_ext [idx]
theorem read1 (A : Vec Ideal S1024x1024 .bf16) (t : Fin cfg0.N) (r : Fin 1024) (y : Fin 1024) :
    (win0_1.blk t).view.read (Elt Ideal) A (ix2 r y) = A (ix2 r y) := by
  have idx : win0_1.index t = ![0, 0] := by revert t; decide +kernel
  blk_ext [idx]
theorem read2 (A : Vec Ideal S4096x1024 .f32) (t : Fin cfg0.N) (r : Fin 512) (y : Fin 1024) :
    (win0_2.blk t).view.read (Elt Ideal) A (ix2 r y) = A (ix2 (rowAt t r) y) := by
  have idx : win0_2.index t = ![t.val, 0] := by revert t; decide +kernel
  blk_ext [idx]
theorem read3 (A : Vec Ideal S2x1024 .f32) (t : Fin cfg0.N) (a : Fin 2) (y : Fin 1024) :
    (win0_3.blk t).view.read (Elt Ideal) A (ix2 a y) = A (ix2 a y) := by
  have idx : win0_3.index t = ![0, 0] := by revert t; decide +kernel
  blk_ext [idx]
theorem read4 (A : FVec Ideal S4096x1024 .f32) (t : Fin cfg0.N) (r : Fin 512) (y : Fin 1024) :
    A ((win0_4.blk t).view.emb (ix2 r y)) = A (ix2 (rowAt t r) y) := by
  have idx : win0_4.index t = ![t.val, 0] := by revert t; decide +kernel
  blk_ext [idx]
theorem read5 (A : FVec Ideal S4096x1024 .bf16) (t : Fin cfg0.N) (r : Fin 512) (y : Fin 1024) :
    A ((win0_5.blk t).view.emb (ix2 r y)) = A (ix2 (rowAt t r) y) := by
  have idx : win0_5.index t = ![t.val, 0] := by revert t; decide +kernel
  blk_ext [idx]
theorem read6 (A : FVec Ideal S4096x1024 .bf16) (t : Fin cfg0.N) (r : Fin 512) (y : Fin 1024) :
    A ((win0_6.blk t).view.emb (ix2 r y)) = A (ix2 (rowAt t r) y) := by
  have idx : win0_6.index t = ![t.val, 0] := by revert t; decide +kernel
  blk_ext [idx]

theorem b0 (t : Fin cfg0.N) (r : Fin 512) (y : Fin 1024) : (iblk m c 0 t : Vec Ideal S512x1024 .bf16) (ix2 r y) = au m c (ix2 (rowAt t r) y) :=
  (read0 (V m c main_v0) t r y).trans ((congrFun (V_u m c) _).trans rfl)
theorem b1 (t : Fin cfg0.N) (r : Fin 1024) (y : Fin 1024) : (iblk m c 1 t : Vec Ideal S1024x1024 .bf16) (ix2 r y) = aw m c (ix2 r y) :=
  (read1 (V m c main_v1) t r y).trans ((congrFun (V_w m c) _).trans rfl)
theorem b2 (t : Fin cfg0.N) (r : Fin 512) (y : Fin 1024) : (iblk m c 2 t : Vec Ideal S512x1024 .f32) (ix2 r y) = ax m c (ix2 (rowAt t r) y) :=
  (read2 (V m c main_arg2) t r y).trans (congrFun (V_x m c) _)
theorem b3 (t : Fin cfg0.N) (a : Fin 2) (y : Fin 1024) : (iblk m c 3 t : Vec Ideal S2x1024 .f32) (ix2 a y) = ag m c (ix2 a y) :=
  (read3 (V m c main_arg3) t a y).trans (congrFun (V_g m c) _)

theorem h_at (t : Fin cfg0.N) (r : Fin 512) (y : Fin 1024) :
    k0_pay1 (iblk m c 2 t) (iblk m c 0 t) (iblk m c 1 t) (ix2 r y) = hAt (au m c) (aw m c) (ax m c) (rowAt t r) y := by
  rw [pay1_at]
  simp only [b0, b1, b2]
  rfl

theorem hh_at (t : Fin cfg0.N) (r : Fin 512) (y : Fin 1024) :
    k0_pay2 (iblk m c 2 t) (iblk m c 0 t) (iblk m c 1 t) (ix2 r y)
      = hAt (au m c) (aw m c) (ax m c) (rowAt t r) y * Norm.rs (hAt (au m c) (aw m c) (ax m c) (rowAt t r)) := by
  rw [pay2_at]
  simp only [h_at]

theorem out4_at (t : Fin cfg0.N) (r : Fin 512) (y : Fin 1024) :
    out0_4 (iblk m c 0 t) (iblk m c 1 t) (iblk m c 2 t) (iblk m c 3 t) (ix2 r y) = hAt (au m c) (aw m c) (ax m c) (rowAt t r) y := by
  unfold out0_4
  rw [View.canon_unit_zero (by decide), View.ld_unit_zero (by decide), View.ld_unit_zero (by decide), View.ld_unit_zero (by decide)]
  exact h_at m c t r y

theorem out5_at (t : Fin cfg0.N) (r : Fin 512) (y : Fin 1024) :
    out0_5 (iblk m c 0 t) (iblk m c 1 t) (iblk m c 2 t) (iblk m c 3 t) (ix2 r y) = nAt (au m c) (aw m c) (ax m c) (ag m c) 0 (rowAt t r) y := by
  unfold out0_5
  rw [View.canon_unit_zero (by decide), View.ld_unit_zero (by decide), View.ld_unit_zero (by decide), View.ld_unit_zero (by decide)]
  rw [pay3_at, hh_at]
  exact congrArg (_ * ·) ((gain_at _ 0 _ y).trans (b3 m c t 0 y))

theorem out6_at (t : Fin cfg0.N) (r : Fin 512) (y : Fin 1024) :
    out0_6 (iblk m c 0 t) (iblk m c 1 t) (iblk m c 2 t) (iblk m c 3 t) (ix2 r y) = nAt (au m c) (aw m c) (ax m c) (ag m c) 1 (rowAt t r) y := by
  unfold out0_6
  rw [View.canon_unit_zero (by decide), View.ld_unit_zero (by decide), View.ld_unit_zero (by decide), View.ld_unit_zero (by decide)]
  rw [pay4_at, hh_at]
  exact congrArg (_ * ·) ((gain_at _ 1 _ y).trans (b3 m c t 1 y))

theorem arr4 : (dats m 0 c).arrAt 4 cfg0.N = (hV (au m c) (aw m c) (ax m c) : FVec Ideal S4096x1024 .f32) := by
  refine (dats m 0 c).arrAt_eq_of_covers 4 _ (by decide +kernel) fun t hf y => ?_
  blk_simp
  rw [after0_4]
  revert y
  intro (y : S512x1024.Idx)
  idx_vars y
  refine (out4_at m c t y0 y1).trans (Eq.trans ?_ (read4 (hV (au m c) (aw m c) (ax m c)) t y0 y1).symm)
  rfl

theorem arr5 : (dats m 0 c).arrAt 5 cfg0.N = (nV (au m c) (aw m c) (ax m c) (ag m c) 0 : FVec Ideal S4096x1024 .bf16) := by
  refine (dats m 0 c).arrAt_eq_of_covers 5 _ (by decide +kernel) fun t hf y => ?_
  blk_simp
  rw [after0_5]
  revert y
  intro (y : S512x1024.Idx)
  idx_vars y
  refine (out5_at m c t y0 y1).trans (Eq.trans ?_ (read5 (nV (au m c) (aw m c) (ax m c) (ag m c) 0) t y0 y1).symm)
  rfl

theorem arr6 : (dats m 0 c).arrAt 6 cfg0.N = (nV (au m c) (aw m c) (ax m c) (ag m c) 1 : FVec Ideal S4096x1024 .bf16) := by
  refine (dats m 0 c).arrAt_eq_of_covers 6 _ (by decide +kernel) fun t hf y => ?_
  blk_simp
  rw [after0_6]
  revert y
  intro (y : S512x1024.Idx)
  idx_vars y
  refine (out6_at m c t y0 y1).trans (Eq.trans ?_ (read6 (nV (au m c) (aw m c) (ax m c) (ag m c) 1) t y0 y1).symm)
  rfl

/-! ## The claims -/

theorem frame_kernel : Cert.quiescent_Kernel9 (hKernel9 := Cert.Kernel9.Gen.facts) := fun m ρ _ => Cert.Kernel9.Gen.frame m ρ

theorem frame_ideal : Cert.quiescent_Kernel9Ideal (hKernel9Ideal := Cert.Kernel9Ideal.Gen.facts) := fun m ρ _ => Cert.Kernel9Ideal.Gen.frame m ρ

theorem frame_reference : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The kernel's three results are the reference's. -/
theorem agree : Cert.algebraic_Kernel9Ideal_Reference9Ideal (hKernel9Ideal := Cert.Kernel9Ideal.Gen.facts) (hReference9Ideal := Cert.Reference9Ideal.Gen.facts) := by
  intro m ρ m' ρ' _ hargs
  refine ⟨fun c => hV (au m c) (aw m c) (ax m c), fun c => nV (au m c) (aw m c) (ax m c) (ag m c) 0, fun c => nV (au m c) (aw m c) (ax m c) (ag m c) 1,
    (θ_run Cert.Kernel9Ideal.defs _ _).mono (fun r h c => ⟨(h c).1.trans (arr4 m c), (h c).2.1.trans (arr5 m c), (h c).2.2.1.trans (arr6 m c), (h c).2.2.2⟩) (run_blocks m ρ), ?_⟩
  refine (θ_run Cert.Reference9Ideal.defs _ _).mono (fun r h c => ?_) (Cert.Reference9Ideal.Value.run (F := Ideal) m' ρ')
  obtain ⟨e0, e1, e2, e3⟩ := hargs c
  refine ⟨(h c).1.trans ?_, (h c).2.1.trans ?_, (h c).2.2.1.trans ?_, (h c).2.2.2⟩
  · rw [e0, e1, e2]
    funext i
    revert i
    intro (i : S4096x1024.Idx)
    idx_vars i
    pointwise []
    rfl
  · rw [e0, e1, e2, e3]
    funext i
    revert i
    intro (i : S4096x1024.Idx)
    idx_vars i
    pointwise []
    rfl
  · rw [e0, e1, e2, e3]
    funext i
    revert i
    intro (i : S4096x1024.Idx)
    idx_vars i
    pointwise []
    rfl

end Cert.Kernel9Ideal.Product

end
-- ==== Proof.LossHead.lean ====
module

public import proofs.«01_k».proof.Defs
public import proofs.«01_k».proof.Proof.NormLaw
public import proofs.«01_k».proof.Proof.Gen.Kernel10.Value
public import proofs.«01_k».proof.Proof.Gen.Kernel10Ideal.Value
public import proofs.«01_k».proof.Proof.Gen.Reference10Ideal.Run
public import Idealize.ShloMosaic.Adequacy
public import Idealize.ShloMosaic.Init
public import Idealize.ShloMosaic.Lib.Pipeline.ValueKit
public import Idealize.ShloMosaic.Lib.Pointwise
public import Idealize.ShloMosaic.Lib.Tactic
public import Idealize.ShloMosaic.Lib.Tactic.IndexArith

/-! # The second mixer's output projection, the loss, and the loss's gradient -/

@[expose] public section

noncomputable section

namespace Cert.Kernel10Ideal.Product

open Cert.Kernel10Ideal Cert.Kernel10Ideal.Gen Cert.Kernel10Ideal.Value
open Idealize.ShloMosaic Idealize.ShloMosaic.TcCoe Idealize.ShloMosaic.Tactic Idealize.SL.Sem

set_option maxRecDepth 16384

/-! ## The constants -/

abbrev half : EReal := Ideal.ofBits .f32 0x3F000000#32
abbrev two : EReal := Ideal.ofBits .f32 0x40000000#32
abbrev inv : EReal := Ideal.ofBits .f32 0x3A800000#32

theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem inv_eq : inv = ((1 / 1024 : ℝ) : EReal) := by
  simp [inv, Ideal.ofBits, Ideal.ieee, -EReal.coe_mul]; norm_num

/-- The factor of the error in the gradient, in the reference's words and in the kernel's. -/
theorem factor (e : EReal) : Ideal.div half Norm.width * (two * e) = e * inv := by
  rw [Norm.div_width, half_eq, two_eq, inv_eq, ← EReal.coe_mul, ← mul_assoc, ← EReal.coe_mul, mul_comm e]
  congr 2
  norm_num

/-- Half a sum of means, in the reference's words and in the kernel's. -/
theorem half_sum (f : Fin 4096 → EReal) : half * ∑ ρ, Ideal.div (f ρ) Norm.width = ∑ ρ, half * (f ρ * inv) := by
  rw [Norm.mul_sum _ (by rw [half_eq]; exact EReal.coe_nonneg.mpr (by norm_num)) (by rw [half_eq]; exact EReal.coe_ne_top _)]
  exact Finset.sum_congr rfl fun ρ _ => by rw [Norm.div_width, inv_eq]

/-- Half a block's sum is the sum of the halves. -/
theorem half_block (f : Fin 512 → EReal) : half * ∑ r, f r = ∑ r, half * f r :=
  Norm.mul_sum _ (by rw [half_eq]; exact EReal.coe_nonneg.mpr (by norm_num)) (by rw [half_eq]; exact EReal.coe_ne_top _) _ _

/-! ## What a block leaves in the three buffers -/

section
variable (x0 : Vec Ideal S512x1024 .bf16) (x1 : Vec Ideal S1024x1024 .bf16) (x2 x3 : Vec Ideal S512x1024 .f32) (x4 : Vec Ideal S1x1024 .f32)

/-- A block's rows of the gradient, its share of the loss, and its share of the gain's gradient. -/
def rows : FVec Ideal S512x1024 .f32 :=
  k0_pay1 (k0_pay6 x2 x0 x1) (k0_pay7 x2 x0 x1) (k0_pay11 x2 x0 x1 x4 x3) (k0_pay12 x2 x0 x1 x4 x3) (Scalar.ofBits .f32 0x44800000#32)
def loss : FVec Ideal S1x1 .f32 := k0_pay9 x2 x0 x1 x4 x3
def gain : FVec Ideal S1x1024 .f32 := k0_pay2 (k0_pay7 x2 x0 x1) (k0_pay10 x2 x0 x1 x4 x3)
end

theorem hz : (![0, 0] : Fin 2 → Nat) = fun _ => 0 := funext fun a => by fin_cases a <;> rfl

section
variable (c : Dev nD) (i : grid0.Coords) (a1 : Memref sig .tc .vmem S512x1024 .bf16) (h1 : a1.IsWhole) (a2 : Memref sig .tc .vmem S1024x1024 .bf16) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S1x1 .f32) (h7 : a7.IsWhole) (a8 : Memref sig .tc .vmem S1x1024 .f32) (h8 : a8.IsWhole)
  (x0 : Vec Ideal S512x1024 .bf16) (x1 : Vec Ideal S1024x1024 .bf16) (x2 x3 : Vec Ideal S512x1024 .f32) (x4 : Vec Ideal S1x1024 .f32)
  (o : Vec Ideal S1x1 .f32) (o' : Vec Ideal S1x1024 .f32)

theorem out_A_5 (hc : cond0_0 i) (hd : ¬cond0_1 i) :
    out0_A_5 c i a1 h1 a2 h2 a3 h3 a4 h4 a5 h5 a6 h6 a7 h7 a8 h8 hc hd x0 x1 x2 x3 x4 = rows x0 x1 x2 x3 x4 := by
  unfold out0_A_5
  rw [View.read_writes_eq_canon _ _ _ (cover0_A_5 c i a1 h1 a2 h2 a3 h3 a4 h4 a5 h5 a6 h6 a7 h7 a8 h8 hc hd x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1024x1024) hz, View.ld_unit_zero (S := S1x1024) hz]
  unfold rows
  rfl

theorem out_A_6 (hc : cond0_0 i) (hd : ¬cond0_1 i) :
    out0_A_6 c i a1 h1 a2 h2 a3 h3 a4 h4 a5 h5 a6 h6 a7 h7 a8 h8 hc hd x0 x1 x2 x3 x4 = loss x0 x1 x2 x3 x4 := by
  unfold out0_A_6
  rw [View.read_writes_eq_canon _ _ _ (cover0_A_6 c i a1 h1 a2 h2 a3 h3 a4 h4 a5 h5 a6 h6 a7 h7 a8 h8 hc hd x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1024x1024) hz, View.ld_unit_zero (S := S1x1024) hz]
  unfold loss
  rfl

theorem out_A_7 (hc : cond0_0 i) (hd : ¬cond0_1 i) :
    out0_A_7 c i a1 h1 a2 h2 a3 h3 a4 h4 a5 h5 a6 h6 a7 h7 a8 h8 hc hd x0 x1 x2 x3 x4 = gain x0 x1 x2 x3 x4 := by
  unfold out0_A_7
  rw [View.read_writes_eq_canon _ _ _ (cover0_A_7 c i a1 h1 a2 h2 a3 h3 a4 h4 a5 h5 a6 h6 a7 h7 a8 h8 hc hd x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1024x1024) hz, View.ld_unit_zero (S := S1x1024) hz]
  unfold gain
  rfl

theorem out_B_5 (hc : ¬cond0_0 i) (hd : cond0_1 i) :
    out0_B_5 c i a1 h1 a2 h2 a3 h3 a4 h4 a5 h5 a6 h6 a7 h7 a8 h8 hc hd x0 x1 x2 x3 x4 o o' = rows x0 x1 x2 x3 x4 := by
  unfold out0_B_5
  rw [View.read_writes_eq_canon _ _ _ (cover0_B_5 c i a1 h1 a2 h2 a3 h3 a4 h4 a5 h5 a6 h6 a7 h7 a8 h8 hc hd x0 x1 x2 x3 x4 o o')]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S512x1024) hz, View.ld_unit_zero (S := S1024x1024) hz, View.ld_unit_zero (S := S1x1024) hz]
  unfold rows
  rfl

theorem out_B_6 (hc : ¬cond0_0 i) (hd : cond0_1 i) :
    out0_B_6 c i a1 h1 a2 h2 a3 h3 a4 h4 a5 h5 a6 h6 a7 h7 a8 h8 hc hd x0 x1 x2 x3 x4 o o' = k0_pay3 (loss x0 x1 x2 x3 x4) o := by
  unfold out0_B_6
  rw [View.read_writes_eq_canon _ _ _ (cover0_B_6 c i a1 h1 a2 h2 a3 h3 a4 h4 a5 h5 a6 h6 a7 h7 a8 h8 hc hd x0 x1 x2 x3 x4 o o')]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S512x1024) hz, View.ld_unit_zero (S := S1024x1024) hz, View.ld_unit_zero (S := S1x1024) hz, View.ld_unit_zero (S := S1x1) hz]
  unfold loss
  rfl

theorem out_B_7 (hc : ¬cond0_0 i) (hd : cond0_1 i) :
    out0_B_7 c i a1 h1 a2 h2 a3 h3 a4 h4 a5 h5 a6 h6 a7 h7 a8 h8 hc hd x0 x1 x2 x3 x4 o o' = k0_pay4 (k0_pay7 x2 x0 x1) (k0_pay10 x2 x0 x1 x4 x3) o' := by
  unfold out0_B_7
  rw [View.read_writes_eq_canon _ _ _ (cover0_B_7 c i a1 h1 a2 h2 a3 h3 a4 h4 a5 h5 a6 h6 a7 h7 a8 h8 hc hd x0 x1 x2 x3 x4 o o')]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S512x1024) hz, View.ld_unit_zero (S := S1024x1024) hz, View.ld_unit_zero (S := S1x1024) hz, View.ld_unit_zero (S := S1x1) hz]

end

/-! ## The buffers as sums -/

section
variable (v0 : Vec Ideal S512x1024 .f32) (v1 : Vec Ideal S512x1024 .bf16) (v3 : Vec Ideal S1024x1024 .bf16) (g : Vec Ideal S1x1024 .f32) (v20 : Vec Ideal S512x1024 .f32)

theorem pay5_at (r : Fin 512) (y : Fin 1024) : k0_pay5 v0 v1 v3 (ix2 r y) = v0 (ix2 r y) + ∑ k : Fin 1024, v1 (ix2 r k) * v3 (ix2 k y) := by
  pointwise [k0_pay5]

theorem pay6_at (r : Fin 512) : k0_pay6 v0 v1 v3 (ix2 r 0) = Norm.rs fun j => k0_pay5 v0 v1 v3 (ix2 r j) := by
  unfold k0_pay6
  generalize k0_pay5 v0 v1 v3 = q
  pointwise []
  rfl

theorem pay7_at (r : Fin 512) (y : Fin 1024) : k0_pay7 v0 v1 v3 (ix2 r y) = k0_pay5 v0 v1 v3 (ix2 r y) * k0_pay6 v0 v1 v3 (ix2 r 0) := by
  unfold k0_pay7
  generalize k0_pay5 v0 v1 v3 = q
  generalize k0_pay6 v0 v1 v3 = p
  pointwise []

theorem pay8_at (r : Fin 512) (y : Fin 1024) : k0_pay8 v0 v1 v3 g v20 (ix2 r y) = k0_pay7 v0 v1 v3 (ix2 r y) * g (ix2 0 y) - v20 (ix2 r y) := by
  unfold k0_pay8
  generalize k0_pay7 v0 v1 v3 = q
  pointwise []

theorem pay9_at : k0_pay9 v0 v1 v3 g v20 (ix2 0 0)
    = half * ∑ r : Fin 512, (∑ j : Fin 1024, k0_pay8 v0 v1 v3 g v20 (ix2 r j) * k0_pay8 v0 v1 v3 g v20 (ix2 r j)) * inv := by
  unfold k0_pay9
  generalize k0_pay8 v0 v1 v3 g v20 = q
  pointwise []

theorem pay10_at (r : Fin 512) (y : Fin 1024) : k0_pay10 v0 v1 v3 g v20 (ix2 r y) = k0_pay8 v0 v1 v3 g v20 (ix2 r y) * inv := by
  unfold k0_pay10
  generalize k0_pay8 v0 v1 v3 g v20 = q
  pointwise []

theorem pay11_at (r : Fin 512) (y : Fin 1024) : k0_pay11 v0 v1 v3 g v20 (ix2 r y) = k0_pay10 v0 v1 v3 g v20 (ix2 r y) * g (ix2 0 y) := by
  unfold k0_pay11
  generalize k0_pay10 v0 v1 v3 g v20 = q
  pointwise []

theorem pay12_at (r : Fin 512) : k0_pay12 v0 v1 v3 g v20 (ix2 r 0) = ∑ j : Fin 1024, k0_pay7 v0 v1 v3 (ix2 r j) * k0_pay11 v0 v1 v3 g v20 (ix2 r j) := by
  unfold k0_pay12
  generalize k0_pay7 v0 v1 v3 = q
  generalize k0_pay11 v0 v1 v3 g v20 = p
  pointwise []
end

theorem pay1_at (v14 v37 : FVec Ideal S512x1 .f32) (v16 v34 : FVec Ideal S512x1024 .f32) (r : Fin 512) (y : Fin 1024) :
    k0_pay1 v14 v16 v34 v37 (Scalar.ofBits .f32 0x44800000#32) (ix2 r y)
      = v14 (ix2 r 0) * (v34 (ix2 r y) - v16 (ix2 r y) * Ideal.div (v37 (ix2 r 0)) Norm.width) := by
  pointwise [k0_pay1]

theorem pay2_at (v16 v32 : FVec Ideal S512x1024 .f32) (y : Fin 1024) : k0_pay2 v16 v32 (ix2 0 y) = ∑ r : Fin 512, v32 (ix2 r y) * v16 (ix2 r y) := by
  pointwise [k0_pay2]

theorem pay3_at (l : FVec Ideal S1x1 .f32) (o : Vec Ideal S1x1 .f32) : k0_pay3 l o (ix2 0 0) = o (ix2 0 0) + l (ix2 0 0) := by
  pointwise [k0_pay3]

theorem pay4_at (v16 v32 : FVec Ideal S512x1024 .f32) (o : Vec Ideal S1x1024 .f32) (y : Fin 1024) : k0_pay4 v16 v32 o (ix2 0 y) = o (ix2 0 y) + k0_pay2 v16 v32 (ix2 0 y) := by
  unfold k0_pay4
  generalize k0_pay2 v16 v32 = q
  pointwise []

/-! ## The whole sums -/

/-- A sum over 4096 entries in eight blocks of 512. -/
theorem sum_blocks (f : Fin 4096 → EReal) : ∑ m, f m = ∑ q : Fin 8, ∑ k : Fin 512, f ⟨512 * q.val + k.val, by omega⟩ := by
  rw [← Equiv.sum_comp (finProdFinEquiv (m := 8) (n := 512)) f, Fintype.sum_prod_type]
  refine Finset.sum_congr rfl fun q _ => Finset.sum_congr rfl fun k _ => congrArg f (Fin.ext ?_)
  show k.val + 512 * q.val = 512 * q.val + k.val
  omega

section
variable (u : FVec Ideal S4096x1024 .f32) (w : FVec Ideal S1024x1024 .f32) (x t : FVec Ideal S4096x1024 .f32) (g : FVec Ideal S1x1024 .f32)

/-- The sum of the input and the projection, a row of it; the error of its norm with the gain; the error's gradient after the gain. -/
def hid (ρ : Fin 4096) (y : Fin 1024) : EReal := x (ix2 ρ y) + ∑ k : Fin 1024, u (ix2 ρ k) * w (ix2 k y)
def err (ρ : Fin 4096) (y : Fin 1024) : EReal := hid u w x ρ y * Norm.rs (hid u w x ρ) * g (ix2 0 y) - t (ix2 ρ y)
abbrev gained (ρ : Fin 4096) : Fin 1024 → EReal := fun j => err u w x t g ρ j * inv * g (ix2 0 j)

/-- The three results. -/
def dhAt (ρ : Fin 4096) (y : Fin 1024) : EReal :=
  Norm.rs (hid u w x ρ) * (gained u w x t g ρ y
    - hid u w x ρ y * Norm.rs (hid u w x ρ) * Ideal.div (∑ j, hid u w x ρ j * Norm.rs (hid u w x ρ) * gained u w x t g ρ j) Norm.width)
def lossTerm (ρ : Fin 4096) : EReal := half * ((∑ j, err u w x t g ρ j * err u w x t g ρ j) * inv)
def dgTerm (y : Fin 1024) (ρ : Fin 4096) : EReal := err u w x t g ρ y * inv * (hid u w x ρ y * Norm.rs (hid u w x ρ))
def dhV : FVec Ideal S4096x1024 .f32 := fun i => dhAt u w x t g (i 0) (i 1)
def lossV : FVec Ideal S1x1 .f32 := fun _ => ∑ ρ, lossTerm u w x t g ρ
def dgV : FVec Ideal S1x1024 .f32 := fun i => ∑ ρ, dgTerm u w x t g (i 1) ρ
end

/-! ## The blocks of the arguments -/

variable (m : (ℓ : Loc nD τ sig) → Buf (Elt Ideal) ℓ) (c : Dev nD)

abbrev au : FVec Ideal S4096x1024 .f32 := m ((c : Thread nD τ).loc main_arg0)
abbrev aw : FVec Ideal S1024x1024 .f32 := m ((c : Thread nD τ).loc main_arg1)
abbrev ax : FVec Ideal S4096x1024 .f32 := m ((c : Thread nD τ).loc main_arg2)
abbrev at' : FVec Ideal S4096x1024 .f32 := m ((c : Thread nD τ).loc main_arg3)
abbrev ag : FVec Ideal S1x1024 .f32 := m ((c : Thread nD τ).loc main_arg4)

theorem points : cfg0.N = 8 := by decide

theorem V_u : (V m c main_v0 : FVec Ideal S4096x1024 .bf16) = truncf .bf16 (au m c) bitsLt_bf16_f32 := by
  entry_read
  rfl
theorem V_w : (V m c main_v1 : FVec Ideal S1024x1024 .bf16) = truncf .bf16 (aw m c) bitsLt_bf16_f32 := by
  entry_read
  rfl
theorem V_x : (V m c main_arg2 : FVec Ideal S4096x1024 .f32) = ax m c := by
  entry_read
  rfl
theorem V_t : (V m c main_arg3 : FVec Ideal S4096x1024 .f32) = at' m c := by
  entry_read
  rfl
theorem V_g : (V m c main_arg4 : FVec Ideal S1x1024 .f32) = ag m c := by
  entry_read
  rfl

theorem at_row (t : Fin cfg0.N) (r : Fin 512) : 512 * t.val + r.val < 4096 := by have := t.isLt; have := points; omega

/-- The row of the whole that is a point's `r`-th. -/
abbrev rowAt (t : Fin cfg0.N) (r : Fin 512) : Fin 4096 := ⟨512 * t.val + r.val, at_row t r⟩

theorem read0 (A : Vec Ideal S4096x1024 .bf16) (t : Fin cfg0.N) (r : Fin 512) (y : Fin 1024) :
    (win0_0.blk t).view.read (Elt Ideal) A (ix2 r y) = A (ix2 (rowAt t r) y) := by
  have idx : win0_0.index t = ![t.val, 0] := by revert t; decide +kernel
  blk_ext [idx]
theorem read1 (A : Vec Ideal S1024x1024 .bf16) (t : Fin cfg0.N) (r : Fin 1024) (y : Fin 1024) :
    (win0_1.blk t).view.read (Elt Ideal) A (ix2 r y) = A (ix2 r y) := by
  have idx : win0_1.index t = ![0, 0] := by revert t; decide +kernel
  blk_ext [idx]
theorem read2 (A : Vec Ideal S4096x1024 .f32) (t : Fin cfg0.N) (r : Fin 512) (y : Fin 1024) :
    (win0_2.blk t).view.read (Elt Ideal) A (ix2 r y) = A (ix2 (rowAt t r) y) := by
  have idx : win0_2.index t = ![t.val, 0] := by revert t; decide +kernel
  blk_ext [idx]
theorem read3 (A : Vec Ideal S4096x1024 .f32) (t : Fin cfg0.N) (r : Fin 512) (y : Fin 1024) :
    (win0_3.blk t).view.read (Elt Ideal) A (ix2 r y) = A (ix2 (rowAt t r) y) := by
  have idx : win0_3.index t = ![t.val, 0] := by revert t; decide +kernel
  blk_ext [idx]
theorem read4 (A : Vec Ideal S1x1024 .f32) (t : Fin cfg0.N) (y : Fin 1024) :
    (win0_4.blk t).view.read (Elt Ideal) A (ix2 0 y) = A (ix2 0 y) := by
  have idx : win0_4.index t = ![0, 0] := by revert t; decide +kernel
  blk_ext [idx]
theorem read5 (A : FVec Ideal S4096x1024 .f32) (t : Fin cfg0.N) (r : Fin 512) (y : Fin 1024) :
    A ((win0_5.blk t).view.emb (ix2 r y)) = A (ix2 (rowAt t r) y) := by
  have idx : win0_5.index t = ![t.val, 0] := by revert t; decide +kernel
  blk_ext [idx]
theorem read7 (A : FVec Ideal S1x1024 .f32) (t : Fin cfg0.N) (z : Fin 1) (y : Fin 1024) :
    A ((win0_7.blk t).view.emb (ix2 z y)) = A (ix2 z y) := by
  have idx : win0_7.index t = ![0, 0] := by revert t; decide +kernel
  blk_ext [idx]

theorem b0 (t : Fin cfg0.N) (r : Fin 512) (y : Fin 1024) : (iblk m c 0 t : Vec Ideal S512x1024 .bf16) (ix2 r y) = au m c (ix2 (rowAt t r) y) :=
  (read0 (V m c main_v0) t r y).trans ((congrFun (V_u m c) _).trans rfl)
theorem b1 (t : Fin cfg0.N) (r : Fin 1024) (y : Fin 1024) : (iblk m c 1 t : Vec Ideal S1024x1024 .bf16) (ix2 r y) = aw m c (ix2 r y) :=
  (read1 (V m c main_v1) t r y).trans ((congrFun (V_w m c) _).trans rfl)
theorem b2 (t : Fin cfg0.N) (r : Fin 512) (y : Fin 1024) : (iblk m c 2 t : Vec Ideal S512x1024 .f32) (ix2 r y) = ax m c (ix2 (rowAt t r) y) :=
  (read2 (V m c main_arg2) t r y).trans (congrFun (V_x m c) _)
theorem b3 (t : Fin cfg0.N) (r : Fin 512) (y : Fin 1024) : (iblk m c 3 t : Vec Ideal S512x1024 .f32) (ix2 r y) = at' m c (ix2 (rowAt t r) y) :=
  (read3 (V m c main_arg3) t r y).trans (congrFun (V_t m c) _)
theorem b4 (t : Fin cfg0.N) (y : Fin 1024) : (iblk m c 4 t : Vec Ideal S1x1024 .f32) (ix2 0 y) = ag m c (ix2 0 y) :=
  (read4 (V m c main_arg4) t y).trans (congrFun (V_g m c) _)

theorem hid_at (t : Fin cfg0.N) (r : Fin 512) (y : Fin 1024) :
    k0_pay5 (iblk m c 2 t) (iblk m c 0 t) (iblk m c 1 t) (ix2 r y) = hid (au m c) (aw m c) (ax m c) (rowAt t r) y := by
  rw [pay5_at]
  simp only [b0, b1, b2]
  rfl

theorem rs_at (t : Fin cfg0.N) (r : Fin 512) :
    k0_pay6 (iblk m c 2 t) (iblk m c 0 t) (iblk m c 1 t) (ix2 r 0) = Norm.rs (hid (au m c) (aw m c) (ax m c) (rowAt t r)) := by
  rw [pay6_at]
  simp only [hid_at]

theorem hh_at (t : Fin cfg0.N) (r : Fin 512) (y : Fin 1024) :
    k0_pay7 (iblk m c 2 t) (iblk m c 0 t) (iblk m c 1 t) (ix2 r y)
      = hid (au m c) (aw m c) (ax m c) (rowAt t r) y * Norm.rs (hid (au m c) (aw m c) (ax m c) (rowAt t r)) := by
  rw [pay7_at, hid_at, rs_at]

theorem err_at (t : Fin cfg0.N) (r : Fin 512) (y : Fin 1024) :
    k0_pay8 (iblk m c 2 t) (iblk m c 0 t) (iblk m c 1 t) (iblk m c 4 t) (iblk m c 3 t) (ix2 r y)
      = err (au m c) (aw m c) (ax m c) (at' m c) (ag m c) (rowAt t r) y := by
  rw [pay8_at, hh_at, b4, b3]
  rfl

theorem rows_at (t : Fin cfg0.N) (r : Fin 512) (y : Fin 1024) :
    rows (iblk m c 0 t) (iblk m c 1 t) (iblk m c 2 t) (iblk m c 3 t) (iblk m c 4 t) (ix2 r y)
      = dhAt (au m c) (aw m c) (ax m c) (at' m c) (ag m c) (rowAt t r) y := by
  unfold rows
  rw [pay1_at]
  simp only [rs_at, hh_at, pay12_at, pay11_at, pay10_at, err_at, b4]
  rfl

theorem loss_at (t : Fin cfg0.N) :
    loss (iblk m c 0 t) (iblk m c 1 t) (iblk m c 2 t) (iblk m c 3 t) (iblk m c 4 t) (ix2 0 0)
      = ∑ r : Fin 512, lossTerm (au m c) (aw m c) (ax m c) (at' m c) (ag m c) (rowAt t r) := by
  unfold loss
  rw [pay9_at, half_block]
  simp only [err_at]
  rfl

theorem gain_at (t : Fin cfg0.N) (y : Fin 1024) :
    k0_pay2 (k0_pay7 (iblk m c 2 t) (iblk m c 0 t) (iblk m c 1 t)) (k0_pay10 (iblk m c 2 t) (iblk m c 0 t) (iblk m c 1 t) (iblk m c 4 t) (iblk m c 3 t)) (ix2 0 y)
      = ∑ r : Fin 512, dgTerm (au m c) (aw m c) (ax m c) (at' m c) (ag m c) y (rowAt t r) := by
  rw [pay2_at]
  simp only [hh_at, pay10_at, err_at]
  rfl

/-! ## The buffers after each point -/

theorem rows_after (t : Fin cfg0.N) :
    (outsAt0 m c t.val t.isLt).1 = rows (iblk m c 0 t) (iblk m c 1 t) (iblk m c 2 t) (iblk m c 3 t) (iblk m c 4 t) := by
  have := t.isLt
  have := points
  by_cases h0 : t.val % 8 = 0
  · rw [outsAt0_A m c t h0 (by omega)]; dsimp only; rw [out_A_5]
  · rw [outsAt0_B m c t h0 (by omega)]; dsimp only; rw [out_B_5]

/-- A point's share of a sum over the rows. -/
def share (f : Fin 4096 → EReal) (q : ℕ) : EReal := if h : q < cfg0.N then ∑ r : Fin 512, f (rowAt ⟨q, h⟩ r) else 0

theorem share_at (f : Fin 4096 → EReal) (t : Fin cfg0.N) : ∑ r : Fin 512, f (rowAt t r) = share f t.val := by
  unfold share
  rw [dif_pos t.isLt]

theorem share_sum (f : Fin 4096 → EReal) : ∑ q ∈ Finset.range 8, share f q = ∑ ρ, f ρ := by
  rw [sum_blocks, Finset.sum_range]
  refine Finset.sum_congr rfl fun q _ => ?_
  unfold share
  rw [dif_pos (show q.val < cfg0.N by have := points; omega)]

theorem loss_after : ∀ (n : ℕ) (h : n < cfg0.N), (outsAt0 m c n h).2.1 (ix2 0 0)
    = ∑ q ∈ Finset.range (n + 1), share (lossTerm (au m c) (aw m c) (ax m c) (at' m c) (ag m c)) q
  | 0, h => by
    have e := outsAt0_A m c ⟨0, h⟩ rfl (Nat.not_succ_le_zero 0)
    rw [show outsAt0 m c 0 h = _ from e]
    dsimp only
    rw [out_A_6, Finset.sum_range_one]
    exact (loss_at m c ⟨0, h⟩).trans (share_at _ ⟨0, h⟩)
  | n + 1, h => by
    have hB : ¬(⟨n + 1, h⟩ : Fin cfg0.N).val % 8 = 0 := by have := points; dsimp only; omega
    have e := outsAt0_B m c ⟨n + 1, h⟩ hB (Nat.succ_le_succ (Nat.zero_le n))
    rw [show outsAt0 m c (n + 1) h = _ from e]
    dsimp only
    rw [out_B_6, pay3_at, Finset.sum_range_succ, ← loss_after n (Nat.lt_of_succ_lt h)]
    exact congrArg (_ + ·) ((loss_at m c ⟨n + 1, h⟩).trans (share_at _ ⟨n + 1, h⟩))

theorem gain_after (y : Fin 1024) : ∀ (n : ℕ) (h : n < cfg0.N), (outsAt0 m c n h).2.2 (ix2 0 y)
    = ∑ q ∈ Finset.range (n + 1), share (dgTerm (au m c) (aw m c) (ax m c) (at' m c) (ag m c) y) q
  | 0, h => by
    have e := outsAt0_A m c ⟨0, h⟩ rfl (Nat.not_succ_le_zero 0)
    rw [show outsAt0 m c 0 h = _ from e]
    dsimp only
    rw [out_A_7, Finset.sum_range_one]
    exact (gain_at m c ⟨0, h⟩ y).trans (share_at _ ⟨0, h⟩)
  | n + 1, h => by
    have hB : ¬(⟨n + 1, h⟩ : Fin cfg0.N).val % 8 = 0 := by have := points; dsimp only; omega
    have e := outsAt0_B m c ⟨n + 1, h⟩ hB (Nat.succ_le_succ (Nat.zero_le n))
    rw [show outsAt0 m c (n + 1) h = _ from e]
    dsimp only
    rw [out_B_7, pay4_at, Finset.sum_range_succ, ← gain_after y n (Nat.lt_of_succ_lt h)]
    exact congrArg (_ + ·) ((gain_at m c ⟨n + 1, h⟩ y).trans (share_at _ ⟨n + 1, h⟩))

theorem arr5 : (dats m 0 c).arrAt 5 cfg0.N = (dhV (au m c) (aw m c) (ax m c) (at' m c) (ag m c) : FVec Ideal S4096x1024 .f32) := by
  refine (dats m 0 c).arrAt_eq_of_covers 5 _ (by decide +kernel) fun t hf y => ?_
  blk_simp
  rw [after0_5, rows_after]
  revert y
  intro (y : S512x1024.Idx)
  idx_vars y
  refine (rows_at m c t y0 y1).trans (Eq.trans ?_ (read5 (dhV (au m c) (aw m c) (ax m c) (at' m c) (ag m c)) t y0 y1).symm)
  rfl

theorem arr6 : (dats m 0 c).arrAt 6 cfg0.N = (lossV (au m c) (aw m c) (ax m c) (at' m c) (ag m c) : FVec Ideal S1x1 .f32) := by
  refine (dats m 0 c).arrAt_eq_of_covers 6 _ (by decide +kernel) fun t hf y => ?_
  have h7 : t.val = 7 := by have := (flush0_6 t).mp hf; have := t.isLt; have := points; omega
  blk_simp
  rw [after0_6]
  revert y
  intro (y : S1x1.Idx)
  idx_vars y
  obtain rfl : y0 = 0 := Subsingleton.elim _ _
  obtain rfl : y1 = 0 := Subsingleton.elim _ _
  refine (loss_after m c t.val t.isLt).trans ?_
  rw [h7]
  exact share_sum _

theorem arr7 : (dats m 0 c).arrAt 7 cfg0.N = (dgV (au m c) (aw m c) (ax m c) (at' m c) (ag m c) : FVec Ideal S1x1024 .f32) := by
  refine (dats m 0 c).arrAt_eq_of_covers 7 _ (by decide +kernel) fun t hf y => ?_
  have h7 : t.val = 7 := by have := (flush0_7 t).mp hf; have := t.isLt; have := points; omega
  blk_simp
  rw [after0_7]
  revert y
  intro (y : S1x1024.Idx)
  idx_vars y
  obtain rfl : y0 = 0 := Subsingleton.elim _ _
  refine (gain_after m c y1 t.val t.isLt).trans (Eq.trans ?_ (read7 (dgV (au m c) (aw m c) (ax m c) (at' m c) (ag m c)) t 0 y1).symm)
  rw [h7]
  exact share_sum _

/-! ## The reference -/

open Cert.Reference10Ideal.Value in
theorem reference_dh (m : (ℓ : Loc Cert.Reference10Ideal.nD Cert.Reference10Ideal.τ Cert.Reference10Ideal.sig) → Buf (Elt Ideal) ℓ) (c : Dev Cert.Reference10Ideal.nD)
    (u : FVec Ideal S4096x1024 .f32) (w : FVec Ideal S1024x1024 .f32) (x t : FVec Ideal S4096x1024 .f32) (g : FVec Ideal S1x1024 .f32)
    (hu : m ((c.tc : Thread Cert.Reference10Ideal.nD Cert.Reference10Ideal.τ).loc Cert.Reference10Ideal.main_arg0) = u)
    (hw : m ((c.tc : Thread Cert.Reference10Ideal.nD Cert.Reference10Ideal.τ).loc Cert.Reference10Ideal.main_arg1) = w)
    (hx : m ((c.tc : Thread Cert.Reference10Ideal.nD Cert.Reference10Ideal.τ).loc Cert.Reference10Ideal.main_arg2) = x)
    (ht : m ((c.tc : Thread Cert.Reference10Ideal.nD Cert.Reference10Ideal.τ).loc Cert.Reference10Ideal.main_arg3) = t)
    (hg : m ((c.tc : Thread Cert.Reference10Ideal.nD Cert.Reference10Ideal.τ).loc Cert.Reference10Ideal.main_arg4) = g) :
    res_main_v50 m c = dhV u w x t g := by
  unfold res_main_v50
  rw [hu, hw, hx, ht, hg]
  funext i
  revert i
  intro (i : S4096x1024.Idx)
  idx_vars i
  pointwise []
  simp only [Finset.univ_unique, Finset.sum_singleton]
  have law := Norm.row_law (hid u w x i0) (gained u w x t g i0) i1 0
  rw [zero_add, zero_add] at law
  refine Eq.trans ?_ law.symm
  unfold Norm.coef
  dsimp only [gained]
  simp only [← factor]
  rfl

/-! ## The claims -/

theorem frame_kernel : Cert.quiescent_Kernel10 (hKernel10 := Cert.Kernel10.Gen.facts) := fun m ρ _ => Cert.Kernel10.Gen.frame m ρ

theorem frame_ideal : Cert.quiescent_Kernel10Ideal (hKernel10Ideal := Cert.Kernel10Ideal.Gen.facts) := fun m ρ _ => Cert.Kernel10Ideal.Gen.frame m ρ

theorem frame_reference : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The kernel's three results are the reference's. -/
theorem agree : Cert.algebraic_Kernel10Ideal_Reference10Ideal (hKernel10Ideal := Cert.Kernel10Ideal.Gen.facts) (hReference10Ideal := Cert.Reference10Ideal.Gen.facts) := by
  intro m ρ m' ρ' _ hargs
  refine ⟨fun c => dhV (au m c) (aw m c) (ax m c) (at' m c) (ag m c), fun c => lossV (au m c) (aw m c) (ax m c) (at' m c) (ag m c),
    fun c => dgV (au m c) (aw m c) (ax m c) (at' m c) (ag m c),
    (θ_run Cert.Kernel10Ideal.defs _ _).mono (fun r h c => ⟨(h c).1.trans (arr5 m c), (h c).2.1.trans (arr6 m c), (h c).2.2.1.trans (arr7 m c), (h c).2.2.2⟩) (run_blocks m ρ), ?_⟩
  refine (θ_run Cert.Reference10Ideal.defs _ _).mono (fun r h c => ?_) (Cert.Reference10Ideal.Value.run (F := Ideal) m' ρ')
  obtain ⟨e0, e1, e2, e3, e4⟩ := hargs c
  refine ⟨(h c).1.trans (reference_dh m' c _ _ _ _ _ e0 e1 e2 e3 e4), (h c).2.1.trans ?_, (h c).2.2.1.trans ?_, (h c).2.2.2⟩
  · rw [e0, e1, e2, e3, e4]
    show _ = lossV (au m c) (aw m c) (ax m c) (at' m c) (ag m c)
    funext i
    revert i
    intro (i : S1x1.Idx)
    idx_vars i
    pointwise []
    exact half_sum fun ρ => ∑ j, err (au m c) (aw m c) (ax m c) (at' m c) (ag m c) ρ j * err (au m c) (aw m c) (ax m c) (at' m c) (ag m c) ρ j
  · rw [e0, e1, e2, e3, e4]
    show _ = dgV (au m c) (aw m c) (ax m c) (at' m c) (ag m c)
    funext i
    revert i
    intro (i : S1x1024.Idx)
    idx_vars i
    pointwise []
    refine Finset.sum_congr rfl fun ρ _ => ?_
    refine (mul_comm _ _).trans ?_
    exact congrArg (· * _) (factor (err (au m c) (aw m c) (ax m c) (at' m c) (ag m c) ρ i1))

end Cert.Kernel10Ideal.Product

end
-- ==== Proof.lean ====
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Value
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Value
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Value
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Value
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Value
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Value
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Value
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Value
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Values
public import proofs.«01_k».proof.Proof.Finite
public import proofs.«01_k».proof.Proof.DwInA
public import proofs.«01_k».proof.Proof.DwInB
public import proofs.«01_k».proof.Proof.DwOut
public import proofs.«01_k».proof.Proof.Dout
public import proofs.«01_k».proof.Proof.DwKv
public import proofs.«01_k».proof.Proof.DprojA
public import proofs.«01_k».proof.Proof.DprojKvB
public import proofs.«01_k».proof.Proof.OutNorms
public import proofs.«01_k».proof.Proof.LossHead
public import Idealize.ShloMosaic.Adequacy
public import Idealize.ShloMosaic.Init

/-! # The certificate's claims -/

@[expose] public section

noncomputable section

namespace Cert.Proof

open Cert.KernelIdeal.Attn (Holds realsOf aq ag ak av asn at5 au mat DT5 reals)
open Idealize.ShloMosaic.StableHlo (launchContents)
open Idealize.ShloMosaic Idealize.ShloMosaic.TcCoe Idealize.SL.Sem

/-- The kernel's program runs to its end and leaves its arguments and its counters as they were. -/
theorem frame_kernel : Cert.quiescent_Kernel (hKernel := Cert.Kernel.Gen.facts) := fun m ρ _ =>
  Cert.Kernel.Attn.frame (F := Bits) m ρ

/-- So does its idealization. -/
theorem frame_ideal : Cert.quiescent_KernelIdeal (hKernelIdeal := Cert.KernelIdeal.Gen.facts) := fun m ρ _ =>
  Cert.KernelIdeal.Attn.frame (F := Ideal) m ρ

/-- So does the reference; it declares no counter. -/
theorem frame_reference : Cert.quiescent_ReferenceIdeal (hReferenceIdeal := Cert.ReferenceIdeal.Gen.facts) := fun m ρ _ =>
  (θ_run Cert.ReferenceIdeal.defs _ _).mono (fun r h =>
      ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1,
        (h c).2.2.2.2.2.2.2.2.2.2.2.2⟩, Idealize.ShloMosaic.sem_eq_zero_of_no_sems (by decide) r.2⟩)
    (Cert.ReferenceIdeal.Value.run (F := Ideal) m ρ)

/-- The named constant stands for minus infinity. -/
theorem mask_named : Cert.preserves_Kernel_KernelIdeal :=
  IdealRules.named_const.statement _ _ _ _ _ rfl

theorem holds_of_eq {I : Cert.Attn.Inp} {q g u q' g' u' : FVec Ideal Cert.KernelIdeal.S4096x1024 .f32} {k v k' v' : FVec Ideal Cert.KernelIdeal.S4096x128 .f32} {s s' : FVec Ideal Cert.KernelIdeal.S1x16 .f32}
    {t t' : FVec Ideal Cert.KernelIdeal.S32x16 .f32} (H : Holds I q g k v s t u) (e0 : q' = q) (e1 : g' = g) (e2 : k' = k) (e3 : v' = v) (e4 : s' = s) (e5 : t' = t) (e6 : u' = u) :
    Holds I q' g' k' v' s' t' u' := by
  subst e0 e1 e2 e3 e4 e5 e6; exact H

/-- The idealized kernel's arguments under the precondition: the reals they hold. -/
theorem holds_kernel (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) :
    Holds (reals m c) (aq m c) (ag m c) (ak m c) (av m c)
      (asn m c) (at5 m c) (au m c) := by
  haveI := Cert.Pre_finite.facts
  exact Cert.Pre_finite.holds (h c)

/-- The two programs return the same matrices of reals. -/
theorem agree : Cert.algebraic_KernelIdeal_ReferenceIdeal_pre_finite (hKernelIdeal := Cert.KernelIdeal.Gen.facts) (hReferenceIdeal := Cert.ReferenceIdeal.Gen.facts)
    (hPre_finite := Cert.Pre_finite.facts) := by
  intro m ρ m' ρ' hpre hargs
  have H := holds_kernel m hpre
  have hK := θ_run_and (Cert.KernelIdeal.Attn.values m ρ H) (frame_ideal m ρ trivial)
  have hR := Cert.ReferenceIdeal.Attn.values m' ρ' (fun c => reals m c) fun c =>
    holds_of_eq (H c) (hargs c).1 (hargs c).2.1 (hargs c).2.2.1 (hargs c).2.2.2.1 (hargs c).2.2.2.2.1 (hargs c).2.2.2.2.2.1 (hargs c).2.2.2.2.2.2
  refine ⟨fun c => mat 4096 1024 (reals m c).DQ, fun c => mat 4096 1024 (reals m c).DG, fun c => mat 4096 128 (reals m c).DK, fun c => mat 4096 128 (reals m c).DV,
    fun c => mat 1 16 fun _ h => (reals m c).DSk h, fun c => mat 32 16 (DT5 (reals m c)), ?_, hR⟩
  exact (θ_run Cert.KernelIdeal.defs _ _).mono (fun r h c =>
    ⟨(h.1 c).1, (h.1 c).2.1, (h.1 c).2.2.1, (h.1 c).2.2.2.1, (h.1 c).2.2.2.2.1, (h.1 c).2.2.2.2.2, h.2.1 c⟩) hK

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.facts, Cert.Pre_finite_gradients.facts,
  frame_kernel, frame_ideal, fun m ρ _ => frame_ideal m ρ trivial, frame_reference, fun m ρ _ => frame_reference m ρ trivial,
  Cert.Kernel2Ideal.Product.frame_kernel, Cert.Kernel2Ideal.Product.frame_ideal, Cert.Kernel2Ideal.Product.frame_reference,
  Cert.Kernel3Ideal.Product.frame_kernel, Cert.Kernel3Ideal.Product.frame_ideal, Cert.Kernel3Ideal.Product.frame_reference,
  Cert.Kernel4Ideal.Product.frame_kernel, Cert.Kernel4Ideal.Product.frame_ideal, Cert.Kernel4Ideal.Product.frame_reference,
  Cert.Kernel5Ideal.Product.frame_kernel, Cert.Kernel5Ideal.Product.frame_ideal, Cert.Kernel5Ideal.Product.frame_reference,
  Cert.Kernel6Ideal.Product.frame_kernel, Cert.Kernel6Ideal.Product.frame_ideal, Cert.Kernel6Ideal.Product.frame_reference,
  Cert.Kernel7Ideal.Product.frame_kernel, Cert.Kernel7Ideal.Product.frame_ideal, Cert.Kernel7Ideal.Product.frame_reference,
  Cert.Kernel8Ideal.Product.frame_kernel, Cert.Kernel8Ideal.Product.frame_ideal, fun m ρ _ => Cert.Kernel8Ideal.Product.frame_ideal m ρ trivial,
  Cert.Kernel8Ideal.Product.frame_reference, fun m ρ _ => Cert.Kernel8Ideal.Product.frame_reference m ρ trivial,
  Cert.Kernel9Ideal.Product.frame_kernel, Cert.Kernel9Ideal.Product.frame_ideal, Cert.Kernel9Ideal.Product.frame_reference,
  Cert.Kernel10Ideal.Product.frame_kernel, Cert.Kernel10Ideal.Product.frame_ideal, Cert.Kernel10Ideal.Product.frame_reference,
  mask_named, agree, trivial, Cert.Kernel2Ideal.Product.agree, trivial, Cert.Kernel3Ideal.Product.agree, trivial, Cert.Kernel4Ideal.Product.agree, trivial, Cert.Kernel5Ideal.Product.agree, trivial, Cert.Kernel6Ideal.Product.agree,
  trivial, Cert.Kernel7Ideal.Product.agree, trivial, Cert.Kernel8Ideal.Product.agree, trivial, Cert.Kernel9Ideal.Product.agree, trivial, Cert.Kernel10Ideal.Product.agree⟩

end Cert.Proof

end
